-- ==== Defs.lean ====
def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_forward [hPre_finite_forward : Cert.Pre_finite_forward.Facts] (m : (ℓ : Loc Cert.FwdIdeal.nD Cert.FwdIdeal.τ Cert.FwdIdeal.sig) → Buf (Elt Ideal) ℓ) : Prop :=
  ∀ c : Dev Cert.FwdIdeal.nD,
    (Cert.Pre_finite_forward.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_forward [hPre_finite_forward : Cert.Pre_finite_forward.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_forward.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Moe [hPre_moe_ranges : Cert.Pre_moe_ranges.Facts] (m : (ℓ : Loc Cert.Moe.nD Cert.Moe.τ Cert.Moe.sig) → Buf (Elt Bits) ℓ) : Prop :=
  ∀ c : Dev Cert.Moe.nD,
    (Cert.Pre_moe_ranges.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4))) = (fun _ => 1#1)

def Pre_MoeIdeal [hPre_moe_ranges : Cert.Pre_moe_ranges.Facts] (m : (ℓ : Loc Cert.MoeIdeal.nD Cert.MoeIdeal.τ Cert.MoeIdeal.sig) → Buf (Elt Ideal) ℓ) : Prop :=
  ∀ c : Dev Cert.MoeIdeal.nD,
    (Cert.Pre_moe_ranges.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_moe_ranges [hPre_moe_ranges : Cert.Pre_moe_ranges.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_moe_ranges.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4))) = (fun _ => 1#1)

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdIdeal_finite_backward [hPre_finite_backward : Cert.Pre_finite_backward.Facts] (m : (ℓ : Loc Cert.BwdIdeal.nD Cert.BwdIdeal.τ Cert.BwdIdeal.sig) → Buf (Elt Ideal) ℓ) : Prop :=
  ∀ c : Dev Cert.BwdIdeal.nD,
    (Cert.Pre_finite_backward.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3))) = (fun _ => 1#1)

def Pre_BwdRefIdeal (m : (ℓ : Loc Cert.BwdRefIdeal.nD Cert.BwdRefIdeal.τ Cert.BwdRefIdeal.sig) → Buf (Elt Ideal) ℓ) : Prop :=
  True

def Pre_BwdRefIdeal_finite_backward [hPre_finite_backward : Cert.Pre_finite_backward.Facts] (m : (ℓ : Loc Cert.BwdRefIdeal.nD Cert.BwdRefIdeal.τ Cert.BwdRefIdeal.sig) → Buf (Elt Ideal) ℓ) : Prop :=
  ∀ c : Dev Cert.BwdRefIdeal.nD,
    (Cert.Pre_finite_backward.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_DnGate (m : (ℓ : Loc Cert.DnGate.nD Cert.DnGate.τ Cert.DnGate.sig) → Buf (Elt Bits) ℓ) : Prop :=
  True

def Pre_DnGateIdeal (m : (ℓ : Loc Cert.DnGateIdeal.nD Cert.DnGateIdeal.τ Cert.DnGateIdeal.sig) → Buf (Elt Ideal) ℓ) : Prop :=
  True

def Pre_DnGateRefIdeal (m : (ℓ : Loc Cert.DnGateRefIdeal.nD Cert.DnGateRefIdeal.τ Cert.DnGateRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextRefIdeal (m : (ℓ : Loc Cert.NextRefIdeal.nD Cert.NextRefIdeal.τ Cert.NextRefIdeal.sig) → Buf (Elt Ideal) ℓ) : Prop :=
  True

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ r.2.sem = fun _ => 0)

def quiescent_FwdIdeal_pre_finite_forward [hFwdIdeal : Cert.FwdIdeal.Facts] [hPre_finite_forward : Cert.Pre_finite_forward.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_forward m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1))
      ∧ r.2.sem = fun _ => 0)

def quiescent_FwdRefIdeal_pre_finite_forward [hFwdRefIdeal : Cert.FwdRefIdeal.Facts] [hPre_finite_forward : Cert.Pre_finite_forward.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_forward m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def quiescent_Moe [hMoe : Cert.Moe.Facts] [hPre_moe_ranges : Cert.Pre_moe_ranges.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] [hPre_moe_ranges : Cert.Pre_moe_ranges.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_MoeRefIdeal_pre_moe_ranges [hMoeRefIdeal : Cert.MoeRefIdeal.Facts] [hPre_moe_ranges : Cert.Pre_moe_ranges.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_moe_ranges m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3))
      ∧ r.2.sem = fun _ => 0)

def quiescent_BwdIdeal_pre_finite_backward [hBwdIdeal : Cert.BwdIdeal.Facts] [hPre_finite_backward : Cert.Pre_finite_backward.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal_finite_backward m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3))
      ∧ r.2.sem = fun _ => 0)

def quiescent_BwdRefIdeal_pre_finite_backward [hBwdRefIdeal : Cert.BwdRefIdeal.Facts] [hPre_finite_backward : Cert.Pre_finite_backward.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal_finite_backward m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_DnGate [hDnGate : Cert.DnGate.Facts] : Prop :=
  ∀ (m : (ℓ : Loc Cert.DnGate.nD Cert.DnGate.τ Cert.DnGate.sig) → Buf (Elt Bits) ℓ) (g : Dev Cert.DnGate.nD → PrngReg), Pre_DnGate m →
    θ_run (Cert.DnGate.defs (F := Bits)) (onTc (τ := Cert.DnGate.τ) (Cert.DnGate.main (F := Bits))) ⟨m, fun _ => 0, g⟩ (fun r => (∀ c : Dev Cert.DnGate.nD,
      r.2.mem ((c.tc : Thread Cert.DnGate.nD Cert.DnGate.τ).loc Cert.DnGate.main_arg0) = m ((c.tc : Thread Cert.DnGate.nD Cert.DnGate.τ).loc Cert.DnGate.main_arg0)
      ∧ r.2.mem ((c.tc : Thread Cert.DnGate.nD Cert.DnGate.τ).loc Cert.DnGate.main_arg1) = m ((c.tc : Thread Cert.DnGate.nD Cert.DnGate.τ).loc Cert.DnGate.main_arg1))
      ∧ r.2.sem = fun _ => 0)

def quiescent_DnGateIdeal [hDnGateIdeal : Cert.DnGateIdeal.Facts] : Prop :=
  ∀ (m : (ℓ : Loc Cert.DnGateIdeal.nD Cert.DnGateIdeal.τ Cert.DnGateIdeal.sig) → Buf (Elt Ideal) ℓ) (g : Dev Cert.DnGateIdeal.nD → PrngReg), Pre_DnGateIdeal m →
    θ_run (Cert.DnGateIdeal.defs (F := Ideal)) (onTc (τ := Cert.DnGateIdeal.τ) (Cert.DnGateIdeal.main (F := Ideal))) ⟨m, fun _ => 0, g⟩ (fun r => (∀ c : Dev Cert.DnGateIdeal.nD,
      r.2.mem ((c.tc : Thread Cert.DnGateIdeal.nD Cert.DnGateIdeal.τ).loc Cert.DnGateIdeal.main_arg0) = m ((c.tc : Thread Cert.DnGateIdeal.nD Cert.DnGateIdeal.τ).loc Cert.DnGateIdeal.main_arg0)
      ∧ r.2.mem ((c.tc : Thread Cert.DnGateIdeal.nD Cert.DnGateIdeal.τ).loc Cert.DnGateIdeal.main_arg1) = m ((c.tc : Thread Cert.DnGateIdeal.nD Cert.DnGateIdeal.τ).loc Cert.DnGateIdeal.main_arg1))
      ∧ r.2.sem = fun _ => 0)

def quiescent_DnGateRefIdeal [hDnGateRefIdeal : Cert.DnGateRefIdeal.Facts] : Prop :=
  ∀ (m : (ℓ : Loc Cert.DnGateRefIdeal.nD Cert.DnGateRefIdeal.τ Cert.DnGateRefIdeal.sig) → Buf (Elt Ideal) ℓ) (g : Dev Cert.DnGateRefIdeal.nD → PrngReg), Pre_DnGateRefIdeal m →
    θ_run (Cert.DnGateRefIdeal.defs (F := Ideal)) (onTc (τ := Cert.DnGateRefIdeal.τ) (Cert.DnGateRefIdeal.main (F := Ideal))) ⟨m, fun _ => 0, g⟩ (fun r => (∀ c : Dev Cert.DnGateRefIdeal.nD,
      r.2.mem ((c.tc : Thread Cert.DnGateRefIdeal.nD Cert.DnGateRefIdeal.τ).loc Cert.DnGateRefIdeal.main_arg0) = m ((c.tc : Thread Cert.DnGateRefIdeal.nD Cert.DnGateRefIdeal.τ).loc Cert.DnGateRefIdeal.main_arg0)
      ∧ r.2.mem ((c.tc : Thread Cert.DnGateRefIdeal.nD Cert.DnGateRefIdeal.τ).loc Cert.DnGateRefIdeal.main_arg1) = m ((c.tc : Thread Cert.DnGateRefIdeal.nD Cert.DnGateRefIdeal.τ).loc Cert.DnGateRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3)
      ∧ r.2.mem ((c.tc : Thread Cert.Next.nD Cert.Next.τ).loc Cert.Next.main_arg4) = m ((c.tc : Thread Cert.Next.nD Cert.Next.τ).loc Cert.Next.main_arg4))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4))
      ∧ r.2.sem = fun _ => 0)

def quiescent_NextRefIdeal [hNextRefIdeal : Cert.NextRefIdeal.Facts] : Prop :=
  ∀ (m : (ℓ : Loc Cert.NextRefIdeal.nD Cert.NextRefIdeal.τ Cert.NextRefIdeal.sig) → Buf (Elt Ideal) ℓ) (g : Dev Cert.NextRefIdeal.nD → PrngReg), Pre_NextRefIdeal m →
    θ_run (Cert.NextRefIdeal.defs (F := Ideal)) (onTc (τ := Cert.NextRefIdeal.τ) (Cert.NextRefIdeal.main (F := Ideal))) ⟨m, fun _ => 0, g⟩ (fun r => (∀ c : Dev Cert.NextRefIdeal.nD,
      r.2.mem ((c.tc : Thread Cert.NextRefIdeal.nD Cert.NextRefIdeal.τ).loc Cert.NextRefIdeal.main_arg0) = m ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m ((c.tc : Thread Cert.NextRefIdeal.nD Cert.NextRefIdeal.τ).loc Cert.NextRefIdeal.main_arg3)
      ∧ r.2.mem ((c.tc : Thread Cert.NextRefIdeal.nD Cert.NextRefIdeal.τ).loc Cert.NextRefIdeal.main_arg4) = m ((c.tc : Thread Cert.NextRefIdeal.nD Cert.NextRefIdeal.τ).loc Cert.NextRefIdeal.main_arg4))
      ∧ r.2.sem = fun _ => 0)

def preserves_Fwd_FwdIdeal : Prop :=
  True

def algebraic_FwdIdeal_FwdRefIdeal_pre_finite_forward [hFwdIdeal : Cert.FwdIdeal.Facts] [hFwdRefIdeal : Cert.FwdRefIdeal.Facts] [hPre_finite_forward : Cert.Pre_finite_forward.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_forward m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)) →
    ∃ (v0 : (c : Dev Cert.FwdIdeal.nD) → Buf (Elt Ideal) ((c.tc : Thread Cert.FwdIdeal.nD Cert.FwdIdeal.τ).loc Cert.FwdIdeal.main_v16)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v16) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v138) = v0 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v1) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v2) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2))

def preserves_Moe_MoeIdeal : Prop :=
  True

def algebraic_MoeIdeal_MoeRefIdeal [hMoeIdeal : Cert.MoeIdeal.Facts] [hMoeRefIdeal : Cert.MoeRefIdeal.Facts] [hPre_moe_ranges : Cert.Pre_moe_ranges.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v15_6) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4))

def preserves_Bwd_BwdIdeal : Prop :=
  True

def algebraic_BwdIdeal_BwdRefIdeal_pre_finite_backward [hBwdIdeal : Cert.BwdIdeal.Facts] [hBwdRefIdeal : Cert.BwdRefIdeal.Facts] [hPre_finite_backward : Cert.Pre_finite_backward.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal_finite_backward m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)) →
    ∃ (v0 : (c : Dev Cert.BwdIdeal.nD) → Buf (Elt Ideal) ((c.tc : Thread Cert.BwdIdeal.nD Cert.BwdIdeal.τ).loc Cert.BwdIdeal.main_v17)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v17) = v0 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v185) = v0 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v19) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v3)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v34) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v3) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_DnGate_DnGateIdeal : Prop :=
  True

def algebraic_DnGateIdeal_DnGateRefIdeal [hDnGateIdeal : Cert.DnGateIdeal.Facts] [hDnGateRefIdeal : Cert.DnGateRefIdeal.Facts] : Prop :=
  ∀ (m : (ℓ : Loc Cert.DnGateIdeal.nD Cert.DnGateIdeal.τ Cert.DnGateIdeal.sig) → Buf (Elt Ideal) ℓ) (g : Dev Cert.DnGateIdeal.nD → PrngReg)
    (m' : (ℓ : Loc Cert.DnGateRefIdeal.nD Cert.DnGateRefIdeal.τ Cert.DnGateRefIdeal.sig) → Buf (Elt Ideal) ℓ) (g' : Dev Cert.DnGateRefIdeal.nD → PrngReg), Pre_DnGateIdeal m →
    (∀ c : Dev Cert.DnGateIdeal.nD,
      m' ((c.tc : Thread Cert.DnGateRefIdeal.nD Cert.DnGateRefIdeal.τ).loc Cert.DnGateRefIdeal.main_arg0) = m ((c.tc : Thread Cert.DnGateIdeal.nD Cert.DnGateIdeal.τ).loc Cert.DnGateIdeal.main_arg0)
      ∧ m' ((c.tc : Thread Cert.DnGateRefIdeal.nD Cert.DnGateRefIdeal.τ).loc Cert.DnGateRefIdeal.main_arg1) = m ((c.tc : Thread Cert.DnGateIdeal.nD Cert.DnGateIdeal.τ).loc Cert.DnGateIdeal.main_arg1)) →
    ∃ (v0 : (c : Dev Cert.DnGateIdeal.nD) → Buf (Elt Ideal) ((c.tc : Thread Cert.DnGateIdeal.nD Cert.DnGateIdeal.τ).loc Cert.DnGateIdeal.main_v3)),
      θ_run (Cert.DnGateIdeal.defs (F := Ideal)) (onTc (τ := Cert.DnGateIdeal.τ) (Cert.DnGateIdeal.main (F := Ideal))) ⟨m, fun _ => 0, g⟩ (fun r => ∀ c : Dev Cert.DnGateIdeal.nD,
          r.2.mem ((c.tc : Thread Cert.DnGateIdeal.nD Cert.DnGateIdeal.τ).loc Cert.DnGateIdeal.main_v3) = v0 c
          ∧ r.2.mem ((c.tc : Thread Cert.DnGateIdeal.nD Cert.DnGateIdeal.τ).loc Cert.DnGateIdeal.main_arg0) = m ((c.tc : Thread Cert.DnGateIdeal.nD Cert.DnGateIdeal.τ).loc Cert.DnGateIdeal.main_arg0)
          ∧ r.2.mem ((c.tc : Thread Cert.DnGateIdeal.nD Cert.DnGateIdeal.τ).loc Cert.DnGateIdeal.main_arg1) = m ((c.tc : Thread Cert.DnGateIdeal.nD Cert.DnGateIdeal.τ).loc Cert.DnGateIdeal.main_arg1))
      ∧ θ_run (Cert.DnGateRefIdeal.defs (F := Ideal)) (onTc (τ := Cert.DnGateRefIdeal.τ) (Cert.DnGateRefIdeal.main (F := Ideal))) ⟨m', fun _ => 0, g'⟩ (fun r => ∀ c : Dev Cert.DnGateRefIdeal.nD,
          r.2.mem ((c.tc : Thread Cert.DnGateRefIdeal.nD Cert.DnGateRefIdeal.τ).loc Cert.DnGateRefIdeal.main_v2) = v0 c
          ∧ r.2.mem ((c.tc : Thread Cert.DnGateRefIdeal.nD Cert.DnGateRefIdeal.τ).loc Cert.DnGateRefIdeal.main_arg0) = m' ((c.tc : Thread Cert.DnGateRefIdeal.nD Cert.DnGateRefIdeal.τ).loc Cert.DnGateRefIdeal.main_arg0)
          ∧ r.2.mem ((c.tc : Thread Cert.DnGateRefIdeal.nD Cert.DnGateRefIdeal.τ).loc Cert.DnGateRefIdeal.main_arg1) = m' ((c.tc : Thread Cert.DnGateRefIdeal.nD Cert.DnGateRefIdeal.τ).loc Cert.DnGateRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v5_0)) (v1 : (c : Dev Cert.NormIdeal.nD) → Buf (Elt Ideal) ((c.tc : Thread Cert.NormIdeal.nD Cert.NormIdeal.τ).loc Cert.NormIdeal.main_v5_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v5_0) = v0 c
          ∧ r.2.mem ((c.tc : Thread Cert.NormIdeal.nD Cert.NormIdeal.τ).loc Cert.NormIdeal.main_v5_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v96) = v0 c
          ∧ r.2.mem ((c.tc : Thread Cert.NormRefIdeal.nD Cert.NormRefIdeal.τ).loc Cert.NormRefIdeal.main_v100) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_Next_NextIdeal : Prop :=
  True

def algebraic_NextIdeal_NextRefIdeal [hNextIdeal : Cert.NextIdeal.Facts] [hNextRefIdeal : Cert.NextRefIdeal.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextRefIdeal.nD Cert.NextRefIdeal.τ Cert.NextRefIdeal.sig) → Buf (Elt Ideal) ℓ) (g' : Dev Cert.NextRefIdeal.nD → PrngReg), Pre_NextIdeal m →
    (∀ c : Dev Cert.NextIdeal.nD,
      m' ((c.tc : Thread Cert.NextRefIdeal.nD Cert.NextRefIdeal.τ).loc Cert.NextRefIdeal.main_arg0) = m ((c.tc : Thread Cert.NextIdeal.nD Cert.NextIdeal.τ).loc Cert.NextIdeal.main_arg0)
      ∧ m' ((c.tc : Thread Cert.NextRefIdeal.nD Cert.NextRefIdeal.τ).loc Cert.NextRefIdeal.main_arg1) = m ((c.tc : Thread Cert.NextIdeal.nD Cert.NextIdeal.τ).loc Cert.NextIdeal.main_arg1)
      ∧ m' ((c.tc : Thread Cert.NextRefIdeal.nD Cert.NextRefIdeal.τ).loc Cert.NextRefIdeal.main_arg2) = m ((c.tc : Thread Cert.NextIdeal.nD Cert.NextIdeal.τ).loc Cert.NextIdeal.main_arg2)
      ∧ m' ((c.tc : Thread Cert.NextRefIdeal.nD Cert.NextRefIdeal.τ).loc Cert.NextRefIdeal.main_arg3) = m ((c.tc : Thread Cert.NextIdeal.nD Cert.NextIdeal.τ).loc Cert.NextIdeal.main_arg3)
      ∧ m' ((c.tc : Thread Cert.NextRefIdeal.nD Cert.NextRefIdeal.τ).loc Cert.NextRefIdeal.main_arg4) = m ((c.tc : Thread Cert.NextIdeal.nD Cert.NextIdeal.τ).loc Cert.NextIdeal.main_arg4)) →
    ∃ (v0 : (c : Dev Cert.NextIdeal.nD) → Buf (Elt Ideal) ((c.tc : Thread Cert.NextIdeal.nD Cert.NextIdeal.τ).loc Cert.NextIdeal.main_v3_0)) (v1 : (c : Dev Cert.NextIdeal.nD) → Buf (Elt Ideal) ((c.tc : Thread Cert.NextIdeal.nD Cert.NextIdeal.τ).loc Cert.NextIdeal.main_v3_1)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v3_0) = v0 c
          ∧ r.2.mem ((c.tc : Thread Cert.NextIdeal.nD Cert.NextIdeal.τ).loc Cert.NextIdeal.main_v3_1) = v1 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
          ∧ r.2.mem ((c.tc : Thread Cert.NextIdeal.nD Cert.NextIdeal.τ).loc Cert.NextIdeal.main_arg4) = m ((c.tc : Thread Cert.NextIdeal.nD Cert.NextIdeal.τ).loc Cert.NextIdeal.main_arg4))
      ∧ θ_run (Cert.NextRefIdeal.defs (F := Ideal)) (onTc (τ := Cert.NextRefIdeal.τ) (Cert.NextRefIdeal.main (F := Ideal))) ⟨m', fun _ => 0, g'⟩ (fun r => ∀ c : Dev Cert.NextRefIdeal.nD,
          r.2.mem ((c.tc : Thread Cert.NextRefIdeal.nD Cert.NextRefIdeal.τ).loc Cert.NextRefIdeal.main_v100) = v0 c
          ∧ r.2.mem ((c.tc : Thread Cert.NextRefIdeal.nD Cert.NextRefIdeal.τ).loc Cert.NextRefIdeal.main_v104) = v1 c
          ∧ r.2.mem ((c.tc : Thread Cert.NextRefIdeal.nD Cert.NextRefIdeal.τ).loc Cert.NextRefIdeal.main_arg0) = m' ((c.tc : Thread Cert.NextRefIdeal.nD Cert.NextRefIdeal.τ).loc Cert.NextRefIdeal.main_arg0)
          ∧ r.2.mem ((c.tc : Thread Cert.NextRefIdeal.nD Cert.NextRefIdeal.τ).loc Cert.NextRefIdeal.main_arg1) = m' ((c.tc : Thread Cert.NextRefIdeal.nD Cert.NextRefIdeal.τ).loc Cert.NextRefIdeal.main_arg1)
          ∧ r.2.mem ((c.tc : Thread Cert.NextRefIdeal.nD Cert.NextRefIdeal.τ).loc Cert.NextRefIdeal.main_arg2) = m' ((c.tc : Thread Cert.NextRefIdeal.nD Cert.NextRefIdeal.τ).loc Cert.NextRefIdeal.main_arg2)
          ∧ r.2.mem ((c.tc : Thread Cert.NextRefIdeal.nD Cert.NextRefIdeal.τ).loc Cert.NextRefIdeal.main_arg3) = m' ((c.tc : Thread Cert.NextRefIdeal.nD Cert.NextRefIdeal.τ).loc Cert.NextRefIdeal.main_arg3)
          ∧ r.2.mem ((c.tc : Thread Cert.NextRefIdeal.nD Cert.NextRefIdeal.τ).loc Cert.NextRefIdeal.main_arg4) = m' ((c.tc : Thread Cert.NextRefIdeal.nD Cert.NextRefIdeal.τ).loc Cert.NextRefIdeal.main_arg4))

def Claim : Prop :=
  ∃ (hFwd : Cert.Fwd.Facts) (hFwdIdeal : Cert.FwdIdeal.Facts) (hFwdRefIdeal : Cert.FwdRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hMix : Cert.Mix.Facts) (hMixIdeal : Cert.MixIdeal.Facts) (hMixRefIdeal : Cert.MixRefIdeal.Facts) (hMoe : Cert.Moe.Facts) (hMoeIdeal : Cert.MoeIdeal.Facts) (hMoeRefIdeal : Cert.MoeRefIdeal.Facts) (hBwd : Cert.Bwd.Facts) (hBwdIdeal : Cert.BwdIdeal.Facts) (hBwdRefIdeal : Cert.BwdRefIdeal.Facts) (hAda : Cert.Ada.Facts) (hAdaIdeal : Cert.AdaIdeal.Facts) (hAdaRefIdeal : Cert.AdaRefIdeal.Facts) (hMod : Cert.Mod.Facts) (hModIdeal : Cert.ModIdeal.Facts) (hModRefIdeal : Cert.ModRefIdeal.Facts) (hGate : Cert.Gate.Facts) (hGateIdeal : Cert.GateIdeal.Facts) (hGateRefIdeal : Cert.GateRefIdeal.Facts) (hDnGate : Cert.DnGate.Facts) (hDnGateIdeal : Cert.DnGateIdeal.Facts) (hDnGateRefIdeal : Cert.DnGateRefIdeal.Facts) (hNorm : Cert.Norm.Facts) (hNormIdeal : Cert.NormIdeal.Facts) (hNormRefIdeal : Cert.NormRefIdeal.Facts) (hNext : Cert.Next.Facts) (hNextIdeal : Cert.NextIdeal.Facts) (hNextRefIdeal : Cert.NextRefIdeal.Facts) (hPre_finite_forward : Cert.Pre_finite_forward.Facts) (hPre_moe_ranges : Cert.Pre_moe_ranges.Facts) (hPre_finite_backward : Cert.Pre_finite_backward.Facts),
    quiescent_Fwd (hFwd := hFwd)
    ∧ quiescent_FwdIdeal (hFwdIdeal := hFwdIdeal)
    ∧ quiescent_FwdIdeal_pre_finite_forward (hFwdIdeal := hFwdIdeal) (hPre_finite_forward := hPre_finite_forward)
    ∧ quiescent_FwdRefIdeal (hFwdRefIdeal := hFwdRefIdeal)
    ∧ quiescent_FwdRefIdeal_pre_finite_forward (hFwdRefIdeal := hFwdRefIdeal) (hPre_finite_forward := hPre_finite_forward)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_Mix (hMix := hMix)
    ∧ quiescent_MixIdeal (hMixIdeal := hMixIdeal)
    ∧ quiescent_MixRefIdeal (hMixRefIdeal := hMixRefIdeal)
    ∧ quiescent_Moe (hMoe := hMoe) (hPre_moe_ranges := hPre_moe_ranges)
    ∧ quiescent_MoeIdeal (hMoeIdeal := hMoeIdeal) (hPre_moe_ranges := hPre_moe_ranges)
    ∧ quiescent_MoeRefIdeal (hMoeRefIdeal := hMoeRefIdeal)
    ∧ quiescent_MoeRefIdeal_pre_moe_ranges (hMoeRefIdeal := hMoeRefIdeal) (hPre_moe_ranges := hPre_moe_ranges)
    ∧ quiescent_Bwd (hBwd := hBwd)
    ∧ quiescent_BwdIdeal (hBwdIdeal := hBwdIdeal)
    ∧ quiescent_BwdIdeal_pre_finite_backward (hBwdIdeal := hBwdIdeal) (hPre_finite_backward := hPre_finite_backward)
    ∧ quiescent_BwdRefIdeal (hBwdRefIdeal := hBwdRefIdeal)
    ∧ quiescent_BwdRefIdeal_pre_finite_backward (hBwdRefIdeal := hBwdRefIdeal) (hPre_finite_backward := hPre_finite_backward)
    ∧ quiescent_Ada (hAda := hAda)
    ∧ quiescent_AdaIdeal (hAdaIdeal := hAdaIdeal)
    ∧ quiescent_AdaRefIdeal (hAdaRefIdeal := hAdaRefIdeal)
    ∧ quiescent_Mod (hMod := hMod)
    ∧ quiescent_ModIdeal (hModIdeal := hModIdeal)
    ∧ quiescent_ModRefIdeal (hModRefIdeal := hModRefIdeal)
    ∧ quiescent_Gate (hGate := hGate)
    ∧ quiescent_GateIdeal (hGateIdeal := hGateIdeal)
    ∧ quiescent_GateRefIdeal (hGateRefIdeal := hGateRefIdeal)
    ∧ quiescent_DnGate (hDnGate := hDnGate)
    ∧ quiescent_DnGateIdeal (hDnGateIdeal := hDnGateIdeal)
    ∧ quiescent_DnGateRefIdeal (hDnGateRefIdeal := hDnGateRefIdeal)
    ∧ quiescent_Norm (hNorm := hNorm)
    ∧ quiescent_NormIdeal (hNormIdeal := hNormIdeal)
    ∧ quiescent_NormRefIdeal (hNormRefIdeal := hNormRefIdeal)
    ∧ quiescent_Next (hNext := hNext)
    ∧ quiescent_NextIdeal (hNextIdeal := hNextIdeal)
    ∧ quiescent_NextRefIdeal (hNextRefIdeal := hNextRefIdeal)
    ∧ preserves_Fwd_FwdIdeal
    ∧ algebraic_FwdIdeal_FwdRefIdeal_pre_finite_forward (hFwdIdeal := hFwdIdeal) (hFwdRefIdeal := hFwdRefIdeal) (hPre_finite_forward := hPre_finite_forward)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_Mix_MixIdeal
    ∧ algebraic_MixIdeal_MixRefIdeal (hMixIdeal := hMixIdeal) (hMixRefIdeal := hMixRefIdeal)
    ∧ preserves_Moe_MoeIdeal
    ∧ algebraic_MoeIdeal_MoeRefIdeal (hMoeIdeal := hMoeIdeal) (hMoeRefIdeal := hMoeRefIdeal) (hPre_moe_ranges := hPre_moe_ranges)
    ∧ preserves_Bwd_BwdIdeal
    ∧ algebraic_BwdIdeal_BwdRefIdeal_pre_finite_backward (hBwdIdeal := hBwdIdeal) (hBwdRefIdeal := hBwdRefIdeal) (hPre_finite_backward := hPre_finite_backward)
    ∧ preserves_Ada_AdaIdeal
    ∧ algebraic_AdaIdeal_AdaRefIdeal (hAdaIdeal := hAdaIdeal) (hAdaRefIdeal := hAdaRefIdeal)
    ∧ preserves_Mod_ModIdeal
    ∧ algebraic_ModIdeal_ModRefIdeal (hModIdeal := hModIdeal) (hModRefIdeal := hModRefIdeal)
    ∧ preserves_Gate_GateIdeal
    ∧ algebraic_GateIdeal_GateRefIdeal (hGateIdeal := hGateIdeal) (hGateRefIdeal := hGateRefIdeal)
    ∧ preserves_DnGate_DnGateIdeal
    ∧ algebraic_DnGateIdeal_DnGateRefIdeal (hDnGateIdeal := hDnGateIdeal) (hDnGateRefIdeal := hDnGateRefIdeal)
    ∧ preserves_Norm_NormIdeal
    ∧ algebraic_NormIdeal_NormRefIdeal (hNormIdeal := hNormIdeal) (hNormRefIdeal := hNormRefIdeal)
    ∧ preserves_Next_NextIdeal
    ∧ algebraic_NextIdeal_NextRefIdeal (hNextIdeal := hNextIdeal) (hNextRefIdeal := hNextRefIdeal)
-- ==== Pre_finite_backward.lean ====
abbrev S16896x16384 : Shape := ⟨2, ![16896, 16384]⟩
abbrev S2x8 : Shape := ⟨2, ![2, 8]⟩
abbrev S16896x2048 : Shape := ⟨2, ![16896, 2048]⟩
abbrev S2048 : Shape := ⟨1, ![2048]⟩
abbrev S_ : Shape := ⟨0, ![]⟩

class Facts : Prop where
  bcast_S_S16896x16384 : S_.BroadcastsInDim S16896x16384 (![] : Fin 0 → Fin S16896x16384.rank)
  reducesTo_S16896x16384_S_d0_1 : S16896x16384.ReducesTo [0, 1] S_
  h_S_ : 0 < S_.numel
  bcast_S_S2x8 : S_.BroadcastsInDim S2x8 (![] : Fin 0 → Fin S2x8.rank)
  reducesTo_S2x8_S_d0_1 : S2x8.ReducesTo [0, 1] S_

variable [Facts]

def fn {F : FTy → Type} [FloatOps F] (main_arg0 : FVec F S16896x16384 .f32) (main_arg1 : FVec F S2x8 .f32) (main_arg2 : FVec F S16896x2048 .f32) (main_arg3 : FVec F S2048 .f32) : IVec S_ 1 :=
  let main_v0 : FVec F S16896x16384 .f32 := Host.absf main_arg0
  let main_cst : FVec F S_ .f32 := constant S_ .f32 0x7F800000#32
  let main_v1 : FVec F S16896x16384 .f32 := broadcastInDim S16896x16384 ![] bcast_S_S16896x16384 main_cst
  let main_v2 : IVec S16896x16384 1 := cmpf .olt main_v0 main_v1
  let main_c : IVec S_ 1 := constantI S_ 1 1#1
  let main_v3 : IVec S_ 1 := (fun x v => Host.reduce IntOp.andi x v reducesTo_S16896x16384_S_d0_1 h_S_) main_v2 main_c
  let main_v4 : FVec F S2x8 .f32 := Host.absf main_arg1
  let main_cst_0 : FVec F S_ .f32 := constant S_ .f32 0x7F800000#32
  let main_v5 : FVec F S2x8 .f32 := broadcastInDim S2x8 ![] bcast_S_S2x8 main_cst_0
  let main_v6 : IVec S2x8 1 := cmpf .olt main_v4 main_v5
  let main_c_1 : IVec S_ 1 := constantI S_ 1 1#1
  let main_v7 : IVec S_ 1 := (fun x v => Host.reduce IntOp.andi x v reducesTo_S2x8_S_d0_1 h_S_) main_v6 main_c_1
  let main_v8 : IVec S_ 1 := andi main_v3 main_v7
  main_v8
-- ==== Pre_finite_forward.lean ====
abbrev S16896x16384 : Shape := ⟨2, ![16896, 16384]⟩
abbrev S2x8 : Shape := ⟨2, ![2, 8]⟩
abbrev S_ : Shape := ⟨0, ![]⟩

class Facts : Prop where
  bcast_S_S16896x16384 : S_.BroadcastsInDim S16896x16384 (![] : Fin 0 → Fin S16896x16384.rank)
  reducesTo_S16896x16384_S_d0_1 : S16896x16384.ReducesTo [0, 1] S_
  h_S_ : 0 < S_.numel
  bcast_S_S2x8 : S_.BroadcastsInDim S2x8 (![] : Fin 0 → Fin S2x8.rank)
  reducesTo_S2x8_S_d0_1 : S2x8.ReducesTo [0, 1] S_

variable [Facts]

def fn {F : FTy → Type} [FloatOps F] (main_arg0 : FVec F S16896x16384 .f32) (main_arg1 : FVec F S2x8 .f32) : IVec S_ 1 :=
  let main_v0 : FVec F S16896x16384 .f32 := Host.absf main_arg0
  let main_cst : FVec F S_ .f32 := constant S_ .f32 0x7F800000#32
  let main_v1 : FVec F S16896x16384 .f32 := broadcastInDim S16896x16384 ![] bcast_S_S16896x16384 main_cst
  let main_v2 : IVec S16896x16384 1 := cmpf .olt main_v0 main_v1
  let main_c : IVec S_ 1 := constantI S_ 1 1#1
  let main_v3 : IVec S_ 1 := (fun x v => Host.reduce IntOp.andi x v reducesTo_S16896x16384_S_d0_1 h_S_) main_v2 main_c
  let main_v4 : FVec F S2x8 .f32 := Host.absf main_arg1
  let main_cst_0 : FVec F S_ .f32 := constant S_ .f32 0x7F800000#32
  let main_v5 : FVec F S2x8 .f32 := broadcastInDim S2x8 ![] bcast_S_S2x8 main_cst_0
  let main_v6 : IVec S2x8 1 := cmpf .olt main_v4 main_v5
  let main_c_1 : IVec S_ 1 := constantI S_ 1 1#1
  let main_v7 : IVec S_ 1 := (fun x v => Host.reduce IntOp.andi x v reducesTo_S2x8_S_d0_1 h_S_) main_v6 main_c_1
  let main_v8 : IVec S_ 1 := andi main_v3 main_v7
  main_v8
-- ==== Pre_moe_ranges.lean ====
abbrev S167936x2048 : Shape := ⟨2, ![167936, 2048]⟩
abbrev S2x64x4096x512 : Shape := ⟨4, ![2, 64, 4096, 512]⟩
abbrev S2x64x256x4096 : Shape := ⟨4, ![2, 64, 256, 4096]⟩
abbrev S328 : Shape := ⟨1, ![328]⟩
abbrev S1 : Shape := ⟨1, ![1]⟩
abbrev S_ : Shape := ⟨0, ![]⟩

class Facts : Prop where
  bcast_S_S328 : S_.BroadcastsInDim S328 (![] : Fin 0 → Fin S328.rank)
  reducesTo_S328_S_d0 : S328.ReducesTo [0] S_
  h_S_ : 0 < S_.numel
  shapeCasts_S1_S_ : S1.ShapeCasts S_

variable [Facts]

def fn {F : FTy → Type} [FloatOps F] (main_arg0 : IVec S167936x2048 32) (main_arg1 : FVec F S2x64x4096x512 .f32) (main_arg2 : FVec F S2x64x256x4096 .f32) (main_arg3 : IVec S328 32) (main_arg4 : IVec S1 32) : IVec S_ 1 :=
  let main_c : IVec S_ 32 := constantI S_ 32 0#32
  let main_v0 : IVec S328 32 := broadcastInDim S328 ![] bcast_S_S328 main_c
  let main_v1 : IVec S328 1 := cmpi .sge main_arg3 main_v0
  let main_c_0 : IVec S_ 32 := constantI S_ 32 64#32
  let main_v2 : IVec S328 32 := broadcastInDim S328 ![] bcast_S_S328 main_c_0
  let main_v3 : IVec S328 1 := cmpi .slt main_arg3 main_v2
  let main_v4 : IVec S328 1 := andi main_v1 main_v3
  let main_c_1 : IVec S_ 1 := constantI S_ 1 1#1
  let main_v5 : IVec S_ 1 := (fun x v => Host.reduce IntOp.andi x v reducesTo_S328_S_d0 h_S_) main_v4 main_c_1
  let main_v6 : IVec S_ 32 := shapeCast S_ main_arg4 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg4 shapeCasts_S1_S_
  let main_c_3 : IVec S_ 32 := constantI S_ 32 328#32
  let main_v10 : IVec S_ 1 := cmpi .sle main_v9 main_c_3
  let main_v11 : IVec S_ 1 := andi main_v8 main_v10
  main_v11
-- ==== Fwd.lean ====
abbrev S16896x16384 : Shape := ⟨2, ![16896, 16384]⟩
abbrev S2x8 : Shape := ⟨2, ![2, 8]⟩
abbrev S8448 : Shape := ⟨1, ![8448]⟩
abbrev S128 : Shape := ⟨1, ![128]⟩
abbrev S_ : Shape := ⟨0, ![]⟩
abbrev S8448x1 : Shape := ⟨2, ![8448, 1]⟩
abbrev S1x128 : Shape := ⟨2, ![1, 128]⟩
abbrev S8448x128 : Shape := ⟨2, ![8448, 128]⟩
abbrev S16x1x1 : Shape := ⟨3, ![16, 1, 1]⟩
abbrev S16x1x128 : Shape := ⟨3, ![16, 1, 128]⟩
abbrev S16896x2048 : Shape := ⟨2, ![16896, 2048]⟩
abbrev S256x1024 : Shape := ⟨2, ![256, 1024]⟩
abbrev S256x128 : Shape := ⟨2, ![256, 128]⟩
abbrev S4x1x128 : Shape := ⟨3, ![4, 1, 128]⟩
abbrev S256x256 : Shape := ⟨2, ![256, 256]⟩
abbrev S256x1 : Shape := ⟨2, ![256, 1]⟩
abbrev S1x1x128 : Shape := ⟨3, ![1, 1, 128]⟩
abbrev S1x1 : Shape := ⟨2, ![1, 1]⟩

abbrev nBuf : Space → Nat
  | .hbm => 21
  | .vmem => 18
  | .smem => 0
  | _ => 0

abbrev bufTy : (tb : Table) → Fin (tcTables nBuf tb) → BufTy
  | .hbm, ⟨0, _⟩ => ⟨S16896x16384, .f32⟩
  | .hbm, ⟨1, _⟩ => ⟨S2x8, .f32⟩
  | .hbm, ⟨2, _⟩ => ⟨S8448, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S8448x1, .f32⟩
  | .hbm, ⟨12, _⟩ => ⟨S1x128, .f32⟩
  | .hbm, ⟨13, _⟩ => ⟨S8448x128, .f32⟩
  | .hbm, ⟨14, _⟩ => ⟨S8448x128, .f32⟩
  | .hbm, ⟨15, _⟩ => ⟨S8448x128, .f32⟩
  | .hbm, ⟨16, _⟩ => ⟨S16x1x1, .f32⟩
  | .hbm, ⟨17, _⟩ => ⟨S16x1x128, .f32⟩
  | .hbm, ⟨18, _⟩ => ⟨S8448x128, .f32⟩
  | .hbm, ⟨19, _⟩ => ⟨S8448x128, .f32⟩
  | .hbm, ⟨20, _⟩ => ⟨S16896x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S4x1x128, .f32⟩
  | .local _ .vmem, ⟨11, _⟩ => ⟨S4x1x128, .f32⟩
  | .local _ .vmem, ⟨12, _⟩ => ⟨S256x1024, .f32⟩
  | .local _ .vmem, ⟨13, _⟩ => ⟨S256x1024, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | _, _ => ⟨S16896x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 33], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c1_i32_0 : BitVec 32 := 1#32
  let v1 : BitVec 1 := Scalar.cmpi .slt arg2 c1_i32_0
  let c1_i32_1 : BitVec 32 := 1#32
  let v2 : BitVec 32 := Scalar.muli arg0 c1_i32_1
  let v3 : BitVec 32 := Scalar.addi v2 arg2
  let c32_i32 : BitVec 32 := 32#32
  let v4 : BitVec 32 := Scalar.muli arg0 c32_i32
  let c2_i32 : BitVec 32 := 2#32
  let v5 : BitVec 32 := Scalar.addi c2_i32 v4
  let v6 : BitVec 32 := Scalar.addi v5 v0
  let v7 : BitVec 32 := Scalar.select v1 v3 v6
  let c0_i32 : BitVec 32 := 0#32
  let v8 : BitVec 32 := Scalar.addi c0_i32 arg1
  let c0_i32_2 : BitVec 32 := 0#32
  ![v7.toNat, v8.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c1_i32_0 : BitVec 32 := 1#32
  let v1 : BitVec 1 := Scalar.cmpi .slt arg2 c1_i32_0
  let c1_i32_1 : BitVec 32 := 1#32
  let v2 : BitVec 32 := Scalar.muli arg0 c1_i32_1
  let v3 : BitVec 32 := Scalar.addi v2 arg2
  let c32_i32 : BitVec 32 := 32#32
  let v4 : BitVec 32 := Scalar.muli arg0 c32_i32
  let c2_i32 : BitVec 32 := 2#32
  let v5 : BitVec 32 := Scalar.addi c2_i32 v4
  let v6 : BitVec 32 := Scalar.addi v5 v0
  let v7 : BitVec 32 := Scalar.select v1 v3 v6
  let c2_i32_2 : BitVec 32 := 2#32
  let v8 : BitVec 32 := Scalar.addi c2_i32_2 arg1
  let c0_i32 : BitVec 32 := 0#32
  ![v7.toNat, v8.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c1_i32_0 : BitVec 32 := 1#32
  let v1 : BitVec 1 := Scalar.cmpi .slt arg2 c1_i32_0
  let c1_i32_1 : BitVec 32 := 1#32
  let v2 : BitVec 32 := Scalar.muli arg0 c1_i32_1
  let v3 : BitVec 32 := Scalar.addi v2 arg2
  let c32_i32 : BitVec 32 := 32#32
  let v4 : BitVec 32 := Scalar.muli arg0 c32_i32
  let c2_i32 : BitVec 32 := 2#32
  let v5 : BitVec 32 := Scalar.addi c2_i32 v4
  let v6 : BitVec 32 := Scalar.addi v5 v0
  let v7 : BitVec 32 := Scalar.select v1 v3 v6
  let c4_i32 : BitVec 32 := 4#32
  let v8 : BitVec 32 := Scalar.addi c4_i32 arg1
  let c0_i32 : BitVec 32 := 0#32
  ![v7.toNat, v8.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c1_i32_0 : BitVec 32 := 1#32
  let v1 : BitVec 1 := Scalar.cmpi .slt arg2 c1_i32_0
  let c1_i32_1 : BitVec 32 := 1#32
  let v2 : BitVec 32 := Scalar.muli arg0 c1_i32_1
  let v3 : BitVec 32 := Scalar.addi v2 arg2
  let c32_i32 : BitVec 32 := 32#32
  let v4 : BitVec 32 := Scalar.muli arg0 c32_i32
  let c2_i32 : BitVec 32 := 2#32
  let v5 : BitVec 32 := Scalar.addi c2_i32 v4
  let v6 : BitVec 32 := Scalar.addi v5 v0
  let v7 : BitVec 32 := Scalar.select v1 v3 v6
  let c0_i32 : BitVec 32 := 0#32
  ![v7.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== FwdRefIdeal.lean ====
abbrev S16896x16384 : Shape := ⟨2, ![16896, 16384]⟩
abbrev S2x8 : Shape := ⟨2, ![2, 8]⟩
abbrev S16896x2048 : Shape := ⟨2, ![16896, 2048]⟩
abbrev S512x2048 : Shape := ⟨2, ![512, 2048]⟩
abbrev S2x256x2048 : Shape := ⟨3, ![2, 256, 2048]⟩
abbrev S16384x2048 : Shape := ⟨2, ![16384, 2048]⟩
abbrev S2x8192x2048 : Shape := ⟨3, ![2, 8192, 2048]⟩
abbrev S2x8448x2048 : Shape := ⟨3, ![2, 8448, 2048]⟩
abbrev S8448 : Shape := ⟨1, ![8448]⟩
abbrev S2x8448x8x256 : Shape := ⟨4, ![2, 8448, 8, 256]⟩
abbrev S128 : Shape := ⟨1, ![128]⟩
abbrev S_ : Shape := ⟨0, ![]⟩
abbrev S8448x1 : Shape := ⟨2, ![8448, 1]⟩
abbrev S1x128 : Shape := ⟨2, ![1, 128]⟩
abbrev S8448x128 : Shape := ⟨2, ![8448, 128]⟩
abbrev S1x8448x1x128 : Shape := ⟨4, ![1, 8448, 1, 128]⟩
abbrev S2x8448x8x128 : Shape := ⟨4, ![2, 8448, 8, 128]⟩
abbrev S2x8x256x256 : Shape := ⟨4, ![2, 8, 256, 256]⟩
abbrev S1x8 : Shape := ⟨2, ![1, 8]⟩
abbrev S8 : Shape := ⟨1, ![8]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S8x1 : Shape := ⟨2, ![8, 1]⟩
abbrev S8x64 : Shape := ⟨2, ![8, 64]⟩
abbrev S8x64x1 : Shape := ⟨3, ![8, 64, 1]⟩
abbrev S2x132x64x8x256 : Shape := ⟨5, ![2, 132, 64, 8, 256]⟩
abbrev S132x2x8x64x256 : Shape := ⟨5, ![132, 2, 8, 64, 256]⟩
abbrev S1x2x8x64x256 : Shape := ⟨5, ![1, 2, 8, 64, 256]⟩
abbrev S2x8x64x256 : Shape := ⟨4, ![2, 8, 64, 256]⟩
abbrev S2x8x64x64 : Shape := ⟨4, ![2, 8, 64, 64]⟩
abbrev S1x8x64x64 : Shape := ⟨4, ![1, 8, 64, 64]⟩
abbrev S1x8x64x1 : Shape := ⟨4, ![1, 8, 64, 1]⟩
abbrev S1x8x1x1 : Shape := ⟨4, ![1, 8, 1, 1]⟩
abbrev S2x256x8x256 : Shape := ⟨4, ![2, 256, 8, 256]⟩
abbrev S2x8192x8x256 : Shape := ⟨4, ![2, 8192, 8, 256]⟩

abbrev nBuf : Space → Nat
  | .hbm => 213
  | .vmem => 0
  | .smem => 0
  | _ => 0

abbrev hbmTy0_0 (i : Nat) : BufTy := match i % 128 with
  | 0 => ⟨S16896x16384, .f32⟩
  | 1 => ⟨S2x8, .f32⟩
  | 2 => ⟨S16896x2048, .f32⟩
  | 3 => ⟨S512x2048, .f32⟩
  | 4 => ⟨S2x256x2048, .f32⟩
  | 5 => ⟨S16384x2048, .f32⟩
  | 6 => ⟨S2x8192x2048, .f32⟩
  | 7 => ⟨S2x8448x2048, .f32⟩
  | 8 => ⟨S16896x2048, .f32⟩
  | 9 => ⟨S512x2048, .f32⟩
  | 10 => ⟨S2x256x2048, .f32⟩
  | 11 => ⟨S16384x2048, .f32⟩
  | 12 => ⟨S2x8192x2048, .f32⟩
  | 13 => ⟨S2x8448x2048, .f32⟩
  | 14 => ⟨S16896x2048, .f32⟩
  | 15 => ⟨S512x2048, .f32⟩
  | 16 => ⟨S2x256x2048, .f32⟩
  | 17 => ⟨S16384x2048, .f32⟩
  | 18 => ⟨S2x8192x2048, .f32⟩
  | 19 => ⟨S2x8448x2048, .f32⟩
  | 20 => ⟨S8448, .f32⟩
  | 21 => ⟨S2x8448x8x256, .f32⟩
  | 22 => ⟨S128, .f32⟩
  | 23 => ⟨S128, .f32⟩
  | 24 => ⟨S_, .f32⟩
  | 25 => ⟨S128, .f32⟩
  | 26 => ⟨S128, .f32⟩
  | 27 => ⟨S_, .f32⟩
  | 28 => ⟨S128, .f32⟩
  | 29 => ⟨S128, .f32⟩
  | 30 => ⟨S8448x1, .f32⟩
  | 31 => ⟨S1x128, .f32⟩
  | 32 => ⟨S8448x128, .f32⟩
  | 33 => ⟨S8448x128, .f32⟩
  | 34 => ⟨S8448x128, .f32⟩
  | 35 => ⟨S8448x128, .f32⟩
  | 36 => ⟨S1x8448x1x128, .f32⟩
  | 37 => ⟨S8448x128, .f32⟩
  | 38 => ⟨S1x8448x1x128, .f32⟩
  | 39 => ⟨S2x8448x8x128, .f32⟩
  | 40 => ⟨S2x8448x8x128, .f32⟩
  | 41 => ⟨S2x8448x8x128, .f32⟩
  | 42 => ⟨S2x8448x8x128, .f32⟩
  | 43 => ⟨S2x8448x8x128, .f32⟩
  | 44 => ⟨S2x8448x8x128, .f32⟩
  | 45 => ⟨S2x8448x8x128, .f32⟩
  | 46 => ⟨S2x8448x8x128, .f32⟩
  | 47 => ⟨S2x8448x8x128, .f32⟩
  | 48 => ⟨S2x8448x8x128, .f32⟩
  | 49 => ⟨S2x8448x8x128, .f32⟩
  | 50 => ⟨S2x8448x8x128, .f32⟩
  | 51 => ⟨S2x8448x8x256, .f32⟩
  | 52 => ⟨S2x8448x8x256, .f32⟩
  | 53 => ⟨S128, .f32⟩
  | 54 => ⟨S128, .f32⟩
  | 55 => ⟨S_, .f32⟩
  | 56 => ⟨S128, .f32⟩
  | 57 => ⟨S128, .f32⟩
  | 58 => ⟨S_, .f32⟩
  | 59 => ⟨S128, .f32⟩
  | 60 => ⟨S128, .f32⟩
  | 61 => ⟨S8448x1, .f32⟩
  | 62 => ⟨S1x128, .f32⟩
  | 63 => ⟨S8448x128, .f32⟩
  | 64 => ⟨S8448x128, .f32⟩
  | 65 => ⟨S8448x128, .f32⟩
  | 66 => ⟨S8448x128, .f32⟩
  | 67 => ⟨S1x8448x1x128, .f32⟩
  | 68 => ⟨S8448x128, .f32⟩
  | 69 => ⟨S1x8448x1x128, .f32⟩
  | 70 => ⟨S2x8448x8x128, .f32⟩
  | 71 => ⟨S2x8448x8x128, .f32⟩
  | 72 => ⟨S2x8448x8x128, .f32⟩
  | 73 => ⟨S2x8448x8x128, .f32⟩
  | 74 => ⟨S2x8448x8x128, .f32⟩
  | 75 => ⟨S2x8448x8x128, .f32⟩
  | 76 => ⟨S2x8448x8x128, .f32⟩
  | 77 => ⟨S2x8448x8x128, .f32⟩
  | 78 => ⟨S2x8448x8x128, .f32⟩
  | 79 => ⟨S2x8448x8x128, .f32⟩
  | 80 => ⟨S2x8448x8x128, .f32⟩
  | 81 => ⟨S2x8448x8x128, .f32⟩
  | 82 => ⟨S2x8448x8x256, .f32⟩
  | 83 => ⟨S_, .f32⟩
  | 84 => ⟨S2x8448x8x256, .f32⟩
  | 85 => ⟨S2x8448x8x256, .f32⟩
  | 86 => ⟨S2x8, .f32⟩
  | 87 => ⟨S2x8, .f32⟩
  | 88 => ⟨S_, .f32⟩
  | 89 => ⟨S2x8x256x256, .f32⟩
  | 90 => ⟨S2x8448x8x256, .f32⟩
  | 91 => ⟨S1x8, .f32⟩
  | 92 => ⟨S8, .f32⟩
  | 93 => ⟨S64, .f32⟩
  | 94 => ⟨S64x1, .f32⟩
  | 95 => ⟨S1x64, .f32⟩
  | 96 => ⟨S64x64, .f32⟩
  | 97 => ⟨S64x64, .f32⟩
  | 98 => ⟨S64x64, .f32⟩
  | 99 => ⟨S_, .f32⟩
  | 100 => ⟨S64x64, .f32⟩
  | 101 => ⟨S64x64, .i1⟩
  | 102 => ⟨S8x1x1, .f32⟩
  | 103 => ⟨S_, .f32⟩
  | 104 => ⟨S64x64, .f32⟩
  | 105 => ⟨S64x64, .f32⟩
  | 106 => ⟨S1x64x64, .f32⟩
  | 107 => ⟨S8x64x64, .f32⟩
  | 108 => ⟨S8x64x64, .f32⟩
  | 109 => ⟨S8x64x64, .f32⟩
  | 110 => ⟨S8x64x64, .f32⟩
  | 111 => ⟨S_, .f32⟩
  | 112 => ⟨S_, .f32⟩
  | 113 => ⟨S8x64x64, .i1⟩
  | 114 => ⟨S8x64x64, .f32⟩
  | 115 => ⟨S8x64x64, .f32⟩
  | 116 => ⟨S8x1, .f32⟩
  | 117 => ⟨S_, .f32⟩
  | 118 => ⟨S64, .f32⟩
  | 119 => ⟨S64, .f32⟩
  | 120 => ⟨S1x64, .f32⟩
  | 121 => ⟨S8x64, .f32⟩
  | 122 => ⟨S8x64, .f32⟩
  | 123 => ⟨S8x64, .f32⟩
  | 124 => ⟨S8x64, .f32⟩
  | 125 => ⟨S8x64x1, .f32⟩
  | 126 => ⟨S8x1, .f32⟩
  | 127 => ⟨S_, .f32⟩
  | _ => ⟨S16896x16384, .f32⟩

abbrev hbmTy0_1 (i : Nat) : BufTy := match i % 128 with
  | 0 => ⟨S64, .f32⟩
  | 1 => ⟨S64, .f32⟩
  | 2 => ⟨S1x64, .f32⟩
  | 3 => ⟨S8x64, .f32⟩
  | 4 => ⟨S8x64, .f32⟩
  | 5 => ⟨S8x64, .f32⟩
  | 6 => ⟨S8x64, .f32⟩
  | 7 => ⟨S8x64x1, .f32⟩
  | 8 => ⟨S_, .f32⟩
  | 9 => ⟨S8, .f32⟩
  | 10 => ⟨S8, .f32⟩
  | 11 => ⟨S8, .f32⟩
  | 12 => ⟨S8x1x1, .f32⟩
  | 13 => ⟨S2x132x64x8x256, .f32⟩
  | 14 => ⟨S132x2x8x64x256, .f32⟩
  | 15 => ⟨S2x132x64x8x256, .f32⟩
  | 16 => ⟨S132x2x8x64x256, .f32⟩
  | 17 => ⟨S2x132x64x8x256, .f32⟩
  | 18 => ⟨S132x2x8x64x256, .f32⟩
  | 19 => ⟨S_, .f32⟩
  | 20 => ⟨S132x2x8x64x256, .f32⟩
  | 21 => ⟨S_, .i32⟩
  | 22 => ⟨S132x2x8x64x256, .f32⟩
  | 23 => ⟨S132x2x8x64x256, .f32⟩
  | 24 => ⟨S132x2x8x64x256, .f32⟩
  | 25 => ⟨S8x64x64, .f32⟩
  | 26 => ⟨S8x64x1, .f32⟩
  | 27 => ⟨S8x1x1, .f32⟩
  | 28 => ⟨S8x64x1, .f32⟩
  | 29 => ⟨S_, .i32⟩
  | 30 => ⟨S2x8x256x256, .f32⟩
  | 31 => ⟨S132x2x8x64x256, .f32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S1x2x8x64x256, .f32⟩
  | 39 => ⟨S2x8x64x256, .f32⟩
  | 40 => ⟨S_, .i32⟩
  | 41 => ⟨S_, .i32⟩
  | 42 => ⟨S_, .i32⟩
  | 43 => ⟨S_, .i32⟩
  | 44 => ⟨S1x2x8x64x256, .f32⟩
  | 45 => ⟨S2x8x64x256, .f32⟩
  | 46 => ⟨S_, .i32⟩
  | 47 => ⟨S_, .i32⟩
  | 48 => ⟨S_, .i32⟩
  | 49 => ⟨S_, .i32⟩
  | 50 => ⟨S1x2x8x64x256, .f32⟩
  | 51 => ⟨S2x8x64x256, .f32⟩
  | 52 => ⟨S2x8x64x64, .f32⟩
  | 53 => ⟨S1x8x64x64, .f32⟩
  | 54 => ⟨S2x8x64x64, .f32⟩
  | 55 => ⟨S2x8x64x64, .f32⟩
  | 56 => ⟨S2x8x64x256, .f32⟩
  | 57 => ⟨S1x8x64x1, .f32⟩
  | 58 => ⟨S2x8x64x256, .f32⟩
  | 59 => ⟨S2x8x64x256, .f32⟩
  | 60 => ⟨S2x8x64x256, .f32⟩
  | 61 => ⟨S2x8x64x256, .f32⟩
  | 62 => ⟨S1x8x1x1, .f32⟩
  | 63 => ⟨S2x8x256x256, .f32⟩
  | 64 => ⟨S2x8x256x256, .f32⟩
  | 65 => ⟨S1x8x64x1, .f32⟩
  | 66 => ⟨S2x8x64x256, .f32⟩
  | 67 => ⟨S2x8x64x256, .f32⟩
  | 68 => ⟨S2x8x256x256, .f32⟩
  | 69 => ⟨S2x8x256x256, .f32⟩
  | 70 => ⟨S1x2x8x64x256, .f32⟩
  | 71 => ⟨S_, .i32⟩
  | 72 => ⟨S_, .i32⟩
  | 73 => ⟨S_, .i32⟩
  | 74 => ⟨S_, .i32⟩
  | 75 => ⟨S132x2x8x64x256, .f32⟩
  | 76 => ⟨S_, .i32⟩
  | 77 => ⟨S_, .i32⟩
  | 78 => ⟨S2x132x64x8x256, .f32⟩
  | 79 => ⟨S2x8448x8x256, .f32⟩
  | 80 => ⟨S2x256x8x256, .f32⟩
  | 81 => ⟨S512x2048, .f32⟩
  | 82 => ⟨S2x8192x8x256, .f32⟩
  | 83 => ⟨S16384x2048, .f32⟩
  | 84 => ⟨S16896x2048, .f32⟩
  | _ => ⟨S16896x16384, .f32⟩

abbrev hbmTy (i : Nat) : BufTy := match i / 128 with
  | 0 => hbmTy0_0 i
  | 1 => hbmTy0_1 i
  | _ => ⟨S16896x16384, .f32⟩

abbrev bufTy : (tb : Table) → Fin (tcTables nBuf tb) → BufTy
  | .hbm, ⟨i, _⟩ => hbmTy i
  | _, _ => ⟨S16896x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_cst_1 : Ref sig .tc := ⟨.hbm, 55, rfl⟩
abbrev main_v51 : Ref sig .tc := ⟨.hbm, 56, rfl⟩
abbrev main_v52 : Ref sig .tc := ⟨.hbm, 57, rfl⟩
abbrev main_cst_2 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_cst_3 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_cst_4 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_cst_5 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_cst_6 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_cst_7 : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_v101 : Ref sig .tc := ⟨.hbm, 115, rfl⟩
abbrev main_v102 : Ref sig .tc := ⟨.hbm, 116, rfl⟩
abbrev main_cst_8 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_cst_9 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_cst_10 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_cst_11 : Ref sig .tc := ⟨.hbm, 147, rfl⟩
abbrev main_v130 : Ref sig .tc := ⟨.hbm, 148, rfl⟩
abbrev main_c : Ref sig .tc := ⟨.hbm, 149, rfl⟩
abbrev main_v131_0 : Ref sig .tc := ⟨.hbm, 150, rfl⟩
abbrev main_v131_1 : Ref sig .tc := ⟨.hbm, 151, rfl⟩
abbrev main_v131_2 : Ref sig .tc := ⟨.hbm, 152, rfl⟩
abbrev main_v131_3 : Ref sig .tc := ⟨.hbm, 153, rfl⟩
abbrev main_v131_4 : Ref sig .tc := ⟨.hbm, 154, rfl⟩
abbrev main_v131_5 : Ref sig .tc := ⟨.hbm, 155, rfl⟩
abbrev main_v131_6 : Ref sig .tc := ⟨.hbm, 156, rfl⟩
abbrev main_v131_7 : Ref sig .tc := ⟨.hbm, 157, rfl⟩
abbrev main_v131_8 : Ref sig .tc := ⟨.hbm, 158, rfl⟩
abbrev main_v131_9 : Ref sig .tc := ⟨.hbm, 159, rfl⟩
abbrev main_while0c_c_21 : Ref sig .tc := ⟨.hbm, 160, rfl⟩
abbrev main_while0c_v139 : Ref sig .tc := ⟨.hbm, 161, rfl⟩
abbrev main_while0b_call1_c : Ref sig .tc := ⟨.hbm, 162, rfl⟩
abbrev main_while0b_call1_c_0 : Ref sig .tc := ⟨.hbm, 163, rfl⟩
abbrev main_while0b_call1_c_1 : Ref sig .tc := ⟨.hbm, 164, rfl⟩
abbrev main_while0b_call1_c_2 : Ref sig .tc := ⟨.hbm, 165, rfl⟩
abbrev main_while0b_call1_v0 : Ref sig .tc := ⟨.hbm, 166, rfl⟩
abbrev main_while0b_v139 : Ref sig .tc := ⟨.hbm, 167, rfl⟩
abbrev main_while0b_call2_c : Ref sig .tc := ⟨.hbm, 168, rfl⟩
abbrev main_while0b_call2_c_0 : Ref sig .tc := ⟨.hbm, 169, rfl⟩
abbrev main_while0b_call2_c_1 : Ref sig .tc := ⟨.hbm, 170, rfl⟩
abbrev main_while0b_call2_c_2 : Ref sig .tc := ⟨.hbm, 171, rfl⟩
abbrev main_while0b_call2_v0 : Ref sig .tc := ⟨.hbm, 172, rfl⟩
abbrev main_while0b_v140 : Ref sig .tc := ⟨.hbm, 173, rfl⟩
abbrev main_while0b_call3_c : Ref sig .tc := ⟨.hbm, 174, rfl⟩
abbrev main_while0b_call3_c_0 : Ref sig .tc := ⟨.hbm, 175, rfl⟩
abbrev main_while0b_call3_c_1 : Ref sig .tc := ⟨.hbm, 176, rfl⟩
abbrev main_while0b_call3_c_2 : Ref sig .tc := ⟨.hbm, 177, rfl⟩
abbrev main_while0b_call3_v0 : Ref sig .tc := ⟨.hbm, 178, rfl⟩
abbrev main_while0b_v141 : Ref sig .tc := ⟨.hbm, 179, rfl⟩
abbrev main_while0b_v142 : Ref sig .tc := ⟨.hbm, 180, rfl⟩
abbrev main_while0b_v143 : Ref sig .tc := ⟨.hbm, 181, rfl⟩
abbrev main_while0b_v144 : Ref sig .tc := ⟨.hbm, 182, rfl⟩
abbrev main_while0b_v145 : Ref sig .tc := ⟨.hbm, 183, rfl⟩
abbrev main_while0b_v146 : Ref sig .tc := ⟨.hbm, 184, rfl⟩
abbrev main_while0b_v147 : Ref sig .tc := ⟨.hbm, 185, rfl⟩
abbrev main_while0b_v148 : Ref sig .tc := ⟨.hbm, 186, rfl⟩
abbrev main_while0b_v149 : Ref sig .tc := ⟨.hbm, 187, rfl⟩
abbrev main_while0b_v150 : Ref sig .tc := ⟨.hbm, 188, rfl⟩
abbrev main_while0b_v151 : Ref sig .tc := ⟨.hbm, 189, rfl⟩
abbrev main_while0b_v152 : Ref sig .tc := ⟨.hbm, 190, rfl⟩
abbrev main_while0b_v153 : Ref sig .tc := ⟨.hbm, 191, rfl⟩
abbrev main_while0b_v154 : Ref sig .tc := ⟨.hbm, 192, rfl⟩
abbrev main_while0b_v155 : Ref sig .tc := ⟨.hbm, 193, rfl⟩
abbrev main_while0b_v156 : Ref sig .tc := ⟨.hbm, 194, rfl⟩
abbrev main_while0b_v157 : Ref sig .tc := ⟨.hbm, 195, rfl⟩
abbrev main_while0b_v158 : Ref sig .tc := ⟨.hbm, 196, rfl⟩
abbrev main_while0b_v159 : Ref sig .tc := ⟨.hbm, 197, rfl⟩
abbrev main_while0b_call4_v0 : Ref sig .tc := ⟨.hbm, 198, rfl⟩
abbrev main_while0b_call4_c : Ref sig .tc := ⟨.hbm, 199, rfl⟩
abbrev main_while0b_call4_c_0 : Ref sig .tc := ⟨.hbm, 200, rfl⟩
abbrev main_while0b_call4_c_1 : Ref sig .tc := ⟨.hbm, 201, rfl⟩
abbrev main_while0b_call4_c_2 : Ref sig .tc := ⟨.hbm, 202, rfl⟩
abbrev main_while0b_v160 : Ref sig .tc := ⟨.hbm, 203, rfl⟩
abbrev main_while0b_c_21 : Ref sig .tc := ⟨.hbm, 204, rfl⟩
abbrev main_while0b_v161 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩

abbrev nD : Nat := 1
abbrev τ : Topo := Topo.v7x

variable {F : FTy → Type} [FloatOps F]

abbrev main_while0_count : Scf.Loop 32 := ⟨0#32, 132#32, 1#32⟩
-- ==== In.lean ====
abbrev S16896x4096 : Shape := ⟨2, ![16896, 4096]⟩
abbrev S4096x16384 : Shape := ⟨2, ![4096, 16384]⟩
abbrev S16896x16384 : Shape := ⟨2, ![16896, 16384]⟩
abbrev S768x4096 : Shape := ⟨2, ![768, 4096]⟩
abbrev S4096x1024 : Shape := ⟨2, ![4096, 1024]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x16384, .f32⟩
  | .hbm, ⟨2, _⟩ => ⟨S4096x16384, .bf16⟩
  | .hbm, ⟨3, _⟩ => ⟨S16896x16384, .f32⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .f32⟩
  | .local _ .vmem, ⟨5, _⟩ => ⟨S768x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S16896x4096 : Shape := ⟨2, ![16896, 4096]⟩
abbrev S4096x16384 : Shape := ⟨2, ![4096, 16384]⟩
abbrev S16896x16384 : Shape := ⟨2, ![16896, 16384]⟩

abbrev nBuf : Space → Nat
  | .hbm => 4
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x16384, .f32⟩
  | .hbm, ⟨2, _⟩ => ⟨S16896x4096, .f32⟩
  | .hbm, ⟨3, _⟩ => ⟨S16896x16384, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Out.lean ====
abbrev S16896x4096 : Shape := ⟨2, ![16896, 4096]⟩
abbrev S4096x4096 : Shape := ⟨2, ![4096, 4096]⟩
abbrev S768x4096 : Shape := ⟨2, ![768, 4096]⟩
abbrev S4096x1024 : Shape := ⟨2, ![4096, 1024]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x4096, .f32⟩
  | .hbm, ⟨2, _⟩ => ⟨S4096x4096, .bf16⟩
  | .hbm, ⟨3, _⟩ => ⟨S16896x4096, .f32⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .f32⟩
  | .local _ .vmem, ⟨5, _⟩ => ⟨S768x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutRefIdeal.lean ====
abbrev S16896x4096 : Shape := ⟨2, ![16896, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x4096, .f32⟩
  | .hbm, ⟨2, _⟩ => ⟨S16896x4096, .f32⟩
  | .hbm, ⟨3, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Mix.lean ====
abbrev S16896x2048 : Shape := ⟨2, ![16896, 2048]⟩
abbrev S4096x4096 : Shape := ⟨2, ![4096, 4096]⟩
abbrev S16896x4096 : Shape := ⟨2, ![16896, 4096]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S4096x4096, .f32⟩
  | .hbm, ⟨3, _⟩ => ⟨S4096x4096, .bf16⟩
  | .hbm, ⟨4, _⟩ => ⟨S16896x4096, .f32⟩
  | .local _ .vmem, ⟨0, _⟩ => ⟨S768x2048, .bf16⟩
  | .local _ .vmem, ⟨1, _⟩ => ⟨S768x2048, .bf16⟩
  | .local _ .vmem, ⟨2, _⟩ => ⟨S768x2048, .bf16⟩
  | .local _ .vmem, ⟨3, _⟩ => ⟨S768x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S768x1024, .f32⟩
  | .local _ .vmem, ⟨9, _⟩ => ⟨S768x1024, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixRefIdeal.lean ====
abbrev S16896x2048 : Shape := ⟨2, ![16896, 2048]⟩
abbrev S4096x4096 : Shape := ⟨2, ![4096, 4096]⟩
abbrev S16896x4096 : Shape := ⟨2, ![16896, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S4096x4096, .f32⟩
  | .hbm, ⟨3, _⟩ => ⟨S16896x4096, .bf16⟩
  | .hbm, ⟨4, _⟩ => ⟨S16896x4096, .f32⟩
  | .hbm, ⟨5, _⟩ => ⟨S16896x4096, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Moe.lean ====
abbrev S167936x2048 : Shape := ⟨2, ![167936, 2048]⟩
abbrev S2x64x4096x512 : Shape := ⟨4, ![2, 64, 4096, 512]⟩
abbrev S2x64x256x4096 : Shape := ⟨4, ![2, 64, 256, 4096]⟩
abbrev S328 : Shape := ⟨1, ![328]⟩
abbrev S1 : Shape := ⟨1, ![1]⟩
abbrev S167936x4096 : Shape := ⟨2, ![167936, 4096]⟩
abbrev S512x2048 : Shape := ⟨2, ![512, 2048]⟩
abbrev S1x1x4096x512 : Shape := ⟨4, ![1, 1, 4096, 512]⟩
abbrev S1x1x256x4096 : Shape := ⟨4, ![1, 1, 256, 4096]⟩
abbrev S512x4096 : Shape := ⟨2, ![512, 4096]⟩
abbrev S4096x512 : Shape := ⟨2, ![4096, 512]⟩
abbrev S256x4096 : Shape := ⟨2, ![256, 4096]⟩
abbrev S512x512 : Shape := ⟨2, ![512, 512]⟩
abbrev S512x256 : Shape := ⟨2, ![512, 256]⟩

abbrev nBuf : Space → Nat
  | .hbm => 4
  | .vmem => 10
  | .smem => 2
  | _ => 0

abbrev bufTy : (tb : Table) → Fin (tcTables nBuf tb) → BufTy
  | .hbm, ⟨0, _⟩ => ⟨S167936x2048, .i32⟩
  | .hbm, ⟨1, _⟩ => ⟨S2x64x4096x512, .f32⟩
  | .hbm, ⟨2, _⟩ => ⟨S2x64x256x4096, .f32⟩
  | .hbm, ⟨3, _⟩ => ⟨S167936x4096, .f32⟩
  | .local _ .vmem, ⟨0, _⟩ => ⟨S512x2048, .i32⟩
  | .local _ .vmem, ⟨1, _⟩ => ⟨S512x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x256x4096, .f32⟩
  | .local _ .vmem, ⟨5, _⟩ => ⟨S1x1x256x4096, .f32⟩
  | .local _ .vmem, ⟨6, _⟩ => ⟨S512x4096, .f32⟩
  | .local _ .vmem, ⟨7, _⟩ => ⟨S512x4096, .f32⟩
  | .local _ .vmem, ⟨8, _⟩ => ⟨S4096x512, .bf16⟩
  | .local _ .vmem, ⟨9, _⟩ => ⟨S256x4096, .bf16⟩
  | .local _ .smem, ⟨0, _⟩ => ⟨S328, .i32⟩
  | .local _ .smem, ⟨1, _⟩ => ⟨S1, .i32⟩
  | _, _ => ⟨S167936x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![328], ![false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S328.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S328) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S328.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S328) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MoeRefIdeal.lean ====
abbrev S167936x2048 : Shape := ⟨2, ![167936, 2048]⟩
abbrev S2x64x4096x512 : Shape := ⟨4, ![2, 64, 4096, 512]⟩
abbrev S2x64x256x4096 : Shape := ⟨4, ![2, 64, 256, 4096]⟩
abbrev S328 : Shape := ⟨1, ![328]⟩
abbrev S1 : Shape := ⟨1, ![1]⟩
abbrev S_ : Shape := ⟨0, ![]⟩
abbrev S167936x4096 : Shape := ⟨2, ![167936, 4096]⟩
abbrev S328x512 : Shape := ⟨2, ![328, 512]⟩
abbrev S167936 : Shape := ⟨1, ![167936]⟩
abbrev S167936x1 : Shape := ⟨2, ![167936, 1]⟩
abbrev S1x1x4096x512 : Shape := ⟨4, ![1, 1, 4096, 512]⟩
abbrev S4096x512 : Shape := ⟨2, ![4096, 512]⟩
abbrev S1x1x256x4096 : Shape := ⟨4, ![1, 1, 256, 4096]⟩
abbrev S256x4096 : Shape := ⟨2, ![256, 4096]⟩
abbrev S167936x512 : Shape := ⟨2, ![167936, 512]⟩
abbrev S167936x256 : Shape := ⟨2, ![167936, 256]⟩

abbrev nBuf : Space → Nat
  | .hbm => 127
  | .vmem => 0
  | .smem => 0
  | _ => 0

abbrev bufTy : (tb : Table) → Fin (tcTables nBuf tb) → BufTy
  | .hbm, ⟨0, _⟩ => ⟨S167936x2048, .i32⟩
  | .hbm, ⟨1, _⟩ => ⟨S2x64x4096x512, .f32⟩
  | .hbm, ⟨2, _⟩ => ⟨S2x64x256x4096, .f32⟩
  | .hbm, ⟨3, _⟩ => ⟨S328, .i32⟩
  | .hbm, ⟨4, _⟩ => ⟨S1, .i32⟩
  | .hbm, ⟨5, _⟩ => ⟨S_, .i32⟩
  | .hbm, ⟨6, _⟩ => ⟨S167936x2048, .i32⟩
  | .hbm, ⟨7, _⟩ => ⟨S167936x2048, .i32⟩
  | .hbm, ⟨8, _⟩ => ⟨S167936x2048, .f32⟩
  | .hbm, ⟨9, _⟩ => ⟨S_, .i32⟩
  | .hbm, ⟨10, _⟩ => ⟨S167936x2048, .i32⟩
  | .hbm, ⟨11, _⟩ => ⟨S167936x2048, .i32⟩
  | .hbm, ⟨12, _⟩ => ⟨S167936x2048, .f32⟩
  | .hbm, ⟨13, _⟩ => ⟨S167936x4096, .f32⟩
  | .hbm, ⟨14, _⟩ => ⟨S328, .i32⟩
  | .hbm, ⟨15, _⟩ => ⟨S_, .i32⟩
  | .hbm, ⟨16, _⟩ => ⟨S328, .i32⟩
  | .hbm, ⟨17, _⟩ => ⟨S328, .i1⟩
  | .hbm, ⟨18, _⟩ => ⟨S_, .i32⟩
  | .hbm, ⟨19, _⟩ => ⟨S_, .i32⟩
  | .hbm, ⟨20, _⟩ => ⟨S328, .i32⟩
  | .hbm, ⟨21, _⟩ => ⟨S328, .i32⟩
  | .hbm, ⟨22, _⟩ => ⟨S328x512, .i32⟩
  | .hbm, ⟨23, _⟩ => ⟨S167936, .i32⟩
  | .hbm, ⟨24, _⟩ => ⟨S_, .f32⟩
  | .hbm, ⟨25, _⟩ => ⟨S167936x4096, .f32⟩
  | .hbm, ⟨26, _⟩ => ⟨S_, .i32⟩
  | .hbm, ⟨27, _⟩ => ⟨S_, .i32⟩
  | .hbm, ⟨28, _⟩ => ⟨S167936, .i32⟩
  | .hbm, ⟨29, _⟩ => ⟨S2x64x4096x512, .f32⟩
  | .hbm, ⟨30, _⟩ => ⟨S2x64x256x4096, .f32⟩
  | .hbm, ⟨31, _⟩ => ⟨S167936x4096, .f32⟩
  | .hbm, ⟨32, _⟩ => ⟨S_, .i32⟩
  | .hbm, ⟨33, _⟩ => ⟨S_, .i32⟩
  | .hbm, ⟨34, _⟩ => ⟨S167936x4096, .f32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S167936, .i32⟩
  | .hbm, ⟨41, _⟩ => ⟨S167936, .i1⟩
  | .hbm, ⟨42, _⟩ => ⟨S167936, .f32⟩
  | .hbm, ⟨43, _⟩ => ⟨S167936x1, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S1x1x4096x512, .f32⟩
  | .hbm, ⟨75, _⟩ => ⟨S4096x512, .f32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i1⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i1⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i1⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S1x1x256x4096, .f32⟩
  | .hbm, ⟨107, _⟩ => ⟨S256x4096, .f32⟩
  | .hbm, ⟨108, _⟩ => ⟨S167936x512, .f32⟩
  | .hbm, ⟨109, _⟩ => ⟨S167936x256, .f32⟩
  | .hbm, ⟨110, _⟩ => ⟨S167936x256, .f32⟩
  | .hbm, ⟨111, _⟩ => ⟨S167936x256, .f32⟩
  | .hbm, ⟨112, _⟩ => ⟨S167936x256, .f32⟩
  | .hbm, ⟨113, _⟩ => ⟨S_, .f32⟩
  | .hbm, ⟨114, _⟩ => ⟨S167936x256, .f32⟩
  | .hbm, ⟨115, _⟩ => ⟨S167936x256, .f32⟩
  | .hbm, ⟨116, _⟩ => ⟨S_, .f32⟩
  | .hbm, ⟨117, _⟩ => ⟨S167936x256, .f32⟩
  | .hbm, ⟨118, _⟩ => ⟨S167936x256, .f32⟩
  | .hbm, ⟨119, _⟩ => ⟨S167936x256, .f32⟩
  | .hbm, ⟨120, _⟩ => ⟨S167936x256, .f32⟩
  | .hbm, ⟨121, _⟩ => ⟨S167936x4096, .f32⟩
  | .hbm, ⟨122, _⟩ => ⟨S167936x4096, .f32⟩
  | .hbm, ⟨123, _⟩ => ⟨S167936x4096, .f32⟩
  | .hbm, ⟨124, _⟩ => ⟨S167936x4096, .f32⟩
  | .hbm, ⟨125, _⟩ => ⟨S_, .i32⟩
  | .hbm, ⟨126, _⟩ => ⟨S_, .i32⟩
  | _, _ => ⟨S167936x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_c_2 : Ref sig .tc := ⟨.hbm, 26, rfl⟩
abbrev main_c_3 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev main_v15_4 : Ref sig .tc := ⟨.hbm, 32, rfl⟩
abbrev main_v15_5 : Ref sig .tc := ⟨.hbm, 33, rfl⟩
abbrev main_v15_6 : Ref sig .tc := ⟨.hbm, 34, rfl⟩
abbrev main_while0c_c_10 : Ref sig .tc := ⟨.hbm, 35, rfl⟩
abbrev main_while0c_v16 : Ref sig .tc := ⟨.hbm, 36, rfl⟩
abbrev main_while0b_c_10 : Ref sig .tc := ⟨.hbm, 37, rfl⟩
abbrev main_while0b_v16 : Ref sig .tc := ⟨.hbm, 38, rfl⟩
abbrev main_while0b_v17 : Ref sig .tc := ⟨.hbm, 39, rfl⟩
abbrev main_while0b_v18 : Ref sig .tc := ⟨.hbm, 40, rfl⟩
abbrev main_while0b_v19 : Ref sig .tc := ⟨.hbm, 41, rfl⟩
abbrev main_while0b_v20 : Ref sig .tc := ⟨.hbm, 42, rfl⟩
abbrev main_while0b_v21 : Ref sig .tc := ⟨.hbm, 43, rfl⟩
abbrev main_while0b_v22 : Ref sig .tc := ⟨.hbm, 44, rfl⟩
abbrev main_while0b_c_11 : Ref sig .tc := ⟨.hbm, 45, rfl⟩
abbrev main_while0b_c_12 : Ref sig .tc := ⟨.hbm, 46, rfl⟩
abbrev main_while0b_v23 : Ref sig .tc := ⟨.hbm, 47, rfl⟩
abbrev main_while0b_c_13 : Ref sig .tc := ⟨.hbm, 48, rfl⟩
abbrev main_while0b_c_14 : Ref sig .tc := ⟨.hbm, 49, rfl⟩
abbrev main_while0b_v24 : Ref sig .tc := ⟨.hbm, 50, rfl⟩
abbrev main_while0b_c_15 : Ref sig .tc := ⟨.hbm, 51, rfl⟩
abbrev main_while0b_v25 : Ref sig .tc := ⟨.hbm, 52, rfl⟩
abbrev main_while0b_c_16 : Ref sig .tc := ⟨.hbm, 53, rfl⟩
abbrev main_while0b_v26 : Ref sig .tc := ⟨.hbm, 54, rfl⟩
abbrev main_while0b_c_17 : Ref sig .tc := ⟨.hbm, 55, rfl⟩
abbrev main_while0b_v27 : Ref sig .tc := ⟨.hbm, 56, rfl⟩
abbrev main_while0b_v28 : Ref sig .tc := ⟨.hbm, 57, rfl⟩
abbrev main_while0b_c_18 : Ref sig .tc := ⟨.hbm, 58, rfl⟩
abbrev main_while0b_c_19 : Ref sig .tc := ⟨.hbm, 59, rfl⟩
abbrev main_while0b_v29 : Ref sig .tc := ⟨.hbm, 60, rfl⟩
abbrev main_while0b_c_20 : Ref sig .tc := ⟨.hbm, 61, rfl⟩
abbrev main_while0b_c_21 : Ref sig .tc := ⟨.hbm, 62, rfl⟩
abbrev main_while0b_v30 : Ref sig .tc := ⟨.hbm, 63, rfl⟩
abbrev main_while0b_c_22 : Ref sig .tc := ⟨.hbm, 64, rfl⟩
abbrev main_while0b_v31 : Ref sig .tc := ⟨.hbm, 65, rfl⟩
abbrev main_while0b_c_23 : Ref sig .tc := ⟨.hbm, 66, rfl⟩
abbrev main_while0b_c_24 : Ref sig .tc := ⟨.hbm, 67, rfl⟩
abbrev main_while0b_v32 : Ref sig .tc := ⟨.hbm, 68, rfl⟩
abbrev main_while0b_c_25 : Ref sig .tc := ⟨.hbm, 69, rfl⟩
abbrev main_while0b_c_26 : Ref sig .tc := ⟨.hbm, 70, rfl⟩
abbrev main_while0b_v33 : Ref sig .tc := ⟨.hbm, 71, rfl⟩
abbrev main_while0b_c_27 : Ref sig .tc := ⟨.hbm, 72, rfl⟩
abbrev main_while0b_v34 : Ref sig .tc := ⟨.hbm, 73, rfl⟩
abbrev main_while0b_v35 : Ref sig .tc := ⟨.hbm, 74, rfl⟩
abbrev main_while0b_v36 : Ref sig .tc := ⟨.hbm, 75, rfl⟩
abbrev main_while0b_v37 : Ref sig .tc := ⟨.hbm, 76, rfl⟩
abbrev main_while0b_c_28 : Ref sig .tc := ⟨.hbm, 77, rfl⟩
abbrev main_while0b_c_29 : Ref sig .tc := ⟨.hbm, 78, rfl⟩
abbrev main_while0b_v38 : Ref sig .tc := ⟨.hbm, 79, rfl⟩
abbrev main_while0b_c_30 : Ref sig .tc := ⟨.hbm, 80, rfl⟩
abbrev main_while0b_c_31 : Ref sig .tc := ⟨.hbm, 81, rfl⟩
abbrev main_while0b_v39 : Ref sig .tc := ⟨.hbm, 82, rfl⟩
abbrev main_while0b_c_32 : Ref sig .tc := ⟨.hbm, 83, rfl⟩
abbrev main_while0b_v40 : Ref sig .tc := ⟨.hbm, 84, rfl⟩
abbrev main_while0b_c_33 : Ref sig .tc := ⟨.hbm, 85, rfl⟩
abbrev main_while0b_v41 : Ref sig .tc := ⟨.hbm, 86, rfl⟩
abbrev main_while0b_c_34 : Ref sig .tc := ⟨.hbm, 87, rfl⟩
abbrev main_while0b_v42 : Ref sig .tc := ⟨.hbm, 88, rfl⟩
abbrev main_while0b_v43 : Ref sig .tc := ⟨.hbm, 89, rfl⟩
abbrev main_while0b_c_35 : Ref sig .tc := ⟨.hbm, 90, rfl⟩
abbrev main_while0b_c_36 : Ref sig .tc := ⟨.hbm, 91, rfl⟩
abbrev main_while0b_v44 : Ref sig .tc := ⟨.hbm, 92, rfl⟩
abbrev main_while0b_c_37 : Ref sig .tc := ⟨.hbm, 93, rfl⟩
abbrev main_while0b_c_38 : Ref sig .tc := ⟨.hbm, 94, rfl⟩
abbrev main_while0b_v45 : Ref sig .tc := ⟨.hbm, 95, rfl⟩
abbrev main_while0b_c_39 : Ref sig .tc := ⟨.hbm, 96, rfl⟩
abbrev main_while0b_v46 : Ref sig .tc := ⟨.hbm, 97, rfl⟩
abbrev main_while0b_c_40 : Ref sig .tc := ⟨.hbm, 98, rfl⟩
abbrev main_while0b_c_41 : Ref sig .tc := ⟨.hbm, 99, rfl⟩
abbrev main_while0b_v47 : Ref sig .tc := ⟨.hbm, 100, rfl⟩
abbrev main_while0b_c_42 : Ref sig .tc := ⟨.hbm, 101, rfl⟩
abbrev main_while0b_c_43 : Ref sig .tc := ⟨.hbm, 102, rfl⟩
abbrev main_while0b_v48 : Ref sig .tc := ⟨.hbm, 103, rfl⟩
abbrev main_while0b_c_44 : Ref sig .tc := ⟨.hbm, 104, rfl⟩
abbrev main_while0b_v49 : Ref sig .tc := ⟨.hbm, 105, rfl⟩
abbrev main_while0b_v50 : Ref sig .tc := ⟨.hbm, 106, rfl⟩
abbrev main_while0b_v51 : Ref sig .tc := ⟨.hbm, 107, rfl⟩
abbrev main_while0b_v52 : Ref sig .tc := ⟨.hbm, 108, rfl⟩
abbrev main_while0b_v53 : Ref sig .tc := ⟨.hbm, 109, rfl⟩
abbrev main_while0b_v54 : Ref sig .tc := ⟨.hbm, 110, rfl⟩
abbrev main_while0b_call1_v0 : Ref sig .tc := ⟨.hbm, 111, rfl⟩
abbrev main_while0b_call1_v1 : Ref sig .tc := ⟨.hbm, 112, rfl⟩
abbrev main_while0b_call1_cst : Ref sig .tc := ⟨.hbm, 113, rfl⟩
abbrev main_while0b_call1_v2 : Ref sig .tc := ⟨.hbm, 114, rfl⟩
abbrev main_while0b_call1_v3 : Ref sig .tc := ⟨.hbm, 115, rfl⟩
abbrev main_while0b_call1_cst_0 : Ref sig .tc := ⟨.hbm, 116, rfl⟩
abbrev main_while0b_call1_v4 : Ref sig .tc := ⟨.hbm, 117, rfl⟩
abbrev main_while0b_call1_v5 : Ref sig .tc := ⟨.hbm, 118, rfl⟩
abbrev main_while0b_v55 : Ref sig .tc := ⟨.hbm, 119, rfl⟩
abbrev main_while0b_v56 : Ref sig .tc := ⟨.hbm, 120, rfl⟩
abbrev main_while0b_v57 : Ref sig .tc := ⟨.hbm, 121, rfl⟩
abbrev main_while0b_v58 : Ref sig .tc := ⟨.hbm, 122, rfl⟩
abbrev main_while0b_v59 : Ref sig .tc := ⟨.hbm, 123, rfl⟩
abbrev main_while0b_v60 : Ref sig .tc := ⟨.hbm, 124, rfl⟩
abbrev main_while0b_c_45 : Ref sig .tc := ⟨.hbm, 125, rfl⟩
abbrev main_while0b_v61 : Ref sig .tc := ⟨.hbm, 126, rfl⟩

abbrev nD : Nat := 1
abbrev τ : Topo := Topo.v7x

variable {F : FTy → Type} [FloatOps F]

abbrev main_while0_count : Scf.Loop 32 := ⟨0#32, 64#32, 1#32⟩
-- ==== Bwd.lean ====
abbrev S16896x16384 : Shape := ⟨2, ![16896, 16384]⟩
abbrev S2x8 : Shape := ⟨2, ![2, 8]⟩
abbrev S16896x2048 : Shape := ⟨2, ![16896, 2048]⟩
abbrev S2048 : Shape := ⟨1, ![2048]⟩
abbrev S8448 : Shape := ⟨1, ![8448]⟩
abbrev S128 : Shape := ⟨1, ![128]⟩
abbrev S_ : Shape := ⟨0, ![]⟩
abbrev S8448x1 : Shape := ⟨2, ![8448, 1]⟩
abbrev S1x128 : Shape := ⟨2, ![1, 128]⟩
abbrev S8448x128 : Shape := ⟨2, ![8448, 128]⟩
abbrev S16x1x1 : Shape := ⟨3, ![16, 1, 1]⟩
abbrev S16x1x128 : Shape := ⟨3, ![16, 1, 128]⟩
abbrev S1x2048 : Shape := ⟨2, ![1, 2048]⟩
abbrev S256x1024 : Shape := ⟨2, ![256, 1024]⟩
abbrev S256x128 : Shape := ⟨2, ![256, 128]⟩
abbrev S4x1x128 : Shape := ⟨3, ![4, 1, 128]⟩
abbrev S1x1024 : Shape := ⟨2, ![1, 1024]⟩
abbrev S256x256 : Shape := ⟨2, ![256, 256]⟩
abbrev S256x1 : Shape := ⟨2, ![256, 1]⟩
abbrev S1x1x128 : Shape := ⟨3, ![1, 1, 128]⟩
abbrev S1x1 : Shape := ⟨2, ![1, 1]⟩
abbrev S1x256 : Shape := ⟨2, ![1, 256]⟩
abbrev S256 : Shape := ⟨1, ![256]⟩

abbrev nBuf : Space → Nat
  | .hbm => 24
  | .vmem => 24
  | .smem => 0
  | _ => 0

abbrev bufTy : (tb : Table) → Fin (tcTables nBuf tb) → BufTy
  | .hbm, ⟨0, _⟩ => ⟨S16896x16384, .f32⟩
  | .hbm, ⟨1, _⟩ => ⟨S2x8, .f32⟩
  | .hbm, ⟨2, _⟩ => ⟨S16896x2048, .f32⟩
  | .hbm, ⟨3, _⟩ => ⟨S2048, .f32⟩
  | .hbm, ⟨4, _⟩ => ⟨S8448, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S8448x1, .f32⟩
  | .hbm, ⟨14, _⟩ => ⟨S1x128, .f32⟩
  | .hbm, ⟨15, _⟩ => ⟨S8448x128, .f32⟩
  | .hbm, ⟨16, _⟩ => ⟨S8448x128, .f32⟩
  | .hbm, ⟨17, _⟩ => ⟨S8448x128, .f32⟩
  | .hbm, ⟨18, _⟩ => ⟨S16x1x1, .f32⟩
  | .hbm, ⟨19, _⟩ => ⟨S16x1x128, .f32⟩
  | .hbm, ⟨20, _⟩ => ⟨S8448x128, .f32⟩
  | .hbm, ⟨21, _⟩ => ⟨S8448x128, .f32⟩
  | .hbm, ⟨22, _⟩ => ⟨S1x2048, .f32⟩
  | .hbm, ⟨23, _⟩ => ⟨S16896x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S4x1x128, .f32⟩
  | .local _ .vmem, ⟨11, _⟩ => ⟨S4x1x128, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .bf16⟩
  | .local _ .vmem, ⟨19, _⟩ => ⟨S256x1024, .bf16⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | _, _ => ⟨S16896x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 2, 33], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c1_i32 : BitVec 32 := 1#32
  let v1 : BitVec 32 := Scalar.subi arg2 c1_i32
  let c31_i32 : BitVec 32 := 31#32
  let v2 : BitVec 32 := Scalar.subi c31_i32 v1
  let c1_i32_0 : BitVec 32 := 1#32
  let v3 : BitVec 1 := Scalar.cmpi .slt arg2 c1_i32_0
  let c1_i32_1 : BitVec 32 := 1#32
  let v4 : BitVec 32 := Scalar.muli arg0 c1_i32_1
  let v5 : BitVec 32 := Scalar.addi v4 v0
  let c32_i32 : BitVec 32 := 32#32
  let v6 : BitVec 32 := Scalar.muli arg0 c32_i32
  let c2_i32 : BitVec 32 := 2#32
  let v7 : BitVec 32 := Scalar.addi c2_i32 v6
  let v8 : BitVec 32 := Scalar.addi v7 v2
  let v9 : BitVec 32 := Scalar.select v3 v5 v8
  let c0_i32_2 : BitVec 32 := 0#32
  let v10 : BitVec 32 := Scalar.addi c0_i32_2 arg1
  let c0_i32_3 : BitVec 32 := 0#32
  ![v9.toNat, v10.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c1_i32 : BitVec 32 := 1#32
  let v1 : BitVec 32 := Scalar.subi arg2 c1_i32
  let c31_i32 : BitVec 32 := 31#32
  let v2 : BitVec 32 := Scalar.subi c31_i32 v1
  let c1_i32_0 : BitVec 32 := 1#32
  let v3 : BitVec 1 := Scalar.cmpi .slt arg2 c1_i32_0
  let c1_i32_1 : BitVec 32 := 1#32
  let v4 : BitVec 32 := Scalar.muli arg0 c1_i32_1
  let v5 : BitVec 32 := Scalar.addi v4 v0
  let c32_i32 : BitVec 32 := 32#32
  let v6 : BitVec 32 := Scalar.muli arg0 c32_i32
  let c2_i32 : BitVec 32 := 2#32
  let v7 : BitVec 32 := Scalar.addi c2_i32 v6
  let v8 : BitVec 32 := Scalar.addi v7 v2
  let v9 : BitVec 32 := Scalar.select v3 v5 v8
  let c2_i32_2 : BitVec 32 := 2#32
  let v10 : BitVec 32 := Scalar.addi c2_i32_2 arg1
  let c0_i32_3 : BitVec 32 := 0#32
  ![v9.toNat, v10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c1_i32 : BitVec 32 := 1#32
  let v1 : BitVec 32 := Scalar.subi arg2 c1_i32
  let c31_i32 : BitVec 32 := 31#32
  let v2 : BitVec 32 := Scalar.subi c31_i32 v1
  let c1_i32_0 : BitVec 32 := 1#32
  let v3 : BitVec 1 := Scalar.cmpi .slt arg2 c1_i32_0
  let c1_i32_1 : BitVec 32 := 1#32
  let v4 : BitVec 32 := Scalar.muli arg0 c1_i32_1
  let v5 : BitVec 32 := Scalar.addi v4 v0
  let c32_i32 : BitVec 32 := 32#32
  let v6 : BitVec 32 := Scalar.muli arg0 c32_i32
  let c2_i32 : BitVec 32 := 2#32
  let v7 : BitVec 32 := Scalar.addi c2_i32 v6
  let v8 : BitVec 32 := Scalar.addi v7 v2
  let v9 : BitVec 32 := Scalar.select v3 v5 v8
  let c4_i32 : BitVec 32 := 4#32
  let v10 : BitVec 32 := Scalar.addi c4_i32 arg1
  let c0_i32_2 : BitVec 32 := 0#32
  ![v9.toNat, v10.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c0_i32 : BitVec 32 := 0#32
  let v1 : BitVec 32 := Scalar.subi c0_i32 arg2
  let c1_i32_0 : BitVec 32 := 1#32
  let v2 : BitVec 32 := Scalar.subi arg2 c1_i32_0
  let c32_i32 : BitVec 32 := 32#32
  let v3 : BitVec 32 := Scalar.subi c32_i32 v2
  let v4 : BitVec 32 := Scalar.select v0 v1 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c0_i32 : BitVec 32 := 0#32
  let v1 : BitVec 32 := Scalar.subi c0_i32 arg2
  let c1_i32_0 : BitVec 32 := 1#32
  let v2 : BitVec 32 := Scalar.subi arg2 c1_i32_0
  let c32_i32 : BitVec 32 := 32#32
  let v3 : BitVec 32 := Scalar.subi c32_i32 v2
  let v4 : BitVec 32 := Scalar.select v0 v1 v3
  let c0_i32_1 : BitVec 32 := 0#32
  let c0_i32_2 : BitVec 32 := 0#32
  ![v4.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c1_i32 : BitVec 32 := 1#32
  let v1 : BitVec 32 := Scalar.subi arg2 c1_i32
  let c31_i32 : BitVec 32 := 31#32
  let v2 : BitVec 32 := Scalar.subi c31_i32 v1
  let c1_i32_0 : BitVec 32 := 1#32
  let v3 : BitVec 1 := Scalar.cmpi .slt arg2 c1_i32_0
  let c1_i32_1 : BitVec 32 := 1#32
  let v4 : BitVec 32 := Scalar.muli arg0 c1_i32_1
  let v5 : BitVec 32 := Scalar.addi v4 v0
  let c32_i32 : BitVec 32 := 32#32
  let v6 : BitVec 32 := Scalar.muli arg0 c32_i32
  let c2_i32 : BitVec 32 := 2#32
  let v7 : BitVec 32 := Scalar.addi c2_i32 v6
  let v8 : BitVec 32 := Scalar.addi v7 v2
  let v9 : BitVec 32 := Scalar.select v3 v5 v8
  let c0_i32_2 : BitVec 32 := 0#32
  ![v9.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c1_i32 : BitVec 32 := 1#32
  let v1 : BitVec 32 := Scalar.subi arg2 c1_i32
  let c31_i32 : BitVec 32 := 31#32
  let v2 : BitVec 32 := Scalar.subi c31_i32 v1
  let c1_i32_0 : BitVec 32 := 1#32
  let v3 : BitVec 1 := Scalar.cmpi .slt arg2 c1_i32_0
  let c1_i32_1 : BitVec 32 := 1#32
  let v4 : BitVec 32 := Scalar.muli arg0 c1_i32_1
  let v5 : BitVec 32 := Scalar.addi v4 v0
  let c32_i32 : BitVec 32 := 32#32
  let v6 : BitVec 32 := Scalar.muli arg0 c32_i32
  let c2_i32 : BitVec 32 := 2#32
  let v7 : BitVec 32 := Scalar.addi c2_i32 v6
  let v8 : BitVec 32 := Scalar.addi v7 v2
  let v9 : BitVec 32 := Scalar.select v3 v5 v8
  let c6_i32 : BitVec 32 := 6#32
  let v10 : BitVec 32 := Scalar.addi c6_i32 arg1
  let c0_i32_2 : BitVec 32 := 0#32
  ![v9.toNat, v10.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c1_i32 : BitVec 32 := 1#32
  let v1 : BitVec 32 := Scalar.subi arg2 c1_i32
  let c31_i32 : BitVec 32 := 31#32
  let v2 : BitVec 32 := Scalar.subi c31_i32 v1
  let c1_i32_0 : BitVec 32 := 1#32
  let v3 : BitVec 1 := Scalar.cmpi .slt arg2 c1_i32_0
  let c1_i32_1 : BitVec 32 := 1#32
  let v4 : BitVec 32 := Scalar.muli arg0 c1_i32_1
  let v5 : BitVec 32 := Scalar.addi v4 v0
  let c32_i32 : BitVec 32 := 32#32
  let v6 : BitVec 32 := Scalar.muli arg0 c32_i32
  let c2_i32 : BitVec 32 := 2#32
  let v7 : BitVec 32 := Scalar.addi c2_i32 v6
  let v8 : BitVec 32 := Scalar.addi v7 v2
  let v9 : BitVec 32 := Scalar.select v3 v5 v8
  let c0_i32_2 : BitVec 32 := 0#32
  ![v9.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== BwdRefIdeal.lean ====
abbrev S16896x16384 : Shape := ⟨2, ![16896, 16384]⟩
abbrev S2x8 : Shape := ⟨2, ![2, 8]⟩
abbrev S16896x2048 : Shape := ⟨2, ![16896, 2048]⟩
abbrev S2048 : Shape := ⟨1, ![2048]⟩
abbrev S512x2048 : Shape := ⟨2, ![512, 2048]⟩
abbrev S2x256x2048 : Shape := ⟨3, ![2, 256, 2048]⟩
abbrev S16384x2048 : Shape := ⟨2, ![16384, 2048]⟩
abbrev S2x8192x2048 : Shape := ⟨3, ![2, 8192, 2048]⟩
abbrev S2x8448x2048 : Shape := ⟨3, ![2, 8448, 2048]⟩
abbrev S8448 : Shape := ⟨1, ![8448]⟩
abbrev S2x8448x8x256 : Shape := ⟨4, ![2, 8448, 8, 256]⟩
abbrev S128 : Shape := ⟨1, ![128]⟩
abbrev S_ : Shape := ⟨0, ![]⟩
abbrev S8448x1 : Shape := ⟨2, ![8448, 1]⟩
abbrev S1x128 : Shape := ⟨2, ![1, 128]⟩
abbrev S8448x128 : Shape := ⟨2, ![8448, 128]⟩
abbrev S1x8448x1x128 : Shape := ⟨4, ![1, 8448, 1, 128]⟩
abbrev S2x8448x8x128 : Shape := ⟨4, ![2, 8448, 8, 128]⟩
abbrev S2x8x256x256 : Shape := ⟨4, ![2, 8, 256, 256]⟩
abbrev S2x256x8x256 : Shape := ⟨4, ![2, 256, 8, 256]⟩
abbrev S2x8192x8x256 : Shape := ⟨4, ![2, 8192, 8, 256]⟩
abbrev S1x8 : Shape := ⟨2, ![1, 8]⟩
abbrev S8 : Shape := ⟨1, ![8]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S8x1 : Shape := ⟨2, ![8, 1]⟩
abbrev S8x64 : Shape := ⟨2, ![8, 64]⟩
abbrev S8x64x1 : Shape := ⟨3, ![8, 64, 1]⟩
abbrev S2x132x64x8x256 : Shape := ⟨5, ![2, 132, 64, 8, 256]⟩
abbrev S132x2x8x64x256 : Shape := ⟨5, ![132, 2, 8, 64, 256]⟩
abbrev S1x2x8x64x256 : Shape := ⟨5, ![1, 2, 8, 64, 256]⟩
abbrev S2x8x64x256 : Shape := ⟨4, ![2, 8, 64, 256]⟩
abbrev S2x8x64x64 : Shape := ⟨4, ![2, 8, 64, 64]⟩
abbrev S1x8x64x64 : Shape := ⟨4, ![1, 8, 64, 64]⟩
abbrev S1x8x64x1 : Shape := ⟨4, ![1, 8, 64, 1]⟩
abbrev S1x8x1x1 : Shape := ⟨4, ![1, 8, 1, 1]⟩
abbrev S16896x8x256 : Shape := ⟨3, ![16896, 8, 256]⟩
abbrev S16896x8 : Shape := ⟨2, ![16896, 8]⟩
abbrev S16896x8x1 : Shape := ⟨3, ![16896, 8, 1]⟩
abbrev S8x256 : Shape := ⟨2, ![8, 256]⟩
abbrev S1x8x256 : Shape := ⟨3, ![1, 8, 256]⟩

abbrev nBuf : Space → Nat
  | .hbm => 275
  | .vmem => 0
  | .smem => 0
  | _ => 0

abbrev hbmTy0_0 (i : Nat) : BufTy := match i % 128 with
  | 0 => ⟨S16896x16384, .f32⟩
  | 1 => ⟨S2x8, .f32⟩
  | 2 => ⟨S16896x2048, .f32⟩
  | 3 => ⟨S2048, .f32⟩
  | 4 => ⟨S16896x2048, .f32⟩
  | 5 => ⟨S512x2048, .f32⟩
  | 6 => ⟨S2x256x2048, .f32⟩
  | 7 => ⟨S16384x2048, .f32⟩
  | 8 => ⟨S2x8192x2048, .f32⟩
  | 9 => ⟨S2x8448x2048, .f32⟩
  | 10 => ⟨S16896x2048, .f32⟩
  | 11 => ⟨S512x2048, .f32⟩
  | 12 => ⟨S2x256x2048, .f32⟩
  | 13 => ⟨S16384x2048, .f32⟩
  | 14 => ⟨S2x8192x2048, .f32⟩
  | 15 => ⟨S2x8448x2048, .f32⟩
  | 16 => ⟨S16896x2048, .f32⟩
  | 17 => ⟨S512x2048, .f32⟩
  | 18 => ⟨S2x256x2048, .f32⟩
  | 19 => ⟨S16384x2048, .f32⟩
  | 20 => ⟨S2x8192x2048, .f32⟩
  | 21 => ⟨S2x8448x2048, .f32⟩
  | 22 => ⟨S8448, .f32⟩
  | 23 => ⟨S2x8448x8x256, .f32⟩
  | 24 => ⟨S128, .f32⟩
  | 25 => ⟨S128, .f32⟩
  | 26 => ⟨S_, .f32⟩
  | 27 => ⟨S128, .f32⟩
  | 28 => ⟨S128, .f32⟩
  | 29 => ⟨S_, .f32⟩
  | 30 => ⟨S128, .f32⟩
  | 31 => ⟨S128, .f32⟩
  | 32 => ⟨S8448x1, .f32⟩
  | 33 => ⟨S1x128, .f32⟩
  | 34 => ⟨S8448x128, .f32⟩
  | 35 => ⟨S8448x128, .f32⟩
  | 36 => ⟨S8448x128, .f32⟩
  | 37 => ⟨S8448x128, .f32⟩
  | 38 => ⟨S1x8448x1x128, .f32⟩
  | 39 => ⟨S8448x128, .f32⟩
  | 40 => ⟨S1x8448x1x128, .f32⟩
  | 41 => ⟨S2x8448x8x128, .f32⟩
  | 42 => ⟨S2x8448x8x128, .f32⟩
  | 43 => ⟨S2x8448x8x128, .f32⟩
  | 44 => ⟨S2x8448x8x128, .f32⟩
  | 45 => ⟨S2x8448x8x128, .f32⟩
  | 46 => ⟨S2x8448x8x128, .f32⟩
  | 47 => ⟨S2x8448x8x128, .f32⟩
  | 48 => ⟨S2x8448x8x128, .f32⟩
  | 49 => ⟨S2x8448x8x128, .f32⟩
  | 50 => ⟨S2x8448x8x128, .f32⟩
  | 51 => ⟨S2x8448x8x128, .f32⟩
  | 52 => ⟨S2x8448x8x128, .f32⟩
  | 53 => ⟨S2x8448x8x256, .f32⟩
  | 54 => ⟨S2x8448x8x256, .f32⟩
  | 55 => ⟨S128, .f32⟩
  | 56 => ⟨S128, .f32⟩
  | 57 => ⟨S_, .f32⟩
  | 58 => ⟨S128, .f32⟩
  | 59 => ⟨S128, .f32⟩
  | 60 => ⟨S_, .f32⟩
  | 61 => ⟨S128, .f32⟩
  | 62 => ⟨S128, .f32⟩
  | 63 => ⟨S8448x1, .f32⟩
  | 64 => ⟨S1x128, .f32⟩
  | 65 => ⟨S8448x128, .f32⟩
  | 66 => ⟨S8448x128, .f32⟩
  | 67 => ⟨S8448x128, .f32⟩
  | 68 => ⟨S8448x128, .f32⟩
  | 69 => ⟨S1x8448x1x128, .f32⟩
  | 70 => ⟨S8448x128, .f32⟩
  | 71 => ⟨S1x8448x1x128, .f32⟩
  | 72 => ⟨S2x8448x8x128, .f32⟩
  | 73 => ⟨S2x8448x8x128, .f32⟩
  | 74 => ⟨S2x8448x8x128, .f32⟩
  | 75 => ⟨S2x8448x8x128, .f32⟩
  | 76 => ⟨S2x8448x8x128, .f32⟩
  | 77 => ⟨S2x8448x8x128, .f32⟩
  | 78 => ⟨S2x8448x8x128, .f32⟩
  | 79 => ⟨S2x8448x8x128, .f32⟩
  | 80 => ⟨S2x8448x8x128, .f32⟩
  | 81 => ⟨S2x8448x8x128, .f32⟩
  | 82 => ⟨S2x8448x8x128, .f32⟩
  | 83 => ⟨S2x8448x8x128, .f32⟩
  | 84 => ⟨S2x8448x8x256, .f32⟩
  | 85 => ⟨S_, .f32⟩
  | 86 => ⟨S2x8448x8x256, .f32⟩
  | 87 => ⟨S2x8448x8x256, .f32⟩
  | 88 => ⟨S2x8, .f32⟩
  | 89 => ⟨S2x8, .f32⟩
  | 90 => ⟨S_, .f32⟩
  | 91 => ⟨S2x8x256x256, .f32⟩
  | 92 => ⟨S2x8448x8x256, .f32⟩
  | 93 => ⟨S2x256x8x256, .f32⟩
  | 94 => ⟨S2x256x8x256, .f32⟩
  | 95 => ⟨S2x8192x8x256, .f32⟩
  | 96 => ⟨S2x8192x8x256, .f32⟩
  | 97 => ⟨S2x8448x8x256, .f32⟩
  | 98 => ⟨S2x256x8x256, .f32⟩
  | 99 => ⟨S2x256x8x256, .f32⟩
  | 100 => ⟨S2x8192x8x256, .f32⟩
  | 101 => ⟨S2x8192x8x256, .f32⟩
  | 102 => ⟨S2x8448x8x256, .f32⟩
  | 103 => ⟨S2x256x8x256, .f32⟩
  | 104 => ⟨S2x256x8x256, .f32⟩
  | 105 => ⟨S2x8192x8x256, .f32⟩
  | 106 => ⟨S2x8192x8x256, .f32⟩
  | 107 => ⟨S2x8448x8x256, .f32⟩
  | 108 => ⟨S1x8, .f32⟩
  | 109 => ⟨S8, .f32⟩
  | 110 => ⟨S64, .f32⟩
  | 111 => ⟨S64x1, .f32⟩
  | 112 => ⟨S1x64, .f32⟩
  | 113 => ⟨S64x64, .f32⟩
  | 114 => ⟨S64x64, .f32⟩
  | 115 => ⟨S64x64, .f32⟩
  | 116 => ⟨S_, .f32⟩
  | 117 => ⟨S64x64, .f32⟩
  | 118 => ⟨S64x64, .i1⟩
  | 119 => ⟨S8x1x1, .f32⟩
  | 120 => ⟨S_, .f32⟩
  | 121 => ⟨S64x64, .f32⟩
  | 122 => ⟨S64x64, .f32⟩
  | 123 => ⟨S1x64x64, .f32⟩
  | 124 => ⟨S8x64x64, .f32⟩
  | 125 => ⟨S8x64x64, .f32⟩
  | 126 => ⟨S8x64x64, .f32⟩
  | 127 => ⟨S8x64x64, .f32⟩
  | _ => ⟨S16896x16384, .f32⟩

abbrev hbmTy0_1 (i : Nat) : BufTy := match i % 128 with
  | 0 => ⟨S_, .f32⟩
  | 1 => ⟨S_, .f32⟩
  | 2 => ⟨S8x64x64, .i1⟩
  | 3 => ⟨S8x64x64, .f32⟩
  | 4 => ⟨S8x64x64, .f32⟩
  | 5 => ⟨S8x1, .f32⟩
  | 6 => ⟨S_, .f32⟩
  | 7 => ⟨S64, .f32⟩
  | 8 => ⟨S64, .f32⟩
  | 9 => ⟨S1x64, .f32⟩
  | 10 => ⟨S8x64, .f32⟩
  | 11 => ⟨S8x64, .f32⟩
  | 12 => ⟨S8x64, .f32⟩
  | 13 => ⟨S8x64, .f32⟩
  | 14 => ⟨S8x64x1, .f32⟩
  | 15 => ⟨S8x1, .f32⟩
  | 16 => ⟨S_, .f32⟩
  | 17 => ⟨S64, .f32⟩
  | 18 => ⟨S64, .f32⟩
  | 19 => ⟨S1x64, .f32⟩
  | 20 => ⟨S8x64, .f32⟩
  | 21 => ⟨S8x64, .f32⟩
  | 22 => ⟨S8x64, .f32⟩
  | 23 => ⟨S8x64, .f32⟩
  | 24 => ⟨S8x64x1, .f32⟩
  | 25 => ⟨S_, .f32⟩
  | 26 => ⟨S8, .f32⟩
  | 27 => ⟨S8, .f32⟩
  | 28 => ⟨S8, .f32⟩
  | 29 => ⟨S8x1x1, .f32⟩
  | 30 => ⟨S2x132x64x8x256, .f32⟩
  | 31 => ⟨S132x2x8x64x256, .f32⟩
  | 32 => ⟨S2x132x64x8x256, .f32⟩
  | 33 => ⟨S132x2x8x64x256, .f32⟩
  | 34 => ⟨S2x132x64x8x256, .f32⟩
  | 35 => ⟨S132x2x8x64x256, .f32⟩
  | 36 => ⟨S_, .f32⟩
  | 37 => ⟨S132x2x8x64x256, .f32⟩
  | 38 => ⟨S_, .i32⟩
  | 39 => ⟨S132x2x8x64x256, .f32⟩
  | 40 => ⟨S132x2x8x64x256, .f32⟩
  | 41 => ⟨S132x2x8x64x256, .f32⟩
  | 42 => ⟨S8x64x64, .f32⟩
  | 43 => ⟨S8x64x1, .f32⟩
  | 44 => ⟨S8x1x1, .f32⟩
  | 45 => ⟨S8x64x1, .f32⟩
  | 46 => ⟨S_, .i32⟩
  | 47 => ⟨S2x8x256x256, .f32⟩
  | 48 => ⟨S132x2x8x64x256, .f32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S1x2x8x64x256, .f32⟩
  | 56 => ⟨S2x8x64x256, .f32⟩
  | 57 => ⟨S_, .i32⟩
  | 58 => ⟨S_, .i32⟩
  | 59 => ⟨S_, .i32⟩
  | 60 => ⟨S_, .i32⟩
  | 61 => ⟨S1x2x8x64x256, .f32⟩
  | 62 => ⟨S2x8x64x256, .f32⟩
  | 63 => ⟨S_, .i32⟩
  | 64 => ⟨S_, .i32⟩
  | 65 => ⟨S_, .i32⟩
  | 66 => ⟨S_, .i32⟩
  | 67 => ⟨S1x2x8x64x256, .f32⟩
  | 68 => ⟨S2x8x64x256, .f32⟩
  | 69 => ⟨S2x8x64x64, .f32⟩
  | 70 => ⟨S1x8x64x64, .f32⟩
  | 71 => ⟨S2x8x64x64, .f32⟩
  | 72 => ⟨S2x8x64x64, .f32⟩
  | 73 => ⟨S2x8x64x256, .f32⟩
  | 74 => ⟨S1x8x64x1, .f32⟩
  | 75 => ⟨S2x8x64x256, .f32⟩
  | 76 => ⟨S2x8x64x256, .f32⟩
  | 77 => ⟨S2x8x64x256, .f32⟩
  | 78 => ⟨S2x8x64x256, .f32⟩
  | 79 => ⟨S1x8x1x1, .f32⟩
  | 80 => ⟨S2x8x256x256, .f32⟩
  | 81 => ⟨S2x8x256x256, .f32⟩
  | 82 => ⟨S1x8x64x1, .f32⟩
  | 83 => ⟨S2x8x64x256, .f32⟩
  | 84 => ⟨S2x8x64x256, .f32⟩
  | 85 => ⟨S2x8x256x256, .f32⟩
  | 86 => ⟨S2x8x256x256, .f32⟩
  | 87 => ⟨S1x2x8x64x256, .f32⟩
  | 88 => ⟨S_, .i32⟩
  | 89 => ⟨S_, .i32⟩
  | 90 => ⟨S_, .i32⟩
  | 91 => ⟨S_, .i32⟩
  | 92 => ⟨S132x2x8x64x256, .f32⟩
  | 93 => ⟨S_, .i32⟩
  | 94 => ⟨S_, .i32⟩
  | 95 => ⟨S2x132x64x8x256, .f32⟩
  | 96 => ⟨S2x8448x8x256, .f32⟩
  | 97 => ⟨S2x256x8x256, .f32⟩
  | 98 => ⟨S2x256x8x256, .f32⟩
  | 99 => ⟨S512x2048, .f32⟩
  | 100 => ⟨S2x8192x8x256, .f32⟩
  | 101 => ⟨S2x8192x8x256, .f32⟩
  | 102 => ⟨S16384x2048, .f32⟩
  | 103 => ⟨S16896x2048, .f32⟩
  | 104 => ⟨S16896x2048, .f32⟩
  | 105 => ⟨S16896x8x256, .f32⟩
  | 106 => ⟨S_, .f32⟩
  | 107 => ⟨S16896x8, .f32⟩
  | 108 => ⟨S16896x8x1, .f32⟩
  | 109 => ⟨S_, .f32⟩
  | 110 => ⟨S16896x8x1, .f32⟩
  | 111 => ⟨S16896x8x1, .f32⟩
  | 112 => ⟨S16896x8x256, .f32⟩
  | 113 => ⟨S16896x8x256, .f32⟩
  | 114 => ⟨S16896x8x256, .f32⟩
  | 115 => ⟨S_, .f32⟩
  | 116 => ⟨S16896x8, .f32⟩
  | 117 => ⟨S16896x8x1, .f32⟩
  | 118 => ⟨S_, .f32⟩
  | 119 => ⟨S16896x8x1, .f32⟩
  | 120 => ⟨S16896x8x1, .f32⟩
  | 121 => ⟨S16896x8x256, .f32⟩
  | 122 => ⟨S16896x8x256, .f32⟩
  | 123 => ⟨S_, .f32⟩
  | 124 => ⟨S16896x8x1, .f32⟩
  | 125 => ⟨S16896x8x1, .f32⟩
  | 126 => ⟨S16896x8x1, .f32⟩
  | 127 => ⟨S16896x8x256, .f32⟩
  | _ => ⟨S16896x16384, .f32⟩

abbrev hbmTy0_2 (i : Nat) : BufTy := match i % 128 with
  | 0 => ⟨S16896x8x256, .f32⟩
  | 1 => ⟨S8x256, .f32⟩
  | 2 => ⟨S1x8x256, .f32⟩
  | 3 => ⟨S16896x8x256, .f32⟩
  | 4 => ⟨S16896x8x256, .f32⟩
  | 5 => ⟨S16896x2048, .f32⟩
  | 6 => ⟨S16896x8x256, .f32⟩
  | 7 => ⟨S16896x8x256, .f32⟩
  | 8 => ⟨S16896x8x256, .f32⟩
  | 9 => ⟨S_, .f32⟩
  | 10 => ⟨S16896x8x256, .f32⟩
  | 11 => ⟨S16896x8x256, .f32⟩
  | 12 => ⟨S_, .f32⟩
  | 13 => ⟨S16896x8x256, .f32⟩
  | 14 => ⟨S16896x8x256, .f32⟩
  | 15 => ⟨S16896x8x256, .f32⟩
  | 16 => ⟨S16896x8x256, .f32⟩
  | 17 => ⟨S16896x2048, .f32⟩
  | 18 => ⟨S16896x2048, .bf16⟩
  | _ => ⟨S16896x16384, .f32⟩

abbrev hbmTy (i : Nat) : BufTy := match i / 128 with
  | 0 => hbmTy0_0 i
  | 1 => hbmTy0_1 i
  | 2 => hbmTy0_2 i
  | _ => ⟨S16896x16384, .f32⟩

abbrev bufTy : (tb : Table) → Fin (tcTables nBuf tb) → BufTy
  | .hbm, ⟨i, _⟩ => hbmTy i
  | _, _ => ⟨S16896x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst_1 : Ref sig .tc := ⟨.hbm, 57, rfl⟩
abbrev main_v51 : Ref sig .tc := ⟨.hbm, 58, rfl⟩
abbrev main_v52 : Ref sig .tc := ⟨.hbm, 59, rfl⟩
abbrev main_cst_2 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_cst_3 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_cst_4 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_cst_5 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_cst_6 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_cst_7 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v116 : Ref sig .tc := ⟨.hbm, 132, rfl⟩
abbrev main_v117 : Ref sig .tc := ⟨.hbm, 133, rfl⟩
abbrev main_cst_8 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_cst_9 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_cst_10 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_cst_11 : Ref sig .tc := ⟨.hbm, 164, rfl⟩
abbrev main_v145 : Ref sig .tc := ⟨.hbm, 165, rfl⟩
abbrev main_c : Ref sig .tc := ⟨.hbm, 166, rfl⟩
abbrev main_v146_0 : Ref sig .tc := ⟨.hbm, 167, rfl⟩
abbrev main_v146_1 : Ref sig .tc := ⟨.hbm, 168, rfl⟩
abbrev main_v146_2 : Ref sig .tc := ⟨.hbm, 169, rfl⟩
abbrev main_v146_3 : Ref sig .tc := ⟨.hbm, 170, rfl⟩
abbrev main_v146_4 : Ref sig .tc := ⟨.hbm, 171, rfl⟩
abbrev main_v146_5 : Ref sig .tc := ⟨.hbm, 172, rfl⟩
abbrev main_v146_6 : Ref sig .tc := ⟨.hbm, 173, rfl⟩
abbrev main_v146_7 : Ref sig .tc := ⟨.hbm, 174, rfl⟩
abbrev main_v146_8 : Ref sig .tc := ⟨.hbm, 175, rfl⟩
abbrev main_v146_9 : Ref sig .tc := ⟨.hbm, 176, rfl⟩
abbrev main_while0c_c_26 : Ref sig .tc := ⟨.hbm, 177, rfl⟩
abbrev main_while0c_v186 : Ref sig .tc := ⟨.hbm, 178, rfl⟩
abbrev main_while0b_call7_c : Ref sig .tc := ⟨.hbm, 179, rfl⟩
abbrev main_while0b_call7_c_0 : Ref sig .tc := ⟨.hbm, 180, rfl⟩
abbrev main_while0b_call7_c_1 : Ref sig .tc := ⟨.hbm, 181, rfl⟩
abbrev main_while0b_call7_c_2 : Ref sig .tc := ⟨.hbm, 182, rfl⟩
abbrev main_while0b_call7_v0 : Ref sig .tc := ⟨.hbm, 183, rfl⟩
abbrev main_while0b_v186 : Ref sig .tc := ⟨.hbm, 184, rfl⟩
abbrev main_while0b_call8_c : Ref sig .tc := ⟨.hbm, 185, rfl⟩
abbrev main_while0b_call8_c_0 : Ref sig .tc := ⟨.hbm, 186, rfl⟩
abbrev main_while0b_call8_c_1 : Ref sig .tc := ⟨.hbm, 187, rfl⟩
abbrev main_while0b_call8_c_2 : Ref sig .tc := ⟨.hbm, 188, rfl⟩
abbrev main_while0b_call8_v0 : Ref sig .tc := ⟨.hbm, 189, rfl⟩
abbrev main_while0b_v187 : Ref sig .tc := ⟨.hbm, 190, rfl⟩
abbrev main_while0b_call9_c : Ref sig .tc := ⟨.hbm, 191, rfl⟩
abbrev main_while0b_call9_c_0 : Ref sig .tc := ⟨.hbm, 192, rfl⟩
abbrev main_while0b_call9_c_1 : Ref sig .tc := ⟨.hbm, 193, rfl⟩
abbrev main_while0b_call9_c_2 : Ref sig .tc := ⟨.hbm, 194, rfl⟩
abbrev main_while0b_call9_v0 : Ref sig .tc := ⟨.hbm, 195, rfl⟩
abbrev main_while0b_v188 : Ref sig .tc := ⟨.hbm, 196, rfl⟩
abbrev main_while0b_v189 : Ref sig .tc := ⟨.hbm, 197, rfl⟩
abbrev main_while0b_v190 : Ref sig .tc := ⟨.hbm, 198, rfl⟩
abbrev main_while0b_v191 : Ref sig .tc := ⟨.hbm, 199, rfl⟩
abbrev main_while0b_v192 : Ref sig .tc := ⟨.hbm, 200, rfl⟩
abbrev main_while0b_v193 : Ref sig .tc := ⟨.hbm, 201, rfl⟩
abbrev main_while0b_v194 : Ref sig .tc := ⟨.hbm, 202, rfl⟩
abbrev main_while0b_v195 : Ref sig .tc := ⟨.hbm, 203, rfl⟩
abbrev main_while0b_v196 : Ref sig .tc := ⟨.hbm, 204, rfl⟩
abbrev main_while0b_v197 : Ref sig .tc := ⟨.hbm, 205, rfl⟩
abbrev main_while0b_v198 : Ref sig .tc := ⟨.hbm, 206, rfl⟩
abbrev main_while0b_v199 : Ref sig .tc := ⟨.hbm, 207, rfl⟩
abbrev main_while0b_v200 : Ref sig .tc := ⟨.hbm, 208, rfl⟩
abbrev main_while0b_v201 : Ref sig .tc := ⟨.hbm, 209, rfl⟩
abbrev main_while0b_v202 : Ref sig .tc := ⟨.hbm, 210, rfl⟩
abbrev main_while0b_v203 : Ref sig .tc := ⟨.hbm, 211, rfl⟩
abbrev main_while0b_v204 : Ref sig .tc := ⟨.hbm, 212, rfl⟩
abbrev main_while0b_v205 : Ref sig .tc := ⟨.hbm, 213, rfl⟩
abbrev main_while0b_v206 : Ref sig .tc := ⟨.hbm, 214, rfl⟩
abbrev main_while0b_call10_v0 : Ref sig .tc := ⟨.hbm, 215, rfl⟩
abbrev main_while0b_call10_c : Ref sig .tc := ⟨.hbm, 216, rfl⟩
abbrev main_while0b_call10_c_0 : Ref sig .tc := ⟨.hbm, 217, rfl⟩
abbrev main_while0b_call10_c_1 : Ref sig .tc := ⟨.hbm, 218, rfl⟩
abbrev main_while0b_call10_c_2 : Ref sig .tc := ⟨.hbm, 219, rfl⟩
abbrev main_while0b_v207 : Ref sig .tc := ⟨.hbm, 220, rfl⟩
abbrev main_while0b_c_26 : Ref sig .tc := ⟨.hbm, 221, rfl⟩
abbrev main_while0b_v208 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_cst_12 : Ref sig .tc := ⟨.hbm, 234, rfl⟩
abbrev main_v158 : Ref sig .tc := ⟨.hbm, 235, rfl⟩
abbrev main_v159 : Ref sig .tc := ⟨.hbm, 236, rfl⟩
abbrev main_cst_13 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_cst_14 : Ref sig .tc := ⟨.hbm, 243, rfl⟩
abbrev main_v165 : Ref sig .tc := ⟨.hbm, 244, rfl⟩
abbrev main_v166 : Ref sig .tc := ⟨.hbm, 245, rfl⟩
abbrev main_cst_15 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_cst_16 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_call13_v0 : Ref sig .tc := ⟨.hbm, 263, rfl⟩
abbrev main_call13_v1 : Ref sig .tc := ⟨.hbm, 264, rfl⟩
abbrev main_call13_cst : Ref sig .tc := ⟨.hbm, 265, rfl⟩
abbrev main_call13_v2 : Ref sig .tc := ⟨.hbm, 266, rfl⟩
abbrev main_call13_v3 : Ref sig .tc := ⟨.hbm, 267, rfl⟩
abbrev main_call13_cst_0 : Ref sig .tc := ⟨.hbm, 268, rfl⟩
abbrev main_call13_v4 : Ref sig .tc := ⟨.hbm, 269, rfl⟩
abbrev main_call13_v5 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩

abbrev nD : Nat := 1
abbrev τ : Topo := Topo.v7x

variable {F : FTy → Type} [FloatOps F]

abbrev main_while0_count : Scf.Loop 32 := ⟨0#32, 132#32, 1#32⟩
-- ==== Ada.lean ====
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x8x24576 : Shape := ⟨3, ![2, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x4096 : Shape := ⟨2, ![8, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩
abbrev S1x8x24576 : Shape := ⟨3, ![1, 8, 24576]⟩
abbrev S2x8x24576 : Shape := ⟨3, ![2, 8, 24576]⟩

abbrev nBuf : Space → Nat
  | .hbm => 31
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S1x4096x24576, .f32⟩
  | .hbm, ⟨13, _⟩ => ⟨S4096x24576, .f32⟩
  | .hbm, ⟨14, _⟩ => ⟨S8x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S8x24576, .f32⟩
  | .hbm, ⟨19, _⟩ => ⟨S8x24576, .f32⟩
  | .hbm, ⟨20, _⟩ => ⟨S1x4096x24576, .f32⟩
  | .hbm, ⟨21, _⟩ => ⟨S4096x24576, .f32⟩
  | .hbm, ⟨22, _⟩ => ⟨S8x24576, .f32⟩
  | .hbm, ⟨23, _⟩ => ⟨S1x24576, .f32⟩
  | .hbm, ⟨24, _⟩ => ⟨S24576, .f32⟩
  | .hbm, ⟨25, _⟩ => ⟨S1x24576, .f32⟩
  | .hbm, ⟨26, _⟩ => ⟨S8x24576, .f32⟩
  | .hbm, ⟨27, _⟩ => ⟨S8x24576, .f32⟩
  | .hbm, ⟨28, _⟩ => ⟨S1x8x24576, .f32⟩
  | .hbm, ⟨29, _⟩ => ⟨S1x8x24576, .f32⟩
  | .hbm, ⟨30, _⟩ => ⟨S2x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Mod.lean ====
abbrev S2x256x4096 : Shape := ⟨3, ![2, 256, 4096]⟩
abbrev S2x8192x4096 : Shape := ⟨3, ![2, 8192, 4096]⟩
abbrev S2x8x24576 : Shape := ⟨3, ![2, 8, 24576]⟩
abbrev S96x1x4096 : Shape := ⟨3, ![96, 1, 4096]⟩
abbrev S512x4096 : Shape := ⟨2, ![512, 4096]⟩
abbrev S16384x4096 : Shape := ⟨2, ![16384, 4096]⟩
abbrev S16896x4096 : Shape := ⟨2, ![16896, 4096]⟩
abbrev S1x1x4096 : Shape := ⟨3, ![1, 1, 4096]⟩
abbrev S1x4096 : Shape := ⟨2, ![1, 4096]⟩

abbrev nBuf : Space → Nat
  | .hbm => 7
  | .vmem => 10
  | .smem => 0
  | _ => 0

abbrev bufTy : (tb : Table) → Fin (tcTables nBuf tb) → BufTy
  | .hbm, ⟨0, _⟩ => ⟨S2x256x4096, .f32⟩
  | .hbm, ⟨1, _⟩ => ⟨S2x8192x4096, .f32⟩
  | .hbm, ⟨2, _⟩ => ⟨S2x8x24576, .f32⟩
  | .hbm, ⟨3, _⟩ => ⟨S96x1x4096, .f32⟩
  | .hbm, ⟨4, _⟩ => ⟨S512x4096, .f32⟩
  | .hbm, ⟨5, _⟩ => ⟨S16384x4096, .f32⟩
  | .hbm, ⟨6, _⟩ => ⟨S16896x4096, .bf16⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S512x4096, .bf16⟩
  | .local _ .vmem, ⟨9, _⟩ => ⟨S512x4096, .bf16⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .slt arg0 c1_i32
  let c1_i32_0 : BitVec 32 := 1#32
  let v1 : BitVec 32 := Scalar.subi arg0 c1_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let v19 : BitVec 32 := Scalar.select v0 c2_i32 v18
  let c0_i32_6 : BitVec 32 := 0#32
  let v20 : BitVec 32 := Scalar.addi c0_i32_6 v19
  let c6_i32 : BitVec 32 := 6#32
  let v21 : BitVec 32 := Scalar.muli v20 c6_i32
  let c1_i32_7 : BitVec 32 := 1#32
  let v22 : BitVec 32 := Scalar.addi v21 c1_i32_7
  let c0_i32_8 : BitVec 32 := 0#32
  let c0_i32_9 : BitVec 32 := 0#32
  let c0_i32_10 : BitVec 32 := 0#32
  ![v22.toNat, c0_i32_8.toNat, c0_i32_9.toNat]

def cc0_transform_3 (i : grid0.Coords) : Fin 3 → Nat :=
  let arg0 : BitVec 32 := BitVec.ofNat 32 (i 0).val
  let c1_i32 : BitVec 32 := 1#32
  let v0 : BitVec 1 := Scalar.cmpi .slt arg0 c1_i32
  let c1_i32_0 : BitVec 32 := 1#32
  let v1 : BitVec 32 := Scalar.subi arg0 c1_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let v19 : BitVec 32 := Scalar.select v0 c2_i32 v18
  let c0_i32_6 : BitVec 32 := 0#32
  let v20 : BitVec 32 := Scalar.addi c0_i32_6 v19
  let c6_i32 : BitVec 32 := 6#32
  let v21 : BitVec 32 := Scalar.muli v20 c6_i32
  let c0_i32_7 : BitVec 32 := 0#32
  let v22 : BitVec 32 := Scalar.addi v21 c0_i32_7
  let c0_i32_8 : BitVec 32 := 0#32
  let c0_i32_9 : BitVec 32 := 0#32
  let c0_i32_10 : BitVec 32 := 0#32
  ![v22.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModRefIdeal.lean ====
abbrev S2x256x4096 : Shape := ⟨3, ![2, 256, 4096]⟩
abbrev S2x8192x4096 : Shape := ⟨3, ![2, 8192, 4096]⟩
abbrev S2x8x24576 : Shape := ⟨3, ![2, 8, 24576]⟩
abbrev S1x2x24576 : Shape := ⟨3, ![1, 2, 24576]⟩
abbrev S2x24576 : Shape := ⟨2, ![2, 24576]⟩
abbrev S2x1x24576 : Shape := ⟨3, ![2, 1, 24576]⟩
abbrev S2x1x4096 : Shape := ⟨3, ![2, 1, 4096]⟩
abbrev S1x1x24576 : Shape := ⟨3, ![1, 1, 24576]⟩
abbrev S24576 : Shape := ⟨1, ![24576]⟩
abbrev S4096 : Shape := ⟨1, ![4096]⟩
abbrev S_ : Shape := ⟨0, ![]⟩
abbrev S1x1x4096 : Shape := ⟨3, ![1, 1, 4096]⟩
abbrev S512x4096 : Shape := ⟨2, ![512, 4096]⟩
abbrev S16384x4096 : Shape := ⟨2, ![16384, 4096]⟩
abbrev S16896x4096 : Shape := ⟨2, ![16896, 4096]⟩

abbrev nBuf : Space → Nat
  | .hbm => 40
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S2x8192x4096, .f32⟩
  | .hbm, ⟨2, _⟩ => ⟨S2x8x24576, .f32⟩
  | .hbm, ⟨3, _⟩ => ⟨S1x2x24576, .f32⟩
  | .hbm, ⟨4, _⟩ => ⟨S2x24576, .f32⟩
  | .hbm, ⟨5, _⟩ => ⟨S2x1x24576, .f32⟩
  | .hbm, ⟨6, _⟩ => ⟨S2x1x4096, .f32⟩
  | .hbm, ⟨7, _⟩ => ⟨S2x1x4096, .f32⟩
  | .hbm, ⟨8, _⟩ => ⟨S2x1x4096, .f32⟩
  | .hbm, ⟨9, _⟩ => ⟨S2x1x4096, .f32⟩
  | .hbm, ⟨10, _⟩ => ⟨S2x1x4096, .f32⟩
  | .hbm, ⟨11, _⟩ => ⟨S2x1x4096, .f32⟩
  | .hbm, ⟨12, _⟩ => ⟨S1x1x24576, .f32⟩
  | .hbm, ⟨13, _⟩ => ⟨S24576, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S2x1x4096, .f32⟩
  | .hbm, ⟨22, _⟩ => ⟨S2x1x4096, .f32⟩
  | .hbm, ⟨23, _⟩ => ⟨S2x8192x4096, .f32⟩
  | .hbm, ⟨24, _⟩ => ⟨S2x8192x4096, .f32⟩
  | .hbm, ⟨25, _⟩ => ⟨S2x8192x4096, .f32⟩
  | .hbm, ⟨26, _⟩ => ⟨S2x8192x4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S1x1x4096, .f32⟩
  | .hbm, ⟨31, _⟩ => ⟨S2x256x4096, .f32⟩
  | .hbm, ⟨32, _⟩ => ⟨S2x256x4096, .f32⟩
  | .hbm, ⟨33, _⟩ => ⟨S1x1x4096, .f32⟩
  | .hbm, ⟨34, _⟩ => ⟨S2x256x4096, .f32⟩
  | .hbm, ⟨35, _⟩ => ⟨S2x256x4096, .f32⟩
  | .hbm, ⟨36, _⟩ => ⟨S512x4096, .f32⟩
  | .hbm, ⟨37, _⟩ => ⟨S16384x4096, .f32⟩
  | .hbm, ⟨38, _⟩ => ⟨S16896x4096, .f32⟩
  | .hbm, ⟨39, _⟩ => ⟨S16896x4096, .bf16⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]
-- ==== Gate.lean ====
abbrev S16896x4096 : Shape := ⟨2, ![16896, 4096]⟩
abbrev S4096x16416 : Shape := ⟨2, ![4096, 16416]⟩
abbrev S4096x32 : Shape := ⟨2, ![4096, 32]⟩
abbrev S_ : Shape := ⟨0, ![]⟩
abbrev S4096x128 : Shape := ⟨2, ![4096, 128]⟩
abbrev S16896x128 : Shape := ⟨2, ![16896, 128]⟩
abbrev S768x4096 : Shape := ⟨2, ![768, 4096]⟩
abbrev S768x128 : Shape := ⟨2, ![768, 128]⟩

abbrev nBuf : Space → Nat
  | .hbm => 8
  | .vmem => 5
  | .smem => 0
  | _ => 0

abbrev bufTy : (tb : Table) → Fin (tcTables nBuf tb) → BufTy
  | .hbm, ⟨0, _⟩ => ⟨S16896x4096, .bf16⟩
  | .hbm, ⟨1, _⟩ => ⟨S4096x16416, .f32⟩
  | .hbm, ⟨2, _⟩ => ⟨S4096x16416, .bf16⟩
  | .hbm, ⟨3, _⟩ => ⟨S4096x32, .bf16⟩
  | .hbm, ⟨4, _⟩ => ⟨S_, .i32⟩
  | .hbm, ⟨5, _⟩ => ⟨S_, .bf16⟩
  | .hbm, ⟨6, _⟩ => ⟨S4096x128, .bf16⟩
  | .hbm, ⟨7, _⟩ => ⟨S16896x128, .f32⟩
  | .local _ .vmem, ⟨0, _⟩ => ⟨S768x4096, .bf16⟩
  | .local _ .vmem, ⟨1, _⟩ => ⟨S768x4096, .bf16⟩
  | .local _ .vmem, ⟨2, _⟩ => ⟨S4096x128, .bf16⟩
  | .local _ .vmem, ⟨3, _⟩ => ⟨S768x128, .f32⟩
  | .local _ .vmem, ⟨4, _⟩ => ⟨S768x128, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S16896x4096 : Shape := ⟨2, ![16896, 4096]⟩
abbrev S4096x16416 : Shape := ⟨2, ![4096, 16416]⟩
abbrev S4096x32 : Shape := ⟨2, ![4096, 32]⟩
abbrev S16896x32 : Shape := ⟨2, ![16896, 32]⟩
abbrev S_ : Shape := ⟨0, ![]⟩
abbrev S16896x128 : Shape := ⟨2, ![16896, 128]⟩

abbrev nBuf : Space → Nat
  | .hbm => 8
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x16416, .f32⟩
  | .hbm, ⟨2, _⟩ => ⟨S16896x4096, .f32⟩
  | .hbm, ⟨3, _⟩ => ⟨S4096x32, .f32⟩
  | .hbm, ⟨4, _⟩ => ⟨S16896x32, .f32⟩
  | .hbm, ⟨5, _⟩ => ⟨S_, .i32⟩
  | .hbm, ⟨6, _⟩ => ⟨S_, .f32⟩
  | .hbm, ⟨7, _⟩ => ⟨S16896x128, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DnGate.lean ====
abbrev S16896x4096 : Shape := ⟨2, ![16896, 4096]⟩
abbrev S4096x16512 : Shape := ⟨2, ![4096, 16512]⟩
abbrev S4096x128 : Shape := ⟨2, ![4096, 128]⟩
abbrev S_ : Shape := ⟨0, ![]⟩
abbrev S16896x128 : Shape := ⟨2, ![16896, 128]⟩
abbrev S768x4096 : Shape := ⟨2, ![768, 4096]⟩
abbrev S768x128 : Shape := ⟨2, ![768, 128]⟩

abbrev nBuf : Space → Nat
  | .hbm => 8
  | .vmem => 5
  | .smem => 0
  | _ => 0

abbrev bufTy : (tb : Table) → Fin (tcTables nBuf tb) → BufTy
  | .hbm, ⟨0, _⟩ => ⟨S16896x4096, .bf16⟩
  | .hbm, ⟨1, _⟩ => ⟨S4096x16512, .f32⟩
  | .hbm, ⟨2, _⟩ => ⟨S4096x16512, .bf16⟩
  | .hbm, ⟨3, _⟩ => ⟨S4096x128, .bf16⟩
  | .hbm, ⟨4, _⟩ => ⟨S_, .i32⟩
  | .hbm, ⟨5, _⟩ => ⟨S_, .bf16⟩
  | .hbm, ⟨6, _⟩ => ⟨S4096x128, .bf16⟩
  | .hbm, ⟨7, _⟩ => ⟨S16896x128, .f32⟩
  | .local _ .vmem, ⟨0, _⟩ => ⟨S768x4096, .bf16⟩
  | .local _ .vmem, ⟨1, _⟩ => ⟨S768x4096, .bf16⟩
  | .local _ .vmem, ⟨2, _⟩ => ⟨S4096x128, .bf16⟩
  | .local _ .vmem, ⟨3, _⟩ => ⟨S768x128, .f32⟩
  | .local _ .vmem, ⟨4, _⟩ => ⟨S768x128, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DnGateRefIdeal.lean ====
abbrev S16896x4096 : Shape := ⟨2, ![16896, 4096]⟩
abbrev S4096x16512 : Shape := ⟨2, ![4096, 16512]⟩
abbrev S4096x128 : Shape := ⟨2, ![4096, 128]⟩
abbrev S16896x128 : Shape := ⟨2, ![16896, 128]⟩

abbrev nBuf : Space → Nat
  | .hbm => 5
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x16512, .f32⟩
  | .hbm, ⟨2, _⟩ => ⟨S16896x4096, .f32⟩
  | .hbm, ⟨3, _⟩ => ⟨S4096x128, .f32⟩
  | .hbm, ⟨4, _⟩ => ⟨S16896x128, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Norm.lean ====
abbrev S2x256x4096 : Shape := ⟨3, ![2, 256, 4096]⟩
abbrev S2x8192x4096 : Shape := ⟨3, ![2, 8192, 4096]⟩
abbrev S16896x4096 : Shape := ⟨2, ![16896, 4096]⟩
abbrev S2x8x24576 : Shape := ⟨3, ![2, 8, 24576]⟩
abbrev S4096 : Shape := ⟨1, ![4096]⟩
abbrev S96x1x4096 : Shape := ⟨3, ![96, 1, 4096]⟩
abbrev S512x4096 : Shape := ⟨2, ![512, 4096]⟩
abbrev S16384x4096 : Shape := ⟨2, ![16384, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 13
  | .vmem => 18
  | .smem => 0
  | _ => 0

abbrev bufTy : (tb : Table) → Fin (tcTables nBuf tb) → BufTy
  | .hbm, ⟨0, _⟩ => ⟨S2x256x4096, .f32⟩
  | .hbm, ⟨1, _⟩ => ⟨S2x8192x4096, .f32⟩
  | .hbm, ⟨2, _⟩ => ⟨S16896x4096, .f32⟩
  | .hbm, ⟨3, _⟩ => ⟨S2x8x24576, .f32⟩
  | .hbm, ⟨4, _⟩ => ⟨S4096, .f32⟩
  | .hbm, ⟨5, _⟩ => ⟨S4096, .f32⟩
  | .hbm, ⟨6, _⟩ => ⟨S96x1x4096, .f32⟩
  | .hbm, ⟨7, _⟩ => ⟨S512x4096, .f32⟩
  | .hbm, ⟨8, _⟩ => ⟨S16384x4096, .f32⟩
  | .hbm, ⟨9, _⟩ => ⟨S1x4096, .f32⟩
  | .hbm, ⟨10, _⟩ => ⟨S1x4096, .f32⟩
  | .hbm, ⟨11, _⟩ => ⟨S16896x4096, .f32⟩
  | .hbm, ⟨12, _⟩ => ⟨S16896x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | .local _ .vmem, ⟨9, _⟩ => ⟨S1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S1x1x4096, .f32⟩
  | .local _ .vmem, ⟨14, _⟩ => ⟨S256x4096, .f32⟩
  | .local _ .vmem, ⟨15, _⟩ => ⟨S256x4096, .f32⟩
  | .local _ .vmem, ⟨16, _⟩ => ⟨S256x4096, .bf16⟩
  | .local _ .vmem, ⟨17, _⟩ => ⟨S256x4096, .bf16⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let v0 : BitVec 1 := Scalar.cmpi .slt arg0 c2_i32
  let c2_i32_0 : BitVec 32 := 2#32
  let v1 : BitVec 32 := Scalar.subi arg0 c2_i32_0
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.select v0 c2_i32_5 v18
  let c0_i32_6 : BitVec 32 := 0#32
  let v20 : BitVec 32 := Scalar.addi c0_i32_6 v19
  let c6_i32 : BitVec 32 := 6#32
  let v21 : BitVec 32 := Scalar.muli v20 c6_i32
  let c2_i32_7 : BitVec 32 := 2#32
  let v22 : BitVec 32 := Scalar.addi v21 c2_i32_7
  let c0_i32_8 : BitVec 32 := 0#32
  let c0_i32_9 : BitVec 32 := 0#32
  let c0_i32_10 : BitVec 32 := 0#32
  ![v22.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c2_i32 : BitVec 32 := 2#32
  let v0 : BitVec 1 := Scalar.cmpi .slt arg0 c2_i32
  let c2_i32_0 : BitVec 32 := 2#32
  let v1 : BitVec 32 := Scalar.subi arg0 c2_i32_0
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.select v0 c2_i32_5 v18
  let c0_i32_6 : BitVec 32 := 0#32
  let v20 : BitVec 32 := Scalar.addi c0_i32_6 v19
  let c6_i32 : BitVec 32 := 6#32
  let v21 : BitVec 32 := Scalar.muli v20 c6_i32
  let c4_i32 : BitVec 32 := 4#32
  let v22 : BitVec 32 := Scalar.addi v21 c4_i32
  let c0_i32_7 : BitVec 32 := 0#32
  let c0_i32_8 : BitVec 32 := 0#32
  let c0_i32_9 : BitVec 32 := 0#32
  ![v22.toNat, c0_i32_7.toNat, c0_i32_8.toNat]

def cc0_transform_7 (i : grid0.Coords) : Fin 3 → Nat :=
  let arg0 : BitVec 32 := BitVec.ofNat 32 (i 0).val
  let c2_i32 : BitVec 32 := 2#32
  let v0 : BitVec 1 := Scalar.cmpi .slt arg0 c2_i32
  let c2_i32_0 : BitVec 32 := 2#32
  let v1 : BitVec 32 := Scalar.subi arg0 c2_i32_0
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.select v0 c2_i32_5 v18
  let c0_i32_6 : BitVec 32 := 0#32
  let v20 : BitVec 32 := Scalar.addi c0_i32_6 v19
  let c6_i32 : BitVec 32 := 6#32
  let v21 : BitVec 32 := Scalar.muli v20 c6_i32
  let c3_i32 : BitVec 32 := 3#32
  let v22 : BitVec 32 := Scalar.addi v21 c3_i32
  let c0_i32_7 : BitVec 32 := 0#32
  let c0_i32_8 : BitVec 32 := 0#32
  let c0_i32_9 : BitVec 32 := 0#32
  ![v22.toNat, c0_i32_7.toNat, c0_i32_8.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== NormRefIdeal.lean ====
abbrev S2x256x4096 : Shape := ⟨3, ![2, 256, 4096]⟩
abbrev S2x8192x4096 : Shape := ⟨3, ![2, 8192, 4096]⟩
abbrev S16896x4096 : Shape := ⟨2, ![16896, 4096]⟩
abbrev S2x8x24576 : Shape := ⟨3, ![2, 8, 24576]⟩
abbrev S4096 : Shape := ⟨1, ![4096]⟩
abbrev S1x2x24576 : Shape := ⟨3, ![1, 2, 24576]⟩
abbrev S2x24576 : Shape := ⟨2, ![2, 24576]⟩
abbrev S2x1x24576 : Shape := ⟨3, ![2, 1, 24576]⟩
abbrev S2x1x4096 : Shape := ⟨3, ![2, 1, 4096]⟩
abbrev S1x1x24576 : Shape := ⟨3, ![1, 1, 24576]⟩
abbrev S24576 : Shape := ⟨1, ![24576]⟩
abbrev S512x4096 : Shape := ⟨2, ![512, 4096]⟩
abbrev S16384x4096 : Shape := ⟨2, ![16384, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x256 : Shape := ⟨2, ![2, 256]⟩
abbrev S2x256x1 : Shape := ⟨3, ![2, 256, 1]⟩

abbrev nBuf : Space → Nat
  | .hbm => 121
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S2x8192x4096, .f32⟩
  | .hbm, ⟨2, _⟩ => ⟨S16896x4096, .f32⟩
  | .hbm, ⟨3, _⟩ => ⟨S2x8x24576, .f32⟩
  | .hbm, ⟨4, _⟩ => ⟨S4096, .f32⟩
  | .hbm, ⟨5, _⟩ => ⟨S4096, .f32⟩
  | .hbm, ⟨6, _⟩ => ⟨S1x2x24576, .f32⟩
  | .hbm, ⟨7, _⟩ => ⟨S2x24576, .f32⟩
  | .hbm, ⟨8, _⟩ => ⟨S2x1x24576, .f32⟩
  | .hbm, ⟨9, _⟩ => ⟨S2x1x4096, .f32⟩
  | .hbm, ⟨10, _⟩ => ⟨S2x1x4096, .f32⟩
  | .hbm, ⟨11, _⟩ => ⟨S2x1x4096, .f32⟩
  | .hbm, ⟨12, _⟩ => ⟨S2x1x4096, .f32⟩
  | .hbm, ⟨13, _⟩ => ⟨S2x1x4096, .f32⟩
  | .hbm, ⟨14, _⟩ => ⟨S2x1x4096, .f32⟩
  | .hbm, ⟨15, _⟩ => ⟨S1x1x24576, .f32⟩
  | .hbm, ⟨16, _⟩ => ⟨S24576, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S512x4096, .f32⟩
  | .hbm, ⟨24, _⟩ => ⟨S2x256x4096, .f32⟩
  | .hbm, ⟨25, _⟩ => ⟨S16384x4096, .f32⟩
  | .hbm, ⟨26, _⟩ => ⟨S2x8192x4096, .f32⟩
  | .hbm, ⟨27, _⟩ => ⟨S_, .f32⟩
  | .hbm, ⟨28, _⟩ => ⟨S2x8192x4096, .f32⟩
  | .hbm, ⟨29, _⟩ => ⟨S2x8192x4096, .f32⟩
  | .hbm, ⟨30, _⟩ => ⟨S2x8192x4096, .f32⟩
  | .hbm, ⟨31, _⟩ => ⟨S2x8192x4096, .f32⟩
  | .hbm, ⟨32, _⟩ => ⟨S2x8192x4096, .f32⟩
  | .hbm, ⟨33, _⟩ => ⟨S_, .f32⟩
  | .hbm, ⟨34, _⟩ => ⟨S2x8192, .f32⟩
  | .hbm, ⟨35, _⟩ => ⟨S2x8192x1, .f32⟩
  | .hbm, ⟨36, _⟩ => ⟨S_, .f32⟩
  | .hbm, ⟨37, _⟩ => ⟨S2x8192x1, .f32⟩
  | .hbm, ⟨38, _⟩ => ⟨S2x8192x1, .f32⟩
  | .hbm, ⟨39, _⟩ => ⟨S2x8192x4096, .f32⟩
  | .hbm, ⟨40, _⟩ => ⟨S2x8192x4096, .f32⟩
  | .hbm, ⟨41, _⟩ => ⟨S2x8192x4096, .f32⟩
  | .hbm, ⟨42, _⟩ => ⟨S_, .f32⟩
  | .hbm, ⟨43, _⟩ => ⟨S2x8192, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x4096, .f32⟩
  | .hbm, ⟨49, _⟩ => ⟨S2x8192x4096, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S2x8192x1, .f32⟩
  | .hbm, ⟨54, _⟩ => ⟨S2x8192x4096, .f32⟩
  | .hbm, ⟨55, _⟩ => ⟨S2x8192x4096, .f32⟩
  | .hbm, ⟨56, _⟩ => ⟨S1x1x4096, .f32⟩
  | .hbm, ⟨57, _⟩ => ⟨S2x8192x4096, .f32⟩
  | .hbm, ⟨58, _⟩ => ⟨S2x8192x4096, .f32⟩
  | .hbm, ⟨59, _⟩ => ⟨S1x1x4096, .f32⟩
  | .hbm, ⟨60, _⟩ => ⟨S2x8192x4096, .f32⟩
  | .hbm, ⟨61, _⟩ => ⟨S2x8192x4096, .f32⟩
  | .hbm, ⟨62, _⟩ => ⟨S_, .f32⟩
  | .hbm, ⟨63, _⟩ => ⟨S2x256x4096, .f32⟩
  | .hbm, ⟨64, _⟩ => ⟨S2x256x4096, .f32⟩
  | .hbm, ⟨65, _⟩ => ⟨S1x1x4096, .f32⟩
  | .hbm, ⟨66, _⟩ => ⟨S2x256x4096, .f32⟩
  | .hbm, ⟨67, _⟩ => ⟨S2x256x4096, .f32⟩
  | .hbm, ⟨68, _⟩ => ⟨S2x256x4096, .f32⟩
  | .hbm, ⟨69, _⟩ => ⟨S_, .f32⟩
  | .hbm, ⟨70, _⟩ => ⟨S2x256, .f32⟩
  | .hbm, ⟨71, _⟩ => ⟨S2x256x1, .f32⟩
  | .hbm, ⟨72, _⟩ => ⟨S_, .f32⟩
  | .hbm, ⟨73, _⟩ => ⟨S2x256x1, .f32⟩
  | .hbm, ⟨74, _⟩ => ⟨S2x256x1, .f32⟩
  | .hbm, ⟨75, _⟩ => ⟨S2x256x4096, .f32⟩
  | .hbm, ⟨76, _⟩ => ⟨S2x256x4096, .f32⟩
  | .hbm, ⟨77, _⟩ => ⟨S2x256x4096, .f32⟩
  | .hbm, ⟨78, _⟩ => ⟨S_, .f32⟩
  | .hbm, ⟨79, _⟩ => ⟨S2x256, .f32⟩
  | .hbm, ⟨80, _⟩ => ⟨S2x256x1, .f32⟩
  | .hbm, ⟨81, _⟩ => ⟨S_, .f32⟩
  | .hbm, ⟨82, _⟩ => ⟨S2x256x1, .f32⟩
  | .hbm, ⟨83, _⟩ => ⟨S2x256x1, .f32⟩
  | .hbm, ⟨84, _⟩ => ⟨S2x256x4096, .f32⟩
  | .hbm, ⟨85, _⟩ => ⟨S2x256x4096, .f32⟩
  | .hbm, ⟨86, _⟩ => ⟨S_, .f32⟩
  | .hbm, ⟨87, _⟩ => ⟨S2x256x1, .f32⟩
  | .hbm, ⟨88, _⟩ => ⟨S2x256x1, .f32⟩
  | .hbm, ⟨89, _⟩ => ⟨S2x256x1, .f32⟩
  | .hbm, ⟨90, _⟩ => ⟨S2x256x4096, .f32⟩
  | .hbm, ⟨91, _⟩ => ⟨S2x256x4096, .f32⟩
  | .hbm, ⟨92, _⟩ => ⟨S1x1x4096, .f32⟩
  | .hbm, ⟨93, _⟩ => ⟨S2x256x4096, .f32⟩
  | .hbm, ⟨94, _⟩ => ⟨S2x256x4096, .f32⟩
  | .hbm, ⟨95, _⟩ => ⟨S1x1x4096, .f32⟩
  | .hbm, ⟨96, _⟩ => ⟨S2x256x4096, .f32⟩
  | .hbm, ⟨97, _⟩ => ⟨S2x256x4096, .f32⟩
  | .hbm, ⟨98, _⟩ => ⟨S_, .f32⟩
  | .hbm, ⟨99, _⟩ => ⟨S2x1x4096, .f32⟩
  | .hbm, ⟨100, _⟩ => ⟨S2x1x4096, .f32⟩
  | .hbm, ⟨101, _⟩ => ⟨S2x8192x4096, .f32⟩
  | .hbm, ⟨102, _⟩ => ⟨S2x8192x4096, .f32⟩
  | .hbm, ⟨103, _⟩ => ⟨S2x8192x4096, .f32⟩
  | .hbm, ⟨104, _⟩ => ⟨S2x8192x4096, .f32⟩
  | .hbm, ⟨105, _⟩ => ⟨S_, .f32⟩
  | .hbm, ⟨106, _⟩ => ⟨S4096, .f32⟩
  | .hbm, ⟨107, _⟩ => ⟨S4096, .f32⟩
  | .hbm, ⟨108, _⟩ => ⟨S1x1x4096, .f32⟩
  | .hbm, ⟨109, _⟩ => ⟨S2x256x4096, .f32⟩
  | .hbm, ⟨110, _⟩ => ⟨S2x256x4096, .f32⟩
  | .hbm, ⟨111, _⟩ => ⟨S1x1x4096, .f32⟩
  | .hbm, ⟨112, _⟩ => ⟨S2x256x4096, .f32⟩
  | .hbm, ⟨113, _⟩ => ⟨S2x256x4096, .f32⟩
  | .hbm, ⟨114, _⟩ => ⟨S512x4096, .f32⟩
  | .hbm, ⟨115, _⟩ => ⟨S16384x4096, .f32⟩
  | .hbm, ⟨116, _⟩ => ⟨S16896x4096, .f32⟩
  | .hbm, ⟨117, _⟩ => ⟨S512x4096, .f32⟩
  | .hbm, ⟨118, _⟩ => ⟨S16384x4096, .f32⟩
  | .hbm, ⟨119, _⟩ => ⟨S16896x4096, .f32⟩
  | .hbm, ⟨120, _⟩ => ⟨S16896x4096, .bf16⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_11 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_12 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩

abbrev nD : Nat := 1
abbrev τ : Topo := Topo.v7x

variable {F : FTy → Type} [FloatOps F]
-- ==== Next.lean ====
abbrev S16896x4096 : Shape := ⟨2, ![16896, 4096]⟩
abbrev S2x8x24576 : Shape := ⟨3, ![2, 8, 24576]⟩
abbrev S4096 : Shape := ⟨1, ![4096]⟩
abbrev S96x1x4096 : Shape := ⟨3, ![96, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S16896x4096, .f32⟩
  | .hbm, ⟨1, _⟩ => ⟨S16896x4096, .f32⟩
  | .hbm, ⟨2, _⟩ => ⟨S2x8x24576, .f32⟩
  | .hbm, ⟨3, _⟩ => ⟨S4096, .f32⟩
  | .hbm, ⟨4, _⟩ => ⟨S4096, .f32⟩
  | .hbm, ⟨5, _⟩ => ⟨S96x1x4096, .f32⟩
  | .hbm, ⟨6, _⟩ => ⟨S1x4096, .f32⟩
  | .hbm, ⟨7, _⟩ => ⟨S1x4096, .f32⟩
  | .hbm, ⟨8, _⟩ => ⟨S16896x4096, .f32⟩
  | .hbm, ⟨9, _⟩ => ⟨S16896x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S256x4096, .f32⟩
  | .local _ .vmem, ⟨13, _⟩ => ⟨S256x4096, .f32⟩
  | .local _ .vmem, ⟨14, _⟩ => ⟨S256x4096, .bf16⟩
  | .local _ .vmem, ⟨15, _⟩ => ⟨S256x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let v0 : BitVec 1 := Scalar.cmpi .slt arg0 c2_i32
  let c2_i32_0 : BitVec 32 := 2#32
  let v1 : BitVec 32 := Scalar.subi arg0 c2_i32_0
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.select v0 c2_i32_5 v18
  let c8_i32 : BitVec 32 := 8#32
  let v20 : BitVec 32 := Scalar.addi c8_i32 v19
  let c6_i32 : BitVec 32 := 6#32
  let v21 : BitVec 32 := Scalar.muli v20 c6_i32
  let c2_i32_6 : BitVec 32 := 2#32
  let v22 : BitVec 32 := Scalar.addi v21 c2_i32_6
  let c0_i32_7 : BitVec 32 := 0#32
  let c0_i32_8 : BitVec 32 := 0#32
  let c0_i32_9 : BitVec 32 := 0#32
  ![v22.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let v0 : BitVec 1 := Scalar.cmpi .slt arg0 c2_i32
  let c2_i32_0 : BitVec 32 := 2#32
  let v1 : BitVec 32 := Scalar.subi arg0 c2_i32_0
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.select v0 c2_i32_5 v18
  let c8_i32 : BitVec 32 := 8#32
  let v20 : BitVec 32 := Scalar.addi c8_i32 v19
  let c6_i32 : BitVec 32 := 6#32
  let v21 : BitVec 32 := Scalar.muli v20 c6_i32
  let c4_i32 : BitVec 32 := 4#32
  let v22 : BitVec 32 := Scalar.addi v21 c4_i32
  let c0_i32_6 : BitVec 32 := 0#32
  let c0_i32_7 : BitVec 32 := 0#32
  let c0_i32_8 : BitVec 32 := 0#32
  ![v22.toNat, c0_i32_6.toNat, c0_i32_7.toNat]

def cc0_transform_6 (i : grid0.Coords) : Fin 3 → Nat :=
  let arg0 : BitVec 32 := BitVec.ofNat 32 (i 0).val
  let c2_i32 : BitVec 32 := 2#32
  let v0 : BitVec 1 := Scalar.cmpi .slt arg0 c2_i32
  let c2_i32_0 : BitVec 32 := 2#32
  let v1 : BitVec 32 := Scalar.subi arg0 c2_i32_0
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.select v0 c2_i32_5 v18
  let c8_i32 : BitVec 32 := 8#32
  let v20 : BitVec 32 := Scalar.addi c8_i32 v19
  let c6_i32 : BitVec 32 := 6#32
  let v21 : BitVec 32 := Scalar.muli v20 c6_i32
  let c3_i32 : BitVec 32 := 3#32
  let v22 : BitVec 32 := Scalar.addi v21 c3_i32
  let c0_i32_6 : BitVec 32 := 0#32
  let c0_i32_7 : BitVec 32 := 0#32
  let c0_i32_8 : BitVec 32 := 0#32
  ![v22.toNat, c0_i32_6.toNat, c0_i32_7.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NextRefIdeal.lean ====
abbrev S16896x4096 : Shape := ⟨2, ![16896, 4096]⟩
abbrev S2x8x24576 : Shape := ⟨3, ![2, 8, 24576]⟩
abbrev S4096 : Shape := ⟨1, ![4096]⟩
abbrev S512x4096 : Shape := ⟨2, ![512, 4096]⟩
abbrev S2x256x4096 : Shape := ⟨3, ![2, 256, 4096]⟩
abbrev S16384x4096 : Shape := ⟨2, ![16384, 4096]⟩
abbrev S2x8192x4096 : Shape := ⟨3, ![2, 8192, 4096]⟩
abbrev S1x2x24576 : Shape := ⟨3, ![1, 2, 24576]⟩
abbrev S2x24576 : Shape := ⟨2, ![2, 24576]⟩
abbrev S2x1x24576 : Shape := ⟨3, ![2, 1, 24576]⟩
abbrev S2x1x4096 : Shape := ⟨3, ![2, 1, 4096]⟩
abbrev S1x1x24576 : Shape := ⟨3, ![1, 1, 24576]⟩
abbrev S24576 : Shape := ⟨1, ![24576]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x256 : Shape := ⟨2, ![2, 256]⟩
abbrev S2x256x1 : Shape := ⟨3, ![2, 256, 1]⟩

abbrev nBuf : Space → Nat
  | .hbm => 124
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S16896x4096, .f32⟩
  | .hbm, ⟨2, _⟩ => ⟨S2x8x24576, .f32⟩
  | .hbm, ⟨3, _⟩ => ⟨S4096, .f32⟩
  | .hbm, ⟨4, _⟩ => ⟨S4096, .f32⟩
  | .hbm, ⟨5, _⟩ => ⟨S512x4096, .f32⟩
  | .hbm, ⟨6, _⟩ => ⟨S2x256x4096, .f32⟩
  | .hbm, ⟨7, _⟩ => ⟨S16384x4096, .f32⟩
  | .hbm, ⟨8, _⟩ => ⟨S2x8192x4096, .f32⟩
  | .hbm, ⟨9, _⟩ => ⟨S1x2x24576, .f32⟩
  | .hbm, ⟨10, _⟩ => ⟨S2x24576, .f32⟩
  | .hbm, ⟨11, _⟩ => ⟨S2x1x24576, .f32⟩
  | .hbm, ⟨12, _⟩ => ⟨S2x1x4096, .f32⟩
  | .hbm, ⟨13, _⟩ => ⟨S2x1x4096, .f32⟩
  | .hbm, ⟨14, _⟩ => ⟨S2x1x4096, .f32⟩
  | .hbm, ⟨15, _⟩ => ⟨S2x1x4096, .f32⟩
  | .hbm, ⟨16, _⟩ => ⟨S2x1x4096, .f32⟩
  | .hbm, ⟨17, _⟩ => ⟨S2x1x4096, .f32⟩
  | .hbm, ⟨18, _⟩ => ⟨S1x1x24576, .f32⟩
  | .hbm, ⟨19, _⟩ => ⟨S24576, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S512x4096, .f32⟩
  | .hbm, ⟨27, _⟩ => ⟨S2x256x4096, .f32⟩
  | .hbm, ⟨28, _⟩ => ⟨S16384x4096, .f32⟩
  | .hbm, ⟨29, _⟩ => ⟨S2x8192x4096, .f32⟩
  | .hbm, ⟨30, _⟩ => ⟨S_, .f32⟩
  | .hbm, ⟨31, _⟩ => ⟨S2x8192x4096, .f32⟩
  | .hbm, ⟨32, _⟩ => ⟨S2x8192x4096, .f32⟩
  | .hbm, ⟨33, _⟩ => ⟨S2x8192x4096, .f32⟩
  | .hbm, ⟨34, _⟩ => ⟨S2x8192x4096, .f32⟩
  | .hbm, ⟨35, _⟩ => ⟨S2x8192x4096, .f32⟩
  | .hbm, ⟨36, _⟩ => ⟨S_, .f32⟩
  | .hbm, ⟨37, _⟩ => ⟨S2x8192, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S2x8192x4096, .f32⟩
  | .hbm, ⟨43, _⟩ => ⟨S2x8192x4096, .f32⟩
  | .hbm, ⟨44, _⟩ => ⟨S2x8192x4096, .f32⟩
  | .hbm, ⟨45, _⟩ => ⟨S_, .f32⟩
  | .hbm, ⟨46, _⟩ => ⟨S2x8192, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S2x8192x4096, .f32⟩
  | .hbm, ⟨52, _⟩ => ⟨S2x8192x4096, .f32⟩
  | .hbm, ⟨53, _⟩ => ⟨S_, .f32⟩
  | .hbm, ⟨54, _⟩ => ⟨S2x8192x1, .f32⟩
  | .hbm, ⟨55, _⟩ => ⟨S2x8192x1, .f32⟩
  | .hbm, ⟨56, _⟩ => ⟨S2x8192x1, .f32⟩
  | .hbm, ⟨57, _⟩ => ⟨S2x8192x4096, .f32⟩
  | .hbm, ⟨58, _⟩ => ⟨S2x8192x4096, .f32⟩
  | .hbm, ⟨59, _⟩ => ⟨S1x1x4096, .f32⟩
  | .hbm, ⟨60, _⟩ => ⟨S2x8192x4096, .f32⟩
  | .hbm, ⟨61, _⟩ => ⟨S2x8192x4096, .f32⟩
  | .hbm, ⟨62, _⟩ => ⟨S1x1x4096, .f32⟩
  | .hbm, ⟨63, _⟩ => ⟨S2x8192x4096, .f32⟩
  | .hbm, ⟨64, _⟩ => ⟨S2x8192x4096, .f32⟩
  | .hbm, ⟨65, _⟩ => ⟨S_, .f32⟩
  | .hbm, ⟨66, _⟩ => ⟨S2x256x4096, .f32⟩
  | .hbm, ⟨67, _⟩ => ⟨S2x256x4096, .f32⟩
  | .hbm, ⟨68, _⟩ => ⟨S1x1x4096, .f32⟩
  | .hbm, ⟨69, _⟩ => ⟨S2x256x4096, .f32⟩
  | .hbm, ⟨70, _⟩ => ⟨S2x256x4096, .f32⟩
  | .hbm, ⟨71, _⟩ => ⟨S2x256x4096, .f32⟩
  | .hbm, ⟨72, _⟩ => ⟨S_, .f32⟩
  | .hbm, ⟨73, _⟩ => ⟨S2x256, .f32⟩
  | .hbm, ⟨74, _⟩ => ⟨S2x256x1, .f32⟩
  | .hbm, ⟨75, _⟩ => ⟨S_, .f32⟩
  | .hbm, ⟨76, _⟩ => ⟨S2x256x1, .f32⟩
  | .hbm, ⟨77, _⟩ => ⟨S2x256x1, .f32⟩
  | .hbm, ⟨78, _⟩ => ⟨S2x256x4096, .f32⟩
  | .hbm, ⟨79, _⟩ => ⟨S2x256x4096, .f32⟩
  | .hbm, ⟨80, _⟩ => ⟨S2x256x4096, .f32⟩
  | .hbm, ⟨81, _⟩ => ⟨S_, .f32⟩
  | .hbm, ⟨82, _⟩ => ⟨S2x256, .f32⟩
  | .hbm, ⟨83, _⟩ => ⟨S2x256x1, .f32⟩
  | .hbm, ⟨84, _⟩ => ⟨S_, .f32⟩
  | .hbm, ⟨85, _⟩ => ⟨S2x256x1, .f32⟩
  | .hbm, ⟨86, _⟩ => ⟨S2x256x1, .f32⟩
  | .hbm, ⟨87, _⟩ => ⟨S2x256x4096, .f32⟩
  | .hbm, ⟨88, _⟩ => ⟨S2x256x4096, .f32⟩
  | .hbm, ⟨89, _⟩ => ⟨S_, .f32⟩
  | .hbm, ⟨90, _⟩ => ⟨S2x256x1, .f32⟩
  | .hbm, ⟨91, _⟩ => ⟨S2x256x1, .f32⟩
  | .hbm, ⟨92, _⟩ => ⟨S2x256x1, .f32⟩
  | .hbm, ⟨93, _⟩ => ⟨S2x256x4096, .f32⟩
  | .hbm, ⟨94, _⟩ => ⟨S2x256x4096, .f32⟩
  | .hbm, ⟨95, _⟩ => ⟨S1x1x4096, .f32⟩
  | .hbm, ⟨96, _⟩ => ⟨S2x256x4096, .f32⟩
  | .hbm, ⟨97, _⟩ => ⟨S2x256x4096, .f32⟩
  | .hbm, ⟨98, _⟩ => ⟨S1x1x4096, .f32⟩
  | .hbm, ⟨99, _⟩ => ⟨S2x256x4096, .f32⟩
  | .hbm, ⟨100, _⟩ => ⟨S2x256x4096, .f32⟩
  | .hbm, ⟨101, _⟩ => ⟨S_, .f32⟩
  | .hbm, ⟨102, _⟩ => ⟨S2x1x4096, .f32⟩
  | .hbm, ⟨103, _⟩ => ⟨S2x1x4096, .f32⟩
  | .hbm, ⟨104, _⟩ => ⟨S2x8192x4096, .f32⟩
  | .hbm, ⟨105, _⟩ => ⟨S2x8192x4096, .f32⟩
  | .hbm, ⟨106, _⟩ => ⟨S2x8192x4096, .f32⟩
  | .hbm, ⟨107, _⟩ => ⟨S2x8192x4096, .f32⟩
  | .hbm, ⟨108, _⟩ => ⟨S_, .f32⟩
  | .hbm, ⟨109, _⟩ => ⟨S4096, .f32⟩
  | .hbm, ⟨110, _⟩ => ⟨S4096, .f32⟩
  | .hbm, ⟨111, _⟩ => ⟨S1x1x4096, .f32⟩
  | .hbm, ⟨112, _⟩ => ⟨S2x256x4096, .f32⟩
  | .hbm, ⟨113, _⟩ => ⟨S2x256x4096, .f32⟩
  | .hbm, ⟨114, _⟩ => ⟨S1x1x4096, .f32⟩
  | .hbm, ⟨115, _⟩ => ⟨S2x256x4096, .f32⟩
  | .hbm, ⟨116, _⟩ => ⟨S2x256x4096, .f32⟩
  | .hbm, ⟨117, _⟩ => ⟨S512x4096, .f32⟩
  | .hbm, ⟨118, _⟩ => ⟨S16384x4096, .f32⟩
  | .hbm, ⟨119, _⟩ => ⟨S16896x4096, .f32⟩
  | .hbm, ⟨120, _⟩ => ⟨S512x4096, .f32⟩
  | .hbm, ⟨121, _⟩ => ⟨S16384x4096, .f32⟩
  | .hbm, ⟨122, _⟩ => ⟨S16896x4096, .f32⟩
  | .hbm, ⟨123, _⟩ => ⟨S16896x4096, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_0 : Ref sig .tc := ⟨.hbm, 36, rfl⟩
abbrev main_v30 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_6 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_8 : Ref sig .tc := ⟨.hbm, 81, rfl⟩
abbrev main_v67 : Ref sig .tc := ⟨.hbm, 82, rfl⟩
abbrev main_v68 : Ref sig .tc := ⟨.hbm, 83, rfl⟩
abbrev main_cst_9 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_10 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_11 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_12 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩

abbrev nD : Nat := 1
abbrev τ : Topo := Topo.v7x

variable {F : FTy → Type} [FloatOps F]
-- ==== Proof.Finite.lean ====
module

public import Mathlib.Data.EReal.Basic
public import Idealize.ShloMosaic.Lib.IdealHost
public import Idealize.ShloMosaic.Lib.ReduceAll
public import Idealize.ShloMosaic.Lib.Pointwise.Index

/-!
What "every element is finite" says of an array of extended reals: each element is a real number, and the array is
then a function of natural indices.
-/

@[expose] public section

noncomputable section

open Idealize.ShloMosaic

namespace Cert.Proof.Ret

/-- An extended real whose absolute value is below plus infinity is a real number. -/
theorem real_of_abs_lt {x : EReal} (h : BitVec.ofBool (decide (max x (-x) < ⊤)) = 1#1) : ∃ y : ℝ, x = (y : EReal) := by
  have h' : max x (-x) < ⊤ := by
    by_contra hc
    rw [decide_eq_false hc] at h
    exact absurd h (by decide)
  induction x using EReal.rec with
  | bot => exact absurd h' (by simp)
  | top => exact absurd h' (by simp)
  | coe y => exact ⟨y, rfl⟩

/-- Plus infinity's bits. -/
theorem f_top : Ideal.ofBits .f32 0x7F800000#32 = ⊤ := by simp [Ideal.ofBits, Ideal.ieee]

/-- An array all of whose elements are found finite holds real numbers. -/
theorem finite_of_all {s t : Shape} {axes : List (Fin s.rank)} [Subsingleton t.Idx] (x : Vec Ideal s .f32)
    (hb : (⟨0, ![]⟩ : Shape).BroadcastsInDim s (![] : Fin 0 → Fin s.rank)) (init : (⟨0, ![]⟩ : Shape).Idx → BitVec 1)
    (hr : s.ReducesTo axes t) (hu : 0 < (⟨0, ![]⟩ : Shape).numel) (j : t.Idx)
    (e : Host.reduce IntOp.andi (cmpf (F := Ideal) (φ := .f32) .olt (Host.absf (F := Ideal) (φ := .f32) x)
      (broadcastInDim s ![] hb (constant (F := Ideal) ⟨0, ![]⟩ .f32 0x7F800000#32))) init hr hu j = 1#1) (i : s.Idx) :
    ∃ a : ℝ, x i = (a : EReal) := by
  have h := Host.reduce_andi_all _ _ hr hu j e i
  refine real_of_abs_lt ?_
  rw [← f_top]
  exact h

/-- Two conditions that hold together hold each. -/
theorem andi_one {s : Shape} {x y : IVec s 1} {i : s.Idx} (h : andi x y i = 1#1) : x i = 1#1 ∧ y i = 1#1 := by
  have h' : IntOp.andi (x i) (y i) = 1#1 := h
  revert h'
  generalize x i = a
  generalize y i = b
  revert a b
  decide

/-- A finite matrix as a function of natural numbers. -/
theorem exists_real2 {n0 n1 : ℕ} (x : Vec Ideal ⟨2, ![n0, n1]⟩ .f32) (h : ∀ i, ∃ a : ℝ, x i = (a : EReal)) :
    ∃ f : ℕ → ℕ → ℝ, ∀ (r : Fin n0) (k : Fin n1), x (ix2 r k) = (f r.val k.val : EReal) := by
  choose g hg using h
  refine ⟨fun r k => if hr : r < n0 then if hk : k < n1 then g (ix2 ⟨r, hr⟩ ⟨k, hk⟩) else 0 else 0, fun r k => ?_⟩
  rw [hg]
  simp only [r.isLt, k.isLt, dif_pos]

end Cert.Proof.Ret

end
-- ==== Proof.FwdOpen.lean ====
module

public import proofs.«01_k».proof.Proof.Gen.FwdIdeal.Value
public import Idealize.ShloMosaic.Lib.WritesUnit
public import Idealize.ShloMosaic.Lib.Pointwise.Tactic

/-!
What one grid point of the forward retention kernel leaves behind, head by head: each head's 256 columns of the
output block and each head's state are the same two functions (`headOut`, `headState`) of that head's columns of the
query, key and value blocks, of the position tables, of the head's decay rate and of the state before the point.
-/

@[expose] public section

set_option maxRecDepth 16384

noncomputable section

open Idealize.ShloMosaic Idealize.ShloMosaic.TcCoe Idealize.SL.Sem
open Idealize.ShloMosaic.Pipeline (Dat)

namespace Cert.FwdIdeal.Open

open Cert.FwdIdeal Cert.FwdIdeal.Gen

variable {F : FTy → Type} [FloatOps F]

theorem hz : (![0, 0] : Fin 2 → Nat) = fun _ => 0 := funext fun a => by fin_cases a <;> rfl

/-- Head `hh`'s 256 columns of a block of four heads. -/
def colsOf (hh : Fin 4) (x : Vec F S256x1024 .f32) : Vec F S256x256 .f32 :=
  fun j => x (ix2 (j 0) ⟨256 * hh.val + (j 1).val, by have := hh.isLt; have h : (j 1).val < 256 := (j 1).isLt; omega⟩)

/-- Head `hh`'s row of the decay rates. -/
def rateOf (hh : Fin 4) (x : Vec F S4x1x128 .f32) : Vec F S1x1x128 .f32 :=
  fun j => x (ix3 hh 0 (j 2))

/-- Queries and keys of one head, turned by their positions; the keys are also scaled. -/
def headQ (cs sn : Vec F S256x128 .f32) (x : Vec F S256x256 .f32) : Vec F S256x256 .f32 :=
  k0_pay20 (k0_pay13 cs) (k0_pay14 sn) x
def headK (cs sn : Vec F S256x128 .f32) (x : Vec F S256x256 .f32) : Vec F S256x256 .f32 :=
  k0_pay28 (k0_pay13 cs) (k0_pay14 sn) x

/-- One head's output rows: the decayed attention within the block, and the state read by the queries. -/
def headOut (cs sn : Vec F S256x128 .f32) (rt : Vec F S1x1x128 .f32) (q k v s : Vec F S256x256 .f32) :
    Vec F S256x256 .f32 :=
  k0_pay39 k0_pay11 (k0_pay15 rt) (headQ cs sn q) v s
    (k0_pay33 k0_pay8 k0_pay9 (k0_pay15 rt) (headQ cs sn q) (headK cs sn k))

/-- One head's state after the block. -/
def headState (cs sn : Vec F S256x128 .f32) (rt : Vec F S1x1x128 .f32) (k v s : Vec F S256x256 .f32) :
    Vec F S256x256 .f32 :=
  k0_pay45 k0_pay12 (k0_pay15 rt) (headK cs sn k) v s

/-- The state before the first block. -/
def zeroState : Vec F S256x256 .f32 := k0_pay3

theorem ld_cols0 (x : Vec F S256x1024 .f32) :
    View.ld x (Rect.unit ![0, 0] ![256, 256] inb_S256x1024_S256x256_0_0) = colsOf 0 x :=
  funext fun j => congrArg x (funext fun a => Fin.ext (by
    fin_cases a
    · show 0 + 1 * (j 0).val = (j 0).val; omega
    · show 0 + 1 * (j 1).val = 256 * 0 + (j 1).val; omega))
theorem ld_rate0 (x : Vec F S4x1x128 .f32) :
    View.ld x (Rect.unit ![0, 0, 0] ![1, 1, 128] inb_S4x1x128_S1x1x128_0_0_0) = rateOf 0 x :=
  funext fun j => congrArg x (funext fun a => Fin.ext (by
    have h0 : (j 0).val < 1 := (j 0).isLt
    have h1 : (j 1).val < 1 := (j 1).isLt
    fin_cases a
    · show 0 + 1 * (j 0).val = 0; omega
    · show 0 + 1 * (j 1).val = 0; omega
    · show 0 + 1 * (j 2).val = (j 2).val; omega))
theorem ld_cols1 (x : Vec F S256x1024 .f32) :
    View.ld x (Rect.unit ![0, 256] ![256, 256] inb_S256x1024_S256x256_0_256) = colsOf 1 x :=
  funext fun j => congrArg x (funext fun a => Fin.ext (by
    fin_cases a
    · show 0 + 1 * (j 0).val = (j 0).val; omega
    · show 256 + 1 * (j 1).val = 256 * 1 + (j 1).val; omega))
theorem ld_rate1 (x : Vec F S4x1x128 .f32) :
    View.ld x (Rect.unit ![1, 0, 0] ![1, 1, 128] inb_S4x1x128_S1x1x128_1_0_0) = rateOf 1 x :=
  funext fun j => congrArg x (funext fun a => Fin.ext (by
    have h0 : (j 0).val < 1 := (j 0).isLt
    have h1 : (j 1).val < 1 := (j 1).isLt
    fin_cases a
    · show 1 + 1 * (j 0).val = 1; omega
    · show 0 + 1 * (j 1).val = 0; omega
    · show 0 + 1 * (j 2).val = (j 2).val; omega))
theorem ld_cols2 (x : Vec F S256x1024 .f32) :
    View.ld x (Rect.unit ![0, 512] ![256, 256] inb_S256x1024_S256x256_0_512) = colsOf 2 x :=
  funext fun j => congrArg x (funext fun a => Fin.ext (by
    fin_cases a
    · show 0 + 1 * (j 0).val = (j 0).val; omega
    · show 512 + 1 * (j 1).val = 256 * 2 + (j 1).val; omega))
theorem ld_rate2 (x : Vec F S4x1x128 .f32) :
    View.ld x (Rect.unit ![2, 0, 0] ![1, 1, 128] inb_S4x1x128_S1x1x128_2_0_0) = rateOf 2 x :=
  funext fun j => congrArg x (funext fun a => Fin.ext (by
    have h0 : (j 0).val < 1 := (j 0).isLt
    have h1 : (j 1).val < 1 := (j 1).isLt
    fin_cases a
    · show 2 + 1 * (j 0).val = 2; omega
    · show 0 + 1 * (j 1).val = 0; omega
    · show 0 + 1 * (j 2).val = (j 2).val; omega))
theorem ld_cols3 (x : Vec F S256x1024 .f32) :
    View.ld x (Rect.unit ![0, 768] ![256, 256] inb_S256x1024_S256x256_0_768) = colsOf 3 x :=
  funext fun j => congrArg x (funext fun a => Fin.ext (by
    fin_cases a
    · show 0 + 1 * (j 0).val = (j 0).val; omega
    · show 768 + 1 * (j 1).val = 256 * 3 + (j 1).val; omega))
theorem ld_rate3 (x : Vec F S4x1x128 .f32) :
    View.ld x (Rect.unit ![3, 0, 0] ![1, 1, 128] inb_S4x1x128_S1x1x128_3_0_0) = rateOf 3 x :=
  funext fun j => congrArg x (funext fun a => Fin.ext (by
    have h0 : (j 0).val < 1 := (j 0).isLt
    have h1 : (j 1).val < 1 := (j 1).isLt
    fin_cases a
    · show 3 + 1 * (j 0).val = 3; omega
    · show 0 + 1 * (j 1).val = 0; omega
    · show 0 + 1 * (j 2).val = (j 2).val; omega))
variable (m : (ℓ : Loc nD τ sig) → Buf (Elt F) ℓ) (c : Dev nD) (i : grid0.Coords)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S256x128 .f32) (harg6 : arg6.IsWhole)
  (arg7 : Memref sig .tc .vmem S256x128 .f32) (harg7 : arg7.IsWhole)
  (arg8 : Memref sig .tc .vmem S4x1x128 .f32) (harg8 : arg8.IsWhole)
  (arg9 : Memref sig .tc .vmem S256x1024 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S256x256 .f32) (harg12 : arg12.IsWhole)
  (arg13 : Memref sig .tc .vmem S256x256 .f32) (harg13 : arg13.IsWhole)
  (x0 x1 x2 : Vec F S256x1024 .f32) (x3 x4 : Vec F S256x128 .f32) (x5 : Vec F S4x1x128 .f32) (xs0 xs1 xs2 xs3 : Vec F S256x256 .f32)

/-- At a first point, the state of head 0. -/
theorem stateA0 (hc0 : cond0_0 i) :
    sout0_A_0 c i arg3 harg3 arg4 harg4 arg5 harg5 arg6 harg6 arg7 harg7 arg8 harg8 arg9 harg9 arg10 harg10 arg11 harg11 arg12 harg12 arg13 harg13 hc0 x0 x1 x2 x3 x4 x5
      = headState x3 x4 (rateOf 0 x5) (colsOf 0 x1) (colsOf 0 x2) zeroState := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 x0 x1 x2 x3 x4 x5 )]
  unfold kernelRun0_A
  dsimp only
  sl_unfold_words
  rw [View.canon_cons_unit_zero (S := S256x256) hz]
  simp only [View.readAt_eq_ld, harg3.read_unread, harg4.read_unread, harg5.read_unread, harg6.read_unread, harg7.read_unread, harg8.read_unread, harg9.read_unread, harg10.read_unread, harg11.read_unread, harg12.read_unread, harg13.read_unread,
    View.ld_unit_zero (S := S256x256) hz, View.ld_unit_zero (S := S256x128) hz, View.readCov_unit_zero (S := S256x256) _ hz,
    ld_cols0, ld_rate0, ld_cols1, ld_rate1, ld_cols2, ld_rate2, ld_cols3, ld_rate3]
  rfl

/-- At a first point, head 0's columns of the output block. -/
theorem outA0 (hc0 : cond0_0 i) (r e : Fin 256) :
    out0_A_6 c i arg3 harg3 arg4 harg4 arg5 harg5 arg6 harg6 arg7 harg7 arg8 harg8 arg9 harg9 arg10 harg10 arg11 harg11 arg12 harg12 arg13 harg13 hc0 x0 x1 x2 x3 x4 x5  (ix2 r ⟨256 * 0 + e.val, by omega⟩)
      = headOut x3 x4 (rateOf 0 x5) (colsOf 0 x0) (colsOf 0 x1) (colsOf 0 x2) zeroState (ix2 r e) := by
  unfold out0_A_6 kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread,
    View.ld_unit_zero (S := S256x256) hz, View.ld_unit_zero (S := S256x128) hz, View.readCov_unit_zero (S := S256x256) _ hz,
    ld_cols0, ld_rate0, ld_cols1, ld_rate1, ld_cols2, ld_rate2, ld_cols3, ld_rate3]
  rw [View.read_writes_cons_unit_of_not_mem _ _ _ _ _ _ rfl 1 (Or.inl (show 256 * 0 + e.val < 768 by omega))]
  rw [View.read_writes_cons_unit_of_not_mem _ _ _ _ _ _ rfl 1 (Or.inl (show 256 * 0 + e.val < 512 by omega))]
  rw [View.read_writes_cons_unit_of_not_mem _ _ _ _ _ _ rfl 1 (Or.inl (show 256 * 0 + e.val < 256 by omega))]
  refine (View.read_writes_cons_unit_of_mem _ _ _ _ _ _ (ix2 r e) rfl (fun a => ?_)).trans rfl
  fin_cases a
  · show r.val = 0 + r.val; omega
  · show 256 * 0 + e.val = 0 + e.val; omega

/-- At a first point, the state of head 1. -/
theorem stateA1 (hc0 : cond0_0 i) :
    sout0_A_1 c i arg3 harg3 arg4 harg4 arg5 harg5 arg6 harg6 arg7 harg7 arg8 harg8 arg9 harg9 arg10 harg10 arg11 harg11 arg12 harg12 arg13 harg13 hc0 x0 x1 x2 x3 x4 x5
      = headState x3 x4 (rateOf 1 x5) (colsOf 1 x1) (colsOf 1 x2) zeroState := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 x0 x1 x2 x3 x4 x5 )]
  unfold kernelRun0_A
  dsimp only
  sl_unfold_words
  rw [View.canon_cons_unit_zero (S := S256x256) hz]
  simp only [View.readAt_eq_ld, harg3.read_unread, harg4.read_unread, harg5.read_unread, harg6.read_unread, harg7.read_unread, harg8.read_unread, harg9.read_unread, harg10.read_unread, harg11.read_unread, harg12.read_unread, harg13.read_unread,
    View.ld_unit_zero (S := S256x256) hz, View.ld_unit_zero (S := S256x128) hz, View.readCov_unit_zero (S := S256x256) _ hz,
    ld_cols0, ld_rate0, ld_cols1, ld_rate1, ld_cols2, ld_rate2, ld_cols3, ld_rate3]
  rfl

/-- At a first point, head 1's columns of the output block. -/
theorem outA1 (hc0 : cond0_0 i) (r e : Fin 256) :
    out0_A_6 c i arg3 harg3 arg4 harg4 arg5 harg5 arg6 harg6 arg7 harg7 arg8 harg8 arg9 harg9 arg10 harg10 arg11 harg11 arg12 harg12 arg13 harg13 hc0 x0 x1 x2 x3 x4 x5  (ix2 r ⟨256 * 1 + e.val, by omega⟩)
      = headOut x3 x4 (rateOf 1 x5) (colsOf 1 x0) (colsOf 1 x1) (colsOf 1 x2) zeroState (ix2 r e) := by
  unfold out0_A_6 kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread,
    View.ld_unit_zero (S := S256x256) hz, View.ld_unit_zero (S := S256x128) hz, View.readCov_unit_zero (S := S256x256) _ hz,
    ld_cols0, ld_rate0, ld_cols1, ld_rate1, ld_cols2, ld_rate2, ld_cols3, ld_rate3]
  rw [View.read_writes_cons_unit_of_not_mem _ _ _ _ _ _ rfl 1 (Or.inl (show 256 * 1 + e.val < 768 by omega))]
  rw [View.read_writes_cons_unit_of_not_mem _ _ _ _ _ _ rfl 1 (Or.inl (show 256 * 1 + e.val < 512 by omega))]
  refine (View.read_writes_cons_unit_of_mem _ _ _ _ _ _ (ix2 r e) rfl (fun a => ?_)).trans rfl
  fin_cases a
  · show r.val = 0 + r.val; omega
  · show 256 * 1 + e.val = 256 + e.val; omega

/-- At a first point, the state of head 2. -/
theorem stateA2 (hc0 : cond0_0 i) :
    sout0_A_2 c i arg3 harg3 arg4 harg4 arg5 harg5 arg6 harg6 arg7 harg7 arg8 harg8 arg9 harg9 arg10 harg10 arg11 harg11 arg12 harg12 arg13 harg13 hc0 x0 x1 x2 x3 x4 x5
      = headState x3 x4 (rateOf 2 x5) (colsOf 2 x1) (colsOf 2 x2) zeroState := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 hc0 x0 x1 x2 x3 x4 x5 )]
  unfold kernelRun0_A
  dsimp only
  sl_unfold_words
  rw [View.canon_cons_unit_zero (S := S256x256) hz]
  simp only [View.readAt_eq_ld, harg3.read_unread, harg4.read_unread, harg5.read_unread, harg6.read_unread, harg7.read_unread, harg8.read_unread, harg9.read_unread, harg10.read_unread, harg11.read_unread, harg12.read_unread, harg13.read_unread,
    View.ld_unit_zero (S := S256x256) hz, View.ld_unit_zero (S := S256x128) hz, View.readCov_unit_zero (S := S256x256) _ hz,
    ld_cols0, ld_rate0, ld_cols1, ld_rate1, ld_cols2, ld_rate2, ld_cols3, ld_rate3]
  rfl

/-- At a first point, head 2's columns of the output block. -/
theorem outA2 (hc0 : cond0_0 i) (r e : Fin 256) :
    out0_A_6 c i arg3 harg3 arg4 harg4 arg5 harg5 arg6 harg6 arg7 harg7 arg8 harg8 arg9 harg9 arg10 harg10 arg11 harg11 arg12 harg12 arg13 harg13 hc0 x0 x1 x2 x3 x4 x5  (ix2 r ⟨256 * 2 + e.val, by omega⟩)
      = headOut x3 x4 (rateOf 2 x5) (colsOf 2 x0) (colsOf 2 x1) (colsOf 2 x2) zeroState (ix2 r e) := by
  unfold out0_A_6 kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread,
    View.ld_unit_zero (S := S256x256) hz, View.ld_unit_zero (S := S256x128) hz, View.readCov_unit_zero (S := S256x256) _ hz,
    ld_cols0, ld_rate0, ld_cols1, ld_rate1, ld_cols2, ld_rate2, ld_cols3, ld_rate3]
  rw [View.read_writes_cons_unit_of_not_mem _ _ _ _ _ _ rfl 1 (Or.inl (show 256 * 2 + e.val < 768 by omega))]
  refine (View.read_writes_cons_unit_of_mem _ _ _ _ _ _ (ix2 r e) rfl (fun a => ?_)).trans rfl
  fin_cases a
  · show r.val = 0 + r.val; omega
  · show 256 * 2 + e.val = 512 + e.val; omega

/-- At a first point, the state of head 3. -/
theorem stateA3 (hc0 : cond0_0 i) :
    sout0_A_3 c i arg3 harg3 arg4 harg4 arg5 harg5 arg6 harg6 arg7 harg7 arg8 harg8 arg9 harg9 arg10 harg10 arg11 harg11 arg12 harg12 arg13 harg13 hc0 x0 x1 x2 x3 x4 x5
      = headState x3 x4 (rateOf 3 x5) (colsOf 3 x1) (colsOf 3 x2) zeroState := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 hc0 x0 x1 x2 x3 x4 x5 )]
  unfold kernelRun0_A
  dsimp only
  sl_unfold_words
  rw [View.canon_cons_unit_zero (S := S256x256) hz]
  simp only [View.readAt_eq_ld, harg3.read_unread, harg4.read_unread, harg5.read_unread, harg6.read_unread, harg7.read_unread, harg8.read_unread, harg9.read_unread, harg10.read_unread, harg11.read_unread, harg12.read_unread, harg13.read_unread,
    View.ld_unit_zero (S := S256x256) hz, View.ld_unit_zero (S := S256x128) hz, View.readCov_unit_zero (S := S256x256) _ hz,
    ld_cols0, ld_rate0, ld_cols1, ld_rate1, ld_cols2, ld_rate2, ld_cols3, ld_rate3]
  rfl

/-- At a first point, head 3's columns of the output block. -/
theorem outA3 (hc0 : cond0_0 i) (r e : Fin 256) :
    out0_A_6 c i arg3 harg3 arg4 harg4 arg5 harg5 arg6 harg6 arg7 harg7 arg8 harg8 arg9 harg9 arg10 harg10 arg11 harg11 arg12 harg12 arg13 harg13 hc0 x0 x1 x2 x3 x4 x5  (ix2 r ⟨256 * 3 + e.val, by omega⟩)
      = headOut x3 x4 (rateOf 3 x5) (colsOf 3 x0) (colsOf 3 x1) (colsOf 3 x2) zeroState (ix2 r e) := by
  unfold out0_A_6 kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread,
    View.ld_unit_zero (S := S256x256) hz, View.ld_unit_zero (S := S256x128) hz, View.readCov_unit_zero (S := S256x256) _ hz,
    ld_cols0, ld_rate0, ld_cols1, ld_rate1, ld_cols2, ld_rate2, ld_cols3, ld_rate3]
  refine (View.read_writes_cons_unit_of_mem _ _ _ _ _ _ (ix2 r e) rfl (fun a => ?_)).trans rfl
  fin_cases a
  · show r.val = 0 + r.val; omega
  · show 256 * 3 + e.val = 768 + e.val; omega

/-- At a later point, the state of head 0. -/
theorem stateB0 (hc0 : ¬cond0_0 i) :
    sout0_B_0 c i arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3
      = headState x3 x4 (rateOf 0 x5) (colsOf 0 x1) (colsOf 0 x2) xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread,
    View.ld_unit_zero (S := S256x256) hz, View.ld_unit_zero (S := S256x128) hz, View.readCov_unit_zero (S := S256x256) _ hz,
    ld_cols0, ld_rate0, ld_cols1, ld_rate1, ld_cols2, ld_rate2, ld_cols3, ld_rate3]
  rfl

/-- At a later point, head 0's columns of the output block. -/
theorem outB0 (hc0 : ¬cond0_0 i) (r e : Fin 256) :
    out0_B_6 c i arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3 (ix2 r ⟨256 * 0 + e.val, by omega⟩)
      = headOut x3 x4 (rateOf 0 x5) (colsOf 0 x0) (colsOf 0 x1) (colsOf 0 x2) xs0 (ix2 r e) := by
  unfold out0_B_6 kernelRun0_B
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread,
    View.ld_unit_zero (S := S256x256) hz, View.ld_unit_zero (S := S256x128) hz, View.readCov_unit_zero (S := S256x256) _ hz,
    ld_cols0, ld_rate0, ld_cols1, ld_rate1, ld_cols2, ld_rate2, ld_cols3, ld_rate3]
  rw [View.read_writes_cons_unit_of_not_mem _ _ _ _ _ _ rfl 1 (Or.inl (show 256 * 0 + e.val < 768 by omega))]
  rw [View.read_writes_cons_unit_of_not_mem _ _ _ _ _ _ rfl 1 (Or.inl (show 256 * 0 + e.val < 512 by omega))]
  rw [View.read_writes_cons_unit_of_not_mem _ _ _ _ _ _ rfl 1 (Or.inl (show 256 * 0 + e.val < 256 by omega))]
  refine (View.read_writes_cons_unit_of_mem _ _ _ _ _ _ (ix2 r e) rfl (fun a => ?_)).trans rfl
  fin_cases a
  · show r.val = 0 + r.val; omega
  · show 256 * 0 + e.val = 0 + e.val; omega

/-- At a later point, the state of head 1. -/
theorem stateB1 (hc0 : ¬cond0_0 i) :
    sout0_B_1 c i arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3
      = headState x3 x4 (rateOf 1 x5) (colsOf 1 x1) (colsOf 1 x2) xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread,
    View.ld_unit_zero (S := S256x256) hz, View.ld_unit_zero (S := S256x128) hz, View.readCov_unit_zero (S := S256x256) _ hz,
    ld_cols0, ld_rate0, ld_cols1, ld_rate1, ld_cols2, ld_rate2, ld_cols3, ld_rate3]
  rfl

/-- At a later point, head 1's columns of the output block. -/
theorem outB1 (hc0 : ¬cond0_0 i) (r e : Fin 256) :
    out0_B_6 c i arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3 (ix2 r ⟨256 * 1 + e.val, by omega⟩)
      = headOut x3 x4 (rateOf 1 x5) (colsOf 1 x0) (colsOf 1 x1) (colsOf 1 x2) xs1 (ix2 r e) := by
  unfold out0_B_6 kernelRun0_B
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread,
    View.ld_unit_zero (S := S256x256) hz, View.ld_unit_zero (S := S256x128) hz, View.readCov_unit_zero (S := S256x256) _ hz,
    ld_cols0, ld_rate0, ld_cols1, ld_rate1, ld_cols2, ld_rate2, ld_cols3, ld_rate3]
  rw [View.read_writes_cons_unit_of_not_mem _ _ _ _ _ _ rfl 1 (Or.inl (show 256 * 1 + e.val < 768 by omega))]
  rw [View.read_writes_cons_unit_of_not_mem _ _ _ _ _ _ rfl 1 (Or.inl (show 256 * 1 + e.val < 512 by omega))]
  refine (View.read_writes_cons_unit_of_mem _ _ _ _ _ _ (ix2 r e) rfl (fun a => ?_)).trans rfl
  fin_cases a
  · show r.val = 0 + r.val; omega
  · show 256 * 1 + e.val = 256 + e.val; omega

/-- At a later point, the state of head 2. -/
theorem stateB2 (hc0 : ¬cond0_0 i) :
    sout0_B_2 c i arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3
      = headState x3 x4 (rateOf 2 x5) (colsOf 2 x1) (colsOf 2 x2) xs2 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread,
    View.ld_unit_zero (S := S256x256) hz, View.ld_unit_zero (S := S256x128) hz, View.readCov_unit_zero (S := S256x256) _ hz,
    ld_cols0, ld_rate0, ld_cols1, ld_rate1, ld_cols2, ld_rate2, ld_cols3, ld_rate3]
  rfl

/-- At a later point, head 2's columns of the output block. -/
theorem outB2 (hc0 : ¬cond0_0 i) (r e : Fin 256) :
    out0_B_6 c i arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3 (ix2 r ⟨256 * 2 + e.val, by omega⟩)
      = headOut x3 x4 (rateOf 2 x5) (colsOf 2 x0) (colsOf 2 x1) (colsOf 2 x2) xs2 (ix2 r e) := by
  unfold out0_B_6 kernelRun0_B
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread,
    View.ld_unit_zero (S := S256x256) hz, View.ld_unit_zero (S := S256x128) hz, View.readCov_unit_zero (S := S256x256) _ hz,
    ld_cols0, ld_rate0, ld_cols1, ld_rate1, ld_cols2, ld_rate2, ld_cols3, ld_rate3]
  rw [View.read_writes_cons_unit_of_not_mem _ _ _ _ _ _ rfl 1 (Or.inl (show 256 * 2 + e.val < 768 by omega))]
  refine (View.read_writes_cons_unit_of_mem _ _ _ _ _ _ (ix2 r e) rfl (fun a => ?_)).trans rfl
  fin_cases a
  · show r.val = 0 + r.val; omega
  · show 256 * 2 + e.val = 512 + e.val; omega

/-- At a later point, the state of head 3. -/
theorem stateB3 (hc0 : ¬cond0_0 i) :
    sout0_B_3 c i arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3
      = headState x3 x4 (rateOf 3 x5) (colsOf 3 x1) (colsOf 3 x2) xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread,
    View.ld_unit_zero (S := S256x256) hz, View.ld_unit_zero (S := S256x128) hz, View.readCov_unit_zero (S := S256x256) _ hz,
    ld_cols0, ld_rate0, ld_cols1, ld_rate1, ld_cols2, ld_rate2, ld_cols3, ld_rate3]
  rfl

/-- At a later point, head 3's columns of the output block. -/
theorem outB3 (hc0 : ¬cond0_0 i) (r e : Fin 256) :
    out0_B_6 c i arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3 (ix2 r ⟨256 * 3 + e.val, by omega⟩)
      = headOut x3 x4 (rateOf 3 x5) (colsOf 3 x0) (colsOf 3 x1) (colsOf 3 x2) xs3 (ix2 r e) := by
  unfold out0_B_6 kernelRun0_B
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread,
    View.ld_unit_zero (S := S256x256) hz, View.ld_unit_zero (S := S256x128) hz, View.readCov_unit_zero (S := S256x256) _ hz,
    ld_cols0, ld_rate0, ld_cols1, ld_rate1, ld_cols2, ld_rate2, ld_cols3, ld_rate3]
  refine (View.read_writes_cons_unit_of_mem _ _ _ _ _ _ (ix2 r e) rfl (fun a => ?_)).trans rfl
  fin_cases a
  · show r.val = 0 + r.val; omega
  · show 256 * 3 + e.val = 768 + e.val; omega

end Cert.FwdIdeal.Open
-- ==== Proof.RetMath.lean ====
/-
  The retention recurrence over the reals: a state that decays by `exp lg` at every token and takes in the token's outer
  product `k ⊗ v`, read by the token's query. Written in closed form here (`St`, `Out`), together with the two identities
  that let a program go through the tokens in chunks of any size: the state after a chunk from the state before it
  (`St_chunk`), and the chunk's outputs from its own tokens and that state (`Out_chunk`).
-/
module

public import Mathlib.Analysis.SpecialFunctions.Pow.Real
public import Mathlib.Analysis.SpecialFunctions.Exp
public import Mathlib.Data.EReal.Operations
public import Mathlib.Algebra.BigOperators.Fin
public import Mathlib.Tactic.Ring
public import Mathlib.Tactic.Linarith

@[expose] public section

noncomputable section

namespace Cert.Proof.Ret

open Finset

/-- The state after the first `n` tokens: each token's `k ⊗ v`, decayed once for every token since. -/
def St (k v : ℕ → Fin 256 → ℝ) (lg : ℝ) (n : ℕ) (d e : Fin 256) : ℝ :=
  ∑ m ∈ range n, (k m d * Real.exp (lg * ((n : ℝ) - 1 - m))) * v m e

/-- Token `n`'s output: its query against every token up to itself, decayed by their distance. -/
def Out (q k v : ℕ → Fin 256 → ℝ) (lg : ℝ) (n : ℕ) (e : Fin 256) : ℝ :=
  ∑ m ∈ range (n + 1), ((∑ d : Fin 256, q n d * k m d) * Real.exp (lg * ((n : ℝ) - m))) * v m e

/-- No token has been taken in at the start. -/
theorem St_zero (k v : ℕ → Fin 256 → ℝ) (lg : ℝ) (d e : Fin 256) : St k v lg 0 d e = 0 := by simp [St]

/-- The state after `C` further tokens. -/
theorem St_chunk (k v : ℕ → Fin 256 → ℝ) (lg : ℝ) (C n : ℕ) (d e : Fin 256) :
    St k v lg n d e * Real.exp (lg * C) + ∑ j : Fin C, (k (n + j) d * Real.exp (lg * ((C : ℝ) - 1 - j))) * v (n + j) e
      = St k v lg (n + C) d e := by
  unfold St
  rw [Finset.sum_range_add, Finset.sum_mul, ← Fin.sum_univ_eq_sum_range
    (fun j => (k (n + j) d * Real.exp (lg * (((n + C : ℕ) : ℝ) - 1 - ((n + j : ℕ) : ℝ)))) * v (n + j) e) C]
  refine congrArg₂ (· + ·) (Finset.sum_congr rfl fun m _ => ?_) (Finset.sum_congr rfl fun j _ => ?_)
  · have h : Real.exp (lg * (((n + C : ℕ) : ℝ) - 1 - m)) = Real.exp (lg * ((n : ℝ) - 1 - m)) * Real.exp (lg * C) := by
      rw [← Real.exp_add]; congr 1; push_cast; ring
    rw [h]; ring
  · congr 3; push_cast; ring

/-- A chunk's outputs: the tokens of the chunk against each other, and the state before the chunk. -/
theorem Out_chunk (q k v : ℕ → Fin 256 → ℝ) (lg : ℝ) (C n : ℕ) (i : Fin C) (e : Fin 256) :
    (∑ j : Fin C, ((∑ d : Fin 256, q (n + i) d * k (n + j) d)
        * (if (j : ℕ) ≤ i then Real.exp (lg * ((i : ℝ) - j)) else 0)) * v (n + j) e)
      + ∑ d : Fin 256, (q (n + i) d * Real.exp (lg * ((i : ℝ) + 1))) * St k v lg n d e
      = Out q k v lg (n + i) e := by
  unfold Out St
  rw [show n + (i : ℕ) + 1 = n + (i + 1) by omega, Finset.sum_range_add, add_comm]
  refine congrArg₂ (· + ·) ?_ ?_
  · simp only [Finset.mul_sum, Finset.sum_mul]
    rw [Finset.sum_comm]
    refine Finset.sum_congr rfl fun m _ => Finset.sum_congr rfl fun d _ => ?_
    have h : Real.exp (lg * (((n + i : ℕ) : ℝ) - m)) = Real.exp (lg * ((i : ℝ) + 1)) * Real.exp (lg * ((n : ℝ) - 1 - m)) := by
      rw [← Real.exp_add]; congr 1; push_cast; ring
    rw [h]; ring
  · rw [Fin.sum_univ_eq_sum_range (fun j => ((∑ d : Fin 256, q (n + i) d * k (n + j) d)
        * (if j ≤ (i : ℕ) then Real.exp (lg * ((i : ℝ) - j)) else 0)) * v (n + j) e) C]
    have hs : range ((i : ℕ) + 1) ⊆ range C := by
      intro x hx; rw [mem_range] at hx ⊢; have := i.isLt; omega
    rw [← Finset.sum_subset hs (fun x _ hx => by
      have : ¬ x ≤ (i : ℕ) := fun h => hx (mem_range.mpr (by omega))
      simp [this])]
    refine Finset.sum_congr rfl fun j hj => ?_
    have hj' : j ≤ (i : ℕ) := by have := mem_range.mp hj; omega
    rw [if_pos hj']
    congr 3; push_cast; ring

/-- A finite sum of reals, read as extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- One vector turned by the angles whose cosines are `c` and whose sines are `s`: the first half of the coordinates
    are the real parts, the second half the imaginary ones. -/
def ropeR (x : Fin 256 → ℝ) (c s : Fin 128 → ℝ) (d : Fin 256) : ℝ :=
  if h : d.val < 128 then x d * c ⟨d.val, h⟩ - x ⟨d.val + 128, by omega⟩ * s ⟨d.val, h⟩
  else x ⟨d.val - 128, by omega⟩ * s ⟨d.val - 128, by omega⟩ + x d * c ⟨d.val - 128, by omega⟩

/-- The angle of coordinate `j` at position `n`. -/
def ang (n : ℕ) (j : Fin 128) : ℝ := (n : ℝ) * (10000 : ℝ) ^ (-(j.val : ℝ) / 128)
def cosT (n : ℕ) (j : Fin 128) : ℝ := Real.cos (ang n j)
def sinT (n : ℕ) (j : Fin 128) : ℝ := Real.sin (ang n j)

/-- The queries of a sequence, each turned at its position; the keys likewise, and scaled by one over the square root of
    the head's width. -/
def turnQ (pos : ℕ → ℕ) (x : ℕ → Fin 256 → ℝ) (n : ℕ) (d : Fin 256) : ℝ := ropeR (x n) (cosT (pos n)) (sinT (pos n)) d
def turnK (pos : ℕ → ℕ) (x : ℕ → Fin 256 → ℝ) (n : ℕ) (d : Fin 256) : ℝ := ropeR (x n) (cosT (pos n)) (sinT (pos n)) d * (1 / 16)

/-- The row of token `n` of sequence `b`: the contexts of both sequences come first, then their latents. -/
def rowTok (b n : ℕ) : ℕ := if n < 256 then 256 * b + n else 512 + 8192 * b + (n - 256)

theorem rowTok_lt {b n : ℕ} (hb : b < 2) (hn : n < 8448) : rowTok b n < 16896 := by
  unfold rowTok
  split <;> omega

/-- Every row is a token's. -/
theorem exists_tok {r : ℕ} (h : r < 16896) : ∃ b n, b < 2 ∧ n < 8448 ∧ rowTok b n = r := by
  by_cases h1 : r < 512
  · refine ⟨r / 256, r % 256, by omega, by omega, ?_⟩
    unfold rowTok
    rw [if_pos (by omega)]
    omega
  · refine ⟨(r - 512) / 8192, 256 + (r - 512) % 8192, by omega, by omega, ?_⟩
    unfold rowTok
    rw [if_neg (by omega)]
    omega

/-- Head `h` of the tokens of sequence `b`, taken in the order `ord`, in section `sec` of the projections. -/
def seqOf (ord : ℕ → ℕ) (pr : ℕ → ℕ → ℝ) (sec b h n : ℕ) (d : Fin 256) : ℝ :=
  pr (rowTok b (ord n)) (2048 * sec + 256 * h + d.val)

/-- The state of head `h` of sequence `b` before step `n`. -/
def retSt (ord : ℕ → ℕ) (pr : ℕ → ℕ → ℝ) (rr : ℕ → ℝ) (b h n : ℕ) (d e : Fin 256) : ℝ :=
  St (turnK ord (seqOf ord pr 1 b h)) (seqOf ord pr 2 b h) (-Real.exp (rr h)) n d e

/-- The retention of head `h` of sequence `b` at step `n`. -/
def retOut (ord : ℕ → ℕ) (pr : ℕ → ℕ → ℝ) (rr : ℕ → ℝ) (b h n : ℕ) (e : Fin 256) : ℝ :=
  Out (turnQ ord (seqOf ord pr 0 b h)) (turnK ord (seqOf ord pr 1 b h)) (seqOf ord pr 2 b h) (-Real.exp (rr h)) n e

end Cert.Proof.Ret

end
-- ==== Proof.Words.lean ====
module

public import Idealize.ShloMosaic.Lib.IdealHost
public import Idealize.ShloMosaic.Lib.ValueIdxCore

/-!
Integer words of small positions, read as integers, and the float constants of the kernels as real numbers.
-/

@[expose] public section

noncomputable section

open Idealize.ShloMosaic

namespace Cert.Proof.Ret

/-- A small position is its word read signed. -/
theorem toInt_small {r : ℕ} (h : r < 65536) : (BitVec.ofNat 32 r).toInt = (r : ℤ) := by
  rw [BitVec.toInt_ofNat']
  simp only [Int.bmod]
  omega

/-- The difference of two small positions. -/
theorem toInt_sub_small {r j : ℕ} (h : r < 65536) (hj : j < 65536) :
    (BitVec.ofNat 32 r - BitVec.ofNat 32 j).toInt = (r : ℤ) - j := by
  rw [BitVec.toInt_sub, toInt_small h, toInt_small hj]
  simp only [Int.bmod]
  omega

/-- The mask "not before". -/
theorem mask_ge {r j : ℕ} (h : r < 65536) (hj : j < 65536) :
    IntOp.cmpi .sge (IntOp.subi (BitVec.ofNat 32 r) (BitVec.ofNat 32 j)) 0#32 = if j ≤ r then 1#1 else 0#1 := by
  have e := toInt_sub_small h hj
  unfold IntOp.cmpi IntOp.subi
  by_cases hjr : j ≤ r <;> simp [BitVec.sle, e, hjr]

/-- The distance of a position from an earlier one. -/
theorem dist_ge {r j : ℕ} (h : r < 65536) (hj : j < 65536) (hjr : j ≤ r) :
    (IntOp.maxsi (IntOp.subi (BitVec.ofNat 32 r) (BitVec.ofNat 32 j)) 0#32).toInt = (r : ℤ) - j := by
  have e := toInt_sub_small h hj
  unfold IntOp.maxsi IntOp.subi
  by_cases hlt : j < r
  · simp [BitVec.slt, e, hlt]
  · have : j = r := by omega
    subst this
    simp [BitVec.slt]

theorem f256 : Ideal.ofBits .f32 0x43800000#32 = ((256 : ℝ) : EReal) := by
  simp [Ideal.ofBits, Ideal.ieee]; rw [← EReal.coe_mul]; norm_num
theorem f255 : Ideal.ofBits .f32 0x437F0000#32 = ((255 : ℝ) : EReal) := by
  simp [Ideal.ofBits, Ideal.ieee]; rw [← EReal.coe_mul]; norm_num
theorem f16th : Ideal.ofBits .f32 0x3D800000#32 = ((1 / 16 : ℝ) : EReal) := by
  simp [Ideal.ofBits, Ideal.ieee]; rw [← EReal.coe_mul]; norm_num
theorem f128 : Ideal.ofBits .f32 0x43000000#32 = ((128 : ℝ) : EReal) := by
  simp [Ideal.ofBits, Ideal.ieee]; rw [← EReal.coe_mul]; norm_num
theorem f10000 : Ideal.ofBits .f32 0x461C4000#32 = ((10000 : ℝ) : EReal) := by
  simp [Ideal.ofBits, Ideal.ieee]; rw [← EReal.coe_mul]; norm_num
theorem f64 : Ideal.ofBits .f32 0x42800000#32 = ((64 : ℝ) : EReal) := by
  simp [Ideal.ofBits, Ideal.ieee]; rw [← EReal.coe_mul]; norm_num
theorem f63 : Ideal.ofBits .f32 0x427C0000#32 = ((63 : ℝ) : EReal) := by
  simp [Ideal.ofBits, Ideal.ieee]; rw [← EReal.coe_mul]; norm_num
theorem f0 : Ideal.ofBits .f32 0x00000000#32 = 0 := by simp [Ideal.ofBits, Ideal.ieee]
theorem f1 : Ideal.ofBits .f32 0x3F800000#32 = ((1 : ℝ) : EReal) := by
  simp [Ideal.ofBits, Ideal.ieee]; rw [← EReal.coe_mul]; norm_num

/-- A word read as a float over the extended reals. -/
theorem sitofp_val {w : ℕ} (x : BitVec w) : (FloatOps.sitofp (F := Ideal) .f32 x : EReal) = ((x.toInt : ℝ) : EReal) := rfl

theorem exp_val (x : ℝ) : (FloatOps.exp (F := Ideal) (φ := .f32) (x : EReal) : EReal) = ((Real.exp x : ℝ) : EReal) := rfl

end Cert.Proof.Ret
-- ==== Proof.FwdHead.lean ====
module

public import proofs.«01_k».proof.Proof.FwdOpen
public import proofs.«01_k».proof.Proof.RetMath
public import proofs.«01_k».proof.Proof.Words
public import Idealize.ShloMosaic.Lib.Pointwise.Tactic
public import Idealize.ShloMosaic.Lib.Pointwise.Contract
public import Idealize.ShloMosaic.Lib.Pointwise.Reshape
public import Idealize.ShloMosaic.Lib.Pointwise.ShapeOps
public import Idealize.ShloMosaic.Lib.IdealHost
public import Idealize.ShloMosaic.Lib.MatmulPlain
public import Idealize.ShloMosaic.Lib.Pipeline.Value

/-!
The two head functions of the forward kernel over the extended reals, at finite arguments: each is the real
expression of the chunked retention (`Cert.Proof.Ret.Out_chunk`, `St_chunk`).
-/

@[expose] public section

set_option maxRecDepth 16384

noncomputable section

open Idealize.ShloMosaic Idealize.ShloMosaic.TcCoe Idealize.SL.Sem

namespace Cert.FwdIdeal.Open

open Cert.FwdIdeal Cert.FwdIdeal.Gen

open Cert.Proof.Ret

theorem expc (x : ℝ) : Ideal.exp (x : EReal) = ((Real.exp x : ℝ) : EReal) := rfl

/-- The decayed attention within a block. -/
theorem att_val (lg : Vec Ideal S1x1 .f32) (Q K : Vec Ideal S256x256 .f32) (l : ℝ) (q k : Fin 256 → Fin 256 → ℝ)
    (hl : lg (ix2 0 0) = (l : EReal)) (hq : ∀ r d, Q (ix2 r d) = (q r d : EReal)) (hk : ∀ r d, K (ix2 r d) = (k r d : EReal))
    (r j : Fin 256) :
    k0_pay33 (F := Ideal) k0_pay8 k0_pay9 lg Q K (ix2 r j)
      = (((∑ d, q r d * k j d) * (if j.val ≤ r.val then Real.exp (l * ((r.val : ℝ) - j.val)) else 0) : ℝ) : EReal) := by
  unfold k0_pay33 k0_pay8 k0_pay9 k0_pay7
  pointwise
  rw [mask_ge (by omega) (by omega), hl]
  simp only [hq, hk, ← EReal.coe_mul, coe_sum]
  by_cases hjr : j.val ≤ r.val
  · rw [if_pos hjr, if_pos hjr, sitofp_val, dist_ge (by omega) (by omega) hjr, EReal.coe_mul]
    refine congrArg _ ?_
    rw [← EReal.coe_mul, expc]
    refine (ValueIdx.select_one _ _).trans ?_
    push_cast
    rfl
  · rw [if_neg hjr, if_neg hjr, mul_zero, EReal.coe_zero]
    exact mul_zero _

/-- One head's output at finite arguments. -/
theorem pay39_val (w : Vec Ideal S256x1 .f32) (lg : Vec Ideal S1x1 .f32) (Q V S A : Vec Ideal S256x256 .f32) (l : ℝ) (t : Fin 256 → ℝ)
    (q v s a : Fin 256 → Fin 256 → ℝ)
    (hl : lg (ix2 0 0) = (l : EReal)) (hw : ∀ r, w (ix2 r 0) = (t r : EReal))
    (hq : ∀ r d, Q (ix2 r d) = (q r d : EReal)) (hv : ∀ r d, V (ix2 r d) = (v r d : EReal))
    (hs : ∀ r d, S (ix2 r d) = (s r d : EReal)) (ha : ∀ r d, A (ix2 r d) = (a r d : EReal)) (r e : Fin 256) :
    k0_pay39 (F := Ideal) w lg Q V S A (ix2 r e)
      = ((∑ j, a r j * v j e + ∑ d, (q r d * Real.exp (l * t r)) * s d e : ℝ) : EReal) := by
  unfold k0_pay39
  pointwise
  simp only [ha, hv, hl, hw, hq, hs, ← EReal.coe_mul, expc, coe_sum, ← EReal.coe_add]

/-- One head's state at finite arguments. -/
theorem pay45_val (w : Vec Ideal S256x1 .f32) (lg : Vec Ideal S1x1 .f32) (K V S : Vec Ideal S256x256 .f32) (l : ℝ) (t : Fin 256 → ℝ)
    (k v s : Fin 256 → Fin 256 → ℝ)
    (hl : lg (ix2 0 0) = (l : EReal)) (hw : ∀ r, w (ix2 r 0) = (t r : EReal))
    (hk : ∀ r d, K (ix2 r d) = (k r d : EReal)) (hv : ∀ r d, V (ix2 r d) = (v r d : EReal))
    (hs : ∀ r d, S (ix2 r d) = (s r d : EReal)) (d e : Fin 256) :
    k0_pay45 (F := Ideal) w lg K V S (ix2 d e)
      = ((s d e * Real.exp (l * 256) + ∑ j, (k j d * Real.exp (l * t j)) * v j e : ℝ) : EReal) := by
  unfold k0_pay45
  simp only [shapeCast_self]
  pointwise
  simp only [f256, hk, hv, hl, hw, hs, ← EReal.coe_mul, expc, coe_sum, ← EReal.coe_add]

theorem after_val (r : Fin 256) : k0_pay11 (F := Ideal) (ix2 r 0) = (((r.val : ℝ) + 1 : ℝ) : EReal) := by
  unfold k0_pay11 k0_pay10
  pointwise
  rw [sitofp_val, toInt_small (by omega)]
  rw [EReal.coe_add]
  simp
theorem left_val (r : Fin 256) : k0_pay12 (F := Ideal) (ix2 r 0) = (((256 : ℝ) - 1 - r.val : ℝ) : EReal) := by
  unfold k0_pay12 k0_pay10
  pointwise
  rw [sitofp_val, toInt_small (by omega), f255, ← EReal.coe_sub]
  norm_num

/-- The decay rate: minus the exponential of the parameter. -/
theorem rate_val (rt : Vec Ideal S1x1x128 .f32) (x : ℝ) (h : rt (ix3 0 0 0) = (x : EReal)) :
    k0_pay15 rt (ix2 0 0) = ((-Real.exp x : ℝ) : EReal) := by
  unfold k0_pay15
  pointwise
  rw [h, expc, zero_sub, EReal.coe_neg]

theorem headQ_val (cs sn : Vec Ideal S256x128 .f32) (X : Vec Ideal S256x256 .f32) (x : Fin 256 → Fin 256 → ℝ)
    (c s : Fin 256 → Fin 128 → ℝ) (hx : ∀ r d, X (ix2 r d) = (x r d : EReal))
    (hc : ∀ r d, cs (ix2 r d) = (c r d : EReal)) (hs : ∀ r d, sn (ix2 r d) = (s r d : EReal)) (r d : Fin 256) :
    headQ cs sn X (ix2 r d) = ((ropeR (x r) (c r) (s r) d : ℝ) : EReal) := by
  unfold headQ k0_pay20 k0_pay13 k0_pay14
  simp only [shapeCast_self]
  by_cases h : d.val < 128
  · rw [concatenate_pair_apply_left (t := S256x256) (s₁ := S256x128) (s₂ := S256x128) 1 _ _ _ (ix2 r d) rfl (ix2 r (⟨d.val, h⟩ : Fin 128)) (fun b => by fin_cases b <;> rfl)]
    pointwise
    rw [hx, hx, hc, hs, ← EReal.coe_mul, ← EReal.coe_mul, ← EReal.coe_sub]
    unfold ropeR
    rw [dif_pos h]
    simp only [Nat.add_comm]
  · rw [concatenate_pair_apply_right (t := S256x256) (s₁ := S256x128) (s₂ := S256x128) 1 _ _ _ (ix2 r d) rfl rfl (ix2 r (⟨d.val - 128, by omega⟩ : Fin 128)) (fun b hb => by
      fin_cases b
      · rfl
      · exact absurd rfl hb) (by show d.val - 128 + 128 = d.val; omega)]
    pointwise
    have e : (⟨128 + (d.val - 128), by omega⟩ : Fin 256) = d := Fin.ext (by show 128 + (d.val - 128) = d.val; omega)
    rw [e, hx, hx, hc, hs, ← EReal.coe_mul, ← EReal.coe_mul, ← EReal.coe_add]
    unfold ropeR
    rw [dif_neg h]

theorem headK_val (cs sn : Vec Ideal S256x128 .f32) (X : Vec Ideal S256x256 .f32) (x : Fin 256 → Fin 256 → ℝ)
    (c s : Fin 256 → Fin 128 → ℝ) (hx : ∀ r d, X (ix2 r d) = (x r d : EReal))
    (hc : ∀ r d, cs (ix2 r d) = (c r d : EReal)) (hs : ∀ r d, sn (ix2 r d) = (s r d : EReal)) (r d : Fin 256) :
    headK cs sn X (ix2 r d) = ((ropeR (x r) (c r) (s r) d * (1 / 16) : ℝ) : EReal) := by
  have e : headK cs sn X (ix2 r d) = headQ cs sn X (ix2 r d) * Ideal.ofBits .f32 0x3D800000#32 := rfl
  rw [e, headQ_val cs sn X x c s hx hc hs, f16th, EReal.coe_mul]

/-- What a block of a head's inputs holds: rows `n …` of the sequences, turned at the positions `pos`. -/
structure Block (pos : ℕ → ℕ) (xq xk xv : ℕ → Fin 256 → ℝ) (rate : ℝ) (n : ℕ) (cs sn : Vec Ideal S256x128 .f32)
    (rt : Vec Ideal S1x1x128 .f32) (Q K V : Vec Ideal S256x256 .f32) : Prop where
  hq : ∀ r d, Q (ix2 r d) = (xq (n + r.val) d : EReal)
  hk : ∀ r d, K (ix2 r d) = (xk (n + r.val) d : EReal)
  hv : ∀ r d, V (ix2 r d) = (xv (n + r.val) d : EReal)
  hc : ∀ r d, cs (ix2 r d) = (cosT (pos (n + r.val)) d : EReal)
  hs : ∀ r d, sn (ix2 r d) = (sinT (pos (n + r.val)) d : EReal)
  hr : rt (ix3 0 0 0) = (rate : EReal)

/-- One head's state after a block, from the state before it. -/
theorem headState_val {pos : ℕ → ℕ} {xq xk xv : ℕ → Fin 256 → ℝ} {rate : ℝ} {n : ℕ} {cs sn : Vec Ideal S256x128 .f32}
    {rt : Vec Ideal S1x1x128 .f32} {Q K V S : Vec Ideal S256x256 .f32} (b : Block pos xq xk xv rate n cs sn rt Q K V)
    (hS : ∀ d e, S (ix2 d e) = (St (turnK pos xk) xv (-Real.exp rate) n d e : EReal)) (d e : Fin 256) :
    headState cs sn rt K V S (ix2 d e) = (St (turnK pos xk) xv (-Real.exp rate) (n + 256) d e : EReal) := by
  unfold headState
  rw [pay45_val (k0_pay12 (F := Ideal)) (k0_pay15 rt) (headK cs sn K) V S (-Real.exp rate) (fun r => (256 : ℝ) - 1 - r.val)
    (fun r d => turnK pos xk (n + r.val) d) (fun r d => xv (n + r.val) d) (fun d e => St (turnK pos xk) xv (-Real.exp rate) n d e)
    (rate_val rt rate b.hr) left_val (headK_val cs sn K _ _ _ b.hk b.hc b.hs) b.hv hS]
  refine congrArg _ ?_
  have := St_chunk (turnK pos xk) xv (-Real.exp rate) 256 n d e
  push_cast at this
  exact this

/-- One head's output rows in a block, from the state before it. -/
theorem headOut_val {pos : ℕ → ℕ} {xq xk xv : ℕ → Fin 256 → ℝ} {rate : ℝ} {n : ℕ} {cs sn : Vec Ideal S256x128 .f32}
    {rt : Vec Ideal S1x1x128 .f32} {Q K V S : Vec Ideal S256x256 .f32} (b : Block pos xq xk xv rate n cs sn rt Q K V)
    (hS : ∀ d e, S (ix2 d e) = (St (turnK pos xk) xv (-Real.exp rate) n d e : EReal)) (r e : Fin 256) :
    headOut cs sn rt Q K V S (ix2 r e) = (Out (turnQ pos xq) (turnK pos xk) xv (-Real.exp rate) (n + r.val) e : EReal) := by
  unfold headOut
  rw [pay39_val (k0_pay11 (F := Ideal)) (k0_pay15 rt) (headQ cs sn Q) V S _ (-Real.exp rate) (fun r => (r.val : ℝ) + 1)
    (fun r d => turnQ pos xq (n + r.val) d) (fun r d => xv (n + r.val) d) (fun d e => St (turnK pos xk) xv (-Real.exp rate) n d e) _
    (rate_val rt rate b.hr) after_val (headQ_val cs sn Q _ _ _ b.hq b.hc b.hs) b.hv hS
    (att_val (k0_pay15 rt) (headQ cs sn Q) (headK cs sn K) _ (fun r d => turnQ pos xq (n + r.val) d)
      (fun r d => turnK pos xk (n + r.val) d) (rate_val rt rate b.hr) (headQ_val cs sn Q _ _ _ b.hq b.hc b.hs)
      (headK_val cs sn K _ _ _ b.hk b.hc b.hs))]
  exact congrArg _ (Out_chunk (turnQ pos xq) (turnK pos xk) xv (-Real.exp rate) 256 n r e)

/-- The state before the first block is the state of no tokens. -/
theorem zeroState_val (k v : ℕ → Fin 256 → ℝ) (l : ℝ) (d e : Fin 256) :
    (zeroState (F := Ideal)) (ix2 d e) = (St k v l 0 d e : EReal) := by
  rw [St_zero]
  unfold zeroState k0_pay3
  simp only [shapeCast_self]
  exact f0

end Cert.FwdIdeal.Open
-- ==== Proof.FwdInput.lean ====
module

public import proofs.«01_k».proof.Proof.FwdHead

/-!
What the forward kernel's windows hold at a grid point: blocks of the projections, of the two rotation tables the
host computes, and of the decay rates. Each is read at an index.
-/

@[expose] public section

set_option maxRecDepth 16384

noncomputable section

open Idealize.ShloMosaic Idealize.ShloMosaic.TcCoe Idealize.SL.Sem

namespace Cert.FwdIdeal.Input

open Cert.FwdIdeal Cert.FwdIdeal.Gen Cert.Proof.Ret

/-- The block row of the projections a point reads: the context's block of its sequence at step 0, then the latents'. -/
def rowBlk (t : ℕ) : ℕ := if t % 33 = 0 then t / 66 else 1 + 32 * (t / 66) + t % 33

theorem idx0 : ∀ t : Fin grid0.N, win0_0.index t 0 = rowBlk t.val ∧ win0_0.index t 1 = t.val / 33 % 2 := by
  decide +kernel
theorem idx1 : ∀ t : Fin grid0.N, win0_1.index t 0 = rowBlk t.val ∧ win0_1.index t 1 = 2 + t.val / 33 % 2 := by
  decide +kernel
theorem idx2 : ∀ t : Fin grid0.N, win0_2.index t 0 = rowBlk t.val ∧ win0_2.index t 1 = 4 + t.val / 33 % 2 := by
  decide +kernel
theorem idx3 : ∀ t : Fin grid0.N, win0_3.index t 0 = t.val % 33 ∧ win0_3.index t 1 = 0 := by
  decide +kernel
theorem idx4 : ∀ t : Fin grid0.N, win0_4.index t 0 = t.val % 33 ∧ win0_4.index t 1 = 0 := by
  decide +kernel
theorem idx5 : ∀ t : Fin grid0.N,
    win0_5.index t 0 = t.val / 33 % 2 ∧ win0_5.index t 1 = 0 ∧ win0_5.index t 2 = 0 := by
  decide +kernel
theorem idx6 : ∀ t : Fin grid0.N, win0_6.index t 0 = rowBlk t.val ∧ win0_6.index t 1 = t.val / 33 % 2 := by
  decide +kernel

/-- A row of a point's block is a row of the projections. -/
theorem row_lt (t : Fin grid0.N) (r : Fin 256) : 256 * rowBlk t.val + r.val < 16896 := by
  have h : t.val < 132 := t.isLt.trans_eq N_0
  have := r.isLt
  unfold rowBlk
  split <;> omega

variable (m : (ℓ : Loc nD τ sig) → Buf (Elt Ideal) ℓ) (c : Dev nD) (t : Fin cfg0.N)

/-- The query block at an index. -/
theorem blk0 (r : Fin 256) (l : Fin 1024) : (iblk (F := Ideal) m c 0 t : Vec Ideal S256x1024 .f32) (ix2 r l) = m ((c : Thread nD τ).loc main_arg0)
    (ix2 ⟨256 * rowBlk t.val + r.val, row_lt t r⟩ ⟨1024 * (t.val / 33 % 2) + l.val, by have := l.isLt; omega⟩) := by
  unfold iblk
  rw [View.read_apply]
  show V (F := Ideal) m c main_arg0 _ = m (c.tc.loc main_arg0) _
  rw [V_main_arg0]
  congr 1
  funext a
  apply Fin.ext
  match a with
  | ⟨0, _⟩ => show win0_0.index t 0 * 256 + 1 * r.val = 256 * rowBlk t.val + r.val; rw [(idx0 t).1]; omega
  | ⟨1, _⟩ => show win0_0.index t 1 * 1024 + 1 * l.val = 1024 * (t.val / 33 % 2) + l.val; rw [(idx0 t).2]; omega

/-- The key block at an index. -/
theorem blk1 (r : Fin 256) (l : Fin 1024) : (iblk (F := Ideal) m c 1 t : Vec Ideal S256x1024 .f32) (ix2 r l) = m ((c : Thread nD τ).loc main_arg0)
    (ix2 ⟨256 * rowBlk t.val + r.val, row_lt t r⟩
      ⟨2048 + 1024 * (t.val / 33 % 2) + l.val, by have := l.isLt; omega⟩) := by
  unfold iblk
  rw [View.read_apply]
  show V (F := Ideal) m c main_arg0 _ = m (c.tc.loc main_arg0) _
  rw [V_main_arg0]
  congr 1
  funext a
  apply Fin.ext
  match a with
  | ⟨0, _⟩ => show win0_1.index t 0 * 256 + 1 * r.val = 256 * rowBlk t.val + r.val; rw [(idx1 t).1]; omega
  | ⟨1, _⟩ =>
    show win0_1.index t 1 * 1024 + 1 * l.val = 2048 + 1024 * (t.val / 33 % 2) + l.val; rw [(idx1 t).2]; omega

/-- The value block at an index. -/
theorem blk2 (r : Fin 256) (l : Fin 1024) : (iblk (F := Ideal) m c 2 t : Vec Ideal S256x1024 .f32) (ix2 r l) = m ((c : Thread nD τ).loc main_arg0)
    (ix2 ⟨256 * rowBlk t.val + r.val, row_lt t r⟩
      ⟨4096 + 1024 * (t.val / 33 % 2) + l.val, by have := l.isLt; omega⟩) := by
  unfold iblk
  rw [View.read_apply]
  show V (F := Ideal) m c main_arg0 _ = m (c.tc.loc main_arg0) _
  rw [V_main_arg0]
  congr 1
  funext a
  apply Fin.ext
  match a with
  | ⟨0, _⟩ => show win0_2.index t 0 * 256 + 1 * r.val = 256 * rowBlk t.val + r.val; rw [(idx2 t).1]; omega
  | ⟨1, _⟩ =>
    show win0_2.index t 1 * 1024 + 1 * l.val = 4096 + 1024 * (t.val / 33 % 2) + l.val; rw [(idx2 t).2]; omega

/-- The angles as the host computes them. -/
abbrev angles : Vec Ideal S8448x128 .f32 :=
  mulf (broadcastInDim S8448x128 ![0, 1] bcast_S8448x1_S8448x128_0_1
      (broadcastInDim S8448x1 ![0] bcast_S8448_S8448x1_0 (sitofp .f32 (iotaInDim S8448 32 0))))
    (broadcastInDim S8448x128 ![0, 1] bcast_S1x128_S8448x128_0_1
      (broadcastInDim S1x128 ![1] bcast_S128_S1x128_1
        (Host.powf (broadcastInDim S128 ![] bcast_S_S128 (constant (F := Ideal) S_ .f32 0x461C4000#32))
          (Host.divf (Host.negf (sitofp .f32 (iotaInDim S128 32 0)))
            (broadcastInDim S128 ![] bcast_S_S128 (constant (F := Ideal) S_ .f32 0x43000000#32))))))

/-- The cosine table as the host leaves it. -/
theorem V_v14 : (V (F := Ideal) m c main_v14 : Vec Ideal S8448x128 .f32) = (Host.cos (F := Ideal) (s := S8448x128) (φ := .f32) angles : Vec Ideal S8448x128 .f32) := by
  unfold V
  simp only [hostOps0]
  after_results

/-- The sine table as the host leaves it. -/
theorem V_v15 : (V (F := Ideal) m c main_v15 : Vec Ideal S8448x128 .f32) = (Host.sin (F := Ideal) (s := S8448x128) (φ := .f32) angles : Vec Ideal S8448x128 .f32) := by
  unfold V
  simp only [hostOps0]
  after_results

/-- The rates as the host spreads them. -/
theorem V_v13 : (V (F := Ideal) m c main_v13 : Vec Ideal S16x1x128 .f32) = broadcastInDim S16x1x128 ![0, 1, 2] bcast_S16x1x1_S16x1x128_0_1_2
    (shapeCast S16x1x1 (m ((c : Thread nD τ).loc main_arg1)) shapeCasts_S2x8_S16x1x1) := by
  unfold V
  simp only [hostOps0]
  after_results
  rfl

/-- The angle of position `n` at frequency `j`. -/
theorem angles_val (n : Fin 8448) (j : Fin 128) : angles (ix2 n j) = (ang n.val j : EReal) := by
  unfold angles
  pointwise
  rw [f10000, f128, sitofp_val, sitofp_val, toInt_small (by omega), toInt_small (by omega)]
  have h : Ideal.div (-(((j.val : ℤ) : ℝ) : EReal)) ((128 : ℝ) : EReal) = ((-(j.val : ℝ) / 128 : ℝ) : EReal) := by
    unfold Ideal.div
    rw [if_neg (by exact_mod_cast (by norm_num : (128 : ℝ) ≠ 0)), ← EReal.coe_inv, ← EReal.coe_neg, ← EReal.coe_mul]
    rw [div_eq_mul_inv, Int.cast_natCast]
  rw [h]
  have h2 : Ideal.pow ((10000 : ℝ) : EReal) ((-(j.val : ℝ) / 128 : ℝ) : EReal)
      = (((10000 : ℝ) ^ (-(j.val : ℝ) / 128) : ℝ) : EReal) := rfl
  rw [h2, ← EReal.coe_mul]
  rw [ang, Int.cast_natCast]

/-- The cosine block at an index. -/
theorem blk3 (r : Fin 256) (l : Fin 128) : (iblk (F := Ideal) m c 3 t : Vec Ideal S256x128 .f32) (ix2 r l)
    = (cosT (256 * (t.val % 33) + r.val) l : EReal) := by
  have h : 256 * (t.val % 33) + r.val < 8448 := by have := r.isLt; omega
  have e : ((cfg0.win 3).blk t).view.emb (ix2 r l) = ix2 ⟨_, h⟩ l := by
    funext a
    apply Fin.ext
    match a with
    | ⟨0, _⟩ => show win0_3.index t 0 * 256 + 1 * r.val = 256 * (t.val % 33) + r.val; rw [(idx3 t).1]; omega
    | ⟨1, _⟩ => show win0_3.index t 1 * 128 + 1 * l.val = l.val; rw [(idx3 t).2]; omega
  unfold iblk
  rw [View.read_apply]
  show (V (F := Ideal) m c main_v14 : Vec Ideal S8448x128 .f32) (((cfg0.win 3).blk t).view.emb (ix2 r l)) = _
  rw [V_v14, e]
  show Ideal.cos (angles (ix2 ⟨_, h⟩ l)) = _
  rw [angles_val]
  rfl

/-- The sine block at an index. -/
theorem blk4 (r : Fin 256) (l : Fin 128) : (iblk (F := Ideal) m c 4 t : Vec Ideal S256x128 .f32) (ix2 r l)
    = (sinT (256 * (t.val % 33) + r.val) l : EReal) := by
  have h : 256 * (t.val % 33) + r.val < 8448 := by have := r.isLt; omega
  have e : ((cfg0.win 4).blk t).view.emb (ix2 r l) = ix2 ⟨_, h⟩ l := by
    funext a
    apply Fin.ext
    match a with
    | ⟨0, _⟩ => show win0_4.index t 0 * 256 + 1 * r.val = 256 * (t.val % 33) + r.val; rw [(idx4 t).1]; omega
    | ⟨1, _⟩ => show win0_4.index t 1 * 128 + 1 * l.val = l.val; rw [(idx4 t).2]; omega
  unfold iblk
  rw [View.read_apply]
  show (V (F := Ideal) m c main_v15 : Vec Ideal S8448x128 .f32) (((cfg0.win 4).blk t).view.emb (ix2 r l)) = _
  rw [V_v15, e]
  show Ideal.sin (angles (ix2 ⟨_, h⟩ l)) = _
  rw [angles_val]
  rfl

/-- The rates the host spreads, at an index. -/
theorem rates_val (r : Fin 16) (l : Fin 128) :
    (V (F := Ideal) m c main_v13 : Vec Ideal S16x1x128 .f32) (ix3 r 0 l) =
      m ((c : Thread nD τ).loc main_arg1) (ix2 ⟨r.val / 8, by omega⟩ ⟨r.val % 8, by omega⟩) := by
  rw [V_v13]
  pointwise

/-- The rate block at an index. -/
theorem blk5 (hh : Fin 4) (l : Fin 128) : (iblk (F := Ideal) m c 5 t : Vec Ideal S4x1x128 .f32) (ix3 hh 0 l)
    = m ((c : Thread nD τ).loc main_arg1) (ix2 (0 : Fin 2) ⟨4 * (t.val / 33 % 2) + hh.val, by omega⟩) := by
  have h : 4 * (t.val / 33 % 2) + hh.val < 16 := by omega
  have e : ((cfg0.win 5).blk t).view.emb (ix3 hh 0 l) = ix3 ⟨_, h⟩ 0 l := by
    funext a
    apply Fin.ext
    match a with
    | ⟨0, _⟩ => show win0_5.index t 0 * 4 + 1 * hh.val = 4 * (t.val / 33 % 2) + hh.val; rw [(idx5 t).1]; omega
    | ⟨1, _⟩ => show win0_5.index t 1 * 1 + 1 * 0 = 0; rw [(idx5 t).2.1]
    | ⟨2, _⟩ => show win0_5.index t 2 * 128 + 1 * l.val = l.val; rw [(idx5 t).2.2]; omega
  unfold iblk
  rw [View.read_apply]
  show (V (F := Ideal) m c main_v13 : Vec Ideal S16x1x128 .f32) (((cfg0.win 5).blk t).view.emb (ix3 hh 0 l)) = _
  rw [e, rates_val]
  congr 1
  funext a
  apply Fin.ext
  match a with
  | ⟨0, _⟩ => show (4 * (t.val / 33 % 2) + hh.val) / 8 = 0; omega
  | ⟨1, _⟩ => show (4 * (t.val / 33 % 2) + hh.val) % 8 = 4 * (t.val / 33 % 2) + hh.val; omega

end Cert.FwdIdeal.Input
-- ==== Proof.FwdValue.lean ====
module

public import proofs.«01_k».proof.Proof.FwdInput
public import proofs.«01_k».proof.Proof.Gen.FwdIdeal.Value

/-!
The forward kernel's result, index by index: the retention of every head of every token. By induction along the grid,
the four scratch states after a point are the retention's states after the tokens seen so far.
-/

@[expose] public section

set_option maxRecDepth 16384

noncomputable section

open Idealize.ShloMosaic Idealize.ShloMosaic.TcCoe Idealize.SL.Sem

namespace Cert.FwdIdeal.Result

open Cert.FwdIdeal Cert.FwdIdeal.Gen Cert.FwdIdeal.Value Cert.FwdIdeal.Open Cert.FwdIdeal.Input Cert.Proof.Ret

/-- A row of a point's block is a token of the point's sequence. -/
theorem row_tok (t : ℕ) (r : Fin 256) : 256 * rowBlk t + r.val = rowTok (t / 66) (256 * (t % 33) + r.val) := by
  have := r.isLt
  unfold rowBlk rowTok
  split
  · rw [if_pos (by omega)]; omega
  · rw [if_neg (by omega)]; omega

variable (m : (ℓ : Loc nD τ sig) → Buf (Elt Ideal) ℓ) (c : Dev nD)
variable (pr : ℕ → ℕ → ℝ) (rr : ℕ → ℝ)
variable (hp : ∀ (r : Fin 16896) (k : Fin 16384),
  (m ((c : Thread nD τ).loc main_arg0) : Vec Ideal S16896x16384 .f32) (ix2 r k) = (pr r.val k.val : EReal))
variable (hr : ∀ h : Fin 8,
  (m ((c : Thread nD τ).loc main_arg1) : Vec Ideal S2x8 .f32) (ix2 (0 : Fin 2) h) = (rr h.val : EReal))

include hp hr

/-- The blocks of point `t` are finite, and hold 256 tokens of its sequence, for each of its four heads. -/
theorem block (t : Fin cfg0.N) (hh : Fin 4) :
    Block id (seqOf id pr 0 (t.val / 66) (4 * (t.val / 33 % 2) + hh.val))
      (seqOf id pr 1 (t.val / 66) (4 * (t.val / 33 % 2) + hh.val))
      (seqOf id pr 2 (t.val / 66) (4 * (t.val / 33 % 2) + hh.val)) (rr (4 * (t.val / 33 % 2) + hh.val))
      (256 * (t.val % 33)) (iblk (F := Ideal) m c 3 t) (iblk (F := Ideal) m c 4 t)
      (rateOf hh (iblk (F := Ideal) m c 5 t)) (colsOf hh (iblk (F := Ideal) m c 0 t))
      (colsOf hh (iblk (F := Ideal) m c 1 t)) (colsOf hh (iblk (F := Ideal) m c 2 t)) where
  hq r d := by
    have hh4 := hh.isLt
    have hd := d.isLt
    refine (blk0 m c t r ⟨256 * hh.val + d.val, by omega⟩).trans ((hp _ _).trans ?_)
    show (pr (256 * rowBlk t.val + r.val) (1024 * (t.val / 33 % 2) + (256 * hh.val + d.val)) : EReal) = _
    rw [row_tok, seqOf]
    congr 2
    omega
  hk r d := by
    have hh4 := hh.isLt
    have hd := d.isLt
    refine (blk1 m c t r ⟨256 * hh.val + d.val, by omega⟩).trans ((hp _ _).trans ?_)
    show (pr (256 * rowBlk t.val + r.val) (2048 + 1024 * (t.val / 33 % 2) + (256 * hh.val + d.val)) : EReal) = _
    rw [row_tok, seqOf]
    congr 2
    omega
  hv r d := by
    have hh4 := hh.isLt
    have hd := d.isLt
    refine (blk2 m c t r ⟨256 * hh.val + d.val, by omega⟩).trans ((hp _ _).trans ?_)
    show (pr (256 * rowBlk t.val + r.val) (4096 + 1024 * (t.val / 33 % 2) + (256 * hh.val + d.val)) : EReal) = _
    rw [row_tok, seqOf]
    congr 2
    omega
  hc r d := blk3 m c t r d
  hs r d := blk4 m c t r d
  hr := (blk5 m c t hh 0).trans (hr _)

omit hp hr in
/-- The states of the four heads a point works on, after it. -/
def StatesAt (n : ℕ) (hn : n < cfg0.N) : Prop := ∀ d e : Fin 256,
    (outsAt0 (F := Ideal) m c n hn).2.1 (ix2 d e) = (retSt id pr rr (n / 66) (4 * (n / 33 % 2) + 0) (256 * (n % 33) + 256) d e : EReal)
    ∧ (outsAt0 (F := Ideal) m c n hn).2.2.1 (ix2 d e) = (retSt id pr rr (n / 66) (4 * (n / 33 % 2) + 1) (256 * (n % 33) + 256) d e : EReal)
    ∧ (outsAt0 (F := Ideal) m c n hn).2.2.2.1 (ix2 d e) = (retSt id pr rr (n / 66) (4 * (n / 33 % 2) + 2) (256 * (n % 33) + 256) d e : EReal)
    ∧ (outsAt0 (F := Ideal) m c n hn).2.2.2.2 (ix2 d e) = (retSt id pr rr (n / 66) (4 * (n / 33 % 2) + 3) (256 * (n % 33) + 256) d e : EReal)

/-- After the first point of a run of 33, the states are those after 256 tokens. -/
theorem states_first (t : Fin cfg0.N) (h0 : t.val % 33 = 0) : StatesAt m c pr rr t.val t.isLt := by
  intro d e
  rw [outsAt0_A m c t h0]
  dsimp only
  refine ⟨?_, ?_, ?_, ?_⟩
  · refine (congrFun (stateA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) _ _ _ _ _ _ _) _).trans ?_
    refine (headState_val (block m c pr rr hp hr t 0) (fun d e => ?_) d e).trans rfl
    rw [h0]
    exact zeroState_val _ _ _ d e
  · refine (congrFun (stateA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) _ _ _ _ _ _ _) _).trans ?_
    refine (headState_val (block m c pr rr hp hr t 1) (fun d e => ?_) d e).trans rfl
    rw [h0]
    exact zeroState_val _ _ _ d e
  · refine (congrFun (stateA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) _ _ _ _ _ _ _) _).trans ?_
    refine (headState_val (block m c pr rr hp hr t 2) (fun d e => ?_) d e).trans rfl
    rw [h0]
    exact zeroState_val _ _ _ d e
  · refine (congrFun (stateA3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) _ _ _ _ _ _ _) _).trans ?_
    refine (headState_val (block m c pr rr hp hr t 3) (fun d e => ?_) d e).trans rfl
    rw [h0]
    exact zeroState_val _ _ _ d e

/-- A later point takes the states from the point before. -/
theorem states_next (t : Fin cfg0.N) (h0 : ¬t.val % 33 = 0)
    (ih : StatesAt m c pr rr (t.val - 1) (by have := t.isLt; omega)) : StatesAt m c pr rr t.val t.isLt := by
  have e1 : (t.val - 1) / 66 = t.val / 66 := by omega
  have e2 : (t.val - 1) / 33 = t.val / 33 := by omega
  have e3 : 256 * ((t.val - 1) % 33) + 256 = 256 * (t.val % 33) := by omega
  unfold StatesAt at ih
  rw [e1, e2, e3] at ih
  intro d e
  rw [outsAt0_B m c t h0]
  dsimp only
  refine ⟨?_, ?_, ?_, ?_⟩
  · refine (congrFun (stateB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) _ _ _ _ _ _ _ _ _ _ _) _).trans ?_
    exact headState_val (block m c pr rr hp hr t 0) (fun d e => (ih d e).1) d e
  · refine (congrFun (stateB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) _ _ _ _ _ _ _ _ _ _ _) _).trans ?_
    exact headState_val (block m c pr rr hp hr t 1) (fun d e => (ih d e).2.1) d e
  · refine (congrFun (stateB2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) _ _ _ _ _ _ _ _ _ _ _) _).trans ?_
    exact headState_val (block m c pr rr hp hr t 2) (fun d e => (ih d e).2.2.1) d e
  · refine (congrFun (stateB3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) _ _ _ _ _ _ _ _ _ _ _) _).trans ?_
    exact headState_val (block m c pr rr hp hr t 3) (fun d e => (ih d e).2.2.2) d e

/-- The states after every point. -/
theorem states (n : ℕ) (hn : n < cfg0.N) : StatesAt m c pr rr n hn := by
  induction n with
  | zero => exact states_first m c pr rr hp hr ⟨0, hn⟩ rfl
  | succ n ih =>
    by_cases h0 : (n + 1) % 33 = 0
    · exact states_first m c pr rr hp hr ⟨n + 1, hn⟩ h0
    · exact states_next m c pr rr hp hr ⟨n + 1, hn⟩ h0 (ih (Nat.lt_of_succ_lt hn))

/-- What a point writes to the result, at an index. -/
theorem out_first (t : Fin cfg0.N) (h0 : t.val % 33 = 0) (r e : Fin 256) (hh : Fin 4) :
    (outsAt0 (F := Ideal) m c t.val t.isLt).1 (ix2 r ⟨256 * hh.val + e.val, by omega⟩)
      = (retOut id pr rr (t.val / 66) (4 * (t.val / 33 % 2) + hh.val) (256 * (t.val % 33) + r.val) e : EReal) := by
  have hz : ∀ (hh : Fin 4) (d e : Fin 256), (zeroState : Vec Ideal S256x256 .f32) (ix2 d e)
      = (St (turnK id (seqOf id pr 1 (t.val / 66) (4 * (t.val / 33 % 2) + hh.val)))
          (seqOf id pr 2 (t.val / 66) (4 * (t.val / 33 % 2) + hh.val)) (-Real.exp (rr (4 * (t.val / 33 % 2) + hh.val)))
          (256 * (t.val % 33)) d e : EReal) := by
    intro hh d e
    rw [h0]
    exact zeroState_val _ _ _ d e
  rw [outsAt0_A m c t h0]
  dsimp only
  match hh with
  | 0 =>
    refine (outA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) _ _ _ _ _ _ _ r e).trans ?_
    exact headOut_val (block m c pr rr hp hr t 0) (hz 0) r e
  | 1 =>
    refine (outA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) _ _ _ _ _ _ _ r e).trans ?_
    exact headOut_val (block m c pr rr hp hr t 1) (hz 1) r e
  | 2 =>
    refine (outA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) _ _ _ _ _ _ _ r e).trans ?_
    exact headOut_val (block m c pr rr hp hr t 2) (hz 2) r e
  | 3 =>
    refine (outA3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) _ _ _ _ _ _ _ r e).trans ?_
    exact headOut_val (block m c pr rr hp hr t 3) (hz 3) r e

/-- The same at a later point, which reads the states the point before left. -/
theorem out_next (t : Fin cfg0.N) (h0 : ¬t.val % 33 = 0) (r e : Fin 256) (hh : Fin 4) :
    (outsAt0 (F := Ideal) m c t.val t.isLt).1 (ix2 r ⟨256 * hh.val + e.val, by omega⟩)
      = (retOut id pr rr (t.val / 66) (4 * (t.val / 33 % 2) + hh.val) (256 * (t.val % 33) + r.val) e : EReal) := by
  have e1 : (t.val - 1) / 66 = t.val / 66 := by omega
  have e2 : (t.val - 1) / 33 = t.val / 33 := by omega
  have e3 : 256 * ((t.val - 1) % 33) + 256 = 256 * (t.val % 33) := by omega
  have ih := states m c pr rr hp hr (t.val - 1) (by have := t.isLt; omega)
  unfold StatesAt at ih
  rw [e1, e2, e3] at ih
  rw [outsAt0_B m c t h0]
  dsimp only
  match hh with
  | 0 =>
    refine (outB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) _ _ _ _ _ _ _ _ _ _ _ r e).trans ?_
    exact headOut_val (block m c pr rr hp hr t 0) (fun d e => (ih d e).1) r e
  | 1 =>
    refine (outB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) _ _ _ _ _ _ _ _ _ _ _ r e).trans ?_
    exact headOut_val (block m c pr rr hp hr t 1) (fun d e => (ih d e).2.1) r e
  | 2 =>
    refine (outB2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) _ _ _ _ _ _ _ _ _ _ _ r e).trans ?_
    exact headOut_val (block m c pr rr hp hr t 2) (fun d e => (ih d e).2.2.1) r e
  | 3 =>
    refine (outB3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) _ _ _ _ _ _ _ _ _ _ _ r e).trans ?_
    exact headOut_val (block m c pr rr hp hr t 3) (fun d e => (ih d e).2.2.2) r e

/-- The result at every token, head and coordinate. -/
theorem result {b n h : ℕ} (hb : b < 2) (hn : n < 8448) (hh : h < 8) (e : Fin 256) :
    ((dats (F := Ideal) m 0 c).arrAt 6 cfg0.N : Vec Ideal S16896x2048 .f32)
        (ix2 ⟨rowTok b n, rowTok_lt hb hn⟩ ⟨256 * h + e.val, by omega⟩)
      = (retOut id pr rr b h n e : EReal) := by
  have hN : cfg0.N = 132 := N_0
  let t : Fin cfg0.N := ⟨66 * b + 33 * (h / 4) + n / 256, by omega⟩
  have ht : t.val = 66 * b + 33 * (h / 4) + n / 256 := rfl
  have q1 : t.val / 66 = b := by omega
  have q2 : t.val / 33 % 2 = h / 4 := by omega
  have q3 : t.val % 33 = n / 256 := by omega
  have key : (outsAt0 (F := Ideal) m c t.val t.isLt).1 (ix2 ⟨n % 256, by omega⟩ ⟨256 * (h % 4) + e.val, by omega⟩)
      = (retOut id pr rr b h n e : EReal) := by
    have k : (outsAt0 (F := Ideal) m c t.val t.isLt).1 (ix2 ⟨n % 256, by omega⟩ ⟨256 * (h % 4) + e.val, by omega⟩)
      = (retOut id pr rr (t.val / 66) (4 * (t.val / 33 % 2) + h % 4) (256 * (t.val % 33) + n % 256) e : EReal) := by
      by_cases h0 : t.val % 33 = 0
      · exact out_first m c pr rr hp hr t h0 ⟨n % 256, by omega⟩ e ⟨h % 4, by omega⟩
      · exact out_next m c pr rr hp hr t h0 ⟨n % 256, by omega⟩ e ⟨h % 4, by omega⟩
    rw [q1, q2, q3, show 4 * (h / 4) + h % 4 = h by omega, show 256 * (n / 256) + n % 256 = n by omega] at k
    exact k
  have hb6 := congrFun (blocks6 (F := Ideal) m c t (flush0_6 t)) (ix2 ⟨n % 256, by omega⟩ ⟨256 * (h % 4) + e.val, by omega⟩)
  rw [flushed6, View.read_apply] at hb6
  refine Eq.trans ?_ (hb6.trans key)
  congr 1
  funext a
  apply Fin.ext
  match a with
  | ⟨0, _⟩ =>
    show rowTok b n = win0_6.index t 0 * 256 + 1 * (n % 256)
    rw [(idx6 t).1]
    have := row_tok t.val ⟨n % 256, by omega⟩
    dsimp only at this
    rw [q1, q3, show 256 * (n / 256) + n % 256 = n by omega] at this
    omega
  | ⟨1, _⟩ =>
    show 256 * h + e.val = win0_6.index t 1 * 1024 + 1 * (256 * (h % 4) + e.val)
    rw [(idx6 t).2, q2]
    omega

end Cert.FwdIdeal.Result
-- ==== Proof.FwdRefLoop.lean ====
module

public import proofs.«01_k».proof.Proof.Gen.FwdRefIdeal.Run
public import proofs.«01_k».proof.Proof.RetMath
public import proofs.«01_k».proof.Proof.Words
public import Idealize.ShloMosaic.Lib.Pointwise.Tactic
public import Idealize.ShloMosaic.Lib.Pointwise.Contract
public import Idealize.ShloMosaic.Lib.Pointwise.Reshape
public import Idealize.ShloMosaic.Lib.Pointwise.ShapeOps
public import Idealize.ShloMosaic.Lib.IdealHost
public import Idealize.ShloMosaic.Lib.Pipeline.Value
public import Idealize.ShloMosaic.Lib.DynamicIndex

/-!
The loop of the forward reference: its trips carry the retention's state over chunks of 64 tokens.
-/

@[expose] public section

set_option maxRecDepth 16384

noncomputable section

open Idealize.ShloMosaic Idealize.ShloMosaic.TcCoe Idealize.SL.Sem

namespace Cert.FwdRefIdeal.Loop

open Cert.FwdRefIdeal Cert.FwdRefIdeal.Gen Cert.FwdRefIdeal.Value Cert.Proof.Ret

variable (V : Valuation τ sig (Elt Ideal))

/-- What the loop carries, each under its type: the chunks of queries, keys and values; the decay inside a chunk, from
    the chunk's start, over a chunk, to the chunk's end; the state; the outputs. -/
abbrev qs : Vec Ideal S132x2x8x64x256 .f32 := V (Proc.devRef .tc main_v131_0)
abbrev ks : Vec Ideal S132x2x8x64x256 .f32 := V (Proc.devRef .tc main_v131_1)
abbrev vs : Vec Ideal S132x2x8x64x256 .f32 := V (Proc.devRef .tc main_v131_2)
abbrev intra : Vec Ideal S8x64x64 .f32 := V (Proc.devRef .tc main_v131_3)
abbrev qdec : Vec Ideal S8x64x1 .f32 := V (Proc.devRef .tc main_v131_4)
abbrev cdec : Vec Ideal S8x1x1 .f32 := V (Proc.devRef .tc main_v131_5)
abbrev kdec : Vec Ideal S8x64x1 .f32 := V (Proc.devRef .tc main_v131_6)
abbrev state : Vec Ideal S2x8x256x256 .f32 := V (Proc.devRef .tc main_v131_8)
abbrev outs : Vec Ideal S132x2x8x64x256 .f32 := V (Proc.devRef .tc main_v131_9)

/-- The block at trip `k`, of an array of 132. -/
theorem chunk_at (X : Vec Ideal S132x2x8x64x256 .f32) (start : Fin 5 → Int) (hf : S132x2x8x64x256.Slices (fun _ => 0) S1x2x8x64x256)
    (k : Fin 132) (hs : ∀ a, start a = ((![k.val, 0, 0, 0, 0] : Fin 5 → ℕ) a : ℤ)) (b : Fin 2) (h : Fin 8) (r : Fin 64)
    (d : Fin 256) :
    shapeCast S2x8x64x256 (Host.dynamicSlice S1x2x8x64x256 X start hf) shapeCasts_S1x2x8x64x256_S2x8x64x256 (ix4 b h r d)
      = X (ix5 k b h r d) := by
  have hk := k.isLt
  have hoff : S132x2x8x64x256.Slices ![k.val, 0, 0, 0, 0] S1x2x8x64x256 := by
    refine ⟨rfl, fun a => ?_⟩
    match a with
    | ⟨0, _⟩ => show k.val + 1 ≤ 132; omega
    | ⟨1, _⟩ => show 0 + 2 ≤ 2; omega
    | ⟨2, _⟩ => show 0 + 8 ≤ 8; omega
    | ⟨3, _⟩ => show 0 + 64 ≤ 64; omega
    | ⟨4, _⟩ => show 0 + 256 ≤ 256; omega
  rw [Host.dynamicSlice_eq_extractStridedSlice _ _ _ ![k.val, 0, 0, 0, 0] hf hoff hs]
  pointwise

/-- An array of 132 blocks after the update of block `k`. -/
theorem update_at (X : Vec Ideal S132x2x8x64x256 .f32) (U : Vec Ideal S2x8x64x256 .f32) (start : Fin 5 → Int)
    (hf : S132x2x8x64x256.Slices (fun _ => 0) S1x2x8x64x256)
    (k : Fin 132) (hs : ∀ a, start a = ((![k.val, 0, 0, 0, 0] : Fin 5 → ℕ) a : ℤ)) (i : Fin 132) (b : Fin 2) (h : Fin 8)
    (r : Fin 64) (d : Fin 256) :
    Host.dynamicUpdateSlice X (broadcastInDim S1x2x8x64x256 ![1, 2, 3, 4] bcast_S2x8x64x256_S1x2x8x64x256_1_2_3_4 U) start hf
        (ix5 i b h r d) = if i.val = k.val then U (ix4 b h r d) else X (ix5 i b h r d) := by
  have hk := k.isLt
  have hoff : S132x2x8x64x256.Slices ![k.val, 0, 0, 0, 0] S1x2x8x64x256 := by
    refine ⟨rfl, fun a => ?_⟩
    match a with
    | ⟨0, _⟩ => show k.val + 1 ≤ 132; omega
    | ⟨1, _⟩ => show 0 + 2 ≤ 2; omega
    | ⟨2, _⟩ => show 0 + 8 ≤ 8; omega
    | ⟨3, _⟩ => show 0 + 64 ≤ 64; omega
    | ⟨4, _⟩ => show 0 + 256 ≤ 256; omega
  rw [Host.dynamicUpdateSlice_eq_updateSlice _ _ _ _ ![k.val, 0, 0, 0, 0] (fun a => by
    rw [hs a]
    fin_cases a
    · show (min (max (k.val : ℤ) 0) ((132 - 1 : ℕ) : ℤ)).toNat = k.val
      omega
    all_goals rfl) hoff]
  unfold updateSlice
  by_cases hin : i.val = k.val
  · rw [if_pos hin]
    rw [dif_pos (fun a => by
      match a with
      | ⟨0, _⟩ => show k.val ≤ i.val ∧ i.val < k.val + 1; omega
      | ⟨1, _⟩ => show 0 ≤ b.val ∧ b.val < 0 + 2; omega
      | ⟨2, _⟩ => show 0 ≤ h.val ∧ h.val < 0 + 8; omega
      | ⟨3, _⟩ => show 0 ≤ r.val ∧ r.val < 0 + 64; omega
      | ⟨4, _⟩ => show 0 ≤ d.val ∧ d.val < 0 + 256; omega)]
    pointwise
  · rw [if_neg hin, dif_neg (fun hm => by have h0 : k.val ≤ i.val ∧ i.val < k.val + 1 := hm 0; omega)]

/-- The starts of trip `k`'s blocks. -/
theorem starts (k : Fin 132) (hk : V (Proc.devRef .tc main_v131_7) = (fun _ => BitVec.ofNat 32 k.val : IVec S_ 32)) (a : Fin 5) :
    (((![V (Proc.devRef .tc main_v131_7), constantI S_ 32 0#32, constantI S_ 32 0#32, constantI S_ 32 0#32, constantI S_ 32 0#32]
        : Fin 5 → (⟨S_, .i32⟩ : BufTy).Contents (Elt Ideal))) a (Shape.Idx.first h_S_)).toInt
      = ((![k.val, 0, 0, 0, 0] : Fin 5 → ℕ) a : ℤ) := by
  have e := toInt_small (r := k.val) (by omega)
  fin_cases a
  · show BitVec.toInt (V (Proc.devRef .tc main_v131_7) (Shape.Idx.first h_S_)) = _
    rw [hk]
    exact e
  all_goals rfl

/-- The chunk of queries a trip reads; then of keys; then of values. -/
theorem chunkQ (k : Fin 132) (hk : V (Proc.devRef .tc main_v131_7) = (fun _ => BitVec.ofNat 32 k.val : IVec S_ 32)) (b : Fin 2)
    (h : Fin 8) (r : Fin 64) (d : Fin 256) :
    (res_main_while0b_v139 (F := Ideal) V : Vec Ideal S2x8x64x256 .f32) (ix4 b h r d) = qs V (ix5 k b h r d) :=
  chunk_at _ _ _ k (starts V k hk) b h r d
theorem chunkK (k : Fin 132) (hk : V (Proc.devRef .tc main_v131_7) = (fun _ => BitVec.ofNat 32 k.val : IVec S_ 32)) (b : Fin 2)
    (h : Fin 8) (r : Fin 64) (d : Fin 256) :
    (res_main_while0b_v140 (F := Ideal) V : Vec Ideal S2x8x64x256 .f32) (ix4 b h r d) = ks V (ix5 k b h r d) :=
  chunk_at _ _ _ k (starts V k hk) b h r d
theorem chunkV (k : Fin 132) (hk : V (Proc.devRef .tc main_v131_7) = (fun _ => BitVec.ofNat 32 k.val : IVec S_ 32)) (b : Fin 2)
    (h : Fin 8) (r : Fin 64) (d : Fin 256) :
    (res_main_while0b_v141 (F := Ideal) V : Vec Ideal S2x8x64x256 .f32) (ix4 b h r d) = vs V (ix5 k b h r d) :=
  chunk_at _ _ _ k (starts V k hk) b h r d

variable (q k v : ℕ → ℕ → ℕ → Fin 256 → ℝ) (lg : ℕ → ℝ)

/-- What no trip changes, in real numbers: queries, keys and values of sequence `b` and head `h`, and the decays of
    logarithm `lg h`. -/
structure Given : Prop where
  hq : ∀ i b h r d, qs V (ix5 i b h r d) = (q b.val h.val (64 * i.val + r.val) d : EReal)
  hk : ∀ i b h r d, ks V (ix5 i b h r d) = (k b.val h.val (64 * i.val + r.val) d : EReal)
  hv : ∀ i b h r d, vs V (ix5 i b h r d) = (v b.val h.val (64 * i.val + r.val) d : EReal)
  hi : ∀ h r j, intra V (ix3 h r j)
    = ((if j.val ≤ r.val then Real.exp (lg h.val * ((r.val : ℝ) - j.val)) else 0 : ℝ) : EReal)
  hqd : ∀ h r, qdec V (ix3 h r 0) = (Real.exp (lg h.val * ((r.val : ℝ) + 1)) : EReal)
  hcd : ∀ h, cdec V (ix3 h 0 0) = (Real.exp (lg h.val * 64) : EReal)
  hkd : ∀ h r, kdec V (ix3 h r 0) = (Real.exp (lg h.val * (63 - (r.val : ℝ))) : EReal)

/-- After `n` trips: the count, the state after `64 n` tokens, the outputs of those tokens. -/
structure Carried (n : ℕ) : Prop extends Given V q k v lg where
  hc : V (Proc.devRef .tc main_v131_7) = (fun _ => BitVec.ofNat 32 n : IVec S_ 32)
  hs : ∀ b h d e, state V (ix4 b h d e) = (St (k b.val h.val) (v b.val h.val) (lg h.val) (64 * n) d e : EReal)
  ho : ∀ (i : Fin 132) b h r e, i.val < n →
    outs V (ix5 i b h r e) = (Out (q b.val h.val) (k b.val h.val) (v b.val h.val) (lg h.val) (64 * i.val + r.val) e : EReal)

variable {V q k v lg}

/-- A trip's state. -/
theorem state_step {n : ℕ} (hn : n < 132) (c : Carried V q k v lg n) (b : Fin 2) (h : Fin 8) (d e : Fin 256) :
    (step_main_v131_8 (F := Ideal) V : Vec Ideal S2x8x256x256 .f32) (ix4 b h d e)
      = (St (k b.val h.val) (v b.val h.val) (lg h.val) (64 * (n + 1)) d e : EReal) := by
  unfold step_main_v131_8
  dsimp only [id]
  pointwise
  have hS := c.hs b h d e
  have hC := c.hcd h
  have hK : ∀ x : Fin 64, _ := fun x => (chunkK V ⟨n, hn⟩ c.hc b h x d).trans (c.hk _ _ _ _ _)
  have hV : ∀ x : Fin 64, _ := fun x => (chunkV V ⟨n, hn⟩ c.hc b h x e).trans (c.hv _ _ _ _ _)
  have hD := c.hkd h
  simp only [hS, hC, hK, hV, hD, ← EReal.coe_mul, coe_sum, ← EReal.coe_add]
  refine congrArg _ ?_
  have key := St_chunk (k b.val h.val) (v b.val h.val) (lg h.val) 64 (64 * n) d e
  rw [show 64 * (n + 1) = 64 * n + 64 by ring, ← key]
  push_cast
  norm_num

/-- A trip's outputs, in front of which the outputs stay as they were. -/
theorem outs_step {n : ℕ} (hn : n < 132) (c : Carried V q k v lg n) (i : Fin 132) (hi : i.val < n + 1) (b : Fin 2) (h : Fin 8)
    (r : Fin 64) (e : Fin 256) : (step_main_v131_9 (F := Ideal) V : Vec Ideal S132x2x8x64x256 .f32) (ix5 i b h r e)
      = (Out (q b.val h.val) (k b.val h.val) (v b.val h.val) (lg h.val) (64 * i.val + r.val) e : EReal) := by
  unfold step_main_v131_9
  dsimp only [id]
  have hU := fun U : Vec Ideal S2x8x64x256 .f32 => update_at (outs V) U _ updateFits_S132x2x8x64x256_S1x2x8x64x256 ⟨n, hn⟩
    (starts V ⟨n, hn⟩ c.hc) i b h r e
  refine (hU _).trans ?_
  by_cases hin : i.val = n
  · rw [if_pos hin]
    pointwise
    have hQ : ∀ x : Fin 256, _ := fun x => (chunkQ V ⟨n, hn⟩ c.hc b h r x).trans (c.hq _ _ _ _ _)
    have hK : ∀ (y : Fin 64) (x : Fin 256), _ := fun y x => (chunkK V ⟨n, hn⟩ c.hc b h y x).trans (c.hk _ _ _ _ _)
    have hV : ∀ x : Fin 64, _ := fun x => (chunkV V ⟨n, hn⟩ c.hc b h x e).trans (c.hv _ _ _ _ _)
    have hS := fun d => c.hs b h d e
    have hI := c.hi h r
    have hD := c.hqd h r
    simp only [hQ, hK, hV, hS, hI, hD, ← EReal.coe_mul, coe_sum, ← EReal.coe_add]
    refine congrArg _ ?_
    rw [hin]
    exact Out_chunk (q b.val h.val) (k b.val h.val) (v b.val h.val) (lg h.val) 64 (64 * n) r e
  · rw [if_neg hin]
    exact c.ho i b h r e (by omega)

/-- A trip. -/
theorem step {n : ℕ} (hn : n < 132) (c : Carried V q k v lg n) : Carried (STEP V) q k v lg (n + 1) where
  hq := by have := c.hq; simp only [qs, STEP_main_v131_0] at *; exact this
  hk := by have := c.hk; simp only [ks, STEP_main_v131_1] at *; exact this
  hv := by have := c.hv; simp only [vs, STEP_main_v131_2] at *; exact this
  hi := by have := c.hi; simp only [intra, STEP_main_v131_3] at *; exact this
  hqd := by have := c.hqd; simp only [qdec, STEP_main_v131_4] at *; exact this
  hcd := by have := c.hcd; simp only [cdec, STEP_main_v131_5] at *; exact this
  hkd := by have := c.hkd; simp only [kdec, STEP_main_v131_6] at *; exact this
  hc := by
    rw [STEP_main_v131_7]
    unfold step_main_v131_7
    rw [c.hc]
    funext j
    show BitVec.ofNat 32 n + 1#32 = BitVec.ofNat 32 (n + 1)
    rw [BitVec.ofNat_add]
  hs b h d e := by
    simp only [state, STEP_main_v131_8]
    exact state_step hn c b h d e
  ho i b h r e hi := by
    simp only [outs, STEP_main_v131_9]
    exact outs_step hn c i hi b h r e

/-- All the trips up to the `n`-th. -/
theorem steps (c : Carried V q k v lg 0) : ∀ n : ℕ, n ≤ 132 → Carried (STEP^[n] V) q k v lg n
  | 0, _ => c
  | n + 1, hn => by
    rw [Function.iterate_succ_apply']
    exact step (by omega) (steps c n (by omega))

end Cert.FwdRefIdeal.Loop
-- ==== Proof.FwdRefEntry.lean ====
module

public import proofs.«01_k».proof.Proof.FwdRefLoop

/-!
What the forward reference's loop starts from, read at an index: the turned queries and keys, the values, the decays.
-/

@[expose] public section

set_option maxRecDepth 16384

noncomputable section

open Idealize.ShloMosaic Idealize.ShloMosaic.TcCoe Idealize.SL.Sem Idealize.ShloMosaic.StableHlo

namespace Cert.FwdRefIdeal.Entry

open Cert.FwdRefIdeal Cert.FwdRefIdeal.Gen Cert.FwdRefIdeal.Value Cert.FwdRefIdeal.Loop Cert.Proof.Ret

/-- Two arrays of tokens joined along the tokens. -/
def cat3 {α : Type} (a : S2x256x2048.Idx → α) (b : S2x8192x2048.Idx → α) : S2x8448x2048.Idx → α :=
  concatenate S2x8448x2048 1 [⟨S2x256x2048, a⟩, ⟨S2x8192x2048, b⟩] concatenates_S2x256x2048_S2x8192x2048_S2x8448x2048_d1
theorem cat3_def {α : Type} (a : S2x256x2048.Idx → α) (b : S2x8192x2048.Idx → α) :
    concatenate S2x8448x2048 1 [⟨S2x256x2048, a⟩, ⟨S2x8192x2048, b⟩] concatenates_S2x256x2048_S2x8192x2048_S2x8448x2048_d1
      = cat3 a b := rfl

/-- The two halves of the heads' coordinates joined. -/
def cat4 {α : Type} (a b : S2x8448x8x128.Idx → α) : S2x8448x8x256.Idx → α :=
  concatenate S2x8448x8x256 3 [⟨S2x8448x8x128, a⟩, ⟨S2x8448x8x128, b⟩] concatenates_S2x8448x8x128_S2x8448x8x128_S2x8448x8x256_d3
theorem cat4_def {α : Type} (a b : S2x8448x8x128.Idx → α) :
    concatenate S2x8448x8x256 3 [⟨S2x8448x8x128, a⟩, ⟨S2x8448x8x128, b⟩] concatenates_S2x8448x8x128_S2x8448x8x128_S2x8448x8x256_d3
      = cat4 a b := rfl

/-- The rows of one section, in sequences of tokens with their heads. -/
def tokens (y : Vec Ideal S16896x2048 .f32) : Vec Ideal S2x8448x8x256 .f32 :=
  shapeCast S2x8448x8x256 (cat3
    (shapeCast S2x256x2048 (extractStridedSlice S512x2048 ![0, 0] y slices_S16896x2048_S512x2048_0_0)
        shapeCasts_S512x2048_S2x256x2048)
    (shapeCast S2x8192x2048 (extractStridedSlice S16384x2048 ![512, 0] y slices_S16896x2048_S16384x2048_512_0)
        shapeCasts_S16384x2048_S2x8192x2048))
    shapeCasts_S2x8448x2048_S2x8448x8x256

/-- The angles as the reference computes them. -/
def angles : Vec Ideal S8448x128 .f32 :=
  mulf (broadcastInDim S8448x128 ![0, 1] bcast_S8448x1_S8448x128_0_1
      (broadcastInDim S8448x1 ![0] bcast_S8448_S8448x1_0 (sitofp .f32 (iotaInDim S8448 32 0))))
    (broadcastInDim S8448x128 ![0, 1] bcast_S1x128_S8448x128_0_1
      (broadcastInDim S1x128 ![1] bcast_S128_S1x128_1
        (Host.powf (broadcastInDim S128 ![] bcast_S_S128 (constant (F := Ideal) S_ .f32 0x461C4000#32))
          (Host.divf (Host.negf (sitofp .f32 (iotaInDim S128 32 0)))
            (broadcastInDim S128 ![] bcast_S_S128 (constant (F := Ideal) S_ .f32 0x43000000#32))))))

/-- A table of the positions' angles, for every sequence and head. -/
def spread (a : Vec Ideal S8448x128 .f32) : Vec Ideal S2x8448x8x128 .f32 :=
  broadcastInDim S2x8448x8x128 ![0, 1, 2, 3] bcast_S1x8448x1x128_S2x8448x8x128_0_1_2_3
    (broadcastInDim S1x8448x1x128 ![1, 3] bcast_S8448x128_S1x8448x1x128_1_3 a)

/-- Every token's every head turned by its position. -/
def rope (x : Vec Ideal S2x8448x8x256 .f32) : Vec Ideal S2x8448x8x256 .f32 :=
  cat4
    (subf (F := Ideal) (φ := .f32) (mulf (extractStridedSlice S2x8448x8x128 ![0, 0, 0, 0] x slices_S2x8448x8x256_S2x8448x8x128_0_0_0_0)
        (spread (Host.cos (F := Ideal) (s := S8448x128) (φ := .f32) angles)))
        (mulf (extractStridedSlice S2x8448x8x128 ![0, 0, 0, 128] x slices_S2x8448x8x256_S2x8448x8x128_0_0_0_128)
        (spread (Host.sin (F := Ideal) (s := S8448x128) (φ := .f32) angles))))
    (addf (F := Ideal) (φ := .f32) (mulf (extractStridedSlice S2x8448x8x128 ![0, 0, 0, 0] x slices_S2x8448x8x256_S2x8448x8x128_0_0_0_0)
        (spread (Host.sin (F := Ideal) (s := S8448x128) (φ := .f32) angles)))
        (mulf (extractStridedSlice S2x8448x8x128 ![0, 0, 0, 128] x slices_S2x8448x8x256_S2x8448x8x128_0_0_0_128)
        (spread (Host.cos (F := Ideal) (s := S8448x128) (φ := .f32) angles))))

/-- The tokens in chunks of 64. -/
def chunks (x : Vec Ideal S2x8448x8x256 .f32) : Vec Ideal S132x2x8x64x256 .f32 :=
  transpose S132x2x8x64x256 [1, 0, 3, 2, 4] (shapeCast S2x132x64x8x256 x shapeCasts_S2x8448x8x256_S2x132x64x8x256)
    transposes_S2x132x64x8x256_S132x2x8x64x256_1_0_3_2_4

/-- The scale of the keys. -/
def scaled (x : Vec Ideal S2x8448x8x256 .f32) : Vec Ideal S2x8448x8x256 .f32 :=
  mulf x (broadcastInDim S2x8448x8x256 ![] bcast_S_S2x8448x8x256 (constant (F := Ideal) S_ .f32 0x3D800000#32))

variable (m : (ℓ : Loc nD τ sig) → Buf (Elt Ideal) ℓ) (c : Dev nD)

/-- The projections. -/
abbrev proj : Vec Ideal S16896x16384 .f32 := m ((c.tc : Thread nD τ).loc main_arg0)

theorem entry_q : qs (entryContents preI m c) = chunks (rope (tokens (extractStridedSlice S16896x2048 ![0, 0] (proj m c)
    slices_S16896x16384_S16896x2048_0_0))) := by
  unfold qs
  simp only [entryContents, afterL_cons, afterL_nil]
  after_reads_simp
  simp only [cat4_def, cat3_def]
  after_reads_simp
  simp only [cat3_def]
  after_reads_simp
  rfl

theorem entry_k : ks (entryContents preI m c) = chunks (scaled (rope (tokens (extractStridedSlice S16896x2048 ![0, 2048] (proj m c)
    slices_S16896x16384_S16896x2048_0_2048)))) := by
  unfold ks
  simp only [entryContents, afterL_cons, afterL_nil]
  after_reads_simp
  simp only [cat4_def, cat3_def]
  after_reads_simp
  simp only [cat3_def]
  after_reads_simp
  rfl

theorem entry_v : vs (entryContents preI m c) = chunks (tokens (extractStridedSlice S16896x2048 ![0, 4096] (proj m c)
    slices_S16896x16384_S16896x2048_0_4096)) := by
  unfold vs
  simp only [entryContents, afterL_cons, afterL_nil]
  after_reads_simp
  simp only [cat3_def]
  after_reads_simp
  rfl

/-- The rates. -/
abbrev rates : Vec Ideal S2x8 .f32 := m ((c.tc : Thread nD τ).loc main_arg1)

/-- The logarithms of the heads' decays. -/
def logs (x : Vec Ideal S2x8 .f32) : Vec Ideal S8 .f32 :=
  shapeCast S8 (extractStridedSlice S1x8 ![0, 0] (Host.negf (F := Ideal) (s := S2x8) (φ := .f32) (Host.exp (F := Ideal) (s := S2x8) (φ := .f32) x)) slices_S2x8_S1x8_0_0) shapeCasts_S1x8_S8

/-- Positions in a chunk. -/
def places : Vec Ideal S64 .f32 := sitofp (F := Ideal) .f32 (iotaInDim S64 32 0)

/-- The distances between the tokens of a chunk. -/
def dists : Vec Ideal S64x64 .f32 :=
  subf (F := Ideal) (φ := .f32) (broadcastInDim S64x64 ![0, 1] bcast_S64x1_S64x64_0_1 (broadcastInDim S64x1 ![0] bcast_S64_S64x1_0 places))
    (broadcastInDim S64x64 ![0, 1] bcast_S1x64_S64x64_0_1 (broadcastInDim S1x64 ![1] bcast_S64_S1x64_1 places))

/-- Zero, on a chunk's pairs. -/
def zeros : Vec Ideal S64x64 .f32 := broadcastInDim S64x64 ![] bcast_S_S64x64 (constant (F := Ideal) S_ .f32 0x00000000#32)

/-- The decay between the tokens of a chunk, nothing towards later ones. -/
def intraT (lg : Vec Ideal S8 .f32) : Vec Ideal S8x64x64 .f32 :=
  select (broadcastInDim S8x64x64 ![1, 2] bcast_S64x64_S8x64x64_1_2 (cmpf (F := Ideal) (φ := .f32) .oge dists zeros))
    (Host.exp (F := Ideal) (s := S8x64x64) (φ := .f32)
      (mulf (F := Ideal) (φ := .f32) (broadcastInDim S8x64x64 ![0, 1, 2] bcast_S8x1x1_S8x64x64_0_1_2 (broadcastInDim S8x1x1 ![0] bcast_S8_S8x1x1_0 lg))
        (broadcastInDim S8x64x64 ![0, 1, 2] bcast_S1x64x64_S8x64x64_0_1_2
          (broadcastInDim S1x64x64 ![1, 2] bcast_S64x64_S1x64x64_1_2 (maximumf (F := Ideal) (φ := .f32) dists zeros)))))
    (broadcastInDim S8x64x64 ![] bcast_S_S8x64x64 (constant (F := Ideal) S_ .f32 0x00000000#32))

/-- A head's decay to the power of a place's exponent. -/
def power (lg : Vec Ideal S8 .f32) (x : Vec Ideal S64 .f32) : Vec Ideal S8x64x1 .f32 :=
  broadcastInDim S8x64x1 ![0, 1] bcast_S8x64_S8x64x1_0_1
    (Host.exp (F := Ideal) (s := S8x64) (φ := .f32)
      (mulf (F := Ideal) (φ := .f32) (broadcastInDim S8x64 ![0, 1] bcast_S8x1_S8x64_0_1 (broadcastInDim S8x1 ![0] bcast_S8_S8x1_0 lg))
        (broadcastInDim S8x64 ![0, 1] bcast_S1x64_S8x64_0_1 (broadcastInDim S1x64 ![1] bcast_S64_S1x64_1 x))))

/-- The decay over a whole chunk. -/
def wholeT (lg : Vec Ideal S8 .f32) : Vec Ideal S8x1x1 .f32 :=
  broadcastInDim S8x1x1 ![0] bcast_S8_S8x1x1_0 (Host.exp (F := Ideal) (s := S8) (φ := .f32)
    (mulf (F := Ideal) (φ := .f32) lg (broadcastInDim S8 ![] bcast_S_S8 (constant (F := Ideal) S_ .f32 0x42800000#32))))

theorem entry_i : intra (entryContents preI m c) = intraT (logs (rates m c)) := by
  unfold intra
  simp only [entryContents, afterL_cons, afterL_nil]
  after_reads_simp
  rfl

theorem entry_qd : qdec (entryContents preI m c) = power (logs (rates m c))
    (addf (F := Ideal) (φ := .f32) places (broadcastInDim S64 ![] bcast_S_S64 (constant (F := Ideal) S_ .f32 0x3F800000#32))) := by
  unfold qdec
  simp only [entryContents, afterL_cons, afterL_nil]
  after_reads_simp
  rfl

theorem entry_kd : kdec (entryContents preI m c) = power (logs (rates m c))
    (subf (F := Ideal) (φ := .f32) (broadcastInDim S64 ![] bcast_S_S64 (constant (F := Ideal) S_ .f32 0x427C0000#32)) places) := by
  unfold kdec
  simp only [entryContents, afterL_cons, afterL_nil]
  after_reads_simp
  rfl

theorem entry_cd : cdec (entryContents preI m c) = wholeT (logs (rates m c)) := by
  unfold cdec
  simp only [entryContents, afterL_cons, afterL_nil]
  after_reads_simp
  rfl

theorem entry_s : state (entryContents preI m c)
    = broadcastInDim S2x8x256x256 ![] bcast_S_S2x8x256x256 (constant (F := Ideal) S_ .f32 0#32) := by
  unfold state
  simp only [entryContents, afterL_cons, afterL_nil]
  after_reads_simp
  rfl

theorem entry_c : (entryContents preI m c) (Proc.devRef .tc main_v131_7) = (fun _ => BitVec.ofNat 32 0 : IVec S_ 32) := by
  simp only [entryContents, afterL_cons, afterL_nil]
  after_reads_simp
  rfl

/-! ### The same at an index -/

/-- The tokens: the context's rows, then the latents'. -/
theorem tokens_val (y : Vec Ideal S16896x2048 .f32) (b : Fin 2) (n : Fin 8448) (h : Fin 8) (d : Fin 256) :
    tokens y (ix4 b n h d) = y (ix2 ⟨rowTok b.val n.val, rowTok_lt b.isLt n.isLt⟩ ⟨256 * h.val + d.val, by omega⟩) := by
  unfold tokens
  pointwise
  unfold cat3
  by_cases hn : n.val < 256
  · rw [concatenate_pair_apply_left (t := S2x8448x2048) (s₁ := S2x256x2048) (s₂ := S2x8192x2048) 1 _ _ _ (ix3 b n _) rfl
      (ix3 b (⟨n.val, hn⟩ : Fin 256) ⟨h.val * 256 + d.val, by omega⟩) (fun a => by fin_cases a <;> rfl)]
    pointwise
    congr 1
    unfold rowTok
    funext a
    apply Fin.ext
    match a with
    | ⟨0, _⟩ => show b.val * 256 + n.val = if n.val < 256 then _ else _; rw [if_pos hn]; omega
    | ⟨1, _⟩ => show h.val * 256 + d.val = 256 * h.val + d.val; omega
  · rw [concatenate_pair_apply_right (t := S2x8448x2048) (s₁ := S2x256x2048) (s₂ := S2x8192x2048) 1 _ _ _ (ix3 b n _) rfl rfl
      (ix3 b (⟨n.val - 256, by omega⟩ : Fin 8192) ⟨h.val * 256 + d.val, by omega⟩) (fun a ha => by
        fin_cases a
        · rfl
        · exact absurd rfl ha
        · rfl) (by show n.val - 256 + 256 = n.val; omega)]
    pointwise
    congr 1
    unfold rowTok
    funext a
    apply Fin.ext
    match a with
    | ⟨0, _⟩ =>
      show 512 + (b.val * 8192 + (n.val - 256)) = if n.val < 256 then _ else _
      rw [if_neg hn]
      omega
    | ⟨1, _⟩ => show h.val * 256 + d.val = 256 * h.val + d.val; omega

/-- The angle of position `n` at frequency `j`. -/
theorem angles_val (n : Fin 8448) (j : Fin 128) : angles (ix2 n j) = (ang n.val j : EReal) := by
  unfold angles
  pointwise
  rw [f10000, f128, sitofp_val, sitofp_val, toInt_small (by omega), toInt_small (by omega)]
  have h : Ideal.div (-(((j.val : ℤ) : ℝ) : EReal)) ((128 : ℝ) : EReal) = ((-(j.val : ℝ) / 128 : ℝ) : EReal) := by
    unfold Ideal.div
    rw [if_neg (by exact_mod_cast (by norm_num : (128 : ℝ) ≠ 0)), ← EReal.coe_inv, ← EReal.coe_neg, ← EReal.coe_mul]
    rw [div_eq_mul_inv, Int.cast_natCast]
  rw [h]
  have h2 : Ideal.pow ((10000 : ℝ) : EReal) ((-(j.val : ℝ) / 128 : ℝ) : EReal)
      = (((10000 : ℝ) ^ (-(j.val : ℝ) / 128) : ℝ) : EReal) := rfl
  rw [h2, ← EReal.coe_mul]
  rw [ang, Int.cast_natCast]

/-- The spread tables of cosines and sines. -/
theorem cos_val (b : Fin 2) (n : Fin 8448) (h : Fin 8) (j : Fin 128) :
    spread (Host.cos (F := Ideal) (s := S8448x128) (φ := .f32) angles) (ix4 b n h j) = (cosT n.val j : EReal) := by
  unfold spread
  pointwise
  rw [angles_val]
  rfl
theorem sin_val (b : Fin 2) (n : Fin 8448) (h : Fin 8) (j : Fin 128) :
    spread (Host.sin (F := Ideal) (s := S8448x128) (φ := .f32) angles) (ix4 b n h j) = (sinT n.val j : EReal) := by
  unfold spread
  pointwise
  rw [angles_val]
  rfl

/-- A finite head of a token, turned. -/
theorem rope_val (x : Vec Ideal S2x8448x8x256 .f32) (xr : ℕ → Fin 256 → ℝ) (b : Fin 2) (n : Fin 8448) (h : Fin 8)
    (hx : ∀ d, x (ix4 b n h d) = (xr n.val d : EReal)) (d : Fin 256) :
    rope x (ix4 b n h d) = (turnQ id xr n.val d : EReal) := by
  unfold rope cat4 turnQ ropeR
  by_cases hd : d.val < 128
  · rw [concatenate_pair_apply_left (t := S2x8448x8x256) (s₁ := S2x8448x8x128) (s₂ := S2x8448x8x128) 3 _ _ _ (ix4 b n h d) rfl
      (ix4 b n h (⟨d.val, hd⟩ : Fin 128)) (fun a => by fin_cases a <;> rfl)]
    pointwise
    rw [cos_val, sin_val, hx, hx, ← EReal.coe_mul, ← EReal.coe_mul, ← EReal.coe_sub, dif_pos hd]
    simp only [Nat.add_comm, id]
  · rw [concatenate_pair_apply_right (t := S2x8448x8x256) (s₁ := S2x8448x8x128) (s₂ := S2x8448x8x128) 3 _ _ _ (ix4 b n h d) rfl rfl
      (ix4 b n h (⟨d.val - 128, by omega⟩ : Fin 128)) (fun a ha => by
        fin_cases a
        · rfl
        · rfl
        · rfl
        · exact absurd rfl ha) (by show d.val - 128 + 128 = d.val; omega)]
    pointwise
    have e : (⟨128 + (d.val - 128), by omega⟩ : Fin 256) = d := Fin.ext (by show 128 + (d.val - 128) = d.val; omega)
    rw [e, cos_val, sin_val, hx, hx, ← EReal.coe_mul, ← EReal.coe_mul, ← EReal.coe_add, dif_neg hd]
    rfl

/-- A chunk's token. -/
theorem chunks_val (x : Vec Ideal S2x8448x8x256 .f32) (i : Fin 132) (b : Fin 2) (h : Fin 8) (r : Fin 64) (d : Fin 256) :
    chunks x (ix5 i b h r d) = x (ix4 b ⟨64 * i.val + r.val, by omega⟩ h d) := by
  unfold chunks
  pointwise
  simp only [Nat.mul_comm]

/-- A scaled key. -/
theorem scaled_val (x : Vec Ideal S2x8448x8x256 .f32) (j : S2x8448x8x256.Idx) (y : ℝ) (hx : x j = (y : EReal)) :
    scaled x j = ((y * (1 / 16) : ℝ) : EReal) := by
  show x j * Ideal.ofBits .f32 0x3D800000#32 = _
  rw [hx, f16th, ← EReal.coe_mul]

/-- A head's logarithm. -/
theorem logs_val (x : Vec Ideal S2x8 .f32) (h : Fin 8) (y : ℝ) (hx : x (ix2 0 h) = (y : EReal)) :
    logs x (ix1 h) = ((-Real.exp y : ℝ) : EReal) := by
  unfold logs
  pointwise
  rw [hx, EReal.coe_neg]
  rfl

/-- The decay between two tokens of a chunk. -/
theorem intra_val (lg : Vec Ideal S8 .f32) (h : Fin 8) (l : ℝ) (hl : lg (ix1 h) = (l : EReal)) (r j : Fin 64) :
    intraT lg (ix3 h r j) = ((if j.val ≤ r.val then Real.exp (l * ((r.val : ℝ) - j.val)) else 0 : ℝ) : EReal) := by
  unfold intraT dists zeros places
  pointwise
  rw [hl, sitofp_val, sitofp_val, toInt_small (by omega), toInt_small (by omega), ← EReal.coe_sub]
  simp only [Int.cast_natCast]
  by_cases hj : j.val ≤ r.val
  · have h0 : (0 : ℝ) ≤ (r.val : ℝ) - j.val := by
      have : (j.val : ℝ) ≤ r.val := by exact_mod_cast hj
      linarith
    have h1 : (0 : EReal) ≤ (((r.val : ℝ) - j.val : ℝ) : EReal) := EReal.coe_nonneg.mpr h0
    rw [max_eq_left h1, ← EReal.coe_mul, if_pos hj]
    show Scalar.select (BitVec.ofBool (decide ((0 : EReal) ≤ (((r.val : ℝ) - j.val : ℝ) : EReal)))) _ _ = _
    rw [decide_eq_true h1]
    exact ValueIdx.select_one _ _
  · have h0 : (r.val : ℝ) - j.val < 0 := by
      have : (r.val : ℝ) < j.val := by exact_mod_cast (not_le.mp hj)
      linarith
    have h1 : ¬ (0 : EReal) ≤ (((r.val : ℝ) - j.val : ℝ) : EReal) := fun hc => absurd (EReal.coe_nonneg.mp hc) (not_le.mpr h0)
    rw [if_neg hj]
    show Scalar.select (BitVec.ofBool (decide ((0 : EReal) ≤ (((r.val : ℝ) - j.val : ℝ) : EReal)))) _ _ = _
    rw [decide_eq_false h1]
    exact ValueIdx.select_zero _ _

/-- A head's decay to the power of a place's exponent. -/
theorem power_val (lg : Vec Ideal S8 .f32) (h : Fin 8) (l : ℝ) (hl : lg (ix1 h) = (l : EReal)) (x : Vec Ideal S64 .f32) (r : Fin 64)
    (y : ℝ) (hx : x (ix1 r) = (y : EReal)) : power lg x (ix3 h r 0) = ((Real.exp (l * y) : ℝ) : EReal) := by
  unfold power
  pointwise
  rw [hl, hx, ← EReal.coe_mul]
  rfl

/-- The decay over a chunk. -/
theorem whole_val (lg : Vec Ideal S8 .f32) (h : Fin 8) (l : ℝ) (hl : lg (ix1 h) = (l : EReal)) :
    wholeT lg (ix3 h 0 0) = ((Real.exp (l * 64) : ℝ) : EReal) := by
  unfold wholeT
  pointwise
  rw [hl, f64, ← EReal.coe_mul]
  rfl

/-- The exponents from a chunk's start, and to its end. -/
theorem from_val (r : Fin 64) : (addf (F := Ideal) (φ := .f32) places
    (broadcastInDim S64 ![] bcast_S_S64 (constant (F := Ideal) S_ .f32 0x3F800000#32))) (ix1 r) = (((r.val : ℝ) + 1 : ℝ) : EReal) := by
  unfold places
  pointwise
  rw [sitofp_val, toInt_small (by omega), Int.cast_natCast, EReal.coe_add, EReal.coe_one]
theorem to_val (r : Fin 64) : (subf (F := Ideal) (φ := .f32)
    (broadcastInDim S64 ![] bcast_S_S64 (constant (F := Ideal) S_ .f32 0x427C0000#32)) places) (ix1 r)
      = ((63 - (r.val : ℝ) : ℝ) : EReal) := by
  unfold places
  pointwise
  rw [sitofp_val, toInt_small (by omega), f63, ← EReal.coe_sub]
  norm_num

variable (pr : ℕ → ℕ → ℝ) (rr : ℕ → ℝ)
variable (hp : ∀ (r : Fin 16896) (k : Fin 16384), proj m c (ix2 r k) = (pr r.val k.val : EReal))
variable (hr : ∀ h : Fin 8, rates m c (ix2 (0 : Fin 2) h) = (rr h.val : EReal))

include hp hr

/-- The loop starts from the sequences' turned queries and keys, their values, and the heads' decays. -/
theorem entry : Carried (entryContents preI m c) (fun b h => turnQ id (seqOf id pr 0 b h))
    (fun b h => turnK id (seqOf id pr 1 b h)) (fun b h => seqOf id pr 2 b h) (fun h => -Real.exp (rr h)) 0 where
  hq i b h r d := by
    rw [entry_q, chunks_val]
    refine rope_val _ _ b ⟨64 * i.val + r.val, by omega⟩ h (fun d => ?_) d
    rw [tokens_val]
    pointwise
    rw [hp, seqOf]
    simp only [id]
    congr 2
    omega
  hk i b h r d := by
    rw [entry_k, chunks_val]
    refine scaled_val _ _ _ ?_
    refine rope_val _ _ b ⟨64 * i.val + r.val, by omega⟩ h (fun d => ?_) d
    rw [tokens_val]
    pointwise
    rw [hp, seqOf]
    simp only [id]
    congr 2
    omega
  hv i b h r d := by
    rw [entry_v, chunks_val, tokens_val]
    pointwise
    rw [hp, seqOf]
    simp only [id]
    congr 2
    omega
  hi h r j := by
    rw [entry_i]
    exact intra_val _ h _ (logs_val _ h _ (hr h)) r j
  hqd h r := by
    rw [entry_qd]
    exact power_val _ h _ (logs_val _ h _ (hr h)) _ r _ (from_val r)
  hcd h := by
    rw [entry_cd]
    exact whole_val _ h _ (logs_val _ h _ (hr h))
  hkd h r := by
    rw [entry_kd]
    exact power_val _ h _ (logs_val _ h _ (hr h)) _ r _ (to_val r)
  hc := entry_c m c
  hs b h d e := by
    rw [entry_s, Nat.mul_zero, St_zero]
    exact f0
  ho i b h r e hi := absurd hi (Nat.not_lt_zero _)

/-- The result before it is laid out in rows. -/
def laid (x : Vec Ideal S132x2x8x64x256 .f32) : Vec Ideal S2x8448x8x256 .f32 :=
  shapeCast S2x8448x8x256 (transpose S2x132x64x8x256 [1, 0, 3, 2, 4] x transposes_S132x2x8x64x256_S2x132x64x8x256_1_0_3_2_4)
    shapeCasts_S2x132x64x8x256_S2x8448x8x256

omit hp hr in
theorem laid_val (x : Vec Ideal S132x2x8x64x256 .f32) (b : Fin 2) (n : Fin 8448) (h : Fin 8) (e : Fin 256) :
    laid x (ix4 b n h e) = x (ix5 ⟨n.val / 64, by omega⟩ b h ⟨n.val % 64, by omega⟩ e) := by
  unfold laid
  pointwise

omit hp hr in
/-- Rows of the result. -/
theorem rows_val (V : Valuation τ sig (Elt Ideal)) (b : Fin 2) (n : Fin 8448) (h : Fin 8) (e : Fin 256) :
    (out_main_v138 (F := Ideal) V : Vec Ideal S16896x2048 .f32)
        (ix2 ⟨rowTok b.val n.val, rowTok_lt b.isLt n.isLt⟩ ⟨256 * h.val + e.val, by omega⟩)
      = outs V (ix5 ⟨n.val / 64, by omega⟩ b h ⟨n.val % 64, by omega⟩ e) := by
  refine Eq.trans ?_ (laid_val (outs V) b n h e)
  unfold out_main_v138
  by_cases hn : n.val < 256
  · have hrow : rowTok b.val n.val = 256 * b.val + n.val := if_pos hn
    rw [concatenate_pair_apply_left (t := S16896x2048) (s₁ := S512x2048) (s₂ := S16384x2048) 0 _ _ _ _ rfl
      (ix2 (⟨256 * b.val + n.val, by omega⟩ : Fin 512) ⟨256 * h.val + e.val, by omega⟩) (fun a => by
        fin_cases a
        · exact hrow.symm
        · rfl)]
    show shapeCast S512x2048 (extractStridedSlice S2x256x8x256 ![0, 0, 0, 0] (laid (outs V)) slices_S2x8448x8x256_S2x256x8x256_0_0_0_0)
      shapeCasts_S2x256x8x256_S512x2048 (ix2 _ _) = _
    pointwise
    congr 1
    funext a
    apply Fin.ext
    match a with
    | ⟨0, _⟩ => first | rfl | (show (256 * b.val + n.val) / 256 = b.val; omega)
    | ⟨1, _⟩ => first | rfl | (show (256 * b.val + n.val) % 256 = n.val; omega)
    | ⟨2, _⟩ => first | rfl | (show (256 * h.val + e.val) / 256 = h.val; omega)
    | ⟨3, _⟩ => first | rfl | (show (256 * h.val + e.val) % 256 = e.val; omega)
  · have hrow : rowTok b.val n.val = 512 + 8192 * b.val + (n.val - 256) := if_neg hn
    rw [concatenate_pair_apply_right (t := S16896x2048) (s₁ := S512x2048) (s₂ := S16384x2048) 0 _ _ _ _ rfl rfl
      (ix2 (⟨8192 * b.val + (n.val - 256), by omega⟩ : Fin 16384) ⟨256 * h.val + e.val, by omega⟩) (fun a ha => by
        fin_cases a
        · exact absurd rfl ha
        · rfl) (by show 8192 * b.val + (n.val - 256) + 512 = rowTok b.val n.val; omega)]
    show shapeCast S16384x2048 (extractStridedSlice S2x8192x8x256 ![0, 256, 0, 0] (laid (outs V)) slices_S2x8448x8x256_S2x8192x8x256_0_256_0_0)
      shapeCasts_S2x8192x8x256_S16384x2048 (ix2 _ _) = _
    pointwise
    congr 1
    funext a
    apply Fin.ext
    match a with
    | ⟨0, _⟩ => first | rfl | (show (8192 * b.val + (n.val - 256)) / 8192 = b.val; omega)
    | ⟨1, _⟩ => first | rfl | (show 256 + (8192 * b.val + (n.val - 256)) % 8192 = n.val; omega)
    | ⟨2, _⟩ => first | rfl | (show (256 * h.val + e.val) / 256 = h.val; omega)
    | ⟨3, _⟩ => first | rfl | (show (256 * h.val + e.val) % 256 = e.val; omega)

/-- The reference's result at every token, head and coordinate. -/
theorem result {b n h : ℕ} (hb : b < 2) (hn : n < 8448) (hh : h < 8) (e : Fin 256) :
    (out_main_v138 (F := Ideal) (STEP^[132] (entryContents preI m c)) : Vec Ideal S16896x2048 .f32)
        (ix2 ⟨rowTok b n, rowTok_lt hb hn⟩ ⟨256 * h + e.val, by omega⟩)
      = (retOut id pr rr b h n e : EReal) := by
  refine (rows_val _ ⟨b, hb⟩ ⟨n, hn⟩ ⟨h, hh⟩ e).trans ?_
  refine ((steps (entry m c pr rr hp hr) 132 le_rfl).ho ⟨n / 64, by omega⟩ ⟨b, hb⟩ ⟨h, hh⟩ ⟨n % 64, by omega⟩ e
    (show n / 64 < 132 by omega)).trans ?_
  show (Out _ _ _ _ (64 * (n / 64) + n % 64) e : EReal) = _
  rw [Nat.div_add_mod]
  rfl

end Cert.FwdRefIdeal.Entry
-- ==== Proof.FwdClaim.lean ====
module

public import proofs.«01_k».proof.Defs
public import proofs.«01_k».proof.Proof.Gen.Fwd.Frame
public import proofs.«01_k».proof.Proof.Gen.Pre_finite_forward
public import proofs.«01_k».proof.Proof.Finite
public import proofs.«01_k».proof.Proof.FwdValue
public import proofs.«01_k».proof.Proof.FwdRefEntry
public import Idealize.ShloMosaic.Lib.Affine
public import Idealize.ShloMosaic.Adequacy
public import Idealize.ShloMosaic.Init

/-!
The claims of the forward retention: on finite projections and rates the kernel and the reference end with the same
array, the retention of every head of every token.
-/

@[expose] public section

set_option maxRecDepth 16384

noncomputable section

open Idealize.ShloMosaic Idealize.SL.Sem

namespace Cert.Proof.Forward

open Cert.Proof.Ret

instance : Cert.Fwd.Facts := Cert.Fwd.Gen.facts
instance : Cert.FwdIdeal.Facts := Cert.FwdIdeal.Gen.facts
instance : Cert.FwdRefIdeal.Facts := Cert.FwdRefIdeal.Gen.facts
instance : Cert.Pre_finite_forward.Facts := Cert.Pre_finite_forward.Gen.facts

/-- The precondition says that both arguments are finite. -/
theorem finite_of_pre {x : FVec Ideal Cert.Pre_finite_forward.S16896x16384 .f32} {y : FVec Ideal Cert.Pre_finite_forward.S2x8 .f32}
    (h : Cert.Pre_finite_forward.fn (F := Ideal) x y = fun _ => 1#1) :
    (∀ i, ∃ a : ℝ, x i = (a : EReal)) ∧ (∀ i, ∃ a : ℝ, y i = (a : EReal)) := by
  have h0 := congrFun h (Shape.Idx.first Cert.Pre_finite_forward.Facts.h_S_)
  unfold Cert.Pre_finite_forward.fn at h0
  dsimp only at h0
  obtain ⟨h1, h2⟩ := Cert.Proof.Ret.andi_one h0
  exact ⟨finite_of_all x _ _ _ _ _ h1, finite_of_all y _ _ _ _ _ h2⟩

/-- The kernel's run as lowered, and over the extended reals; then the reference's. -/
theorem frame_kernel : Cert.quiescent_Fwd := fun m ρ _ => Cert.Fwd.Gen.frame (F := Bits) m ρ
theorem frame_ideal : Cert.quiescent_FwdIdeal := fun m ρ _ => Cert.FwdIdeal.Gen.frame (F := Ideal) m ρ
theorem frame_ideal_pre : Cert.quiescent_FwdIdeal_pre_finite_forward := fun m ρ _ => Cert.FwdIdeal.Gen.frame (F := Ideal) m ρ
theorem frame_ref : Cert.quiescent_FwdRefIdeal := fun m ρ _ =>
  (θ_run Cert.FwdRefIdeal.defs _ _).mono (fun r h => ⟨fun c => (h c).2, sem_eq_zero_of_no_sems (by decide) r.2⟩)
    (Cert.FwdRefIdeal.Value.run (F := Ideal) m ρ)
theorem frame_ref_pre : Cert.quiescent_FwdRefIdeal_pre_finite_forward := fun m ρ _ => frame_ref m ρ trivial

/-- On finite arguments the kernel's result array is the reference's. -/
theorem equal (m : (ℓ : Loc Cert.FwdIdeal.nD Cert.FwdIdeal.τ Cert.FwdIdeal.sig) → Buf (Elt Ideal) ℓ)
    (m' : (ℓ : Loc Cert.FwdRefIdeal.nD Cert.FwdRefIdeal.τ Cert.FwdRefIdeal.sig) → Buf (Elt Ideal) ℓ) (c : Dev Cert.FwdIdeal.nD)
    (h0 : m' ((c.tc : Thread Cert.FwdRefIdeal.nD Cert.FwdRefIdeal.τ).loc Cert.FwdRefIdeal.main_arg0)
      = m ((c.tc : Thread Cert.FwdIdeal.nD Cert.FwdIdeal.τ).loc Cert.FwdIdeal.main_arg0))
    (h1 : m' ((c.tc : Thread Cert.FwdRefIdeal.nD Cert.FwdRefIdeal.τ).loc Cert.FwdRefIdeal.main_arg1)
      = m ((c.tc : Thread Cert.FwdIdeal.nD Cert.FwdIdeal.τ).loc Cert.FwdIdeal.main_arg1))
    (hf : Cert.Pre_finite_forward.fn (F := Ideal)
      (m ((c.tc : Thread Cert.FwdIdeal.nD Cert.FwdIdeal.τ).loc Cert.FwdIdeal.main_arg0))
      (m ((c.tc : Thread Cert.FwdIdeal.nD Cert.FwdIdeal.τ).loc Cert.FwdIdeal.main_arg1)) = fun _ => 1#1) :
    (Cert.FwdRefIdeal.Value.out_main_v138 (F := Ideal)
        (Cert.FwdRefIdeal.Value.STEP^[132] (StableHlo.entryContents Cert.FwdRefIdeal.Value.preI m' c))
        : Vec Ideal Cert.FwdIdeal.S16896x2048 .f32)
      = (Cert.FwdIdeal.Gen.dats (F := Ideal) m 0 c).arrAt 6 Cert.FwdIdeal.cfg0.N := by
  obtain ⟨fx, fy⟩ := finite_of_pre hf
  obtain ⟨pr, hp⟩ := exists_real2 _ fx
  obtain ⟨rr, hr⟩ := exists_real2 _ fy
  funext i
  obtain ⟨b, n, hb, hn, hrow⟩ := exists_tok (i 0).isLt
  have hcol : (i 1).val < 2048 := (i 1).isLt
  have hi : i = ix2 ⟨rowTok b n, rowTok_lt hb hn⟩ ⟨256 * ((i 1).val / 256) + (i 1).val % 256, by omega⟩ := by
    funext a
    apply Fin.ext
    match a with
    | ⟨0, _⟩ => exact hrow.symm
    | ⟨1, _⟩ => show (i 1).val = 256 * ((i 1).val / 256) + (i 1).val % 256; omega
  rw [hi]
  have hh : (i 1).val / 256 < 8 := by omega
  refine (Cert.FwdRefIdeal.Entry.result m' c pr (rr 0) (fun r k => ?_) (fun h => ?_) hb hn hh ⟨(i 1).val % 256, by omega⟩).trans
    (Cert.FwdIdeal.Result.result m c pr (rr 0) hp (fun h => hr 0 h) hb hn hh ⟨(i 1).val % 256, by omega⟩).symm
  · exact (congrFun h0 _).trans (hp r k)
  · exact (congrFun h1 _).trans (hr 0 h)

/-- The value claim. -/
theorem algebraic : Cert.algebraic_FwdIdeal_FwdRefIdeal_pre_finite_forward := by
  intro m ρ m' ρ' hpre hagree
  refine ⟨fun c => (Cert.FwdIdeal.Gen.dats (F := Ideal) m 0 c).arrAt 6 Cert.FwdIdeal.cfg0.N,
    Cert.FwdIdeal.Value.run_blocks (F := Ideal) m ρ, ?_⟩
  refine (θ_run _ _ _).mono (fun _ h c => ⟨(h c).1.trans ?_, (h c).2⟩) (Cert.FwdRefIdeal.Value.run (F := Ideal) m' ρ')
  exact equal m m' c (hagree c).1 (hagree c).2 (hpre c)

end Cert.Proof.Forward

end
-- ==== Proof.InClaim.lean ====
module

public import proofs.«01_k».proof.Defs
public import proofs.«01_k».proof.Proof.Gen.In.Frame
public import proofs.«01_k».proof.Proof.Gen.InIdeal.Value
public import proofs.«01_k».proof.Proof.Gen.InRefIdeal.Run
public import Idealize.ShloMosaic.Lib.Pointwise.Tactic
public import Idealize.ShloMosaic.Lib.Pointwise.Contract
public import Idealize.ShloMosaic.Lib.Pointwise.Reshape
public import Idealize.ShloMosaic.Lib.Pointwise.ShapeOps
public import Idealize.ShloMosaic.Lib.IdealHost
public import Idealize.ShloMosaic.Lib.MatmulPlain
public import Idealize.ShloMosaic.Lib.Pipeline.Value
public import Idealize.ShloMosaic.Adequacy
public import Idealize.ShloMosaic.Init

/-!
The projection into a mixer: 22 by 16 blocks of the product, one at each grid point, are the product of the whole
arrays.
-/

@[expose] public section

set_option maxRecDepth 16384

noncomputable section

open Idealize.ShloMosaic Idealize.ShloMosaic.TcCoe Idealize.SL.Sem

namespace Cert.Proof.Inproj

open Cert.InIdeal Cert.InIdeal.Gen Cert.InIdeal.Value

instance : Cert.In.Facts := Cert.In.Gen.facts
instance : Cert.InRefIdeal.Facts := Cert.InRefIdeal.Gen.facts

/-- The product of the two arguments, index by index. -/
def prod (x : Vec Ideal S16896x4096 .bf16) (w : Vec Ideal S4096x16384 .f32) : Vec Ideal S16896x16384 .f32 :=
  fun i => ∑ d : Fin 4096, (x (ix2 (i 0) d) : EReal) * (w (ix2 d (i 1)) : EReal)

/-- The blocks a grid point reads and writes. -/
theorem idx0 : ∀ t : Fin grid0.N, win0_0.index t 0 = t.val % 22 ∧ win0_0.index t 1 = 0 := by decide +kernel
theorem idx1 : ∀ t : Fin grid0.N, win0_1.index t 0 = 0 ∧ win0_1.index t 1 = t.val / 22 := by decide +kernel
theorem idx2 : ∀ t : Fin grid0.N, win0_2.index t 0 = t.val % 22 ∧ win0_2.index t 1 = t.val / 22 := by decide +kernel

variable (m : (ℓ : Loc nD τ sig) → Buf (Elt Ideal) ℓ) (c : Dev nD)

/-- The arguments, as arrays. -/
abbrev rowsOf : Vec Ideal S16896x4096 .bf16 := m ((c : Thread nD τ).loc main_arg0)
abbrev weights : Vec Ideal S4096x16384 .f32 := m ((c : Thread nD τ).loc main_arg1)

theorem point_lt (t : Fin cfg0.N) : t.val < 352 := t.isLt.trans_eq N_0

/-- The rows a point reads. -/
theorem blk0 (t : Fin cfg0.N) (r : Fin 768) (d : Fin 4096) :
    (iblk (F := Ideal) m c 0 t : Vec Ideal S768x4096 .bf16) (ix2 r d) = rowsOf m c
      (ix2 ⟨768 * (t.val % 22) + r.val, by have := r.isLt; omega⟩ d) := by
  unfold iblk
  rw [View.read_apply]
  show V (F := Ideal) m c main_arg0 _ = m (c.tc.loc main_arg0) _
  rw [V_main_arg0]
  congr 1
  funext a
  apply Fin.ext
  match a with
  | ⟨0, _⟩ => show win0_0.index t 0 * 768 + 1 * r.val = 768 * (t.val % 22) + r.val; rw [(idx0 t).1]; omega
  | ⟨1, _⟩ => show win0_0.index t 1 * 4096 + 1 * d.val = d.val; rw [(idx0 t).2]; omega

/-- The weights as the host rounds them: over the extended reals, as they are. -/
theorem V_v0 : (V (F := Ideal) m c main_v0 : Vec Ideal S4096x16384 .bf16)
    = (truncf (F := Ideal) (s := S4096x16384) (φ := .f32) .bf16 (weights m c) bitsLt_bf16_f32 : Vec Ideal S4096x16384 .bf16) := by
  unfold V
  simp only [hostOps0]
  after_results

/-- The columns a point reads. -/
theorem blk1 (t : Fin cfg0.N) (d : Fin 4096) (e : Fin 1024) :
    (iblk (F := Ideal) m c 1 t : Vec Ideal S4096x1024 .bf16) (ix2 d e) = weights m c
      (ix2 d ⟨1024 * (t.val / 22) + e.val, by have := e.isLt; have := point_lt t; omega⟩) := by
  unfold iblk
  rw [View.read_apply]
  show V (F := Ideal) m c main_v0 _ = _
  rw [V_v0]
  show weights m c _ = weights m c _
  congr 1
  funext a
  apply Fin.ext
  match a with
  | ⟨0, _⟩ => show win0_1.index t 0 * 4096 + 1 * d.val = d.val; rw [(idx1 t).1]; omega
  | ⟨1, _⟩ => show win0_1.index t 1 * 1024 + 1 * e.val = 1024 * (t.val / 22) + e.val; rw [(idx1 t).2]; omega

/-- A point's block of the product, at an index. -/
theorem pay (x : Vec Ideal S768x4096 .bf16) (w : Vec Ideal S4096x1024 .bf16) (r : Fin 768) (e : Fin 1024) :
    k0_pay1 (F := Ideal) x w (ix2 r e) = ∑ d : Fin 4096, (x (ix2 r d) : EReal) * (w (ix2 d e) : EReal) := by
  unfold k0_pay1
  pointwise

theorem hz : ![0, 0] = (fun _ : Fin 2 => 0) := by funext a; fin_cases a <;> rfl

/-- What a point writes back is its block of the product. -/
theorem flushed (t : Fin cfg0.N) :
    (dats (F := Ideal) m 0 c).flushed 2 t = ((cfg0.win 2).blk t).view.read (Elt Ideal)
      (prod (rowsOf m c) (weights m c)) := by
  rw [flushed2]
  funext y
  rw [View.read_apply]
  have ht := point_lt t
  obtain ⟨r, e, rfl⟩ : ∃ (r : Fin 768) (e : Fin 1024), y = (ix2 r e : S768x1024.Idx) :=
    ⟨y 0, y 1, by funext a; match a with | ⟨0, _⟩ => rfl | ⟨1, _⟩ => rfl⟩
  have h : out0_2 (F := Ideal) (iblk m c 0 t) (iblk m c 1 t) (ix2 r e)
      = ∑ d : Fin 4096, (rowsOf m c
          (ix2 ⟨768 * (t.val % 22) + r.val, by have := r.isLt; omega⟩ d) : EReal)
        * (weights m c
          (ix2 d ⟨1024 * (t.val / 22) + e.val, by have := e.isLt; omega⟩) : EReal) := by
    unfold out0_2
    rw [View.canon_unit_zero (S := S768x1024) hz, View.ld_unit_zero (S := S768x4096) hz, View.ld_unit_zero (S := S4096x1024) hz, pay]
    exact Finset.sum_congr rfl fun d _ => by rw [blk0, blk1]
  have hi : ((cfg0.win 2).blk t).view.emb (ix2 r e : S768x1024.Idx)
      = (ix2 ⟨768 * (t.val % 22) + r.val, by have := r.isLt; omega⟩
          ⟨1024 * (t.val / 22) + e.val, by have := e.isLt; omega⟩ : S16896x16384.Idx) := by
    funext a
    apply Fin.ext
    match a with
    | ⟨0, _⟩ => show win0_2.index t 0 * 768 + 1 * r.val = 768 * (t.val % 22) + r.val; rw [(idx2 t).1]; omega
    | ⟨1, _⟩ => show win0_2.index t 1 * 1024 + 1 * e.val = 1024 * (t.val / 22) + e.val; rw [(idx2 t).2]; omega
  exact h.trans (congrArg (prod (rowsOf m c) (weights m c)) hi).symm

/-- Every index of the result is in some point's block. -/
theorem cover (i : S16896x16384.Idx) : ∃ t : Fin cfg0.N, (cfg0.win 2).flush t = true ∧ i ∈ ((cfg0.win 2).blk t).view.set := by
  have h0 : (i 0).val < 16896 := (i 0).isLt
  have h1 : (i 1).val < 16384 := (i 1).isLt
  have hN : cfg0.N = 352 := N_0
  let t : Fin cfg0.N := ⟨22 * ((i 1).val / 1024) + (i 0).val / 768, by omega⟩
  refine ⟨t, flush0_2 t, ?_⟩
  have hi : i = ((cfg0.win 2).blk t).view.emb (ix2 ⟨(i 0).val % 768, by omega⟩ ⟨(i 1).val % 1024, by omega⟩ : S768x1024.Idx) := by
    have ht : t.val = 22 * ((i 1).val / 1024) + (i 0).val / 768 := rfl
    funext a
    apply Fin.ext
    match a with
    | ⟨0, _⟩ => show (i 0).val = win0_2.index t 0 * 768 + 1 * ((i 0).val % 768); rw [(idx2 t).1]; omega
    | ⟨1, _⟩ => show (i 1).val = win0_2.index t 1 * 1024 + 1 * ((i 1).val % 1024); rw [(idx2 t).2]; omega
  rw [hi]
  exact View.emb_mem_set _ _

/-- The kernel ends with the product. -/
theorem final : (dats (F := Ideal) m 0 c).arrAt 2 cfg0.N
    = prod (rowsOf m c) (weights m c) :=
  (dats (F := Ideal) m 0 c).arrAt_eq_of_cover 2 _ (fun t _ => flushed m c t) cover

/-- The reference's product, index by index. -/
theorem ref_prod (x : FVec Ideal Cert.InRefIdeal.S16896x4096 .bf16) (w : FVec Ideal Cert.InRefIdeal.S4096x16384 .f32) :
    Host.dotGeneral (F := Ideal) Cert.InRefIdeal.dot_S16896x4096_S4096x16384_S16896x16384_1_0_0_1_n_n none
      (extf .f32 x Cert.InRefIdeal.Gen.bitsLt_bf16_f32) w = prod x w := by
  funext i
  obtain ⟨r, e, rfl⟩ : ∃ (r : Fin 16896) (e : Fin 16384), i = (ix2 r e : S16896x16384.Idx) :=
    ⟨i 0, i 1, by funext a; match a with | ⟨0, _⟩ => rfl | ⟨1, _⟩ => rfl⟩
  unfold prod
  pointwise

/-- The frames of the kernel, of the ideal kernel and of the reference. -/
theorem frame_kernel : Cert.quiescent_In := fun m ρ _ => Cert.In.Gen.frame (F := Bits) m ρ
theorem frame_ideal : Cert.quiescent_InIdeal := fun m ρ _ => Cert.InIdeal.Gen.frame (F := Ideal) m ρ
theorem frame_ref : Cert.quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

/-- The value claim: kernel and reference end with the same product. -/
theorem algebraic : Cert.algebraic_InIdeal_InRefIdeal := by
  intro m ρ m' ρ' _ hagree
  refine ⟨fun c => prod (rowsOf m c) (weights m c), ?_, ?_⟩
  · exact (θ_run _ _ _).mono (fun _ h c => ⟨(h c).1.trans (final m c), (h c).2⟩) (run_blocks (F := Ideal) m ρ)
  · refine (θ_run _ _ _).mono (fun _ h c => ⟨(h c).1.trans ?_, (h c).2⟩) (Cert.InRefIdeal.Value.run (F := Ideal) m' ρ')
    rw [(hagree c).1, (hagree c).2]
    exact ref_prod _ _

end Cert.Proof.Inproj

end
-- ==== Proof.OutClaim.lean ====
module

public import proofs.«01_k».proof.Defs
public import proofs.«01_k».proof.Proof.Gen.Out.Frame
public import proofs.«01_k».proof.Proof.Gen.OutIdeal.Value
public import proofs.«01_k».proof.Proof.Gen.OutRefIdeal.Run
public import Idealize.ShloMosaic.Lib.Pointwise.Tactic
public import Idealize.ShloMosaic.Lib.Pointwise.Contract
public import Idealize.ShloMosaic.Lib.Pointwise.Reshape
public import Idealize.ShloMosaic.Lib.Pointwise.ShapeOps
public import Idealize.ShloMosaic.Lib.IdealHost
public import Idealize.ShloMosaic.Lib.MatmulPlain
public import Idealize.ShloMosaic.Lib.Pipeline.Value
public import Idealize.ShloMosaic.Adequacy
public import Idealize.ShloMosaic.Init

/-!
The projection out of the gated DeltaNet: 22 by 4 blocks of the product, one at each grid point, are the product of the whole
arrays.
-/

@[expose] public section

set_option maxRecDepth 16384

noncomputable section

open Idealize.ShloMosaic Idealize.ShloMosaic.TcCoe Idealize.SL.Sem

namespace Cert.Proof.Outproj

open Cert.OutIdeal Cert.OutIdeal.Gen Cert.OutIdeal.Value

instance : Cert.Out.Facts := Cert.Out.Gen.facts
instance : Cert.OutRefIdeal.Facts := Cert.OutRefIdeal.Gen.facts

/-- The product of the two arguments, index by index. -/
def prod (x : Vec Ideal S16896x4096 .bf16) (w : Vec Ideal S4096x4096 .f32) : Vec Ideal S16896x4096 .f32 :=
  fun i => ∑ d : Fin 4096, (x (ix2 (i 0) d) : EReal) * (w (ix2 d (i 1)) : EReal)

/-- The blocks a grid point reads and writes. -/
theorem idx0 : ∀ t : Fin grid0.N, win0_0.index t 0 = t.val % 22 ∧ win0_0.index t 1 = 0 := by decide +kernel
theorem idx1 : ∀ t : Fin grid0.N, win0_1.index t 0 = 0 ∧ win0_1.index t 1 = t.val / 22 := by decide +kernel
theorem idx2 : ∀ t : Fin grid0.N, win0_2.index t 0 = t.val % 22 ∧ win0_2.index t 1 = t.val / 22 := by decide +kernel

variable (m : (ℓ : Loc nD τ sig) → Buf (Elt Ideal) ℓ) (c : Dev nD)

/-- The arguments, as arrays. -/
abbrev rowsOf : Vec Ideal S16896x4096 .bf16 := m ((c : Thread nD τ).loc main_arg0)
abbrev weights : Vec Ideal S4096x4096 .f32 := m ((c : Thread nD τ).loc main_arg1)

theorem point_lt (t : Fin cfg0.N) : t.val < 88 := t.isLt.trans_eq N_0

/-- The rows a point reads. -/
theorem blk0 (t : Fin cfg0.N) (r : Fin 768) (d : Fin 4096) :
    (iblk (F := Ideal) m c 0 t : Vec Ideal S768x4096 .bf16) (ix2 r d) = rowsOf m c
      (ix2 ⟨768 * (t.val % 22) + r.val, by have := r.isLt; omega⟩ d) := by
  unfold iblk
  rw [View.read_apply]
  show V (F := Ideal) m c main_arg0 _ = m (c.tc.loc main_arg0) _
  rw [V_main_arg0]
  congr 1
  funext a
  apply Fin.ext
  match a with
  | ⟨0, _⟩ => show win0_0.index t 0 * 768 + 1 * r.val = 768 * (t.val % 22) + r.val; rw [(idx0 t).1]; omega
  | ⟨1, _⟩ => show win0_0.index t 1 * 4096 + 1 * d.val = d.val; rw [(idx0 t).2]; omega

/-- The weights as the host rounds them: over the extended reals, as they are. -/
theorem V_v0 : (V (F := Ideal) m c main_v0 : Vec Ideal S4096x4096 .bf16)
    = (truncf (F := Ideal) (s := S4096x4096) (φ := .f32) .bf16 (weights m c) bitsLt_bf16_f32 : Vec Ideal S4096x4096 .bf16) := by
  unfold V
  simp only [hostOps0]
  after_results

/-- The columns a point reads. -/
theorem blk1 (t : Fin cfg0.N) (d : Fin 4096) (e : Fin 1024) :
    (iblk (F := Ideal) m c 1 t : Vec Ideal S4096x1024 .bf16) (ix2 d e) = weights m c
      (ix2 d ⟨1024 * (t.val / 22) + e.val, by have := e.isLt; have := point_lt t; omega⟩) := by
  unfold iblk
  rw [View.read_apply]
  show V (F := Ideal) m c main_v0 _ = _
  rw [V_v0]
  show weights m c _ = weights m c _
  congr 1
  funext a
  apply Fin.ext
  match a with
  | ⟨0, _⟩ => show win0_1.index t 0 * 4096 + 1 * d.val = d.val; rw [(idx1 t).1]; omega
  | ⟨1, _⟩ => show win0_1.index t 1 * 1024 + 1 * e.val = 1024 * (t.val / 22) + e.val; rw [(idx1 t).2]; omega

/-- A point's block of the product, at an index. -/
theorem pay (x : Vec Ideal S768x4096 .bf16) (w : Vec Ideal S4096x1024 .bf16) (r : Fin 768) (e : Fin 1024) :
    k0_pay1 (F := Ideal) x w (ix2 r e) = ∑ d : Fin 4096, (x (ix2 r d) : EReal) * (w (ix2 d e) : EReal) := by
  unfold k0_pay1
  pointwise

theorem hz : ![0, 0] = (fun _ : Fin 2 => 0) := by funext a; fin_cases a <;> rfl

/-- What a point writes back is its block of the product. -/
theorem flushed (t : Fin cfg0.N) :
    (dats (F := Ideal) m 0 c).flushed 2 t = ((cfg0.win 2).blk t).view.read (Elt Ideal)
      (prod (rowsOf m c) (weights m c)) := by
  rw [flushed2]
  funext y
  rw [View.read_apply]
  have ht := point_lt t
  obtain ⟨r, e, rfl⟩ : ∃ (r : Fin 768) (e : Fin 1024), y = (ix2 r e : S768x1024.Idx) :=
    ⟨y 0, y 1, by funext a; match a with | ⟨0, _⟩ => rfl | ⟨1, _⟩ => rfl⟩
  have h : out0_2 (F := Ideal) (iblk m c 0 t) (iblk m c 1 t) (ix2 r e)
      = ∑ d : Fin 4096, (rowsOf m c
          (ix2 ⟨768 * (t.val % 22) + r.val, by have := r.isLt; omega⟩ d) : EReal)
        * (weights m c
          (ix2 d ⟨1024 * (t.val / 22) + e.val, by have := e.isLt; omega⟩) : EReal) := by
    unfold out0_2
    rw [View.canon_unit_zero (S := S768x1024) hz, View.ld_unit_zero (S := S768x4096) hz, View.ld_unit_zero (S := S4096x1024) hz, pay]
    exact Finset.sum_congr rfl fun d _ => by rw [blk0, blk1]
  have hi : ((cfg0.win 2).blk t).view.emb (ix2 r e : S768x1024.Idx)
      = (ix2 ⟨768 * (t.val % 22) + r.val, by have := r.isLt; omega⟩
          ⟨1024 * (t.val / 22) + e.val, by have := e.isLt; omega⟩ : S16896x4096.Idx) := by
    funext a
    apply Fin.ext
    match a with
    | ⟨0, _⟩ => show win0_2.index t 0 * 768 + 1 * r.val = 768 * (t.val % 22) + r.val; rw [(idx2 t).1]; omega
    | ⟨1, _⟩ => show win0_2.index t 1 * 1024 + 1 * e.val = 1024 * (t.val / 22) + e.val; rw [(idx2 t).2]; omega
  exact h.trans (congrArg (prod (rowsOf m c) (weights m c)) hi).symm

/-- Every index of the result is in some point's block. -/
theorem cover (i : S16896x4096.Idx) : ∃ t : Fin cfg0.N, (cfg0.win 2).flush t = true ∧ i ∈ ((cfg0.win 2).blk t).view.set := by
  have h0 : (i 0).val < 16896 := (i 0).isLt
  have h1 : (i 1).val < 4096 := (i 1).isLt
  have hN : cfg0.N = 88 := N_0
  let t : Fin cfg0.N := ⟨22 * ((i 1).val / 1024) + (i 0).val / 768, by omega⟩
  refine ⟨t, flush0_2 t, ?_⟩
  have hi : i = ((cfg0.win 2).blk t).view.emb (ix2 ⟨(i 0).val % 768, by omega⟩ ⟨(i 1).val % 1024, by omega⟩ : S768x1024.Idx) := by
    have ht : t.val = 22 * ((i 1).val / 1024) + (i 0).val / 768 := rfl
    funext a
    apply Fin.ext
    match a with
    | ⟨0, _⟩ => show (i 0).val = win0_2.index t 0 * 768 + 1 * ((i 0).val % 768); rw [(idx2 t).1]; omega
    | ⟨1, _⟩ => show (i 1).val = win0_2.index t 1 * 1024 + 1 * ((i 1).val % 1024); rw [(idx2 t).2]; omega
  rw [hi]
  exact View.emb_mem_set _ _

/-- The kernel ends with the product. -/
theorem final : (dats (F := Ideal) m 0 c).arrAt 2 cfg0.N
    = prod (rowsOf m c) (weights m c) :=
  (dats (F := Ideal) m 0 c).arrAt_eq_of_cover 2 _ (fun t _ => flushed m c t) cover

/-- The reference's product, index by index. -/
theorem ref_prod (x : FVec Ideal Cert.OutRefIdeal.S16896x4096 .bf16) (w : FVec Ideal Cert.OutRefIdeal.S4096x4096 .f32) :
    Host.dotGeneral (F := Ideal) Cert.OutRefIdeal.dot_S16896x4096_S4096x4096_S16896x4096_1_0_0_1_n_n none
      (extf .f32 x Cert.OutRefIdeal.Gen.bitsLt_bf16_f32) w = prod x w := by
  funext i
  obtain ⟨r, e, rfl⟩ : ∃ (r : Fin 16896) (e : Fin 4096), i = (ix2 r e : S16896x4096.Idx) :=
    ⟨i 0, i 1, by funext a; match a with | ⟨0, _⟩ => rfl | ⟨1, _⟩ => rfl⟩
  unfold prod
  pointwise

/-- The frames of the kernel, of the ideal kernel and of the reference. -/
theorem frame_kernel : Cert.quiescent_Out := fun m ρ _ => Cert.Out.Gen.frame (F := Bits) m ρ
theorem frame_ideal : Cert.quiescent_OutIdeal := fun m ρ _ => Cert.OutIdeal.Gen.frame (F := Ideal) m ρ
theorem frame_ref : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The value claim: kernel and reference end with the same product. -/
theorem algebraic : Cert.algebraic_OutIdeal_OutRefIdeal := by
  intro m ρ m' ρ' _ hagree
  refine ⟨fun c => prod (rowsOf m c) (weights m c), ?_, ?_⟩
  · exact (θ_run _ _ _).mono (fun _ h c => ⟨(h c).1.trans (final m c), (h c).2⟩) (run_blocks (F := Ideal) m ρ)
  · refine (θ_run _ _ _).mono (fun _ h c => ⟨(h c).1.trans ?_, (h c).2⟩) (Cert.OutRefIdeal.Value.run (F := Ideal) m' ρ')
    rw [(hagree c).1, (hagree c).2]
    exact ref_prod _ _

end Cert.Proof.Outproj

end
-- ==== Proof.MixClaim.lean ====
module

public import proofs.«01_k».proof.Defs
public import proofs.«01_k».proof.Proof.Gen.Mix.Frame
public import proofs.«01_k».proof.Proof.Gen.MixIdeal.Value
public import proofs.«01_k».proof.Proof.Gen.MixRefIdeal.Run
public import Idealize.ShloMosaic.Lib.Pointwise.Tactic
public import Idealize.ShloMosaic.Lib.Pointwise.Contract
public import Idealize.ShloMosaic.Lib.Pointwise.Reshape
public import Idealize.ShloMosaic.Lib.Pointwise.ShapeOps
public import Idealize.ShloMosaic.Lib.IdealHost
public import Idealize.ShloMosaic.Lib.MatmulPlain
public import Idealize.ShloMosaic.Lib.Pipeline.Value
public import Idealize.ShloMosaic.Adequacy
public import Idealize.ShloMosaic.Init

/-!
The projection out of the retention and the mLSTM: a block of each one's rows against its half of the weights, summed,
is the block of the product of the two put side by side.
-/

@[expose] public section

set_option maxRecDepth 16384

noncomputable section

open Idealize.ShloMosaic Idealize.ShloMosaic.TcCoe Idealize.SL.Sem

namespace Cert.Proof.Mixproj

open Cert.MixIdeal Cert.MixIdeal.Gen Cert.MixIdeal.Value

instance : Cert.Mix.Facts := Cert.Mix.Gen.facts
instance : Cert.MixRefIdeal.Facts := Cert.MixRefIdeal.Gen.facts

/-- The product of each part with its half of the weights, summed, index by index. -/
def prod (x y : Vec Ideal S16896x2048 .bf16) (w : Vec Ideal S4096x4096 .f32) : Vec Ideal S16896x4096 .f32 := fun i =>
  (∑ d : Fin 2048, (x (ix2 (i 0) d) : EReal) * (w (ix2 ⟨d.val, by have := d.isLt; omega⟩ (i 1)) : EReal))
    + ∑ d : Fin 2048, (y (ix2 (i 0) d) : EReal) * (w (ix2 ⟨2048 + d.val, by have := d.isLt; omega⟩ (i 1)) : EReal)

/-- The blocks a grid point reads and writes. -/
theorem idx0 : ∀ t : Fin grid0.N, win0_0.index t 0 = t.val % 22 ∧ win0_0.index t 1 = 0 := by decide +kernel
theorem idx1 : ∀ t : Fin grid0.N, win0_1.index t 0 = t.val % 22 ∧ win0_1.index t 1 = 0 := by decide +kernel
theorem idx2 : ∀ t : Fin grid0.N, win0_2.index t 0 = 0 ∧ win0_2.index t 1 = t.val / 22 := by decide +kernel
theorem idx3 : ∀ t : Fin grid0.N, win0_3.index t 0 = 1 ∧ win0_3.index t 1 = t.val / 22 := by decide +kernel
theorem idx4 : ∀ t : Fin grid0.N, win0_4.index t 0 = t.val % 22 ∧ win0_4.index t 1 = t.val / 22 := by decide +kernel

variable (m : (ℓ : Loc nD τ sig) → Buf (Elt Ideal) ℓ) (c : Dev nD)

/-- The arguments, as arrays. -/
abbrev first : Vec Ideal S16896x2048 .bf16 := m ((c : Thread nD τ).loc main_arg0)
abbrev second : Vec Ideal S16896x2048 .bf16 := m ((c : Thread nD τ).loc main_arg1)
abbrev weights : Vec Ideal S4096x4096 .f32 := m ((c : Thread nD τ).loc main_arg2)

theorem point_lt (t : Fin cfg0.N) : t.val < 88 := t.isLt.trans_eq N_0

/-- The rows a point reads, of the first part and of the second. -/
theorem blk0 (t : Fin cfg0.N) (r : Fin 768) (d : Fin 2048) :
    (iblk (F := Ideal) m c 0 t : Vec Ideal S768x2048 .bf16) (ix2 r d) = first m c
      (ix2 ⟨768 * (t.val % 22) + r.val, by have := r.isLt; omega⟩ d) := by
  unfold iblk
  rw [View.read_apply]
  show V (F := Ideal) m c main_arg0 _ = m (c.tc.loc main_arg0) _
  rw [V_main_arg0]
  congr 1
  funext a
  apply Fin.ext
  match a with
  | ⟨0, _⟩ => show win0_0.index t 0 * 768 + 1 * r.val = 768 * (t.val % 22) + r.val; rw [(idx0 t).1]; omega
  | ⟨1, _⟩ => show win0_0.index t 1 * 2048 + 1 * d.val = d.val; rw [(idx0 t).2]; omega

theorem blk1 (t : Fin cfg0.N) (r : Fin 768) (d : Fin 2048) :
    (iblk (F := Ideal) m c 1 t : Vec Ideal S768x2048 .bf16) (ix2 r d) = second m c
      (ix2 ⟨768 * (t.val % 22) + r.val, by have := r.isLt; omega⟩ d) := by
  unfold iblk
  rw [View.read_apply]
  show V (F := Ideal) m c main_arg1 _ = m (c.tc.loc main_arg1) _
  rw [V_main_arg1]
  congr 1
  funext a
  apply Fin.ext
  match a with
  | ⟨0, _⟩ => show win0_1.index t 0 * 768 + 1 * r.val = 768 * (t.val % 22) + r.val; rw [(idx1 t).1]; omega
  | ⟨1, _⟩ => show win0_1.index t 1 * 2048 + 1 * d.val = d.val; rw [(idx1 t).2]; omega

/-- The weights as the host rounds them: over the extended reals, as they are. -/
theorem V_v0 : (V (F := Ideal) m c main_v0 : Vec Ideal S4096x4096 .bf16)
    = (truncf (F := Ideal) (s := S4096x4096) (φ := .f32) .bf16 (weights m c) bitsLt_bf16_f32 : Vec Ideal S4096x4096 .bf16) := by
  unfold V
  simp only [hostOps0]
  after_results

/-- The columns a point reads, of the upper half of the weights and of the lower. -/
theorem blk2 (t : Fin cfg0.N) (d : Fin 2048) (e : Fin 1024) :
    (iblk (F := Ideal) m c 2 t : Vec Ideal S2048x1024 .bf16) (ix2 d e) = weights m c
      (ix2 ⟨d.val, by have := d.isLt; omega⟩ ⟨1024 * (t.val / 22) + e.val, by have := e.isLt; have := point_lt t; omega⟩) := by
  unfold iblk
  rw [View.read_apply]
  show V (F := Ideal) m c main_v0 _ = _
  rw [V_v0]
  show weights m c _ = weights m c _
  congr 1
  funext a
  apply Fin.ext
  match a with
  | ⟨0, _⟩ => show win0_2.index t 0 * 2048 + 1 * d.val = d.val; rw [(idx2 t).1]; omega
  | ⟨1, _⟩ => show win0_2.index t 1 * 1024 + 1 * e.val = 1024 * (t.val / 22) + e.val; rw [(idx2 t).2]; omega

theorem blk3 (t : Fin cfg0.N) (d : Fin 2048) (e : Fin 1024) :
    (iblk (F := Ideal) m c 3 t : Vec Ideal S2048x1024 .bf16) (ix2 d e) = weights m c
      (ix2 ⟨2048 + d.val, by have := d.isLt; omega⟩ ⟨1024 * (t.val / 22) + e.val, by have := e.isLt; have := point_lt t; omega⟩) := by
  unfold iblk
  rw [View.read_apply]
  show V (F := Ideal) m c main_v0 _ = _
  rw [V_v0]
  show weights m c _ = weights m c _
  congr 1
  funext a
  apply Fin.ext
  match a with
  | ⟨0, _⟩ => show win0_3.index t 0 * 2048 + 1 * d.val = 2048 + d.val; rw [(idx3 t).1]; omega
  | ⟨1, _⟩ => show win0_3.index t 1 * 1024 + 1 * e.val = 1024 * (t.val / 22) + e.val; rw [(idx3 t).2]; omega

/-- A point's block, at an index. -/
theorem pay (x : Vec Ideal S768x2048 .bf16) (w : Vec Ideal S2048x1024 .bf16) (y : Vec Ideal S768x2048 .bf16)
    (u : Vec Ideal S2048x1024 .bf16) (r : Fin 768) (e : Fin 1024) :
    k0_pay1 (F := Ideal) x w y u (ix2 r e) = (∑ d : Fin 2048, (x (ix2 r d) : EReal) * (w (ix2 d e) : EReal))
      + ∑ d : Fin 2048, (y (ix2 r d) : EReal) * (u (ix2 d e) : EReal) := by
  unfold k0_pay1
  pointwise

theorem hz : ![0, 0] = (fun _ : Fin 2 => 0) := by funext a; fin_cases a <;> rfl

/-- What a point writes back is its block of the product. -/
theorem flushed (t : Fin cfg0.N) :
    (dats (F := Ideal) m 0 c).flushed 4 t = ((cfg0.win 4).blk t).view.read (Elt Ideal)
      (prod (first m c) (second m c) (weights m c)) := by
  rw [flushed4]
  funext y
  rw [View.read_apply]
  have ht := point_lt t
  obtain ⟨r, e, rfl⟩ : ∃ (r : Fin 768) (e : Fin 1024), y = (ix2 r e : S768x1024.Idx) :=
    ⟨y 0, y 1, by funext a; match a with | ⟨0, _⟩ => rfl | ⟨1, _⟩ => rfl⟩
  have h : out0_4 (F := Ideal) (iblk m c 0 t) (iblk m c 1 t) (iblk m c 2 t) (iblk m c 3 t) (ix2 r e)
      = prod (first m c) (second m c) (weights m c) (ix2 ⟨768 * (t.val % 22) + r.val, by have := r.isLt; omega⟩
          ⟨1024 * (t.val / 22) + e.val, by have := e.isLt; omega⟩ : S16896x4096.Idx) := by
    unfold out0_4
    rw [View.canon_unit_zero (S := S768x1024) hz, View.ld_unit_zero (S := S768x2048) hz, View.ld_unit_zero (S := S768x2048) hz,
      View.ld_unit_zero (S := S2048x1024) hz, View.ld_unit_zero (S := S2048x1024) hz, pay]
    refine congrArg₂ (· + ·) (Finset.sum_congr rfl fun d _ => ?_) (Finset.sum_congr rfl fun d _ => ?_)
    · exact congrArg₂ (fun a b : EReal => a * b) (blk0 m c t r d) (blk2 m c t d e)
    · exact congrArg₂ (fun a b : EReal => a * b) (blk1 m c t r d) (blk3 m c t d e)
  have hi : ((cfg0.win 4).blk t).view.emb (ix2 r e : S768x1024.Idx)
      = (ix2 ⟨768 * (t.val % 22) + r.val, by have := r.isLt; omega⟩
          ⟨1024 * (t.val / 22) + e.val, by have := e.isLt; omega⟩ : S16896x4096.Idx) := by
    funext a
    apply Fin.ext
    match a with
    | ⟨0, _⟩ => show win0_4.index t 0 * 768 + 1 * r.val = 768 * (t.val % 22) + r.val; rw [(idx4 t).1]; omega
    | ⟨1, _⟩ => show win0_4.index t 1 * 1024 + 1 * e.val = 1024 * (t.val / 22) + e.val; rw [(idx4 t).2]; omega
  exact h.trans (congrArg (prod (first m c) (second m c) (weights m c)) hi).symm

/-- Every index of the result is in some point's block. -/
theorem cover (i : S16896x4096.Idx) : ∃ t : Fin cfg0.N, (cfg0.win 4).flush t = true ∧ i ∈ ((cfg0.win 4).blk t).view.set := by
  have h0 : (i 0).val < 16896 := (i 0).isLt
  have h1 : (i 1).val < 4096 := (i 1).isLt
  have hN : cfg0.N = 88 := N_0
  let t : Fin cfg0.N := ⟨22 * ((i 1).val / 1024) + (i 0).val / 768, by omega⟩
  refine ⟨t, flush0_4 t, ?_⟩
  have hi : i = ((cfg0.win 4).blk t).view.emb (ix2 ⟨(i 0).val % 768, by omega⟩ ⟨(i 1).val % 1024, by omega⟩ : S768x1024.Idx) := by
    have ht : t.val = 22 * ((i 1).val / 1024) + (i 0).val / 768 := rfl
    funext a
    apply Fin.ext
    match a with
    | ⟨0, _⟩ => show (i 0).val = win0_4.index t 0 * 768 + 1 * ((i 0).val % 768); rw [(idx4 t).1]; omega
    | ⟨1, _⟩ => show (i 1).val = win0_4.index t 1 * 1024 + 1 * ((i 1).val % 1024); rw [(idx4 t).2]; omega
  rw [hi]
  exact View.emb_mem_set _ _

/-- The kernel ends with the product. -/
theorem final : (dats (F := Ideal) m 0 c).arrAt 4 cfg0.N
    = prod (first m c) (second m c) (weights m c) :=
  (dats (F := Ideal) m 0 c).arrAt_eq_of_cover 4 _ (fun t _ => flushed m c t) cover

/-- A sum over 4096 is the sum over the first half and the sum over the second. -/
theorem halves (f : Fin 4096 → EReal) : ∑ d, f d = (∑ d : Fin 2048, f ⟨d.val, by have := d.isLt; omega⟩)
    + ∑ d : Fin 2048, f ⟨2048 + d.val, by have := d.isLt; omega⟩ :=
  Fin.sum_univ_add (a := 2048) (b := 2048) f

/-- The reference's product of the two parts side by side, index by index. -/
theorem ref_prod (x y : FVec Ideal Cert.MixRefIdeal.S16896x2048 .bf16) (w : FVec Ideal Cert.MixRefIdeal.S4096x4096 .f32) :
    Host.dotGeneral (F := Ideal) Cert.MixRefIdeal.dot_S16896x4096_S4096x4096_S16896x4096_1_0_0_1_n_n none
      (extf .f32 (concatenate Cert.MixRefIdeal.S16896x4096 1 [⟨Cert.MixRefIdeal.S16896x2048, x⟩, ⟨Cert.MixRefIdeal.S16896x2048, y⟩]
        Cert.MixRefIdeal.Gen.concatenates_S16896x2048_S16896x2048_S16896x4096_d1) Cert.MixRefIdeal.Gen.bitsLt_bf16_f32) w
      = prod x y w := by
  funext i
  obtain ⟨r, e, rfl⟩ : ∃ (r : Fin 16896) (e : Fin 4096), i = (ix2 r e : S16896x4096.Idx) :=
    ⟨i 0, i 1, by funext a; match a with | ⟨0, _⟩ => rfl | ⟨1, _⟩ => rfl⟩
  unfold prod
  pointwise
  rw [halves]
  refine congrArg₂ (· + ·) (Finset.sum_congr rfl fun d _ => ?_) (Finset.sum_congr rfl fun d _ => ?_)
  · refine congrArg (· * _) ?_
    exact concatenate_pair_apply_left (t := Cert.MixRefIdeal.S16896x4096) (s₁ := Cert.MixRefIdeal.S16896x2048)
      (s₂ := Cert.MixRefIdeal.S16896x2048) 1 _ _ _ (ix2 r ⟨d.val, by have := d.isLt; omega⟩) rfl (ix2 r d)
      (fun a => by fin_cases a <;> rfl)
  · refine congrArg (· * _) ?_
    exact concatenate_pair_apply_right (t := Cert.MixRefIdeal.S16896x4096) (s₁ := Cert.MixRefIdeal.S16896x2048)
      (s₂ := Cert.MixRefIdeal.S16896x2048) 1 _ _ _ (ix2 r ⟨2048 + d.val, by have := d.isLt; omega⟩) rfl rfl (ix2 r d)
      (fun a h => by fin_cases a <;> first | rfl | exact absurd rfl h) (by show d.val + 2048 = 2048 + d.val; omega)

/-- The frames of the kernel, of the ideal kernel and of the reference. -/
theorem frame_kernel : Cert.quiescent_Mix := fun m ρ _ => Cert.Mix.Gen.frame (F := Bits) m ρ
theorem frame_ideal : Cert.quiescent_MixIdeal := fun m ρ _ => Cert.MixIdeal.Gen.frame (F := Ideal) m ρ
theorem frame_ref : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

/-- The value claim: kernel and reference end with the same product. -/
theorem algebraic : Cert.algebraic_MixIdeal_MixRefIdeal := by
  intro m ρ m' ρ' _ hagree
  refine ⟨fun c => prod (first m c) (second m c) (weights m c), ?_, ?_⟩
  · exact (θ_run _ _ _).mono (fun _ h c => ⟨(h c).1.trans (final m c), (h c).2⟩) (run_blocks (F := Ideal) m ρ)
  · refine (θ_run _ _ _).mono (fun _ h c => ⟨(h c).1.trans ?_, (h c).2⟩) (Cert.MixRefIdeal.Value.run (F := Ideal) m' ρ')
    rw [(hagree c).1, (hagree c).2.1, (hagree c).2.2]
    exact ref_prod _ _ _

end Cert.Proof.Mixproj

end
-- ==== Proof.MoeBody.lean ====
module

public import proofs.«01_k».proof.Proof.Gen.MoeIdeal.Launch
public import proofs.«01_k».proof.Proof.Gen.MoeIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.Proof.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIdeal Cert.MoeIdeal.Gen

variable {F : FTy → Type} [FloatOps F]

local notation "𝕄" => MT nD τ sig Unit (Elt F) ℕ (UR sig nD τ) ℕ

/-- The table of the tiles' experts, as the body is handed it. -/
abbrev teM : Memref sig .tc .smem S328 .i32 := Memref.whole main_arg3
/-- The one-word table with the number of tiles in use, as the body is handed it. -/
abbrev ntM : Memref sig .tc .smem S1 .i32 := Memref.whole main_arg4

/-- A table's contents on core `c`. -/
abbrev Table (c : Dev nD) {S : Shape} {e : EltTy} (M : Memref sig .tc .smem S e) : Type :=
  Buf (Elt F) (M.view.loc (c : Thread nD τ))

/-- A table held, read only, at contents `f`. -/
abbrev held (c : Dev nD) {S : Shape} {e : EltTy} (M : Memref sig .tc .smem S e) (f : Table (F := F) c M) : sProp 𝕄 :=
  M.view.loc (c : Thread nD τ) ↦{fullShare.right} f

/-- The word the body reads for the number of tiles in use. -/
abbrev ntW (c : Dev nD) (xt1 : Table (F := F) c ntM) : BitVec 32 :=
  ntM.view.readAt (Elt F) (Rect.unit (s := S1) ![0] S1.size inb_S1_S1_0).toLoadRect xt1 (Shape.Idx.first (numel1_S1.symm ▸ Nat.one_pos))

/-- The word the body reads for its tile's expert. -/
abbrev teW (c : Dev nD) (xt0 : Table (F := F) c teM) (i : grid0.Coords) : BitVec 32 :=
  teM.view.readAt (Elt F) (Rect.unit (s := S328) (k0_off2 i) S1.size (k0_off2_inb i)).toLoadRect xt0 (Shape.Idx.first (numel1_S1.symm ▸ Nat.one_pos))

/-- The word the body reads for the expert of the tile before. -/
abbrev tePrevW (c : Dev nD) (xt0 : Table (F := F) c teM) (i : grid0.Coords) : BitVec 32 :=
  teM.view.readAt (Elt F) (Rect.unit (s := S328) (k0_off3 i) S1.size (k0_off3_inb i)).toLoadRect xt0 (Shape.Idx.first (numel1_S1.symm ▸ Nat.one_pos))

/-- The body's condition for copying the expert's weights into its scratch: the first tile, or a tile with
    another expert than the one before. -/
abbrev fresh (c : Dev nD) (xt0 : Table (F := F) c teM) (i : grid0.Coords) : Prop :=
  Scalar.cmpi .ne (Scalar.extui (Scalar.ori (Scalar.cmpi .eq (BitVec.ofNat 32 (i 0).val) 0#32)
    (Scalar.cmpi .ne (teW c xt0 i) (tePrevW c xt0 i)))) 0#32 = 1#1

theorem zero2 : (![0, 0] : Fin 2 → ℕ) = fun _ => 0 := by funext a; fin_cases a <;> rfl
theorem zero4 : (![0, 0, 0, 0] : Fin 4 → ℕ) = fun _ => 0 := by funext a; fin_cases a <;> rfl

set_option maxHeartbeats 1000000 in
/-- The body at a tile past the last one in use: it stores zeros into the result's block. -/
theorem run_rest (c : Dev nD) (i : grid0.Coords) (arg3 : Memref sig .tc .vmem S512x2048 .i32) (harg3 : arg3.IsWhole) (arg4 : Memref sig .tc .vmem S1x1x4096x512 .f32) (harg4 : arg4.IsWhole) (arg5 : Memref sig .tc .vmem S1x1x256x4096 .f32) (harg5 : arg5.IsWhole) (arg6 : Memref sig .tc .vmem S512x4096 .f32) (harg6 : arg6.IsWhole) (arg7 : Memref sig .tc .vmem S4096x512 .bf16) (harg7 : arg7.IsWhole) (arg8 : Memref sig .tc .vmem S256x4096 .bf16) (harg8 : arg8.IsWhole)
    (xt0 : Table (F := F) c teM) (xt1 : Table (F := F) c ntM)
    (h1 : ¬k0_cond1 i (ntW c xt1) = 1#1) (h3 : k0_cond3 i (ntW c xt1) = 1#1) (E : Set ℕ) (K : PUnit → sProp 𝕄) :
    iprop((∃ d, owns (c : Thread nD τ) arg6 fullShare d) ∗ held c teM xt0 ∗ held c ntM xt1
      ∗ (iprop(owns (c : Thread nD τ) arg6 fullShare (k0_pay4 (F := F)) ∗ held c teM xt0 ∗ held c ntM xt1) -∗ K ⟨⟩))
    ⊢ wp frame (wpE (defs₀ (F := F)) Variants.none c none) E (cc0_grouped_swiglu i teM (Memref.isWhole_whole _) ntM (Memref.isWhole_whole _) arg3 harg3 arg4 harg4 arg5 harg5 arg6 harg6 arg7 harg7 arg8 harg8) K := by
  simp only [cc0_grouped_swiglu_eq_skeleton]; unfold cc0_grouped_swiglu_skel
  unfold owns
  iintro ⟨⟨%d3, %f3, -, H3⟩, HT0, HT1, Hk⟩
  sl_exec (disch := first | sl_exact h1 | sl_exact h3)
  sl_step
  iapply Hk
  isplitl [H3]
  · iexists _; isplitr
    swap; · iexact H3
    ipureintro; exact View.read_writes_full _ _ _ _ _
  isplitl [HT0]; · iexact HT0
  iexact HT1

set_option maxHeartbeats 1000000 in
/-- The body at a tile in use with the expert of the tile before: the weights are in the scratch. -/
theorem run_same (c : Dev nD) (i : grid0.Coords) (arg3 : Memref sig .tc .vmem S512x2048 .i32) (harg3 : arg3.IsWhole) (arg4 : Memref sig .tc .vmem S1x1x4096x512 .f32) (harg4 : arg4.IsWhole) (arg5 : Memref sig .tc .vmem S1x1x256x4096 .f32) (harg5 : arg5.IsWhole) (arg6 : Memref sig .tc .vmem S512x4096 .f32) (harg6 : arg6.IsWhole) (arg7 : Memref sig .tc .vmem S4096x512 .bf16) (harg7 : arg7.IsWhole) (arg8 : Memref sig .tc .vmem S256x4096 .bf16) (harg8 : arg8.IsWhole)
    (xt0 : Table (F := F) c teM) (xt1 : Table (F := F) c ntM)
    (h1 : k0_cond1 i (ntW c xt1) = 1#1) (h2 : ¬fresh c xt0 i) (h3 : ¬k0_cond3 i (ntW c xt1) = 1#1)
    (x0 : Vec F S512x2048 .i32) (s0 : Vec F S4096x512 .bf16) (s1 : Vec F S256x4096 .bf16) (E : Set ℕ) (K : PUnit → sProp 𝕄) :
    iprop(owns (c : Thread nD τ) arg3 fullShare x0 ∗ (∃ d, owns (c : Thread nD τ) arg6 fullShare d)
      ∗ owns (c : Thread nD τ) arg7 fullShare s0 ∗ owns (c : Thread nD τ) arg8 fullShare s1 ∗ held c teM xt0 ∗ held c ntM xt1
      ∗ (iprop(owns (c : Thread nD τ) arg3 fullShare x0 ∗ owns (c : Thread nD τ) arg6 fullShare (k0_pay3 x0 s0 s1)
        ∗ owns (c : Thread nD τ) arg7 fullShare s0 ∗ owns (c : Thread nD τ) arg8 fullShare s1 ∗ held c teM xt0 ∗ held c ntM xt1) -∗ K ⟨⟩))
    ⊢ wp frame (wpE (defs₀ (F := F)) Variants.none c none) E (cc0_grouped_swiglu i teM (Memref.isWhole_whole _) ntM (Memref.isWhole_whole _) arg3 harg3 arg4 harg4 arg5 harg5 arg6 harg6 arg7 harg7 arg8 harg8) K := by
  simp only [cc0_grouped_swiglu_eq_skeleton]; unfold cc0_grouped_swiglu_skel
  unfold owns
  iintro ⟨⟨%f0, %hf0, H0⟩, ⟨%d3, %f3, -, H3⟩, ⟨%fs0, %hfs0, HS0⟩, ⟨%fs1, %hfs1, HS1⟩, HT0, HT1, Hk⟩
  obtain rfl := harg3.eq_unread hf0; obtain rfl := harg7.eq_unread hfs0; obtain rfl := harg8.eq_unread hfs1
  sl_exec (disch := first | sl_exact h1 | sl_exact h2 | sl_exact h3)
  sl_step
  iapply Hk
  isplitl [H0]
  · iexists _; isplitr; · ipureintro; exact harg3.read_unread _
    iexact H0
  isplitl [H3]
  · iexists _; isplitr
    swap; · iexact H3
    ipureintro
    refine (View.read_writes_full _ _ _ _ _).trans ?_
    simp only [View.readAt_eq_ld, harg3.read_unread, harg7.read_unread, harg8.read_unread,
      View.ld_unit_zero (S := S512x2048) zero2, View.ld_unit_zero (S := S4096x512) zero2, View.ld_unit_zero (S := S256x4096) zero2]
  isplitl [HS0]
  · iexists _; isplitr; · ipureintro; exact harg7.read_unread _
    iexact HS0
  isplitl [HS1]
  · iexists _; isplitr; · ipureintro; exact harg8.read_unread _
    iexact HS1
  isplitl [HT0]; · iexact HT0
  iexact HT1

set_option maxHeartbeats 1000000 in
/-- The body at a tile in use that copies its expert's weights into the scratch first. -/
theorem run_fresh (c : Dev nD) (i : grid0.Coords) (arg3 : Memref sig .tc .vmem S512x2048 .i32) (harg3 : arg3.IsWhole) (arg4 : Memref sig .tc .vmem S1x1x4096x512 .f32) (harg4 : arg4.IsWhole) (arg5 : Memref sig .tc .vmem S1x1x256x4096 .f32) (harg5 : arg5.IsWhole) (arg6 : Memref sig .tc .vmem S512x4096 .f32) (harg6 : arg6.IsWhole) (arg7 : Memref sig .tc .vmem S4096x512 .bf16) (harg7 : arg7.IsWhole) (arg8 : Memref sig .tc .vmem S256x4096 .bf16) (harg8 : arg8.IsWhole)
    (xt0 : Table (F := F) c teM) (xt1 : Table (F := F) c ntM)
    (h1 : k0_cond1 i (ntW c xt1) = 1#1) (h2 : fresh c xt0 i) (h3 : ¬k0_cond3 i (ntW c xt1) = 1#1)
    (x0 : Vec F S512x2048 .i32) (x1 : Vec F S1x1x4096x512 .f32) (x2 : Vec F S1x1x256x4096 .f32) (E : Set ℕ) (K : PUnit → sProp 𝕄) :
    iprop(owns (c : Thread nD τ) arg3 fullShare x0 ∗ owns (c : Thread nD τ) arg4 fullShare x1 ∗ owns (c : Thread nD τ) arg5 fullShare x2
      ∗ (∃ d, owns (c : Thread nD τ) arg6 fullShare d)
      ∗ (∃ d, owns (c : Thread nD τ) arg7 fullShare d) ∗ (∃ d, owns (c : Thread nD τ) arg8 fullShare d) ∗ held c teM xt0 ∗ held c ntM xt1
      ∗ (iprop(owns (c : Thread nD τ) arg3 fullShare x0 ∗ owns (c : Thread nD τ) arg4 fullShare x1 ∗ owns (c : Thread nD τ) arg5 fullShare x2
        ∗ owns (c : Thread nD τ) arg6 fullShare (k0_pay3 x0 (k0_pay1 x1) (k0_pay2 x2))
        ∗ owns (c : Thread nD τ) arg7 fullShare (k0_pay1 x1) ∗ owns (c : Thread nD τ) arg8 fullShare (k0_pay2 x2) ∗ held c teM xt0 ∗ held c ntM xt1) -∗ K ⟨⟩))
    ⊢ wp frame (wpE (defs₀ (F := F)) Variants.none c none) E (cc0_grouped_swiglu i teM (Memref.isWhole_whole _) ntM (Memref.isWhole_whole _) arg3 harg3 arg4 harg4 arg5 harg5 arg6 harg6 arg7 harg7 arg8 harg8) K := by
  simp only [cc0_grouped_swiglu_eq_skeleton]; unfold cc0_grouped_swiglu_skel
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, HT1, Hk⟩
  obtain rfl := harg3.eq_unread hf0; obtain rfl := harg4.eq_unread hf1; obtain rfl := harg5.eq_unread hf2
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    refine (View.read_writes_full _ _ _ _ _).trans ?_
    simp only [View.readAt_eq_ld, harg3.read_unread, View.ld_unit_zero (S := S512x2048) zero2]
    congr 1
    · refine (View.readCov_unit_zero (S := S4096x512) _ zero2 _ _).trans ?_
      simp only [View.readAt_eq_ld, harg4.read_unread, View.ld_unit_zero (S := S1x1x4096x512) zero4]
    · refine (View.readCov_unit_zero (S := S256x4096) _ zero2 _ _).trans ?_
      simp only [View.readAt_eq_ld, harg5.read_unread, View.ld_unit_zero (S := S1x1x256x4096) zero4]
  isplitl [HS0]
  · iexists _; isplitr
    swap; · iexact HS0
    ipureintro
    refine (View.read_writes_full _ _ _ _ _).trans ?_
    simp only [View.readAt_eq_ld, harg4.read_unread, View.ld_unit_zero (S := S1x1x4096x512) zero4]
  isplitl [HS1]
  · iexists _; isplitr
    swap; · iexact HS1
    ipureintro
    refine (View.read_writes_full _ _ _ _ _).trans ?_
    simp only [View.readAt_eq_ld, harg5.read_unread, View.ld_unit_zero (S := S1x1x256x4096) zero4]
  isplitl [HT0]; · iexact HT0
  iexact HT1

end Cert.Proof.Experts
end
-- ==== Proof.MoeTables.lean ====
module

public import proofs.«01_k».proof.Proof.MoeBody
public import proofs.«01_k».proof.Proof.Words
public import Idealize.ShloMosaic.Lib.Pointwise.Tactic

/-!
The two tables of the experts' kernel: the words it reads off them, and what its conditions and its blocks'
positions are when the words are in range.
-/

@[expose] public section

set_option maxRecDepth 16384

noncomputable section

open Idealize.ShloMosaic Idealize.ShloMosaic.TcCoe Idealize.SL.Sem

namespace Cert.Proof.Experts

open Cert.MoeIdeal Cert.MoeIdeal.Gen

variable {F : FTy → Type} [FloatOps F]
variable (m : (ℓ : Loc nD τ sig) → Buf (Elt F) ℓ)

/-- The tables' contents at the launch. -/
def tables : pre0.Contents (Elt F) := fun j => m (((0 : Dev nD) : Thread nD τ).loc (pre0.ref j))

/-- The expert of tile `k`. -/
def expertW (k : Fin 328) : BitVec 32 := (tables m 0 : IVec S328 32) (ix1 k)

/-- The number of tiles in use, as a word and as a number. -/
def usedW : BitVec 32 := (tables m 1 : IVec S1 32) (ix1 0)
def used : ℕ := (usedW m).toNat

/-- The words are in range: an expert for every tile, and between 1 and all tiles in use. -/
structure InRange : Prop where
  expert : ∀ k, (expertW m k).toNat < 64
  pos : 1 ≤ used m
  le : used m ≤ 328

theorem s1_ix (i : S1.Idx) : i = ix1 0 := by
  funext a
  match a with
  | ⟨0, _⟩ => exact Subsingleton.elim (α := Fin 1) _ _

theorem s328_ix (i : S328.Idx) (k : Fin 328) (h : (i 0).val = k.val) : i = ix1 k := by
  funext a
  match a with
  | ⟨0, _⟩ => exact Fin.ext h

theorem coord_lt (i : grid0.Coords) : (i 0).val < 328 := (i 0).isLt

/-- The body reads the number of tiles in use. -/
theorem ntW_eq (c : Dev nD) : ntW c (tables m 1) = usedW m := by
  unfold usedW
  show (tables m 1 : IVec S1 32) _ = _
  exact congrArg (tables m 1 : IVec S1 32) (s1_ix _)

/-- The body reads its tile's expert. -/
theorem teW_eq (c : Dev nD) (i : grid0.Coords) : teW c (tables m 0) i = expertW m ⟨(i 0).val, coord_lt i⟩ := by
  unfold expertW
  show (tables m 0 : IVec S328 32) _ = _
  refine congrArg (tables m 0 : IVec S328 32) (s328_ix _ _ ?_)
  show k0_off2 i 0 + 1 * 0 = (i 0).val
  rw [k0_off2_eq]
  rfl

/-- The position of the tile before, in the table. -/
theorem off3 (i : grid0.Coords) : k0_off3 i 0 = (i 0).val - 1 := by
  have h := coord_lt i
  unfold k0_off3
  generalize (i 0).val = n at *
  show (Scalar.maxsi (BitVec.ofNat 32 n - 1#32) 0#32).toNat = n - 1
  have e := Ret.toInt_sub_small (r := n) (j := 1) (by omega) (by omega)
  unfold Scalar.maxsi IntOp.maxsi
  by_cases h0 : 1 < n
  · simp [BitVec.slt, e, h0]
    omega
  · have : n = 0 ∨ n = 1 := by omega
    rcases this with rfl | rfl <;> rfl

/-- The body reads the expert of the tile before. -/
theorem tePrevW_eq (c : Dev nD) (i : grid0.Coords) :
    tePrevW c (tables m 0) i = expertW m ⟨(i 0).val - 1, by have := coord_lt i; omega⟩ := by
  unfold expertW
  show (tables m 0 : IVec S328 32) _ = _
  refine congrArg (tables m 0 : IVec S328 32) (s328_ix _ _ ?_)
  show k0_off3 i 0 + 1 * 0 = (i 0).val - 1
  rw [off3]
  rfl

variable {m}

/-- A word in range is the number it is read as, also signed. -/
theorem word_toInt {w : BitVec 32} (h : w.toNat ≤ 328) : w.toInt = (w.toNat : ℤ) := by
  rw [BitVec.toInt_eq_toNat_cond]
  omega

/-- The condition of a tile in use. -/
theorem cond1_iff (hr : InRange m) (i : grid0.Coords) : k0_cond1 i (usedW m) = 1#1 ↔ (i 0).val < used m := by
  have h := coord_lt i
  have e1 := word_toInt (w := usedW m) hr.le
  have e2 := Ret.toInt_small (r := (i 0).val) (by omega)
  unfold k0_cond1 used
  generalize (i 0).val = n at *
  by_cases hn : n < (usedW m).toNat <;>
    simp [Scalar.cmpi, Scalar.extui, IntOp.cmpi, BitVec.slt, e1, e2, hn]

/-- The condition of a tile past those in use. -/
theorem cond3_iff (hr : InRange m) (i : grid0.Coords) : k0_cond3 i (usedW m) = 1#1 ↔ ¬(i 0).val < used m := by
  have h := coord_lt i
  have e1 := word_toInt (w := usedW m) hr.le
  have e2 := Ret.toInt_small (r := (i 0).val) (by omega)
  unfold k0_cond3 used
  generalize (i 0).val = n at *
  by_cases hn : n < (usedW m).toNat
  · have : ¬(usedW m).toNat ≤ n := by omega
    simp [Scalar.cmpi, Scalar.extui, IntOp.cmpi, BitVec.sle, e1, e2, hn, this]
  · have : (usedW m).toNat ≤ n := by omega
    simp [Scalar.cmpi, Scalar.extui, IntOp.cmpi, BitVec.sle, e1, e2, hn, this]

/-- The weights are copied at the first tile and where the expert changes. -/
theorem fresh_iff (c : Dev nD) (i : grid0.Coords) : fresh c (tables m 0) i ↔ (i 0).val = 0
    ∨ expertW m ⟨(i 0).val, coord_lt i⟩ ≠ expertW m ⟨(i 0).val - 1, by have := coord_lt i; omega⟩ := by
  have h := coord_lt i
  unfold fresh
  rw [teW_eq, tePrevW_eq]
  generalize expertW m ⟨(i 0).val, _⟩ = a
  generalize expertW m ⟨(i 0).val - 1, _⟩ = b
  generalize (i 0).val = n at *
  have hz : (BitVec.ofNat 32 n = 0#32) ↔ n = 0 := by
    constructor
    · intro e
      have := congrArg BitVec.toNat e
      simp at this
      omega
    · rintro rfl; rfl
  have k1 : (BitVec.ofNat 32 n == 0#32) = decide (n = 0) := by rw [Bool.eq_iff_iff]; simp [hz]
  have k2 : (a != b) = !decide (a = b) := by rw [Bool.eq_iff_iff]; simp
  simp only [Scalar.cmpi, Scalar.extui, Scalar.ori, IntOp.cmpi, IntOp.ori, k1, k2]
  by_cases h0 : n = 0 <;> by_cases hab : a = b <;> simp [h0, hab]

/-- The block of rows a point reads. -/
theorem rowBlock (hr : InRange m) (i : grid0.Coords) :
    cc0_transform_0 inb_S1_S1_0 numel1_S1 (tables m) i = ![min (i 0).val (used m - 1), 0] := by
  have h := coord_lt i
  have hw : (tables m).at 1 (Rect.unit (s := S1) ![0] S1.size inb_S1_S1_0) numel1_S1 = usedW m :=
    congrArg (tables m 1 : IVec S1 32) (s1_ix _)
  unfold cc0_transform_0
  rw [hw]
  have hp := hr.pos
  have hl := hr.le
  have e1 := word_toInt (w := usedW m) hr.le
  have e2 := Ret.toInt_small (r := (i 0).val) (by omega)
  have e3 : (usedW m - 1#32).toNat = used m - 1 := by
    unfold used at *
    rw [BitVec.toNat_sub]
    simp
    omega
  have e4 := word_toInt (w := usedW m - 1#32) (by omega)
  have e5 : (BitVec.ofNat 32 (i 0).val).toNat = (i 0).val := by simp; omega
  generalize (i 0).val = n at *
  have key : (Scalar.minsi (BitVec.ofNat 32 n) (Scalar.subi (usedW m) 1#32)).toNat = min n (used m - 1) := by
    show (IntOp.minsi (BitVec.ofNat 32 n) (usedW m - 1#32)).toNat = _
    unfold IntOp.minsi
    by_cases hc : (BitVec.ofNat 32 n).slt (usedW m - 1#32) = true
    · have := hc
      simp only [BitVec.slt, e2, e4, e3, decide_eq_true_eq] at this
      rw [if_pos hc, e5]
      omega
    · have := hc
      simp only [BitVec.slt, e2, e4, e3, decide_eq_true_eq] at this
      rw [if_neg hc, e3]
      omega
  show ![(Scalar.minsi (BitVec.ofNat 32 n) (Scalar.subi (usedW m) 1#32)).toNat, 0] = _
  rw [key]

/-- The block of the input weights a point reads; -/
theorem weightBlock1 (i : grid0.Coords) : cc0_transform_1 k0_off1_inb numel1_S1 (tables m) i
    = ![0, (expertW m ⟨(i 0).val, coord_lt i⟩).toNat, 0, 0] := by
  have h := coord_lt i
  have hw : (tables m).at 0 (Rect.unit (s := S328) (k0_off1 i) S1.size (k0_off1_inb i)) numel1_S1
      = expertW m ⟨(i 0).val, coord_lt i⟩ := by
    refine congrArg (tables m 0 : IVec S328 32) (s328_ix _ _ ?_)
    show k0_off1 i 0 + 1 * 0 = (i 0).val
    rw [k0_off1_eq]
    rfl
  rw [← hw]
  rfl

/-- and of the output weights. -/
theorem weightBlock2 (i : grid0.Coords) : cc0_transform_2 k0_off1_inb numel1_S1 (tables m) i
    = ![0, (expertW m ⟨(i 0).val, coord_lt i⟩).toNat, 0, 0] := weightBlock1 i

/-- Tables in range keep every block inside its array. -/
theorem blocks_inside (hr : InRange m) : ok0 (F := F) (tables m) := by
  have hp := hr.pos
  have hl := hr.le
  refine ⟨fun i => ⟨fun a => ?_, Or.inl rfl⟩, fun i => ⟨fun a => ?_, Or.inl rfl⟩, fun i => ⟨fun a => ?_, Or.inl rfl⟩⟩
  · have h := coord_lt i
    rw [rowBlock hr]
    match a with
    | ⟨0, _⟩ => show (min (i 0).val (used m - 1) + 1) * 512 ≤ 167936; omega
    | ⟨1, _⟩ => show (0 + 1) * 2048 ≤ 2048; omega
  · have h := hr.expert ⟨(i 0).val, coord_lt i⟩
    rw [weightBlock1]
    generalize (expertW m ⟨(i 0).val, coord_lt i⟩).toNat = e at *
    match a with
    | ⟨0, _⟩ => show (0 + 1) * 1 ≤ 2; omega
    | ⟨1, _⟩ => show (e + 1) * 1 ≤ 64; omega
    | ⟨2, _⟩ => show (0 + 1) * 4096 ≤ 4096; omega
    | ⟨3, _⟩ => show (0 + 1) * 512 ≤ 512; omega
  · have h := hr.expert ⟨(i 0).val, coord_lt i⟩
    rw [weightBlock2]
    generalize (expertW m ⟨(i 0).val, coord_lt i⟩).toNat = e at *
    match a with
    | ⟨0, _⟩ => show (0 + 1) * 1 ≤ 2; omega
    | ⟨1, _⟩ => show (e + 1) * 1 ≤ 64; omega
    | ⟨2, _⟩ => show (0 + 1) * 256 ≤ 256; omega
    | ⟨3, _⟩ => show (0 + 1) * 4096 ≤ 4096; omega

/-- At every point the result's block is stored to. -/
theorem never_idle (hr : InRange m) (i : grid0.Coords) : idle0 (tables m) 3 i = false := by
  have hw : (tables m).atD 1 ![0] = usedW m := by
    unfold Pipeline.Prefetch.Contents.atD
    rw [dif_pos (fun a => by match a with | ⟨0, _⟩ => show 0 + 1 ≤ 1; omega)]
    exact congrArg (tables m 1 : IVec S1 32) (s1_ix _)
  show (!(k0_cond1 i ((tables m).atD 1 ![0]) == 1#1) && !(k0_cond3 i ((tables m).atD 1 ![0]) == 1#1)) = false
  rw [hw]
  by_cases h : (i 0).val < used m
  · rw [(cond1_iff hr i).mpr h]; rfl
  · rw [(cond3_iff hr i).mpr h]; simp

end Cert.Proof.Experts
end
-- ==== Proof.MoeFrame.lean ====
module

public import proofs.«01_k».proof.Proof.MoeTables
public import Idealize.ShloMosaic.Adequacy
public import Idealize.ShloMosaic.Init
public import Idealize.ShloMosaic.Lib.Claim

/-!
The experts' kernel runs to its end for tables in range: at each tile in use the scratch holds the weights of the
tile's expert, copied there at this tile or at an earlier one of the same expert.
-/

@[expose] public section

set_option maxRecDepth 16384

noncomputable section

namespace Cert.Proof.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIdeal Cert.MoeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (hr : InRange m)

/-- A core's buffers at the launch. -/
abbrev start (c : Dev nD) (b : Ref sig .tc) : Buf (Elt F) ((c : Thread nD τ).loc b) := m ((c : Thread nD τ).loc b)

/-- The pipeline at the launch's tables. -/
abbrev at_ : (pcfg0 (F := F)).Adm := ⟨tables m, blocks_inside hr⟩
abbrev pipe : Pipeline.Cfg sig Λ₀ := cfg0 (at_ m hr)

theorem tables_at (c : Dev nD) (j : Fin 2) : start m c (pre0.ref j) = tables m j := by
  obtain rfl : c = 0 := Subsingleton.elim _ _
  rfl

theorem main_is : Pipeline.HMainP (Ix := Unit) (Name := ℕ) (U := UR sig nD τ) (Lvl := ℕ) pcfgs 0 defs₀ Variants.none m (main (F := F)) (start m) :=
  Pipeline.hmainP_region pcfgs 0 defs₀ Variants.none m main fun c => (main_chain c).trans rfl

/-- The tables the pipeline hands the body, one by one. -/
theorem tables_held (c : Dev nD) :
    (Pipeline.ΦT pre0 (tables m) c : sProp 𝕄) = iprop(held c teM (tables m 0) ∗ held c ntM (tables m 1)) := by
  unfold Pipeline.ΦT Pipeline.prefHeld
  rw [show (Finset.univ : Finset (Fin 2)) = {0, 1} from rfl, bigSep_insert (by decide), bigSep_singleton]
  rfl

/-- The scratch buffers: the weights of one expert. -/
abbrev wIn : Memref sig .tc .vmem S4096x512 .bf16 := Memref.whole cc0_scratch0
abbrev wOut : Memref sig .tc .vmem S256x4096 .bf16 := Memref.whole cc0_scratch1

/-- What the pipeline hands over beside the windows. -/
theorem rest_held (c : Dev nD) : (Pipeline.ΦA spec0 c : sProp 𝕄) = iprop(iprop((∃ d, owns (c : Thread nD τ) wIn fullShare d)
    ∗ (∃ d, owns (c : Thread nD τ) wOut fullShare d)) ∗ (∃ r, prngReg c r)) := by
  unfold Pipeline.ΦA
  rw [scopedRest0_eq]
  simp only [wIn, wOut, owns_whole]
  rfl

/-- The block of window `w` at point `t`, as launched. -/
def blockAt (c : Dev nD) (w : Fin (pipe m hr).W) (t : Fin (pipe m hr).N) :
    (((pipe m hr).win w).xblock ((pipe m hr).grid.coords t)).Idx → Elt F ((pipe m hr).win w).elt :=
  (((pipe m hr).win w).blk t).view.read (Elt F) (start m c (Pipeline.arrRef spec0 w))

/-- The three blocks the body works on, as arrays. -/
abbrev rowsAt (c : Dev nD) (t : Fin (pipe m hr).N) : Vec F S512x2048 .i32 := blockAt m hr c 0 t
abbrev winAt (c : Dev nD) (t : Fin (pipe m hr).N) : Vec F S1x1x4096x512 .f32 := blockAt m hr c 1 t
abbrev woutAt (c : Dev nD) (t : Fin (pipe m hr).N) : Vec F S1x1x256x4096 .f32 := blockAt m hr c 2 t

/-- What point `t` leaves in the result's block: its rows through its expert, or zeros past the tiles in use. -/
def resultAt (c : Dev nD) (t : Fin (pipe m hr).N) : Vec F S512x4096 .f32 :=
  if t.val < used m then k0_pay3 (rowsAt m hr c t) (k0_pay1 (winAt m hr c t)) (k0_pay2 (woutAt m hr c t)) else k0_pay4

/-- What the scratch holds before point `n`: the weights of the point before, if that one was in use. -/
def Loaded (c : Dev nD) (n : ℕ) (d0 : Vec F S4096x512 .bf16) (d1 : Vec F S256x4096 .bf16) : Prop :=
  ∀ t : Fin (pipe m hr).N, n = t.val + 1 → t.val < used m → d0 = k0_pay1 (winAt m hr c t) ∧ d1 = k0_pay2 (woutAt m hr c t)

/-- The invariant before point `n`. -/
def before (c : Dev nD) (n : ℕ) : sProp 𝕄 :=
  iprop((∃ d0 d1, ⌜Loaded m hr c n d0 d1⌝ ∗ owns (c : Thread nD τ) wIn fullShare d0 ∗ owns (c : Thread nD τ) wOut fullShare d1)
    ∗ (∃ r, prngReg c r) ∗ held c teM (tables m 0) ∗ held c ntM (tables m 1))

/-- The pipeline's data: the arrays as launched, the blocks after each point, the invariant. -/
def dats (_ : Fin 1) (c : Dev nD) : Dat τ (Elt F) Unit ℕ (UR sig nD τ) ℕ (pipe m hr) c where
  A w := start m c (Pipeline.arrRef spec0 w)
  after w t := match w with
    | ⟨0, _⟩ => rowsAt m hr c t
    | ⟨1, _⟩ => winAt m hr c t
    | ⟨2, _⟩ => woutAt m hr c t
    | ⟨3, _⟩ => resultAt m hr c t
  Φ n := before m hr c n.val
  q _ := fullShare
  owed _ := 0

variable (c : Dev nD) (t : Fin (pipe m hr).N)

theorem arrays (w : Fin (pipe m hr).W) : (dats m hr 0 c).A w = start m c (Pipeline.arrRef spec0 w) := by
  dsimp only [dats]

theorem after0 : (dats m hr 0 c).after 0 t = rowsAt m hr c t := by dsimp only [dats]; rfl
theorem after1 : (dats m hr 0 c).after 1 t = winAt m hr c t := by dsimp only [dats]; rfl
theorem after2 : (dats m hr 0 c).after 2 t = woutAt m hr c t := by dsimp only [dats]; rfl
theorem after3 : (dats m hr 0 c).after 3 t = resultAt m hr c t := by dsimp only [dats]; rfl

/-- The body finds each input's block in its buffer. -/
theorem found0 (d) : (dats m hr 0 c).before 0 t d = rowsAt m hr c t :=
  ((dats m hr 0 c).before_in_eq_fetched 0 rfl (fun _ => rfl) (fun _ _ _ => rfl)
    (fun t => by rw [after0]; unfold Dat.blockOf rowsAt blockAt; rw [arrays]) t d).trans
    (by unfold Dat.fetched Dat.blockOf rowsAt blockAt; rw [arrays]; rfl)
theorem found1 (d) : (dats m hr 0 c).before 1 t d = winAt m hr c t :=
  ((dats m hr 0 c).before_in_eq_fetched 1 rfl (fun _ => rfl) (fun _ _ _ => rfl)
    (fun t => by rw [after1]; unfold Dat.blockOf winAt blockAt; rw [arrays]) t d).trans
    (by unfold Dat.fetched Dat.blockOf winAt blockAt; rw [arrays]; rfl)
theorem found2 (d) : (dats m hr 0 c).before 2 t d = woutAt m hr c t :=
  ((dats m hr 0 c).before_in_eq_fetched 2 rfl (fun _ => rfl) (fun _ _ _ => rfl)
    (fun t => by rw [after2]; unfold Dat.blockOf woutAt blockAt; rw [arrays]) t d).trans
    (by unfold Dat.fetched Dat.blockOf woutAt blockAt; rw [arrays]; rfl)

theorem points : (pipe m hr).N = 328 := N_0
theorem point_lt : t.val < 328 := t.isLt.trans_eq (points m hr)
theorem coord0 : (grid0.coords t 0).val = t.val := by
  have h := point_lt m hr t
  have e : (grid0.coords t 0).val = t.val / 1 % 328 := Pipeline.Grid.coords_val (G := grid0) t 0 (by decide) rfl
  omega

/-- A point's block of the input weights is its expert's; -/
theorem winAt_apply (r : Fin 4096) (s : Fin 512) : winAt m hr c t (ix4 0 0 r s)
    = (start m c main_arg1 : Vec F S2x64x4096x512 .f32)
      (ix4 0 ⟨(expertW m ⟨t.val, point_lt m hr t⟩).toNat, hr.expert _⟩ r s) := by
  have e : cc0_transform_1 k0_off1_inb numel1_S1 (tables m) (grid0.coords t) = ![0, (expertW m ⟨t.val, point_lt m hr t⟩).toNat, 0, 0] := by
    refine (weightBlock1 (m := m) (grid0.coords t)).trans ?_
    simp only [coord0 m hr t]
  unfold winAt blockAt
  refine (View.read_apply ..).trans ?_
  show start m c main_arg1 _ = start m c main_arg1 _
  congr 1
  funext a
  apply Fin.ext
  match a with
  | ⟨0, _⟩ => show cc0_transform_1 k0_off1_inb numel1_S1 (tables m) (grid0.coords t) 0 * 1 + 1 * 0 = 0; rw [e]; rfl
  | ⟨1, _⟩ => show cc0_transform_1 k0_off1_inb numel1_S1 (tables m) (grid0.coords t) 1 * 1 + 1 * 0 = (expertW m ⟨t.val, point_lt m hr t⟩).toNat; rw [e]; show (expertW m _).toNat * 1 + 1 * 0 = _; omega
  | ⟨2, _⟩ => show cc0_transform_1 k0_off1_inb numel1_S1 (tables m) (grid0.coords t) 2 * 4096 + 1 * r.val = r.val; rw [e]; show 0 * 4096 + 1 * r.val = r.val; omega
  | ⟨3, _⟩ => show cc0_transform_1 k0_off1_inb numel1_S1 (tables m) (grid0.coords t) 3 * 512 + 1 * s.val = s.val; rw [e]; show 0 * 512 + 1 * s.val = s.val; omega

/-- and of the output weights. -/
theorem woutAt_apply (r : Fin 256) (s : Fin 4096) : woutAt m hr c t (ix4 0 0 r s)
    = (start m c main_arg2 : Vec F S2x64x256x4096 .f32)
      (ix4 0 ⟨(expertW m ⟨t.val, point_lt m hr t⟩).toNat, hr.expert _⟩ r s) := by
  have e : cc0_transform_2 k0_off1_inb numel1_S1 (tables m) (grid0.coords t) = ![0, (expertW m ⟨t.val, point_lt m hr t⟩).toNat, 0, 0] := by
    refine (weightBlock2 (m := m) (grid0.coords t)).trans ?_
    simp only [coord0 m hr t]
  unfold woutAt blockAt
  refine (View.read_apply ..).trans ?_
  show start m c main_arg2 _ = start m c main_arg2 _
  congr 1
  funext a
  apply Fin.ext
  match a with
  | ⟨0, _⟩ => show cc0_transform_2 k0_off1_inb numel1_S1 (tables m) (grid0.coords t) 0 * 1 + 1 * 0 = 0; rw [e]; rfl
  | ⟨1, _⟩ => show cc0_transform_2 k0_off1_inb numel1_S1 (tables m) (grid0.coords t) 1 * 1 + 1 * 0 = (expertW m ⟨t.val, point_lt m hr t⟩).toNat; rw [e]; show (expertW m _).toNat * 1 + 1 * 0 = _; omega
  | ⟨2, _⟩ => show cc0_transform_2 k0_off1_inb numel1_S1 (tables m) (grid0.coords t) 2 * 256 + 1 * r.val = r.val; rw [e]; show 0 * 256 + 1 * r.val = r.val; omega
  | ⟨3, _⟩ => show cc0_transform_2 k0_off1_inb numel1_S1 (tables m) (grid0.coords t) 3 * 4096 + 1 * s.val = s.val; rw [e]; show 0 * 4096 + 1 * s.val = s.val; omega

theorem split4 {a b : ℕ} (y : (⟨4, ![1, 1, a, b]⟩ : Shape).Idx) : y = ix4 (0 : Fin 1) (0 : Fin 1) (y 2) (y 3) := by
  funext x
  match x with
  | ⟨0, _⟩ => exact Subsingleton.elim (α := Fin 1) _ _
  | ⟨1, _⟩ => exact Subsingleton.elim (α := Fin 1) _ _
  | ⟨2, _⟩ => rfl
  | ⟨3, _⟩ => rfl

/-- Points of one expert read the same weights. -/
theorem same_weights {t t' : Fin (pipe m hr).N}
    (h : expertW m ⟨t.val, point_lt m hr t⟩ = expertW m ⟨t'.val, point_lt m hr t'⟩) :
    winAt m hr c t = winAt m hr c t' ∧ woutAt m hr c t = woutAt m hr c t' := by
  constructor
  · funext y
    obtain ⟨r, s, rfl⟩ : ∃ (r : Fin 4096) (s : Fin 512), y = ix4 (0 : Fin 1) (0 : Fin 1) r s := ⟨y 2, y 3, split4 y⟩
    refine (winAt_apply m hr c t r s).trans (Eq.trans ?_ (winAt_apply m hr c t' r s).symm)
    simp only [h]
  · funext y
    obtain ⟨r, s, rfl⟩ : ∃ (r : Fin 256) (s : Fin 4096), y = ix4 (0 : Fin 1) (0 : Fin 1) r s := ⟨y 2, y 3, split4 y⟩
    refine (woutAt_apply m hr c t r s).trans (Eq.trans ?_ (woutAt_apply m hr c t' r s).symm)
    simp only [h]

/-- After a point in use the scratch holds its weights. -/
theorem loaded_here : Loaded m hr c (t.val + 1) (k0_pay1 (winAt m hr c t)) (k0_pay2 (woutAt m hr c t)) := by
  intro t' e _
  obtain rfl : t = t' := Fin.ext (by omega)
  exact ⟨rfl, rfl⟩

/-- After a point past those in use nothing is said of it. -/
theorem loaded_past (h : ¬t.val < used m) (d0 d1) : Loaded m hr c (t.val + 1) d0 d1 := by
  intro t' e hu
  omega

/-- At a point of the expert before, the scratch holds the point's weights already. -/
theorem loaded_already (hu : t.val < used m) (hf : ¬fresh c (tables m 0) (grid0.coords t)) {d0 d1}
    (hl : Loaded m hr c t.val d0 d1) : d0 = k0_pay1 (winAt m hr c t) ∧ d1 = k0_pay2 (woutAt m hr c t) := by
  have hc := coord0 m hr t
  rw [fresh_iff] at hf
  simp only [hc, not_or, not_not] at hf
  obtain ⟨h0, he⟩ := hf
  have hlt : t.val - 1 < (pipe m hr).N := by have := t.isLt; omega
  have hb := hl ⟨t.val - 1, hlt⟩ (by show t.val = t.val - 1 + 1; omega) (by show t.val - 1 < used m; omega)
  have hs := same_weights m hr c (t := t) (t' := ⟨t.val - 1, hlt⟩) he
  rw [hs.1, hs.2]
  exact hb

/-- The buffers the body works on at a point, and the body there. -/
abbrev buf0 : Memref sig .tc .vmem S512x2048 .i32 := spec0_0.stage ((pipe m hr).slots t 0)
abbrev buf1 : Memref sig .tc .vmem S1x1x4096x512 .f32 := spec0_1.stage ((pipe m hr).slots t 1)
abbrev buf2 : Memref sig .tc .vmem S1x1x256x4096 .f32 := spec0_2.stage ((pipe m hr).slots t 2)
abbrev buf3 : Memref sig .tc .vmem S512x4096 .f32 := spec0_3.stage ((pipe m hr).slots t 3)
abbrev bodyAt : Prog (TpuEff nD τ sig (Elt F) Λ₀ .tc) PUnit :=
  cc0_grouped_swiglu (grid0.coords t) teM (Memref.isWhole_whole _) ntM (Memref.isWhole_whole _)
    (buf0 m hr t) (hstage0_0 (((pipe m hr).slots t 0).cast nbuf0_0)) (buf1 m hr t) (hstage0_1 (((pipe m hr).slots t 1).cast nbuf0_1))
    (buf2 m hr t) (hstage0_2 (((pipe m hr).slots t 2).cast nbuf0_2)) (buf3 m hr t) (hstage0_3 (((pipe m hr).slots t 3).cast nbuf0_3))
    wIn (Memref.isWhole_whole _) wOut (Memref.isWhole_whole _)

set_option maxHeartbeats 3200000 in
/-- The body at a point keeps the invariant and leaves the blocks as stated. -/
theorem body_at :
    iprop((dats m hr 0 c).Φ t.castSucc ∗ (dats m hr 0 c).owesAt () t.castSucc
      ∗ (∃ d, owns (c : Thread nD τ) (buf0 m hr t) fullShare ((dats m hr 0 c).before 0 t d))
      ∗ (∃ d, owns (c : Thread nD τ) (buf1 m hr t) fullShare ((dats m hr 0 c).before 1 t d))
      ∗ (∃ d, owns (c : Thread nD τ) (buf2 m hr t) fullShare ((dats m hr 0 c).before 2 t d))
      ∗ (∃ d, owns (c : Thread nD τ) (buf3 m hr t) fullShare ((dats m hr 0 c).before 3 t d)))
    ⊢ wp frame (wpE (defs₀ (F := F)) Variants.none c none) Set.univ (bodyAt m hr t) (fun _ =>
      iprop((dats m hr 0 c).Φ t.succ ∗ (dats m hr 0 c).owesAt () t.succ
        ∗ owns (c : Thread nD τ) (buf0 m hr t) fullShare ((dats m hr 0 c).after 0 t)
        ∗ owns (c : Thread nD τ) (buf1 m hr t) fullShare ((dats m hr 0 c).after 1 t)
        ∗ owns (c : Thread nD τ) (buf2 m hr t) fullShare ((dats m hr 0 c).after 2 t)
        ∗ owns (c : Thread nD τ) (buf3 m hr t) fullShare ((dats m hr 0 c).after 3 t))) := by
  have hc := coord0 m hr t
  simp only [found0, found1, found2]
  rw [show (dats m hr 0 c).owesAt () t.succ = (dats m hr 0 c).owesAt () t.castSucc from rfl, after0, after1, after2, after3,
    show (dats m hr 0 c).Φ t.castSucc = before m hr c t.val from rfl,
    show (dats m hr 0 c).Φ t.succ = before m hr c (t.val + 1) from rfl]
  unfold before bodyAt
  iintro ⟨⟨⟨%d0, %d1, %hl, HS0, HS1⟩, Hg, HT0, HT1⟩, Ho, ⟨%e0, H0⟩, ⟨%e1, H1⟩, ⟨%e2, H2⟩, ⟨%e3, H3⟩⟩
  by_cases hu : t.val < used m
  · have h1 : k0_cond1 (grid0.coords t) (ntW c (tables m 1)) = 1#1 := by rw [ntW_eq, cond1_iff hr, hc]; exact hu
    have h3 : ¬k0_cond3 (grid0.coords t) (ntW c (tables m 1)) = 1#1 := by rw [ntW_eq, cond3_iff hr, hc]; exact not_not.mpr hu
    have hres : resultAt m hr c t = k0_pay3 (rowsAt m hr c t) (k0_pay1 (winAt m hr c t)) (k0_pay2 (woutAt m hr c t)) := if_pos hu
    rw [hres]
    by_cases hf : fresh c (tables m 0) (grid0.coords t)
    · iapply (run_fresh c (grid0.coords t) _ _ _ _ _ _ _ _ _ _ _ _ (tables m 0) (tables m 1) h1 hf h3 (rowsAt m hr c t) (winAt m hr c t) (woutAt m hr c t) Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HT0]; · iexact HT0
      isplitl [HT1]; · iexact HT1
      iintro ⟨H0, H1, H2, H3, HS0, HS1, HT0, HT1⟩
      isplitl [HS0 HS1 Hg HT0 HT1]
      · isplitl [HS0 HS1]
        · iexists _, _
          isplitr; · ipureintro; exact loaded_here m hr c t
          isplitl [HS0]; · iexact HS0
          iexact HS1
        isplitl [Hg]; · iexact Hg
        isplitl [HT0]; · iexact HT0
        iexact HT1
      isplitl [Ho]; · iexact Ho
      isplitl [H0]; · iexact H0
      isplitl [H1]; · iexact H1
      isplitl [H2]; · iexact H2
      iexact H3
    · obtain ⟨rfl, rfl⟩ := loaded_already m hr c t hu hf hl
      iapply (run_same c (grid0.coords t) _ _ _ _ _ _ _ _ _ _ _ _ (tables m 0) (tables m 1) h1 hf h3 (rowsAt m hr c t) _ _ Set.univ _)
      isplitl [H0]; · iexact H0
      isplitl [H3]; · iexists _; iexact H3
      isplitl [HS0]; · iexact HS0
      isplitl [HS1]; · iexact HS1
      isplitl [HT0]; · iexact HT0
      isplitl [HT1]; · iexact HT1
      iintro ⟨H0, H3, HS0, HS1, HT0, HT1⟩
      isplitl [HS0 HS1 Hg HT0 HT1]
      · isplitl [HS0 HS1]
        · iexists _, _
          isplitr; · ipureintro; exact loaded_here m hr c t
          isplitl [HS0]; · iexact HS0
          iexact HS1
        isplitl [Hg]; · iexact Hg
        isplitl [HT0]; · iexact HT0
        iexact HT1
      isplitl [Ho]; · iexact Ho
      isplitl [H0]; · iexact H0
      isplitl [H1]; · iexact H1
      isplitl [H2]; · iexact H2
      iexact H3
  · have h1 : ¬k0_cond1 (grid0.coords t) (ntW c (tables m 1)) = 1#1 := by rw [ntW_eq, cond1_iff hr, hc]; exact hu
    have h3 : k0_cond3 (grid0.coords t) (ntW c (tables m 1)) = 1#1 := by rw [ntW_eq, cond3_iff hr, hc]; exact hu
    have hres : resultAt m hr c t = k0_pay4 := if_neg hu
    rw [hres]
    iapply (run_rest c (grid0.coords t) _ _ _ _ _ _ _ _ _ _ _ _ (tables m 0) (tables m 1) h1 h3 Set.univ _)
    isplitl [H3]; · iexists _; iexact H3
    isplitl [HT0]; · iexact HT0
    isplitl [HT1]; · iexact HT1
    iintro ⟨H3, HT0, HT1⟩
    isplitl [HS0 HS1 Hg HT0 HT1]
    · isplitl [HS0 HS1]
      · iexists d0, d1
        isplitr; · ipureintro; exact loaded_past m hr c t hu _ _
        isplitl [HS0]; · iexact HS0
        iexact HS1
      isplitl [Hg]; · iexact Hg
      isplitl [HT0]; · iexact HT0
      iexact HT1
    isplitl [Ho]; · iexact Ho
    isplitl [H0]; · iexact H0
    isplitl [H1]; · iexact H1
    isplitl [H2]; · iexact H2
    iexact H3

theorem body_row : defs₀ (F := F) .tc (pipe m hr).body ((pipe m hr).bodyArgs t ((pipe m hr).slots t)) = bodyAt m hr t := by
  unfold defs₀
  rw [Defs.onTc_tc]

/-- A block that is stored to at every point is left as stated. -/
theorem left_live {M : Type} [URA M] (b b' : Bool) (P Q : sProp M) : b = false →
    (Q ⊢ (match b with
      | true => (match b' with
        | false => P
        | true => Q)
      | false => Q)) := by
  rintro rfl
  exact .rfl

theorem obligation : BodyObligation (dats (F := F) m hr 0 c) (defs₀ (F := F)) Variants.none () Set.univ := fun t => by
  have hi : (pipe m hr).idle 3 ((pipe m hr).grid.coords t) = false := never_idle hr (grid0.coords t)
  rw [bigSep_W0, bigSep_W0, body_row m hr]
  exact triple_restated (body_at m hr c t) rfl .rfl fun _ =>
    sep_mono .rfl (sep_mono .rfl (sep_mono .rfl (sep_mono .rfl (sep_mono .rfl (left_live _ _ _ _ hi)))))

/-- The launch hands the invariant over, -/
theorem enter : iprop(Pipeline.ΦA spec0 c ∗ Pipeline.ΦT pre0 (tables m) c) ⊢ (dats m hr 0 c).Φ 0 := by
  rw [show (dats m hr 0 c).Φ 0 = before m hr c 0 from rfl, rest_held, tables_held]
  unfold before
  iintro ⟨⟨⟨⟨%d0, HS0⟩, ⟨%d1, HS1⟩⟩, Hg⟩, HT0, HT1⟩
  isplitl [HS0 HS1]
  · iexists d0, d1
    isplitr
    · ipureintro
      intro t e
      omega
    isplitl [HS0]; · iexact HS0
    iexact HS1
  isplitl [Hg]; · iexact Hg
  isplitl [HT0]; · iexact HT0
  iexact HT1

/-- and takes its buffers back. -/
theorem leave : (dats m hr 0 c).Φ (Fin.last (pipe m hr).N) ⊢ Pipeline.ΦA spec0 c := by
  rw [show (dats m hr 0 c).Φ (Fin.last (pipe m hr).N) = before m hr c (pipe m hr).N from rfl, rest_held]
  unfold before
  iintro ⟨⟨%d0, %d1, -, HS0, HS1⟩, Hg, -⟩
  isplitl [HS0 HS1]
  · isplitl [HS0]
    · iexists _; iexact HS0
    iexists _; iexact HS1
  iexact Hg

set_option backward.isDefEq.respectTransparency.types false in
/-- The launch: every run ends, with the arrays as the data say and every counter at zero. -/
theorem run : θ_run defs (onTc (τ := τ) (main (F := F))) (s₀ m ρ) (fun r =>
    (Pipeline.FramePost (Pipeline.pin pcfgs fun _ => at_ m hr) (dats m hr) 0 (start m)) r ∧ r.2.sem = fun _ => 0) :=
  Pipeline.θ_run_frameP_track (Q' := _) pcfgs (fun _ => at_ m hr) (dats m hr) (0 : Fin 1) launch0 defs₀ Variants.none m ρ main
    (hbody := fun c => (obligation m hr c).loose) (hshare := fun c => (dats m hr 0 c).share_full fun _ => rfl)
    (howed := fun _ _ => rfl) (V := start m) (hmain := main_is m) (hA := arrays m hr) (hpf := tables_at m)
    (hin := enter m hr) (hout := leave m hr)

include hr in
/-- The arguments end as they were, and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have input : ∀ {r : _ × _} (h : Pipeline.FramePost (Pipeline.pin pcfgs fun _ => at_ m hr) (dats m hr) 0 (start m) r) (c : Dev nD)
      (w : Fin (pipe m hr).W) (hw : ((pipe m hr).win w).isOut = false), _ :=
    fun h c w hw => ((h c).1 w).trans (((dats m hr 0 c).arrAt_in w hw _).trans (arrays m hr c w))
  exact (θ_run defs _ _).mono (fun _ h => ⟨fun c => ⟨input h.1 c 0 rfl, input h.1 c 1 rfl, input h.1 c 2 rfl,
    (h.1 c).2 main_arg3 (by decide : main_arg3 ∈ Pipeline.restRefs sig spec0),
    (h.1 c).2 main_arg4 (by decide : main_arg4 ∈ Pipeline.restRefs sig spec0)⟩, h.2⟩) (run m ρ hr)

end Cert.Proof.Experts
end
-- ==== Proof.MoeRange.lean ====
module

public import proofs.«01_k».proof.Defs
public import proofs.«01_k».proof.Proof.MoeFrame
public import proofs.«01_k».proof.Proof.Gen.Moe
public import proofs.«01_k».proof.Proof.Finite
public import proofs.«01_k».proof.Proof.Gen.Pre_moe_ranges

/-!
The experts' precondition says the words of the two tables are in range; so the kernel's runs end, its arguments
unchanged.
-/

@[expose] public section

set_option maxRecDepth 16384

noncomputable section

open Idealize.ShloMosaic Idealize.ShloMosaic.TcCoe Idealize.SL.Sem Cert.Proof.Ret

namespace Cert.Proof.Experts

open Cert.MoeIdeal Cert.MoeIdeal.Gen

/-- What a signed comparison of two words says of their integers. -/
theorem of_sle {x y : BitVec 32} (h : BitVec.ofBool (x.sle y) = 1#1) : x.toInt ≤ y.toInt := by
  by_contra hc
  have : x.sle y = false := by simpa [BitVec.sle] using hc
  rw [this] at h
  exact absurd h (by decide)
theorem of_slt {x y : BitVec 32} (h : BitVec.ofBool (x.slt y) = 1#1) : x.toInt < y.toInt := by
  by_contra hc
  have : x.slt y = false := by simpa [BitVec.slt] using hc
  rw [this] at h
  exact absurd h (by decide)

/-- A word whose integer is in a range of naturals is that natural. -/
theorem toNat_bounds {x : BitVec 32} {a : ℕ} (h : (a : ℤ) ≤ x.toInt) : (x.toNat : ℤ) = x.toInt := by
  rw [BitVec.toInt_eq_toNat_cond] at *
  have := x.isLt
  split at h <;> simp_all <;> omega

/-- A word found from 0 to below 64, read signed, is below 64. -/
theorem expert_of_compare {x : BitVec 32} (h0 : IntOp.cmpi .sge x 0#32 = 1#1) (h1 : IntOp.cmpi .slt x 64#32 = 1#1) :
    x.toNat < 64 := by
  have e0 : ((0 : ℕ) : ℤ) ≤ x.toInt := of_sle h0
  have e1 : x.toInt < 64 := of_slt h1
  have := toNat_bounds e0
  omega

variable {F : FTy → Type} [FloatOps F]

/-- The precondition, at every float reading, puts the words in range. -/
theorem inRange_of_fn (m : (ℓ : Loc nD τ sig) → Buf (Elt F) ℓ)
    (h : Cert.Pre_moe_ranges.fn (F := F) (m (((0 : Dev nD).tc : Thread nD τ).loc main_arg0))
      (m (((0 : Dev nD).tc : Thread nD τ).loc main_arg1)) (m (((0 : Dev nD).tc : Thread nD τ).loc main_arg2))
      (m (((0 : Dev nD).tc : Thread nD τ).loc main_arg3)) (m (((0 : Dev nD).tc : Thread nD τ).loc main_arg4)) = fun _ => 1#1) :
    InRange m := by
  have h0 := congrFun h (Shape.Idx.first Cert.Pre_moe_ranges.Facts.h_S_)
  unfold Cert.Pre_moe_ranges.fn at h0
  dsimp only at h0
  obtain ⟨h1, hle⟩ := andi_one h0
  obtain ⟨hall, hpos⟩ := andi_one h1
  have at0 : (shapeCast Cert.Pre_moe_ranges.S_ (m (((0 : Dev nD).tc : Thread nD τ).loc main_arg4))
      Cert.Pre_moe_ranges.Facts.shapeCasts_S1_S_ : IVec Cert.Pre_moe_ranges.S_ 32) (Shape.Idx.first Cert.Pre_moe_ranges.Facts.h_S_)
      = usedW m := by
    unfold usedW shapeCast
    exact congrArg (tables m 1 : IVec S1 32) (s1_ix _)
  have one : (1 : ℤ) ≤ (usedW m).toInt := by rw [← at0]; exact of_sle hpos
  have top : (usedW m).toInt ≤ 328 := by rw [← at0]; exact of_sle hle
  have same := toNat_bounds (a := 1) one
  have : (used m : ℤ) = (usedW m).toInt := same
  refine ⟨fun k => ?_, by omega, by omega⟩
  have hk := andi_one (Host.reduce_andi_all _ _ _ _ _ hall (ix1 k))
  exact expert_of_compare hk.1 hk.2

/-- The kernel's runs end with its arguments unchanged and every counter at zero. -/
theorem frame_ideal : Cert.quiescent_MoeIdeal := fun m ρ h => frame_any m ρ (inRange_of_fn m (h 0))

/-- The program of machine floats and the ideal program are one text: so are their calls' bodies, -/
theorem same_bodies : @Cert.Moe.defs₀ F _ _ = @Cert.MoeIdeal.defs₀ F _ _ := by
  unfold Cert.Moe.defs₀ Cert.MoeIdeal.defs₀
  refine congrArg (Defs.onTc (nD := nD) (τ := τ) (sig := sig) (Λ := Λ₀)) ?_
  funext l x
  match l, x with
  | ⟨0, _⟩, (t, s) => rfl
/-- and their launches. -/
theorem same_defs : @Cert.Moe.defs F _ _ = @Cert.MoeIdeal.defs F _ _ := congrArg (Pipeline.defs pcfgs) same_bodies

/-- So the machine floats' runs end the same way. -/
theorem frame_kernel : Cert.quiescent_Moe := fun m ρ h => by
  have e := frame_any (F := Bits) m ρ (inRange_of_fn (F := Bits) m (h 0))
  rw [← same_defs] at e
  exact e

end Cert.Proof.Experts
end
-- ==== Proof.MoeMath.lean ====
module

public import proofs.«01_k».proof.Proof.Words
public import Idealize.ShloMosaic.Lib.Pointwise.Tactic
public import Idealize.ShloMosaic.Lib.Pointwise.Contract
public import Idealize.ShloMosaic.Lib.Pointwise.Reshape
public import Idealize.ShloMosaic.Lib.Pointwise.ShapeOps
public import Idealize.ShloMosaic.Lib.IdealHost
public import Idealize.ShloMosaic.Lib.MatmulPlain
public import Idealize.ShloMosaic.Lib.Pipeline.Value

/-!
One expert's function of one row, and the row two packed words give.
-/

@[expose] public section

set_option maxRecDepth 16384

noncomputable section

open Idealize.ShloMosaic

namespace Cert.Proof.Experts

/-- The numbers in the low and in the high half of a word. -/
def low (w : BitVec 32) : EReal := Ideal.ofBits .f32 (IntOp.shli .vector w 16#32)
def high (w : BitVec 32) : EReal := Ideal.ofBits .f32 (IntOp.andi w 4294901760#32)

/-- Two arrays of 2048 columns put side by side. -/
theorem joined {n : ℕ} (a b : Vec Ideal ⟨2, ![n, 2048]⟩ .f32)
    (h : Shape.Concatenates [(⟨2, ![n, 2048]⟩ : Shape), ⟨2, ![n, 2048]⟩] ⟨2, ![n, 4096]⟩ 1) (r : Fin n) (d : Fin 4096) :
    (concatenate (⟨2, ![n, 4096]⟩ : Shape) 1 [⟨⟨2, ![n, 2048]⟩, a⟩, ⟨⟨2, ![n, 2048]⟩, b⟩] h : Vec Ideal ⟨2, ![n, 4096]⟩ .f32) (ix2 r d)
      = if hd : d.val < 2048 then a (ix2 r ⟨d.val, hd⟩) else b (ix2 r ⟨d.val - 2048, by have := d.isLt; omega⟩) := by
  split
  case isTrue hd =>
    exact concatenate_pair_apply_left (t := ⟨2, ![n, 4096]⟩) (s₁ := ⟨2, ![n, 2048]⟩) (s₂ := ⟨2, ![n, 2048]⟩) 1 _ _ _
      (ix2 r d) rfl (ix2 r ⟨d.val, hd⟩) (fun a => by fin_cases a <;> rfl)
  case isFalse hd =>
    exact concatenate_pair_apply_right (t := ⟨2, ![n, 4096]⟩) (s₁ := ⟨2, ![n, 2048]⟩) (s₂ := ⟨2, ![n, 2048]⟩) 1 _ _ _
      (ix2 r d) rfl rfl (ix2 r ⟨d.val - 2048, by have := d.isLt; omega⟩)
      (fun a h => by fin_cases a <;> first | rfl | exact absurd rfl h) (by show d.val - 2048 + 2048 = d.val; omega)

/-- A row of words unpacked: the low halves, then the high halves. -/
def token {n : ℕ} (xs : IVec ⟨2, ![n, 2048]⟩ 32) (r : Fin n) (d : Fin 4096) : EReal :=
  if hd : d.val < 2048 then low (xs (ix2 r ⟨d.val, hd⟩)) else high (xs (ix2 r ⟨d.val - 2048, by have := d.isLt; omega⟩))

/-- A logistic unit. -/
def swish (a : EReal) : EReal := a * Ideal.div 1 (1 + Ideal.exp (-a))

/-- A row's hidden coordinate `f` of 512. -/
def hidden (x : Fin 4096 → EReal) (w : Fin 4096 → Fin 512 → EReal) (f : Fin 512) : EReal := ∑ d : Fin 4096, x d * w d f

/-- A row through one expert: the hidden coordinates' first half gates the second, and the output weights take it. -/
def through (x : Fin 4096 → EReal) (w : Fin 4096 → Fin 512 → EReal) (v : Fin 256 → Fin 4096 → EReal) (o : Fin 4096) : EReal :=
  ∑ f : Fin 256, swish (hidden x w ⟨f.val, by have := f.isLt; omega⟩)
    * hidden x w ⟨256 + f.val, by have := f.isLt; omega⟩ * v f o

end Cert.Proof.Experts
end
-- ==== Proof.MoeValue.lean ====
module

public import proofs.«01_k».proof.Proof.MoeFrame
public import proofs.«01_k».proof.Proof.MoeMath
public import Idealize.ShloMosaic.Lib.Pipeline.Value

/-!
The experts' kernel's result: every row of a tile in use through the tile's expert, and zero elsewhere.
-/

@[expose] public section

set_option maxRecDepth 16384

noncomputable section

open Idealize.ShloMosaic Idealize.ShloMosaic.TcCoe Idealize.SL.Sem

namespace Cert.Proof.Experts

open Cert.MoeIdeal Cert.MoeIdeal.Gen

/-- A tile in use computes each of its rows through its expert. -/
theorem pay (x : IVec S512x2048 32) (w : Vec Ideal S1x1x4096x512 .f32) (v : Vec Ideal S1x1x256x4096 .f32) (r : Fin 512) (o : Fin 4096) :
    k0_pay3 (F := Ideal) x (k0_pay1 (F := Ideal) w) (k0_pay2 (F := Ideal) v) (ix2 r o)
      = through (token x r) (fun d f => w (ix4 0 0 d f)) (fun f o => v (ix4 0 0 f o)) o := by
  unfold k0_pay3 k0_pay1 k0_pay2
  pointwise
  have e : ∀ d : Fin 4096, (concatenate S512x4096 1
      [⟨S512x2048, bitcastToFloat (F := Ideal) .f32 (shli x (broadcast S512x2048 16#32))⟩,
        ⟨S512x2048, bitcastToFloat (F := Ideal) .f32 (andi x (broadcast S512x2048 4294901760#32))⟩]
      concatenates_S512x2048_S512x2048_S512x4096_d1 : Vec Ideal S512x4096 .f32) (ix2 r d) = token x r d := fun d =>
    (joined _ _ _ r d).trans rfl
  simp only [e, zero_sub]
  unfold through swish hidden
  rfl

variable (m : (ℓ : Loc nD τ sig) → Buf (Elt Ideal) ℓ) (hr : InRange m) (c : Dev nD)

/-- The arguments, as arrays. -/
abbrev words : IVec S167936x2048 32 := m ((c : Thread nD τ).loc main_arg0)
abbrev inW : Vec Ideal S2x64x4096x512 .f32 := m ((c : Thread nD τ).loc main_arg1)
abbrev outW : Vec Ideal S2x64x256x4096 .f32 := m ((c : Thread nD τ).loc main_arg2)

/-- Row `r` through expert `e`, at column `o`. -/
def byExpert (e : Fin 64) (r : Fin 167936) (o : Fin 4096) : EReal :=
  through (token (words m c) r) (fun d f => inW m c (ix4 0 e d f)) (fun f o => outW m c (ix4 0 e f o)) o

/-- The result at a row of tile `k`: through the tile's expert if the tile is in use, zero if not. -/
def resultRow (k : Fin 328) (r : Fin 167936) (o : Fin 4096) : EReal :=
  if k.val < used m then byExpert m c ⟨(expertW m k).toNat, hr.expert k⟩ r o else 0

/-- The tile of a row. -/
def tileOf (r : Fin 167936) : Fin 328 := ⟨r.val / 512, by have := r.isLt; omega⟩

/-- The result. -/
def result : Vec Ideal S167936x4096 .f32 := fun i => resultRow m hr c (tileOf (i 0)) (i 0) (i 1)

variable (t : Fin (pipe m hr).N)

/-- The rows a point in use reads. -/
theorem rowsAt_apply (ht : t.val < used m) (r : Fin 512) (d : Fin 2048) : rowsAt m hr c t (ix2 r d)
    = words m c (ix2 ⟨512 * t.val + r.val, by have := point_lt m hr t; have := r.isLt; omega⟩ d) := by
  have e : cc0_transform_0 inb_S1_S1_0 numel1_S1 (tables m) (grid0.coords t) = ![t.val, 0] := by
    refine (rowBlock (m := m) hr (grid0.coords t)).trans ?_
    rw [coord0 m hr t, Nat.min_eq_left (by omega)]
  unfold rowsAt blockAt
  refine (View.read_apply ..).trans ?_
  show start m c main_arg0 _ = start m c main_arg0 _
  congr 1
  funext a
  apply Fin.ext
  match a with
  | ⟨0, _⟩ => show cc0_transform_0 inb_S1_S1_0 numel1_S1 (tables m) (grid0.coords t) 0 * 512 + 1 * r.val = 512 * t.val + r.val; rw [e]; show t.val * 512 + 1 * r.val = _; omega
  | ⟨1, _⟩ => show cc0_transform_0 inb_S1_S1_0 numel1_S1 (tables m) (grid0.coords t) 1 * 2048 + 1 * d.val = d.val; rw [e]; show 0 * 2048 + 1 * d.val = d.val; omega

/-- A row of a point's tile. -/
abbrev rowOf (r : Fin 512) : Fin 167936 := ⟨512 * t.val + r.val, by have := point_lt m hr t; have := r.isLt; omega⟩

theorem tileOf_rowOf (r : Fin 512) : tileOf (rowOf m hr t r) = ⟨t.val, point_lt m hr t⟩ :=
  Fin.ext (by have := r.isLt; show (512 * t.val + r.val) / 512 = t.val; omega)

/-- What a point leaves, at an index. -/
theorem resultAt_apply (r : Fin 512) (o : Fin 4096) : (resultAt m hr c t : Vec Ideal S512x4096 .f32) (ix2 r o)
    = resultRow m hr c ⟨t.val, point_lt m hr t⟩ (rowOf m hr t r) o := by
  unfold resultAt resultRow
  by_cases ht : t.val < used m
  · rw [if_pos ht, if_pos ht]
    refine (pay _ _ _ r o).trans ?_
    unfold byExpert
    have hx : token (rowsAt m hr c t) r = token (words m c) (rowOf m hr t r) := by
      funext d
      unfold token
      simp only [rowsAt_apply m hr c t ht]
    rw [hx]
    simp only [winAt_apply, woutAt_apply]
  · rw [if_neg ht, if_neg ht]
    unfold k0_pay4
    show Ideal.ofBits .f32 0x00000000#32 = _
    exact Ret.f0

/-- The result's block a point writes, -/
theorem outBlock : cc0_transform_3 (grid0.coords t) = ![t.val, 0] := by
  have h := point_lt m hr t
  show ![(BitVec.ofNat 32 (grid0.coords t 0).val).toNat, 0] = _
  rw [coord0 m hr t]
  congr 1
  simp
  omega

/-- index by index. -/
theorem outAt (r : Fin 512) (o : Fin 4096) : ((((pipe m hr).win 3).blk t).view.emb (ix2 r o : S512x4096.Idx) : S167936x4096.Idx)
    = ix2 (rowOf m hr t r) o := by
  have e := outBlock m hr t
  funext a
  apply Fin.ext
  match a with
  | ⟨0, _⟩ => show cc0_transform_3 (grid0.coords t) 0 * 512 + 1 * r.val = 512 * t.val + r.val; rw [e]; show t.val * 512 + 1 * r.val = _; omega
  | ⟨1, _⟩ => show cc0_transform_3 (grid0.coords t) 1 * 4096 + 1 * o.val = o.val; rw [e]; show 0 * 4096 + 1 * o.val = _; omega

theorem split2 {a b : ℕ} (y : (⟨2, ![a, b]⟩ : Shape).Idx) : y = ix2 (y 0) (y 1) := by
  funext x
  match x with
  | ⟨0, _⟩ => rfl
  | ⟨1, _⟩ => rfl

/-- What a point writes back is its block of the result. -/
theorem flushed : (dats m hr 0 c).flushed 3 t = (((pipe m hr).win 3).blk t).view.read (Elt Ideal) (result m hr c) := by
  show ((pipe m hr).win 3).cut (grid0.coords t) ((dats m hr 0 c).after 3 t) = _
  rw [after3]
  funext y
  obtain ⟨r, o, rfl⟩ : ∃ (r : Fin 512) (o : Fin 4096), y = (ix2 r o : S512x4096.Idx) :=
    ⟨_, _, split2 (a := 512) (b := 4096) y⟩
  refine Eq.trans ?_ (View.read_apply ..).symm
  refine (resultAt_apply m hr c t r o).trans (Eq.trans ?_ (congrArg (result m hr c) (outAt m hr t r o)).symm)
  show _ = resultRow m hr c (tileOf (rowOf m hr t r)) (rowOf m hr t r) o
  rw [tileOf_rowOf]

/-- Every point writes its block back, -/
theorem flush3 : ((pipe m hr).win 3).flush t = true :=
  (Pipeline.Window.flush_reads ((pipe m hr).win 3) rfl 0 (show 1 < grid0.bound 0 by decide) (show grid0.fixedAfter reads0_3 0 = true by decide)
    (Pipeline.Window.sep_of_coord cc0_transform_3 0 0 (fun _ => rfl) (by decide)) (P := 1) (m := 0)
    (show grid0.stride 0 = 1 by decide) rfl t).mpr (Nat.mod_one _)

/-- and the blocks are all of the result. -/
theorem cover (i : S167936x4096.Idx) :
    ∃ t : Fin (pipe m hr).N, ((pipe m hr).win 3).flush t = true ∧ i ∈ (((pipe m hr).win 3).blk t).view.set := by
  have h0 : (i 0).val < 167936 := (i 0).isLt
  have ht : (i 0).val / 512 < (pipe m hr).N := lt_of_lt_of_eq (by omega) (points m hr).symm
  refine ⟨⟨(i 0).val / 512, ht⟩, flush3 m hr _, ?_⟩
  have hi : (((pipe m hr).win 3).blk ⟨(i 0).val / 512, ht⟩).view.emb (ix2 ⟨(i 0).val % 512, by omega⟩ (i 1) : S512x4096.Idx) = i := by
    refine (outAt m hr _ _ _).trans (Eq.trans ?_ (split2 i).symm)
    refine congrArg (fun r => ix2 r (i 1)) (Fin.ext ?_)
    show 512 * ((i 0).val / 512) + (i 0).val % 512 = (i 0).val
    omega
  exact Eq.mp (congrArg (fun j => j ∈ (((pipe m hr).win 3).blk ⟨(i 0).val / 512, ht⟩).view.set) hi) (View.emb_mem_set _ _)

/-- The kernel ends with the result. -/
theorem final : (dats m hr 0 c).arrAt 3 (pipe m hr).N = result m hr c :=
  (dats m hr 0 c).arrAt_eq_of_cover 3 _ (fun t _ => flushed m hr c t) (cover m hr)

end Cert.Proof.Experts
end
-- ==== Proof.MoeRefLoop.lean ====
module

public import proofs.«01_k».proof.Proof.Gen.MoeRefIdeal.Run
public import proofs.«01_k».proof.Proof.MoeMath
public import Idealize.ShloMosaic.Lib.DynamicIndex

/-!
The loop of the experts' reference: trip `n` adds, to the rows of expert `n`, what that expert makes of them.
-/

@[expose] public section

set_option maxRecDepth 16384

noncomputable section

open Idealize.ShloMosaic Idealize.ShloMosaic.TcCoe Idealize.SL.Sem

namespace Cert.MoeRefIdeal.Loop

open Cert.MoeRefIdeal Cert.MoeRefIdeal.Gen Cert.MoeRefIdeal.Value Cert.Proof.Ret Cert.Proof.Experts

/-- One expert's matrix, out of all. -/
theorem slice_at {a b : ℕ} (X : Vec Ideal ⟨4, ![2, 64, a, b]⟩ .f32) (start : Fin 4 → Int)
    (hf : (⟨4, ![2, 64, a, b]⟩ : Shape).Slices (fun _ => 0) ⟨4, ![1, 1, a, b]⟩)
    (hc : (⟨4, ![1, 1, a, b]⟩ : Shape).ShapeCasts ⟨2, ![a, b]⟩) (n : Fin 64)
    (hs : ∀ i, start i = ((![0, n.val, 0, 0] : Fin 4 → ℕ) i : ℤ))
    (hm : ∀ (Y : Vec Ideal ⟨4, ![1, 1, a, b]⟩ .f32) r d, shapeCast ⟨2, ![a, b]⟩ Y hc (ix2 r d) = Y (ix4 0 0 r d))
    (r : Fin a) (d : Fin b) :
    shapeCast ⟨2, ![a, b]⟩ (Host.dynamicSlice ⟨4, ![1, 1, a, b]⟩ X start hf) hc (ix2 r d) = X (ix4 0 n r d) := by
  have hn := n.isLt
  have hoff : (⟨4, ![2, 64, a, b]⟩ : Shape).Slices ![0, n.val, 0, 0] ⟨4, ![1, 1, a, b]⟩ := by
    refine ⟨rfl, fun i => ?_⟩
    match i with
    | ⟨0, _⟩ => show 0 + 1 ≤ 2; omega
    | ⟨1, _⟩ => show n.val + 1 ≤ 64; omega
    | ⟨2, _⟩ => show 0 + a ≤ a; omega
    | ⟨3, _⟩ => show 0 + b ≤ b; omega
  rw [Host.dynamicSlice_eq_extractStridedSlice _ _ _ ![0, n.val, 0, 0] hf hoff hs, hm]
  refine congrArg X (funext fun i => Fin.ext ?_)
  match i with
  | ⟨0, _⟩ => rfl
  | ⟨1, _⟩ => rfl
  | ⟨2, _⟩ => exact Nat.zero_add _
  | ⟨3, _⟩ => exact Nat.zero_add _

/-- The same, of the matrices in; then of the matrices out. -/
theorem sliceIn (X : FVec Ideal S2x64x4096x512 .f32) (start : Fin 4 → Int) (n : Fin 64)
    (hs : ∀ i, start i = ((![0, n.val, 0, 0] : Fin 4 → ℕ) i : ℤ)) (d : Fin 4096) (f : Fin 512) :
    shapeCast S4096x512 (Host.dynamicSlice S1x1x4096x512 X start sliceFits_S2x64x4096x512_S1x1x4096x512)
      shapeCasts_S1x1x4096x512_S4096x512 (ix2 d f) = X (ix4 0 n d f) :=
  slice_at X start _ _ n hs (by intro Y r d; pointwise) d f
theorem sliceOut (X : FVec Ideal S2x64x256x4096 .f32) (start : Fin 4 → Int) (n : Fin 64)
    (hs : ∀ i, start i = ((![0, n.val, 0, 0] : Fin 4 → ℕ) i : ℤ)) (f : Fin 256) (o : Fin 4096) :
    shapeCast S256x4096 (Host.dynamicSlice S1x1x256x4096 X start sliceFits_S2x64x256x4096_S1x1x256x4096)
      shapeCasts_S1x1x256x4096_S256x4096 (ix2 f o) = X (ix4 0 n f o) :=
  slice_at X start _ _ n hs (by intro Y r d; pointwise) f o

variable (V : Valuation τ sig (Elt Ideal))

/-- What the loop carries: the rows' experts, the weights, the rows, the outputs. -/
abbrev experts : IVec S167936 32 := V (Proc.devRef .tc main_v15_0)
abbrev inW : Vec Ideal S2x64x4096x512 .f32 := V (Proc.devRef .tc main_v15_1)
abbrev outW : Vec Ideal S2x64x256x4096 .f32 := V (Proc.devRef .tc main_v15_2)
abbrev rows : Vec Ideal S167936x4096 .f32 := V (Proc.devRef .tc main_v15_3)
abbrev count : IVec S_ 32 := V (Proc.devRef .tc main_v15_5)
abbrev outs : Vec Ideal S167936x4096 .f32 := V (Proc.devRef .tc main_v15_6)

/-- Row `r` through expert `e`. -/
def byExpert (e : Fin 64) (r : Fin 167936) (o : Fin 4096) : EReal :=
  through (fun d => rows V (ix2 r d)) (fun d f => inW V (ix4 0 e d f)) (fun f o => outW V (ix4 0 e f o)) o

/-- Trip `n` reads the matrices of expert `n`: its number is not negative, so nothing is added to it. -/
theorem starts (n : Fin 64) (hn : count V = fun _ => BitVec.ofNat 32 n.val) (a : Fin 4) (p q : BitVec 32) :
    (((![select (cmpi .slt (constantI S_ 32 0#32) (constantI S_ 32 0#32)) (addi (constantI S_ 32 0#32) (constantI S_ 32 2#32))
          (constantI S_ 32 0#32),
        select (cmpi .slt (count V) (constantI S_ 32 0#32)) (addi (count V) (constantI S_ 32 64#32)) (count V),
        select (cmpi .slt (constantI S_ 32 0#32) (constantI S_ 32 0#32)) (addi (constantI S_ 32 0#32) (constantI S_ 32 p))
          (constantI S_ 32 0#32),
        select (cmpi .slt (constantI S_ 32 0#32) (constantI S_ 32 0#32)) (addi (constantI S_ 32 0#32) (constantI S_ 32 q))
          (constantI S_ 32 0#32)]
        : Fin 4 → (⟨S_, .i32⟩ : BufTy).Contents (Elt Ideal))) a (Shape.Idx.first h_S_)).toInt
      = ((![0, n.val, 0, 0] : Fin 4 → ℕ) a : ℤ) := by
  rw [hn]
  fin_cases a
  · rfl
  · show BitVec.toInt (if IntOp.cmpi .slt (BitVec.ofNat 32 n.val) 0#32 = 1#1 then _ else BitVec.ofNat 32 n.val) = _
    rw [if_neg ((by decide : ∀ n : Fin 64, ¬ IntOp.cmpi .slt (BitVec.ofNat 32 n.val) 0#32 = 1#1) n)]
    exact toInt_small (r := n.val) (by omega)
  all_goals rfl

/-- A product's entry, of the rows by a matrix to the hidden coordinates; then of those by a matrix back. -/
theorem into_at (x : FVec Ideal S167936x4096 .f32) (w : FVec Ideal S4096x512 .f32) (r : Fin 167936) (f : Fin 512) :
    (Host.dotGeneral (F := Ideal) dot_S167936x4096_S4096x512_S167936x512_1_0_0_1_n_n none x w) (ix2 r f)
      = ∑ d : Fin 4096, x (ix2 r d) * w (ix2 d f) := by
  pointwise
theorem back_at (x : FVec Ideal S167936x256 .f32) (w : FVec Ideal S256x4096 .f32) (r : Fin 167936) (o : Fin 4096) :
    (Host.dotGeneral (F := Ideal) dot_S167936x256_S256x4096_S167936x4096_1_0_0_1_n_n none x w) (ix2 r o)
      = ∑ f : Fin 256, x (ix2 r f) * w (ix2 f o) := by
  pointwise

/-- A trip's hidden coordinates. -/
theorem hidden_at (n : Fin 64) (hn : count V = fun _ => BitVec.ofNat 32 n.val) (r : Fin 167936) (f : Fin 512) :
    (res_main_while0b_v52 (F := Ideal) V : Vec Ideal S167936x512 .f32) (ix2 r f)
      = hidden (fun d => rows V (ix2 r d)) (fun d f => inW V (ix4 0 n d f)) f := by
  unfold res_main_while0b_v52
  rw [into_at]
  exact congrArg (fun g : Fin 4096 → EReal => ∑ d, g d) (funext fun d =>
    congrArg (rows V (ix2 r d) * ·) (sliceIn _ _ n (fun a => starts V n hn a 4096#32 512#32) d f))

/-- One or nothing, as a word of one bit tells. -/
theorem word_eq (a b : BitVec 32) :
    (FloatOps.uitofp (F := Ideal) .f32 (IntOp.cmpi .eq a b) : EReal) = if a = b then 1 else 0 := by
  by_cases h : a = b
  · rw [if_pos h]
    have e : IntOp.cmpi .eq a b = 1#1 := by subst h; simp [IntOp.cmpi]
    rw [e]
    show (((1 : ℕ) : ℝ) : EReal) = 1
    norm_num
  · rw [if_neg h]
    have e : IntOp.cmpi .eq a b = 0#1 := by
      show BitVec.ofBool (a == b) = 0#1
      rw [beq_eq_false_iff_ne.mpr h]
      rfl
    rw [e]
    show (((0 : ℕ) : ℝ) : EReal) = 0
    norm_num

/-- What a trip leaves. -/
theorem outs_at (n : Fin 64) (hn : count V = fun _ => BitVec.ofNat 32 n.val) (r : Fin 167936) (o : Fin 4096) :
    (step_main_v15_6 (F := Ideal) V : Vec Ideal S167936x4096 .f32) (ix2 r o)
      = outs V (ix2 r o) + (if experts V (ix1 r) = BitVec.ofNat 32 n.val then 1 else 0) * byExpert V n r o := by
  have hw : FloatOps.uitofp (F := Ideal) .f32 (IntOp.cmpi .eq (experts V (ix1 r)) (count V ix0))
      = if experts V (ix1 r) = BitVec.ofNat 32 n.val then 1 else 0 := by
    rw [word_eq, hn]
  unfold step_main_v15_6 res_main_while0b_v53
  dsimp only [id]
  refine (show _ = _ + _ * _ from rfl).trans ?_
  refine congrArg₂ (· + ·) rfl (congrArg₂ (· * ·) ?_ ?_)
  · rw [← hw]
    pointwise
  · rw [back_at]
    unfold byExpert through
    refine congrArg (fun g : Fin 256 → EReal => ∑ f, g f) (funext fun f =>
      congrArg₂ (· * ·) ?_ (sliceOut _ _ n (fun a => starts V n hn a 256#32 4096#32) f o))
    pointwise
    simp only [hidden_at V n hn]
    rfl

/-- After `n` trips, from what it began with: the rows of the first `n` experts are done, the others still zero. -/
structure Carried (V₀ V : Valuation τ sig (Elt Ideal)) (n : ℕ) : Prop where
  he : experts V = experts V₀
  hi : inW V = inW V₀
  hw : outW V = outW V₀
  hr : rows V = rows V₀
  hc : count V = fun _ => BitVec.ofNat 32 n
  ho : ∀ r o, outs V (ix2 r o)
    = if h : (experts V₀ (ix1 r)).toNat < 64 then (if (experts V₀ (ix1 r)).toNat < n then byExpert V₀ ⟨_, h⟩ r o else 0) else 0

/-- A trip. -/
theorem step {V₀ V : Valuation τ sig (Elt Ideal)} {n : ℕ} (hn : n < 64) (c : Carried V₀ V n) : Carried V₀ (STEP V) (n + 1) where
  he := by have := c.he; simp only [experts, STEP_main_v15_0] at *; exact this
  hi := by have := c.hi; simp only [inW, STEP_main_v15_1] at *; exact this
  hw := by have := c.hw; simp only [outW, STEP_main_v15_2] at *; exact this
  hr := by have := c.hr; simp only [rows, STEP_main_v15_3] at *; exact this
  hc := by
    unfold count
    rw [STEP_main_v15_5]
    unfold step_main_v15_5
    have hc := c.hc
    unfold count at hc
    rw [hc]
    funext j
    show BitVec.ofNat 32 n + 1#32 = BitVec.ofNat 32 (n + 1)
    rw [BitVec.ofNat_add]
  ho r o := by
    have hb : byExpert V ⟨n, hn⟩ r o = byExpert V₀ ⟨n, hn⟩ r o := by
      unfold byExpert
      rw [c.hr, c.hi, c.hw]
    have e := outs_at V ⟨n, hn⟩ c.hc r o
    rw [hb, c.he, c.ho r o] at e
    simp only [outs, STEP_main_v15_6]
    refine e.trans ?_
    clear e hb
    generalize experts V₀ (ix1 r) = x
    have hx : x = BitVec.ofNat 32 n ↔ x.toNat = n := by
      constructor
      · intro h; rw [h, BitVec.toNat_ofNat]; omega
      · intro h; rw [← h, BitVec.ofNat_toNat, BitVec.setWidth_eq]
    simp only [hx]
    by_cases h64 : x.toNat < 64
    · rw [dif_pos h64, dif_pos h64]
      rcases Nat.lt_trichotomy x.toNat n with h | h | h
      · rw [if_pos h, if_neg (by omega), if_pos (by omega), zero_mul, add_zero]
      · subst h
        rw [if_neg (by omega), if_pos rfl, if_pos (by omega), one_mul, zero_add]
      · rw [if_neg (by omega), if_neg (by omega), if_neg (by omega), zero_mul, add_zero]
    · rw [dif_neg h64, dif_neg h64, if_neg (by omega), zero_mul, add_zero]

/-- All the trips up to the `n`-th. -/
theorem steps {V₀ : Valuation τ sig (Elt Ideal)} (c : Carried V₀ V₀ 0) : ∀ n : ℕ, n ≤ 64 → Carried V₀ (STEP^[n] V₀) n
  | 0, _ => c
  | n + 1, hn => by
    rw [Function.iterate_succ_apply']
    exact step (by omega) (steps c n (by omega))

variable (m : (ℓ : Loc nD τ sig) → Buf (Elt Ideal) ℓ) (c : Dev nD)

/-- The two halves of a row's coordinates. -/
def cat {α : Type} (a b : S167936x2048.Idx → α) : S167936x4096.Idx → α :=
  concatenate S167936x4096 1 [⟨S167936x2048, a⟩, ⟨S167936x2048, b⟩] concatenates_S167936x2048_S167936x2048_S167936x4096_d1
theorem cat_def {α : Type} (a b : S167936x2048.Idx → α) :
    concatenate S167936x4096 1 [⟨S167936x2048, a⟩, ⟨S167936x2048, b⟩] concatenates_S167936x2048_S167936x2048_S167936x4096_d1
      = cat a b := rfl

open Idealize.ShloMosaic.StableHlo

theorem entry_in : inW (entryContents preI m c) = m ((c.tc : Thread nD τ).loc main_arg1) := by
  unfold inW
  simp only [entryContents, afterL_cons, afterL_nil]
  after_reads_simp
  rfl
theorem entry_out : outW (entryContents preI m c) = m ((c.tc : Thread nD τ).loc main_arg2) := by
  unfold outW
  simp only [entryContents, afterL_cons, afterL_nil]
  after_reads_simp
  rfl
theorem entry_count : count (entryContents preI m c) = fun _ => 0#32 := by
  unfold count
  simp only [entryContents, afterL_cons, afterL_nil]
  after_reads_simp
  rfl
theorem entry_outs (r : Fin 167936) (o : Fin 4096) : outs (entryContents preI m c) (ix2 r o) = (0 : EReal) := by
  unfold outs
  simp only [entryContents, afterL_cons, afterL_nil]
  after_reads_simp
  exact f0
theorem entry_rows (r : Fin 167936) (d : Fin 4096) : rows (entryContents preI m c) (ix2 r d)
    = token (m ((c.tc : Thread nD τ).loc main_arg0) : IVec S167936x2048 32) r d := by
  unfold rows
  simp only [entryContents, afterL_cons, afterL_nil]
  after_reads_simp
  simp only [cat_def]
  after_reads_simp
  refine (joined (n := 167936) _ _ concatenates_S167936x2048_S167936x2048_S167936x4096_d1 r d).trans ?_
  unfold token
  split <;> rfl
theorem ofBool_one (b : Bool) : BitVec.ofBool b = 1#1 ↔ b = true := by cases b <;> decide
theorem entry_experts (r : Fin 167936) : experts (entryContents preI m c) (ix1 r)
    = if (BitVec.ofNat 32 (r.val / 512)).slt ((m ((c.tc : Thread nD τ).loc main_arg4) : IVec S1 32) (ix1 0))
      then (m ((c.tc : Thread nD τ).loc main_arg3) : IVec S328 32) (ix1 ⟨r.val / 512, by omega⟩) else 4294967295#32 := by
  unfold experts
  simp only [entryContents, afterL_cons, afterL_nil]
  after_reads_simp
  pointwise
  show (if IntOp.cmpi .slt (BitVec.ofNat 32 (r.val / 512)) ((m ((c.tc : Thread nD τ).loc main_arg4) : IVec S1 32) (ix1 0)) = 1#1
      then (m ((c.tc : Thread nD τ).loc main_arg3) : IVec S328 32) (ix1 ⟨r.val / 512, by omega⟩) else 4294967295#32) = _
  simp only [IntOp.cmpi]
  exact if_congr (ofBool_one _) rfl rfl

/-- The result the loop ends with: each row through the expert its tile has, if the tile is in use and has one. -/
theorem outs_final (r : Fin 167936) (o : Fin 4096) :
    outs (STEP^[64] (entryContents preI m c)) (ix2 r o)
      = if h : (experts (entryContents preI m c) (ix1 r)).toNat < 64
          then byExpert (entryContents preI m c) ⟨_, h⟩ r o else 0 := by
  have c0 : Carried (entryContents preI m c) (entryContents preI m c) 0 :=
    ⟨rfl, rfl, rfl, rfl, entry_count m c, fun r o => by
      rw [entry_outs]
      split
      · rw [if_neg (Nat.not_lt_zero _)]
      · rfl⟩
  rw [(steps c0 64 le_rfl).ho r o]
  split
  case isTrue h => simp only [h, if_true]
  case isFalse => rfl

end Cert.MoeRefIdeal.Loop
end
-- ==== Proof.MoeClaim.lean ====
module

public import proofs.«01_k».proof.Proof.MoeRange
public import proofs.«01_k».proof.Proof.MoeValue
public import proofs.«01_k».proof.Proof.MoeRefLoop
public import proofs.«01_k».proof.Proof.Gen.MoeRefIdeal

/-!
The experts' claims: kernel and reference give every row of a tile in use the same expert, and zero to the others.
-/

@[expose] public section

set_option maxRecDepth 16384

noncomputable section

open Idealize.ShloMosaic Idealize.ShloMosaic.TcCoe Idealize.SL.Sem

namespace Cert.Proof.Experts

open Cert.MoeIdeal Cert.MoeIdeal.Gen

/-- The frame of the reference, and the same where the words of the tables are in range. -/
theorem frame_ref : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)
theorem frame_ref_pre : Cert.quiescent_MoeRefIdeal_pre_moe_ranges := fun m ρ _ => frame_ref m ρ trivial

variable (m : (ℓ : Loc nD τ sig) → Buf (Elt Ideal) ℓ) (hr : InRange m) (c : Dev nD)

/-- A tile's number, as a word, is below the number of tiles in use as the two numbers are. -/
theorem below (hr : InRange m) (k : Fin 328) : (BitVec.ofNat 32 k.val).slt (usedW m) = true ↔ k.val < used m := by
  have h := k.isLt
  have e1 := word_toInt (w := usedW m) hr.le
  have e2 := Ret.toInt_small (r := k.val) (by omega)
  unfold used
  simp [BitVec.slt, e1, e2]

/-- The result at an index, off the tile's word alone: a tile not in use has a word that is no expert's. -/
theorem result_at (r : Fin 167936) (o : Fin 4096) (w : BitVec 32)
    (hw : w = if (BitVec.ofNat 32 (r.val / 512)).slt (usedW m) = true then expertW m (tileOf r) else 4294967295#32) :
    (if h : w.toNat < 64 then byExpert m c ⟨_, h⟩ r o else 0) = resultRow m hr c (tileOf r) r o := by
  unfold resultRow
  have hb : (BitVec.ofNat 32 (r.val / 512)).slt (usedW m) = true ↔ (tileOf r).val < used m := below m hr (tileOf r)
  by_cases hu : (tileOf r).val < used m
  · rw [if_pos hu]
    rw [if_pos (hb.mpr hu)] at hw
    subst hw
    rw [dif_pos (hr.expert _)]
  · rw [if_neg hu]
    rw [if_neg (fun h => hu (hb.mp h))] at hw
    subst hw
    rw [dif_neg (by decide)]

/-- The value claim: kernel and reference end with the same rows. -/
theorem algebraic : Cert.algebraic_MoeIdeal_MoeRefIdeal := by
  intro m ρ m' ρ' hpre hagree
  have hr : InRange m := inRange_of_fn m (hpre 0)
  refine ⟨fun c => result m hr c, ?_, ?_⟩
  · have input : ∀ {r : _ × _} (h : Pipeline.FramePost (Pipeline.pin pcfgs fun _ => at_ m hr) (dats m hr) 0 (start m) r) (c : Dev nD)
        (w : Fin (pipe m hr).W) (hw : ((pipe m hr).win w).isOut = false), _ :=
      fun h c w hw => ((h c).1 w).trans (((dats m hr 0 c).arrAt_in w hw _).trans (arrays m hr c w))
    exact (θ_run _ _ _).mono (fun _ h c => ⟨((h.1 c).1 3).trans (final m hr c), input h.1 c 0 rfl, input h.1 c 1 rfl,
      input h.1 c 2 rfl, (h.1 c).2 main_arg3 (by decide : main_arg3 ∈ Pipeline.restRefs sig spec0),
      (h.1 c).2 main_arg4 (by decide : main_arg4 ∈ Pipeline.restRefs sig spec0)⟩) (run m ρ hr)
  · refine (θ_run _ _ _).mono (fun _ h c => ⟨(h c).1.trans ?_, (h c).2⟩) (Cert.MoeRefIdeal.Value.run (F := Ideal) m' ρ')
    obtain ⟨h0, h1, h2, h3, h4⟩ := hagree c
    obtain rfl : c = 0 := Subsingleton.elim _ _
    funext i
    obtain ⟨r, o, rfl⟩ : ∃ (r : Fin 167936) (o : Fin 4096), i = (ix2 r o : S167936x4096.Idx) :=
      ⟨i 0, i 1, by funext a; match a with | ⟨0, _⟩ => rfl | ⟨1, _⟩ => rfl⟩
    refine (Cert.MoeRefIdeal.Loop.outs_final m' 0 r o).trans ?_
    have hb : ∀ e, Cert.MoeRefIdeal.Loop.byExpert (StableHlo.entryContents Cert.MoeRefIdeal.Value.preI m' 0) e r o
        = byExpert m 0 e r o := by
      intro e
      unfold Cert.MoeRefIdeal.Loop.byExpert byExpert
      rw [Cert.MoeRefIdeal.Loop.entry_in, Cert.MoeRefIdeal.Loop.entry_out, h1, h2]
      exact congrArg (fun x => through x _ _ o) (funext fun d => (Cert.MoeRefIdeal.Loop.entry_rows m' 0 r d).trans (by rw [h0]))
    simp only [hb]
    have hw := Cert.MoeRefIdeal.Loop.entry_experts m' 0 r
    rw [h3, h4] at hw
    generalize Cert.MoeRefIdeal.Loop.experts _ (ix1 r) = w at hw ⊢
    exact result_at m hr 0 r o w hw

end Cert.Proof.Experts
end
-- ==== Proof.BwdOpen.lean ====
module

public import proofs.«01_k».proof.Proof.Gen.BwdIdeal.Value
public import Idealize.ShloMosaic.Lib.WritesUnit
public import Idealize.ShloMosaic.Lib.Pointwise.Tactic

/-!
What one grid point of the backward retention kernel leaves behind, head by head: each head's 256 columns of the
output block and each head's state are the same two functions (`headOut`, `headState`) of that head's columns of the
query, key, value, forward-output, gate and gain blocks, of the position tables, of the head's decay rate and of the
state before the point.
-/

@[expose] public section

set_option maxRecDepth 16384
set_option maxHeartbeats 4000000

noncomputable section

open Idealize.ShloMosaic Idealize.ShloMosaic.TcCoe Idealize.SL.Sem
open Idealize.ShloMosaic.Pipeline (Dat)

namespace Cert.BwdIdeal.Open

open Cert.BwdIdeal Cert.BwdIdeal.Gen

variable {F : FTy → Type} [FloatOps F]

theorem hz : (![0, 0] : Fin 2 → Nat) = fun _ => 0 := funext fun a => by fin_cases a <;> rfl

/-- Head `hh`'s 256 columns of a block of four heads. -/
def colsOf (hh : Fin 4) (x : Vec F S256x1024 .f32) : Vec F S256x256 .f32 :=
  fun j => x (ix2 (j 0) ⟨256 * hh.val + (j 1).val, by have := hh.isLt; have h : (j 1).val < 256 := (j 1).isLt; omega⟩)

/-- Head `hh`'s row of the decay rates. -/
def rateOf (hh : Fin 4) (x : Vec F S4x1x128 .f32) : Vec F S1x1x128 .f32 := fun j => x (ix3 hh 0 (j 2))

/-- Head `hh`'s gains. -/
def gainOf (hh : Fin 4) (x : Vec F S1x1024 .f32) : Vec F S1x256 .f32 :=
  fun j => x (ix2 0 ⟨256 * hh.val + (j 1).val, by have := hh.isLt; have h : (j 1).val < 256 := (j 1).isLt; omega⟩)

/-- Queries and keys of one head, turned by their positions; the keys are also scaled. -/
def headQ (cs sn : Vec F S256x128 .f32) (x : Vec F S256x256 .f32) : Vec F S256x256 .f32 :=
  k0_pay18 (k0_pay11 cs) (k0_pay12 sn) x
def headK (cs sn : Vec F S256x128 .f32) (x : Vec F S256x256 .f32) : Vec F S256x256 .f32 :=
  k0_pay22 (k0_pay11 cs) (k0_pay12 sn) x

/-- One head's retention: the decayed attention within the block, and the state read by the queries. -/
def headRet (cs sn : Vec F S256x128 .f32) (rt : Vec F S1x1x128 .f32) (q k v s : Vec F S256x256 .f32) : Vec F S256x256 .f32 :=
  k0_pay32 k0_pay10 (k0_pay13 rt) (headQ cs sn q) v s
    (k0_pay26 k0_pay7 k0_pay8 (k0_pay13 rt) (headQ cs sn q) (headK cs sn k))

/-- One head's output rows: its retention added to the forward one, normed and gated. -/
def headOut (cs sn : Vec F S256x128 .f32) (rt : Vec F S1x1x128 .f32) (q k v s o g : Vec F S256x256 .f32)
    (w : Vec F S1x256 .f32) : Vec F S256x256 .bf16 :=
  k0_pay1 (k0_pay55 (headRet cs sn rt q k v s) o w g)

/-- One head's state after the block. -/
def headState (cs sn : Vec F S256x128 .f32) (rt : Vec F S1x1x128 .f32) (k v s : Vec F S256x256 .f32) : Vec F S256x256 .f32 :=
  k0_pay37 k0_pay9 (k0_pay13 rt) (headK cs sn k) v s

/-- The state before the first block. -/
def zeroState : Vec F S256x256 .f32 := k0_pay2

theorem ld_cols {hh : Fin 4} {o : ℕ} (ho : o = 256 * hh.val) (x : Vec F S256x1024 .f32)
    (h : ∀ a, (![0, o] : Fin 2 → ℕ) a + (![256, 256] : Fin 2 → ℕ) a ≤ S256x1024.size a) :
    View.ld x (Rect.unit ![0, o] ![256, 256] h) = colsOf hh x := by
  subst ho
  exact funext fun j => congrArg x (funext fun a => Fin.ext (by
    fin_cases a
    · show 0 + 1 * (j 0).val = (j 0).val; omega
    · show 256 * hh.val + 1 * (j 1).val = 256 * hh.val + (j 1).val; omega))
theorem ld_gain {hh : Fin 4} {o : ℕ} (ho : o = 256 * hh.val) (x : Vec F S1x1024 .f32)
    (h : ∀ a, (![0, o] : Fin 2 → ℕ) a + (![1, 256] : Fin 2 → ℕ) a ≤ S1x1024.size a) :
    View.ld x (Rect.unit ![0, o] ![1, 256] h) = gainOf hh x := by
  subst ho
  exact funext fun j => congrArg x (funext fun a => Fin.ext (by
    have h0 : (j 0).val < 1 := (j 0).isLt
    fin_cases a
    · show 0 + 1 * (j 0).val = 0; omega
    · show 256 * hh.val + 1 * (j 1).val = 256 * hh.val + (j 1).val; omega))
theorem ld_rate {hh : Fin 4} {o : ℕ} (ho : o = hh.val) (x : Vec F S4x1x128 .f32)
    (h : ∀ a, (![o, 0, 0] : Fin 3 → ℕ) a + (![1, 1, 128] : Fin 3 → ℕ) a ≤ S4x1x128.size a) :
    View.ld x (Rect.unit ![o, 0, 0] ![1, 1, 128] h) = rateOf hh x := by
  subst ho
  exact funext fun j => congrArg x (funext fun a => Fin.ext (by
    have h0 : (j 0).val < 1 := (j 0).isLt
    have h1 : (j 1).val < 1 := (j 1).isLt
    fin_cases a
    · show hh.val + 1 * (j 0).val = hh.val; omega
    · show 0 + 1 * (j 1).val = 0; omega
    · show 0 + 1 * (j 2).val = (j 2).val; omega))

variable (c : Dev nD) (i : grid0.Coords)
  (arg3 : Memref sig .tc .vmem S256x1024 .f32) (harg3 : arg3.IsWhole) (arg4 : Memref sig .tc .vmem S256x1024 .f32) (harg4 : arg4.IsWhole)
  (arg5 : Memref sig .tc .vmem S256x1024 .f32) (harg5 : arg5.IsWhole) (arg6 : Memref sig .tc .vmem S256x128 .f32) (harg6 : arg6.IsWhole)
  (arg7 : Memref sig .tc .vmem S256x128 .f32) (harg7 : arg7.IsWhole) (arg8 : Memref sig .tc .vmem S4x1x128 .f32) (harg8 : arg8.IsWhole)
  (arg9 : Memref sig .tc .vmem S256x1024 .f32) (harg9 : arg9.IsWhole) (arg10 : Memref sig .tc .vmem S256x1024 .f32) (harg10 : arg10.IsWhole)
  (arg11 : Memref sig .tc .vmem S1x1024 .f32) (harg11 : arg11.IsWhole) (arg12 : Memref sig .tc .vmem S256x1024 .bf16) (harg12 : arg12.IsWhole)
  (arg13 : Memref sig .tc .vmem S256x256 .f32) (harg13 : arg13.IsWhole) (arg14 : Memref sig .tc .vmem S256x256 .f32) (harg14 : arg14.IsWhole)
  (arg15 : Memref sig .tc .vmem S256x256 .f32) (harg15 : arg15.IsWhole) (arg16 : Memref sig .tc .vmem S256x256 .f32) (harg16 : arg16.IsWhole)
  (x0 x1 x2 : Vec F S256x1024 .f32) (x3 x4 : Vec F S256x128 .f32) (x5 : Vec F S4x1x128 .f32) (x6 x7 : Vec F S256x1024 .f32)
  (x8 : Vec F S1x1024 .f32) (xs0 xs1 xs2 xs3 : Vec F S256x256 .f32)

/-- At a first point, the states of the four heads. -/
theorem statesA (hc0 : cond0_0 i) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
      = headState x3 x4 (rateOf 0 x5) (colsOf 0 x1) (colsOf 0 x2) zeroState
    ∧ sout0_A_1 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
      = headState x3 x4 (rateOf 1 x5) (colsOf 1 x1) (colsOf 1 x2) zeroState
    ∧ sout0_A_2 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
      = headState x3 x4 (rateOf 2 x5) (colsOf 2 x1) (colsOf 2 x2) zeroState
    ∧ sout0_A_3 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
      = headState x3 x4 (rateOf 3 x5) (colsOf 3 x1) (colsOf 3 x2) zeroState := by
  refine ⟨(View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)).trans ?_,
    (View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)).trans ?_,
    (View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)).trans ?_,
    (View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)).trans ?_⟩ <;>
  · unfold kernelRun0_A
    dsimp only
    sl_unfold_words
    rw [View.canon_cons_unit_zero (S := S256x256) hz]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S256x256) hz, View.ld_unit_zero (S := S256x128) hz, View.readCov_unit_zero (S := S256x256) _ hz,
    ld_cols (hh := 0) (o := 0) rfl, ld_cols (hh := 1) (o := 256) rfl, ld_cols (hh := 2) (o := 512) rfl, ld_cols (hh := 3) (o := 768) rfl,
    ld_rate (hh := 0) (o := 0) rfl, ld_rate (hh := 1) (o := 1) rfl, ld_rate (hh := 2) (o := 2) rfl, ld_rate (hh := 3) (o := 3) rfl,
    ld_gain (hh := 0) (o := 0) rfl, ld_gain (hh := 1) (o := 256) rfl, ld_gain (hh := 2) (o := 512) rfl, ld_gain (hh := 3) (o := 768) rfl]
    rfl

/-- At a first point, head `hh`'s columns of the output block. -/
theorem outA (hc0 : cond0_0 i) (r e : Fin 256) (hh : Fin 4) :
    out0_A_9 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 r ⟨256 * hh.val + e.val, by omega⟩)
      = headOut x3 x4 (rateOf hh x5) (colsOf hh x0) (colsOf hh x1) (colsOf hh x2) zeroState
        (colsOf hh x6) (colsOf hh x7) (gainOf hh x8) (ix2 r e) := by
  unfold out0_A_9 kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S256x256) hz, View.ld_unit_zero (S := S256x128) hz, View.readCov_unit_zero (S := S256x256) _ hz,
    ld_cols (hh := 0) (o := 0) rfl, ld_cols (hh := 1) (o := 256) rfl, ld_cols (hh := 2) (o := 512) rfl, ld_cols (hh := 3) (o := 768) rfl,
    ld_rate (hh := 0) (o := 0) rfl, ld_rate (hh := 1) (o := 1) rfl, ld_rate (hh := 2) (o := 2) rfl, ld_rate (hh := 3) (o := 3) rfl,
    ld_gain (hh := 0) (o := 0) rfl, ld_gain (hh := 1) (o := 256) rfl, ld_gain (hh := 2) (o := 512) rfl, ld_gain (hh := 3) (o := 768) rfl]
  match hh with
  | 0 =>
    rw [View.read_writes_cons_unit_of_not_mem _ _ _ _ _ _ rfl 1 (Or.inl (show 256 * 0 + e.val < 768 by omega))]
    rw [View.read_writes_cons_unit_of_not_mem _ _ _ _ _ _ rfl 1 (Or.inl (show 256 * 0 + e.val < 512 by omega))]
    rw [View.read_writes_cons_unit_of_not_mem _ _ _ _ _ _ rfl 1 (Or.inl (show 256 * 0 + e.val < 256 by omega))]
    refine (View.read_writes_cons_unit_of_mem _ _ _ _ _ _ (ix2 r e) rfl (fun a => ?_)).trans rfl
    fin_cases a
    · show r.val = 0 + r.val; omega
    · show 256 * 0 + e.val = 0 + e.val; omega
  | 1 =>
    rw [View.read_writes_cons_unit_of_not_mem _ _ _ _ _ _ rfl 1 (Or.inl (show 256 * 1 + e.val < 768 by omega))]
    rw [View.read_writes_cons_unit_of_not_mem _ _ _ _ _ _ rfl 1 (Or.inl (show 256 * 1 + e.val < 512 by omega))]
    refine (View.read_writes_cons_unit_of_mem _ _ _ _ _ _ (ix2 r e) rfl (fun a => ?_)).trans rfl
    fin_cases a
    · show r.val = 0 + r.val; omega
    · show 256 * 1 + e.val = 256 + e.val; omega
  | 2 =>
    rw [View.read_writes_cons_unit_of_not_mem _ _ _ _ _ _ rfl 1 (Or.inl (show 256 * 2 + e.val < 768 by omega))]
    refine (View.read_writes_cons_unit_of_mem _ _ _ _ _ _ (ix2 r e) rfl (fun a => ?_)).trans rfl
    fin_cases a
    · show r.val = 0 + r.val; omega
    · show 256 * 2 + e.val = 512 + e.val; omega
  | 3 =>
    refine (View.read_writes_cons_unit_of_mem _ _ _ _ _ _ (ix2 r e) rfl (fun a => ?_)).trans rfl
    fin_cases a
    · show r.val = 0 + r.val; omega
    · show 256 * 3 + e.val = 768 + e.val; omega

/-- At a later point, the states of the four heads. -/
theorem statesB (hc0 : ¬cond0_0 i) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3
      = headState x3 x4 (rateOf 0 x5) (colsOf 0 x1) (colsOf 0 x2) xs0
    ∧ sout0_B_1 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3
      = headState x3 x4 (rateOf 1 x5) (colsOf 1 x1) (colsOf 1 x2) xs1
    ∧ sout0_B_2 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3
      = headState x3 x4 (rateOf 2 x5) (colsOf 2 x1) (colsOf 2 x2) xs2
    ∧ sout0_B_3 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3
      = headState x3 x4 (rateOf 3 x5) (colsOf 3 x1) (colsOf 3 x2) xs3 := by
  refine ⟨(View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3)).trans ?_,
    (View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3)).trans ?_,
    (View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3)).trans ?_,
    (View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3)).trans ?_⟩ <;>
  · unfold kernelRun0_B
    dsimp only
    sl_unfold_words
    rw [View.canon_unit_zero hz]
    simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S256x256) hz, View.ld_unit_zero (S := S256x128) hz, View.readCov_unit_zero (S := S256x256) _ hz,
    ld_cols (hh := 0) (o := 0) rfl, ld_cols (hh := 1) (o := 256) rfl, ld_cols (hh := 2) (o := 512) rfl, ld_cols (hh := 3) (o := 768) rfl,
    ld_rate (hh := 0) (o := 0) rfl, ld_rate (hh := 1) (o := 1) rfl, ld_rate (hh := 2) (o := 2) rfl, ld_rate (hh := 3) (o := 3) rfl,
    ld_gain (hh := 0) (o := 0) rfl, ld_gain (hh := 1) (o := 256) rfl, ld_gain (hh := 2) (o := 512) rfl, ld_gain (hh := 3) (o := 768) rfl]
    rfl

/-- At a later point, head `hh`'s columns of the output block. -/
theorem outB (hc0 : ¬cond0_0 i) (r e : Fin 256) (hh : Fin 4) :
    out0_B_9 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 xs3 (ix2 r ⟨256 * hh.val + e.val, by omega⟩)
      = headOut x3 x4 (rateOf hh x5) (colsOf hh x0) (colsOf hh x1) (colsOf hh x2) (![xs0, xs1, xs2, xs3] hh)
        (colsOf hh x6) (colsOf hh x7) (gainOf hh x8) (ix2 r e) := by
  unfold out0_B_9 kernelRun0_B
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S256x256) hz, View.ld_unit_zero (S := S256x128) hz, View.readCov_unit_zero (S := S256x256) _ hz,
    ld_cols (hh := 0) (o := 0) rfl, ld_cols (hh := 1) (o := 256) rfl, ld_cols (hh := 2) (o := 512) rfl, ld_cols (hh := 3) (o := 768) rfl,
    ld_rate (hh := 0) (o := 0) rfl, ld_rate (hh := 1) (o := 1) rfl, ld_rate (hh := 2) (o := 2) rfl, ld_rate (hh := 3) (o := 3) rfl,
    ld_gain (hh := 0) (o := 0) rfl, ld_gain (hh := 1) (o := 256) rfl, ld_gain (hh := 2) (o := 512) rfl, ld_gain (hh := 3) (o := 768) rfl]
  match hh with
  | 0 =>
    rw [View.read_writes_cons_unit_of_not_mem _ _ _ _ _ _ rfl 1 (Or.inl (show 256 * 0 + e.val < 768 by omega))]
    rw [View.read_writes_cons_unit_of_not_mem _ _ _ _ _ _ rfl 1 (Or.inl (show 256 * 0 + e.val < 512 by omega))]
    rw [View.read_writes_cons_unit_of_not_mem _ _ _ _ _ _ rfl 1 (Or.inl (show 256 * 0 + e.val < 256 by omega))]
    refine (View.read_writes_cons_unit_of_mem _ _ _ _ _ _ (ix2 r e) rfl (fun a => ?_)).trans rfl
    fin_cases a
    · show r.val = 0 + r.val; omega
    · show 256 * 0 + e.val = 0 + e.val; omega
  | 1 =>
    rw [View.read_writes_cons_unit_of_not_mem _ _ _ _ _ _ rfl 1 (Or.inl (show 256 * 1 + e.val < 768 by omega))]
    rw [View.read_writes_cons_unit_of_not_mem _ _ _ _ _ _ rfl 1 (Or.inl (show 256 * 1 + e.val < 512 by omega))]
    refine (View.read_writes_cons_unit_of_mem _ _ _ _ _ _ (ix2 r e) rfl (fun a => ?_)).trans rfl
    fin_cases a
    · show r.val = 0 + r.val; omega
    · show 256 * 1 + e.val = 256 + e.val; omega
  | 2 =>
    rw [View.read_writes_cons_unit_of_not_mem _ _ _ _ _ _ rfl 1 (Or.inl (show 256 * 2 + e.val < 768 by omega))]
    refine (View.read_writes_cons_unit_of_mem _ _ _ _ _ _ (ix2 r e) rfl (fun a => ?_)).trans rfl
    fin_cases a
    · show r.val = 0 + r.val; omega
    · show 256 * 2 + e.val = 512 + e.val; omega
  | 3 =>
    refine (View.read_writes_cons_unit_of_mem _ _ _ _ _ _ (ix2 r e) rfl (fun a => ?_)).trans rfl
    fin_cases a
    · show r.val = 0 + r.val; omega
    · show 256 * 3 + e.val = 768 + e.val; omega

end Cert.BwdIdeal.Open
-- ==== Proof.RetBack.lean ====
module

public import proofs.«01_k».proof.Proof.RetMath
public import proofs.«01_k».proof.Proof.MoeMath

/-!
What the backward retention adds to the forward one: its order of the tokens, the chunk identities for a chunk whose
tokens are stored last first, and the norm and gate of a head's row.
-/

@[expose] public section

noncomputable section

open Idealize.ShloMosaic

namespace Cert.Proof.Ret

open Finset

/-- The token the backward retention takes at step `n`: the context's tokens from its last, then the latents' from their last. -/
def backOrd (n : ℕ) : ℕ := if n < 256 then 255 - n else 8703 - n

theorem backOrd_lt {n : ℕ} (h : n < 8448) : backOrd n < 8448 := by
  unfold backOrd
  split <;> omega

/-- Taken twice, the order is the plain one. -/
theorem backOrd_backOrd {n : ℕ} (h : n < 8448) : backOrd (backOrd n) = n := by
  unfold backOrd
  by_cases hn : n < 256
  · rw [if_pos hn, if_pos (by omega)]; omega
  · rw [if_neg hn, if_neg (by omega)]; omega

/-- A row's place counted from the last row. -/
theorem rev_real (r : Fin 256) : ((Fin.rev r).val : ℝ) = 255 - (r.val : ℝ) := by
  have h : (Fin.rev r).val + r.val = 255 := by rw [Fin.val_rev]; omega
  have : ((Fin.rev r).val : ℝ) + r.val = 255 := by exact_mod_cast h
  linarith

/-- The state after a block whose rows are its tokens last first. -/
theorem St_chunk_rev (k v : ℕ → Fin 256 → ℝ) (lg : ℝ) (n : ℕ) (d e : Fin 256) :
    St k v lg n d e * Real.exp (lg * 256)
        + ∑ j : Fin 256, (k (n + (Fin.rev j).val) d * Real.exp (lg * j.val)) * v (n + (Fin.rev j).val) e
      = St k v lg (n + 256) d e := by
  rw [← St_chunk k v lg 256 n d e]
  refine congrArg₂ (· + ·) (by push_cast; rfl) ?_
  rw [← Equiv.sum_comp Fin.revPerm]
  refine Finset.sum_congr rfl fun j _ => ?_
  simp only [Fin.revPerm_apply, rev_real, Fin.rev_rev]
  push_cast
  congr 3
  ring

/-- The outputs of a block whose rows are its tokens last first. -/
theorem Out_chunk_rev (q k v : ℕ → Fin 256 → ℝ) (lg : ℝ) (n : ℕ) (i e : Fin 256) :
    (∑ j : Fin 256, ((∑ d : Fin 256, q (n + (Fin.rev i).val) d * k (n + (Fin.rev j).val) d)
        * (if i.val ≤ j.val then Real.exp (lg * ((j.val : ℝ) - i.val)) else 0)) * v (n + (Fin.rev j).val) e)
      + ∑ d : Fin 256, (q (n + (Fin.rev i).val) d * Real.exp (lg * (256 - (i.val : ℝ)))) * St k v lg n d e
      = Out q k v lg (n + (Fin.rev i).val) e := by
  rw [← Out_chunk q k v lg 256 n (Fin.rev i) e]
  refine congrArg₂ (· + ·) ?_ ?_
  · rw [← Equiv.sum_comp Fin.revPerm]
    refine Finset.sum_congr rfl fun j _ => ?_
    have hc : ((i.val ≤ (Fin.rev j).val) ↔ (j.val ≤ (Fin.rev i).val)) := by
      rw [Fin.val_rev, Fin.val_rev]
      have := i.isLt
      have := j.isLt
      omega
    have hd : ((Fin.rev j).val : ℝ) - i.val = ((Fin.rev i).val : ℝ) - j.val := by rw [rev_real, rev_real]; ring
    simp only [Fin.revPerm_apply, Fin.rev_rev, hd, hc]
  · have hd : (256 - (i.val : ℝ)) = ((Fin.rev i).val : ℝ) + 1 := by rw [rev_real]; ring
    rw [hd]

/-- The mean of a row of 256. -/
def mean (x : Fin 256 → EReal) : EReal := Ideal.div (∑ d, x d) ((256 : ℝ) : EReal)

/-- A head's row normed to mean zero and variance one, scaled by the gains `w`, and gated by the logistic unit of `g`. -/
def normGate (x w g : Fin 256 → EReal) (e : Fin 256) : EReal :=
  (x e - mean x) * Ideal.rsqrt (mean (fun d => (x d - mean x) * (x d - mean x)) + Ideal.ofBits .f32 0x3727C5AC#32) * w e
    * Cert.Proof.Experts.swish (g e)

end Cert.Proof.Ret

end
-- ==== Proof.BwdHead.lean ====
module

public import proofs.«01_k».proof.Proof.BwdOpen
public import proofs.«01_k».proof.Proof.RetBack
public import proofs.«01_k».proof.Proof.FwdHead
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.Pointwise.ShapeOps
public import Idealize.ShloMosaic.Lib.IdealHost
public import Idealize.ShloMosaic.Lib.MatmulPlain
public import Idealize.ShloMosaic.Lib.Pipeline.Value

/-!
The head functions of the backward kernel over the extended reals, at finite queries, keys, values and rates: each is
the real expression of the chunked retention on a block whose rows are its tokens last first
(`Cert.Proof.Ret.Out_chunk_rev`, `St_chunk_rev`), and the output rows are normed and gated.
-/

@[expose] public section

set_option maxRecDepth 16384

noncomputable section

open Idealize.ShloMosaic Idealize.ShloMosaic.TcCoe Idealize.SL.Sem

namespace Cert.BwdIdeal.Open

open Cert.BwdIdeal Cert.BwdIdeal.Gen

open Cert.Proof.Ret

/-- The decayed attention within a block. -/
theorem att_val (lg : Vec Ideal S1x1 .f32) (Q K : Vec Ideal S256x256 .f32) (l : ℝ) (q k : Fin 256 → Fin 256 → ℝ)
    (hl : lg (ix2 0 0) = (l : EReal)) (hq : ∀ r d, Q (ix2 r d) = (q r d : EReal)) (hk : ∀ r d, K (ix2 r d) = (k r d : EReal))
    (r j : Fin 256) :
    k0_pay26 (F := Ideal) k0_pay7 k0_pay8 lg Q K (ix2 r j)
      = (((∑ d, q r d * k j d) * (if r.val ≤ j.val then Real.exp (l * ((j.val : ℝ) - r.val)) else 0) : ℝ) : EReal) := by
  unfold k0_pay26 k0_pay7 k0_pay8 k0_pay6
  pointwise
  rw [mask_ge (by omega) (by omega), hl]
  simp only [hq, hk, ← EReal.coe_mul, coe_sum]
  by_cases hjr : r.val ≤ j.val
  · rw [if_pos hjr, if_pos hjr, sitofp_val, dist_ge (by omega) (by omega) hjr, EReal.coe_mul]
    refine congrArg _ ?_
    rw [← EReal.coe_mul, Cert.FwdIdeal.Open.expc]
    refine (ValueIdx.select_one _ _).trans ?_
    push_cast
    rfl
  · rw [if_neg hjr, if_neg hjr, mul_zero, EReal.coe_zero]
    exact mul_zero _

/-- One head's retention at finite arguments. -/
theorem ret_val (w : Vec Ideal S256x1 .f32) (lg : Vec Ideal S1x1 .f32) (Q V S A : Vec Ideal S256x256 .f32) (l : ℝ) (t : Fin 256 → ℝ)
    (q v s a : Fin 256 → Fin 256 → ℝ)
    (hl : lg (ix2 0 0) = (l : EReal)) (hw : ∀ r, w (ix2 r 0) = (t r : EReal))
    (hq : ∀ r d, Q (ix2 r d) = (q r d : EReal)) (hv : ∀ r d, V (ix2 r d) = (v r d : EReal))
    (hs : ∀ r d, S (ix2 r d) = (s r d : EReal)) (ha : ∀ r d, A (ix2 r d) = (a r d : EReal)) (r e : Fin 256) :
    k0_pay32 (F := Ideal) w lg Q V S A (ix2 r e)
      = ((∑ j, a r j * v j e + ∑ d, (q r d * Real.exp (l * t r)) * s d e : ℝ) : EReal) :=
  Cert.FwdIdeal.Open.pay39_val w lg Q V S A l t q v s a hl hw hq hv hs ha r e

/-- One head's state at finite arguments. -/
theorem state_val (w : Vec Ideal S256x1 .f32) (lg : Vec Ideal S1x1 .f32) (K V S : Vec Ideal S256x256 .f32) (l : ℝ) (t : Fin 256 → ℝ)
    (k v s : Fin 256 → Fin 256 → ℝ)
    (hl : lg (ix2 0 0) = (l : EReal)) (hw : ∀ r, w (ix2 r 0) = (t r : EReal))
    (hk : ∀ r d, K (ix2 r d) = (k r d : EReal)) (hv : ∀ r d, V (ix2 r d) = (v r d : EReal))
    (hs : ∀ r d, S (ix2 r d) = (s r d : EReal)) (d e : Fin 256) :
    k0_pay37 (F := Ideal) w lg K V S (ix2 d e)
      = ((s d e * Real.exp (l * 256) + ∑ j, (k j d * Real.exp (l * t j)) * v j e : ℝ) : EReal) :=
  Cert.FwdIdeal.Open.pay45_val w lg K V S l t k v s hl hw hk hv hs d e

/-- A row's distance to the end of the block before, and to the block's first token. -/
theorem after_val (r : Fin 256) : k0_pay10 (F := Ideal) (ix2 r 0) = ((256 - (r.val : ℝ) : ℝ) : EReal) := by
  unfold k0_pay10 k0_pay9
  pointwise
  rw [sitofp_val, toInt_small (by omega), f256, ← EReal.coe_sub]
  norm_num
theorem left_val (r : Fin 256) : k0_pay9 (F := Ideal) (ix2 r 0) = ((r.val : ℝ) : EReal) := by
  unfold k0_pay9
  pointwise
  rw [sitofp_val, toInt_small (by omega)]
  simp

/-- The decay rate: minus the exponential of the parameter. -/
theorem rate_val (rt : Vec Ideal S1x1x128 .f32) (x : ℝ) (h : rt (ix3 0 0 0) = (x : EReal)) :
    k0_pay13 rt (ix2 0 0) = ((-Real.exp x : ℝ) : EReal) :=
  Cert.FwdIdeal.Open.rate_val rt x h

/-- The turned queries; then the turned and scaled keys. -/
theorem headQ_val (cs sn : Vec Ideal S256x128 .f32) (X : Vec Ideal S256x256 .f32) (x : Fin 256 → Fin 256 → ℝ)
    (c s : Fin 256 → Fin 128 → ℝ) (hx : ∀ r d, X (ix2 r d) = (x r d : EReal))
    (hc : ∀ r d, cs (ix2 r d) = (c r d : EReal)) (hs : ∀ r d, sn (ix2 r d) = (s r d : EReal)) (r d : Fin 256) :
    headQ cs sn X (ix2 r d) = ((ropeR (x r) (c r) (s r) d : ℝ) : EReal) :=
  Cert.FwdIdeal.Open.headQ_val cs sn X x c s hx hc hs r d

theorem headK_val (cs sn : Vec Ideal S256x128 .f32) (X : Vec Ideal S256x256 .f32) (x : Fin 256 → Fin 256 → ℝ)
    (c s : Fin 256 → Fin 128 → ℝ) (hx : ∀ r d, X (ix2 r d) = (x r d : EReal))
    (hc : ∀ r d, cs (ix2 r d) = (c r d : EReal)) (hs : ∀ r d, sn (ix2 r d) = (s r d : EReal)) (r d : Fin 256) :
    headK cs sn X (ix2 r d) = ((ropeR (x r) (c r) (s r) d * (1 / 16) : ℝ) : EReal) :=
  Cert.FwdIdeal.Open.headK_val cs sn X x c s hx hc hs r d

/-- What a block of a head's inputs holds: rows `n …` of the sequences, last first, turned at the positions `pos`. -/
structure Block (pos : ℕ → ℕ) (xq xk xv : ℕ → Fin 256 → ℝ) (rate : ℝ) (n : ℕ) (cs sn : Vec Ideal S256x128 .f32)
    (rt : Vec Ideal S1x1x128 .f32) (Q K V : Vec Ideal S256x256 .f32) : Prop where
  hq : ∀ r d, Q (ix2 r d) = (xq (n + (Fin.rev r).val) d : EReal)
  hk : ∀ r d, K (ix2 r d) = (xk (n + (Fin.rev r).val) d : EReal)
  hv : ∀ r d, V (ix2 r d) = (xv (n + (Fin.rev r).val) d : EReal)
  hc : ∀ r d, cs (ix2 r d) = (cosT (pos (n + (Fin.rev r).val)) d : EReal)
  hs : ∀ r d, sn (ix2 r d) = (sinT (pos (n + (Fin.rev r).val)) d : EReal)
  hr : rt (ix3 0 0 0) = (rate : EReal)

/-- One head's state after a block, from the state before it. -/
theorem headState_val {pos : ℕ → ℕ} {xq xk xv : ℕ → Fin 256 → ℝ} {rate : ℝ} {n : ℕ} {cs sn : Vec Ideal S256x128 .f32}
    {rt : Vec Ideal S1x1x128 .f32} {Q K V S : Vec Ideal S256x256 .f32} (b : Block pos xq xk xv rate n cs sn rt Q K V)
    (hS : ∀ d e, S (ix2 d e) = (St (turnK pos xk) xv (-Real.exp rate) n d e : EReal)) (d e : Fin 256) :
    headState cs sn rt K V S (ix2 d e) = (St (turnK pos xk) xv (-Real.exp rate) (n + 256) d e : EReal) := by
  unfold headState
  rw [state_val (k0_pay9 (F := Ideal)) (k0_pay13 rt) (headK cs sn K) V S (-Real.exp rate) (fun r => (r.val : ℝ))
    (fun r d => turnK pos xk (n + (Fin.rev r).val) d) (fun r d => xv (n + (Fin.rev r).val) d)
    (fun d e => St (turnK pos xk) xv (-Real.exp rate) n d e)
    (rate_val rt rate b.hr) left_val (headK_val cs sn K _ _ _ b.hk b.hc b.hs) b.hv hS]
  exact congrArg _ (St_chunk_rev (turnK pos xk) xv (-Real.exp rate) n d e)

/-- One head's retention in a block, from the state before it. -/
theorem headRet_val {pos : ℕ → ℕ} {xq xk xv : ℕ → Fin 256 → ℝ} {rate : ℝ} {n : ℕ} {cs sn : Vec Ideal S256x128 .f32}
    {rt : Vec Ideal S1x1x128 .f32} {Q K V S : Vec Ideal S256x256 .f32} (b : Block pos xq xk xv rate n cs sn rt Q K V)
    (hS : ∀ d e, S (ix2 d e) = (St (turnK pos xk) xv (-Real.exp rate) n d e : EReal)) (r e : Fin 256) :
    headRet cs sn rt Q K V S (ix2 r e)
      = (Out (turnQ pos xq) (turnK pos xk) xv (-Real.exp rate) (n + (Fin.rev r).val) e : EReal) := by
  unfold headRet
  rw [ret_val (k0_pay10 (F := Ideal)) (k0_pay13 rt) (headQ cs sn Q) V S _ (-Real.exp rate) (fun r => 256 - (r.val : ℝ))
    (fun r d => turnQ pos xq (n + (Fin.rev r).val) d) (fun r d => xv (n + (Fin.rev r).val) d)
    (fun d e => St (turnK pos xk) xv (-Real.exp rate) n d e) _
    (rate_val rt rate b.hr) after_val (headQ_val cs sn Q _ _ _ b.hq b.hc b.hs) b.hv hS
    (att_val (k0_pay13 rt) (headQ cs sn Q) (headK cs sn K) _ (fun r d => turnQ pos xq (n + (Fin.rev r).val) d)
      (fun r d => turnK pos xk (n + (Fin.rev r).val) d) (rate_val rt rate b.hr) (headQ_val cs sn Q _ _ _ b.hq b.hc b.hs)
      (headK_val cs sn K _ _ _ b.hk b.hc b.hs))]
  exact congrArg _ (Out_chunk_rev (turnQ pos xq) (turnK pos xk) xv (-Real.exp rate) n r e)

/-- The norm and the gate of a block's rows. -/
theorem norm_val (x o g : Vec Ideal S256x256 .f32) (w : Vec Ideal S1x256 .f32) (r e : Fin 256) :
    k0_pay1 (F := Ideal) (k0_pay55 x o w g) (ix2 r e)
      = normGate (fun d => x (ix2 r d) + o (ix2 r d)) (fun d => w (ix2 0 d)) (fun d => g (ix2 r d)) e := by
  unfold k0_pay1 k0_pay55 normGate mean Cert.Proof.Experts.swish
  simp only [shapeCast_self]
  pointwise
  simp only [f256, f1, zero_sub, EReal.coe_one]

/-- One head's output rows in a block, from the state before it. -/
theorem headOut_val {pos : ℕ → ℕ} {xq xk xv : ℕ → Fin 256 → ℝ} {rate : ℝ} {n : ℕ} {cs sn : Vec Ideal S256x128 .f32}
    {rt : Vec Ideal S1x1x128 .f32} {Q K V S : Vec Ideal S256x256 .f32} (b : Block pos xq xk xv rate n cs sn rt Q K V)
    (hS : ∀ d e, S (ix2 d e) = (St (turnK pos xk) xv (-Real.exp rate) n d e : EReal)) (o g : Vec Ideal S256x256 .f32)
    (w : Vec Ideal S1x256 .f32) (r e : Fin 256) :
    headOut cs sn rt Q K V S o g w (ix2 r e)
      = normGate (fun d => (Out (turnQ pos xq) (turnK pos xk) xv (-Real.exp rate) (n + (Fin.rev r).val) d : EReal) + o (ix2 r d))
          (fun d => w (ix2 0 d)) (fun d => g (ix2 r d)) e := by
  unfold headOut
  rw [norm_val]
  simp only [headRet_val b hS]

/-- The state before the first block is the state of no tokens. -/
theorem zeroState_val (k v : ℕ → Fin 256 → ℝ) (l : ℝ) (d e : Fin 256) :
    (zeroState (F := Ideal)) (ix2 d e) = (St k v l 0 d e : EReal) := by
  rw [St_zero]
  unfold zeroState k0_pay2
  simp only [shapeCast_self]
  exact f0

end Cert.BwdIdeal.Open
-- ==== Proof.BwdInput.lean ====
module

public import proofs.«01_k».proof.Proof.BwdHead
public import proofs.«01_k».proof.Proof.FwdInput

/-!
What the backward kernel's windows hold at a grid point: blocks of the projections, of the two rotation tables the
host computes, of the decay rates, of the forward output and of the gains. Each is read at an index.
-/

@[expose] public section

set_option maxRecDepth 16384

noncomputable section

open Idealize.ShloMosaic Idealize.ShloMosaic.TcCoe Idealize.SL.Sem

namespace Cert.BwdIdeal.Input

open Cert.BwdIdeal Cert.BwdIdeal.Gen Cert.Proof.Ret

/-- The block row of the projections a point reads: the context's block of its sequence at step 0, then the latents'
    from the last. -/
def rowBlk (t : ℕ) : ℕ := if t % 33 = 0 then t / 66 else 34 + 32 * (t / 66) - t % 33

/-- The block row of the tables a point reads. -/
def posBlk (t : ℕ) : ℕ := if t % 33 = 0 then 0 else 33 - t % 33

theorem posBlk_lt (t : ℕ) (r : Fin 256) : 256 * posBlk t + r.val < 8448 := by
  have := r.isLt
  unfold posBlk
  split <;> omega

theorem idx0 : ∀ t : Fin grid0.N, win0_0.index t 0 = rowBlk t.val ∧ win0_0.index t 1 = t.val / 33 % 2 := by
  decide +kernel
theorem idx1 : ∀ t : Fin grid0.N, win0_1.index t 0 = rowBlk t.val ∧ win0_1.index t 1 = 2 + t.val / 33 % 2 := by
  decide +kernel
theorem idx2 : ∀ t : Fin grid0.N, win0_2.index t 0 = rowBlk t.val ∧ win0_2.index t 1 = 4 + t.val / 33 % 2 := by
  decide +kernel
theorem idx3 : ∀ t : Fin grid0.N, win0_3.index t 0 = posBlk t.val ∧ win0_3.index t 1 = 0 := by
  decide +kernel
theorem idx4 : ∀ t : Fin grid0.N, win0_4.index t 0 = posBlk t.val ∧ win0_4.index t 1 = 0 := by
  decide +kernel
theorem idx5 : ∀ t : Fin grid0.N,
    win0_5.index t 0 = 2 + t.val / 33 % 2 ∧ win0_5.index t 1 = 0 ∧ win0_5.index t 2 = 0 := by
  decide +kernel
theorem idx6 : ∀ t : Fin grid0.N, win0_6.index t 0 = rowBlk t.val ∧ win0_6.index t 1 = t.val / 33 % 2 := by
  decide +kernel
theorem idx7 : ∀ t : Fin grid0.N, win0_7.index t 0 = rowBlk t.val ∧ win0_7.index t 1 = 6 + t.val / 33 % 2 := by
  decide +kernel
theorem idx8 : ∀ t : Fin grid0.N, win0_8.index t 0 = 0 ∧ win0_8.index t 1 = t.val / 33 % 2 := by
  decide +kernel
theorem idx9 : ∀ t : Fin grid0.N, win0_9.index t 0 = rowBlk t.val ∧ win0_9.index t 1 = t.val / 33 % 2 := by
  decide +kernel

/-- A row of a point's block is a row of the projections. -/
theorem row_lt (t : Fin grid0.N) (r : Fin 256) : 256 * rowBlk t.val + r.val < 16896 := by
  have h : t.val < 132 := t.isLt.trans_eq N_0
  have := r.isLt
  unfold rowBlk
  split <;> omega

variable (m : (ℓ : Loc nD τ sig) → Buf (Elt Ideal) ℓ) (c : Dev nD) (t : Fin cfg0.N)

/-- The query block at an index. -/
theorem blk0 (r : Fin 256) (l : Fin 1024) : (iblk (F := Ideal) m c 0 t : Vec Ideal S256x1024 .f32) (ix2 r l) = m ((c : Thread nD τ).loc main_arg0)
    (ix2 ⟨256 * rowBlk t.val + r.val, row_lt t r⟩ ⟨1024 * (t.val / 33 % 2) + l.val, by have := l.isLt; omega⟩) := by
  unfold iblk
  rw [View.read_apply]
  show V (F := Ideal) m c main_arg0 _ = m (c.tc.loc main_arg0) _
  rw [V_main_arg0]
  congr 1
  funext a
  apply Fin.ext
  match a with
  | ⟨0, _⟩ => show win0_0.index t 0 * 256 + 1 * r.val = 256 * rowBlk t.val + r.val; rw [(idx0 t).1]; omega
  | ⟨1, _⟩ => show win0_0.index t 1 * 1024 + 1 * l.val = 1024 * (t.val / 33 % 2) + l.val; rw [(idx0 t).2]; omega

/-- The key block at an index. -/
theorem blk1 (r : Fin 256) (l : Fin 1024) : (iblk (F := Ideal) m c 1 t : Vec Ideal S256x1024 .f32) (ix2 r l) = m ((c : Thread nD τ).loc main_arg0)
    (ix2 ⟨256 * rowBlk t.val + r.val, row_lt t r⟩
      ⟨2048 + 1024 * (t.val / 33 % 2) + l.val, by have := l.isLt; omega⟩) := by
  unfold iblk
  rw [View.read_apply]
  show V (F := Ideal) m c main_arg0 _ = m (c.tc.loc main_arg0) _
  rw [V_main_arg0]
  congr 1
  funext a
  apply Fin.ext
  match a with
  | ⟨0, _⟩ => show win0_1.index t 0 * 256 + 1 * r.val = 256 * rowBlk t.val + r.val; rw [(idx1 t).1]; omega
  | ⟨1, _⟩ =>
    show win0_1.index t 1 * 1024 + 1 * l.val = 2048 + 1024 * (t.val / 33 % 2) + l.val; rw [(idx1 t).2]; omega

/-- The value block at an index. -/
theorem blk2 (r : Fin 256) (l : Fin 1024) : (iblk (F := Ideal) m c 2 t : Vec Ideal S256x1024 .f32) (ix2 r l) = m ((c : Thread nD τ).loc main_arg0)
    (ix2 ⟨256 * rowBlk t.val + r.val, row_lt t r⟩
      ⟨4096 + 1024 * (t.val / 33 % 2) + l.val, by have := l.isLt; omega⟩) := by
  unfold iblk
  rw [View.read_apply]
  show V (F := Ideal) m c main_arg0 _ = m (c.tc.loc main_arg0) _
  rw [V_main_arg0]
  congr 1
  funext a
  apply Fin.ext
  match a with
  | ⟨0, _⟩ => show win0_2.index t 0 * 256 + 1 * r.val = 256 * rowBlk t.val + r.val; rw [(idx2 t).1]; omega
  | ⟨1, _⟩ =>
    show win0_2.index t 1 * 1024 + 1 * l.val = 4096 + 1024 * (t.val / 33 % 2) + l.val; rw [(idx2 t).2]; omega

/-- The cosine table as the host leaves it. -/
theorem V_v14 : (V (F := Ideal) m c main_v14 : Vec Ideal S8448x128 .f32) = (Host.cos (F := Ideal) (s := S8448x128) (φ := .f32) Cert.FwdIdeal.Input.angles : Vec Ideal S8448x128 .f32) := by
  unfold V
  simp only [hostOps0]
  after_results

/-- The sine table as the host leaves it. -/
theorem V_v15 : (V (F := Ideal) m c main_v15 : Vec Ideal S8448x128 .f32) = (Host.sin (F := Ideal) (s := S8448x128) (φ := .f32) Cert.FwdIdeal.Input.angles : Vec Ideal S8448x128 .f32) := by
  unfold V
  simp only [hostOps0]
  after_results

/-- The rates as the host spreads them. -/
theorem V_v13 : (V (F := Ideal) m c main_v13 : Vec Ideal S16x1x128 .f32) = broadcastInDim S16x1x128 ![0, 1, 2] bcast_S16x1x1_S16x1x128_0_1_2
    (shapeCast S16x1x1 (m ((c : Thread nD τ).loc main_arg1)) shapeCasts_S2x8_S16x1x1) := by
  unfold V
  simp only [hostOps0]
  after_results
  rfl

/-- The cosine block at an index. -/
theorem blk3 (r : Fin 256) (l : Fin 128) : (iblk (F := Ideal) m c 3 t : Vec Ideal S256x128 .f32) (ix2 r l)
    = (cosT (256 * posBlk t.val + r.val) l : EReal) := by
  have h : 256 * posBlk t.val + r.val < 8448 := posBlk_lt t.val r
  have e : ((cfg0.win 3).blk t).view.emb (ix2 r l) = ix2 ⟨_, h⟩ l := by
    funext a
    apply Fin.ext
    match a with
    | ⟨0, _⟩ => show win0_3.index t 0 * 256 + 1 * r.val = 256 * posBlk t.val + r.val; rw [(idx3 t).1]; omega
    | ⟨1, _⟩ => show win0_3.index t 1 * 128 + 1 * l.val = l.val; rw [(idx3 t).2]; omega
  unfold iblk
  rw [View.read_apply]
  show (V (F := Ideal) m c main_v14 : Vec Ideal S8448x128 .f32) (((cfg0.win 3).blk t).view.emb (ix2 r l)) = _
  rw [V_v14, e]
  show Ideal.cos (Cert.FwdIdeal.Input.angles (ix2 ⟨_, h⟩ l)) = _
  rw [Cert.FwdIdeal.Input.angles_val]
  rfl

/-- The sine block at an index. -/
theorem blk4 (r : Fin 256) (l : Fin 128) : (iblk (F := Ideal) m c 4 t : Vec Ideal S256x128 .f32) (ix2 r l)
    = (sinT (256 * posBlk t.val + r.val) l : EReal) := by
  have h : 256 * posBlk t.val + r.val < 8448 := posBlk_lt t.val r
  have e : ((cfg0.win 4).blk t).view.emb (ix2 r l) = ix2 ⟨_, h⟩ l := by
    funext a
    apply Fin.ext
    match a with
    | ⟨0, _⟩ => show win0_4.index t 0 * 256 + 1 * r.val = 256 * posBlk t.val + r.val; rw [(idx4 t).1]; omega
    | ⟨1, _⟩ => show win0_4.index t 1 * 128 + 1 * l.val = l.val; rw [(idx4 t).2]; omega
  unfold iblk
  rw [View.read_apply]
  show (V (F := Ideal) m c main_v15 : Vec Ideal S8448x128 .f32) (((cfg0.win 4).blk t).view.emb (ix2 r l)) = _
  rw [V_v15, e]
  show Ideal.sin (Cert.FwdIdeal.Input.angles (ix2 ⟨_, h⟩ l)) = _
  rw [Cert.FwdIdeal.Input.angles_val]
  rfl

/-- The rates the host spreads, at an index. -/
theorem rates_val (r : Fin 16) (l : Fin 128) :
    (V (F := Ideal) m c main_v13 : Vec Ideal S16x1x128 .f32) (ix3 r 0 l) =
      m ((c : Thread nD τ).loc main_arg1) (ix2 ⟨r.val / 8, by omega⟩ ⟨r.val % 8, by omega⟩) := by
  rw [V_v13]
  pointwise

/-- The rate block at an index. -/
theorem blk5 (hh : Fin 4) (l : Fin 128) : (iblk (F := Ideal) m c 5 t : Vec Ideal S4x1x128 .f32) (ix3 hh 0 l)
    = m ((c : Thread nD τ).loc main_arg1) (ix2 (1 : Fin 2) ⟨4 * (t.val / 33 % 2) + hh.val, by omega⟩) := by
  have h : 8 + 4 * (t.val / 33 % 2) + hh.val < 16 := by omega
  have e : ((cfg0.win 5).blk t).view.emb (ix3 hh 0 l) = ix3 ⟨_, h⟩ 0 l := by
    funext a
    apply Fin.ext
    match a with
    | ⟨0, _⟩ => show win0_5.index t 0 * 4 + 1 * hh.val = 8 + 4 * (t.val / 33 % 2) + hh.val; rw [(idx5 t).1]; omega
    | ⟨1, _⟩ => show win0_5.index t 1 * 1 + 1 * 0 = 0; rw [(idx5 t).2.1]
    | ⟨2, _⟩ => show win0_5.index t 2 * 128 + 1 * l.val = l.val; rw [(idx5 t).2.2]; omega
  unfold iblk
  rw [View.read_apply]
  show (V (F := Ideal) m c main_v13 : Vec Ideal S16x1x128 .f32) (((cfg0.win 5).blk t).view.emb (ix3 hh 0 l)) = _
  rw [e, rates_val]
  congr 1
  funext a
  apply Fin.ext
  match a with
  | ⟨0, _⟩ => show (8 + 4 * (t.val / 33 % 2) + hh.val) / 8 = 1; omega
  | ⟨1, _⟩ => show (8 + 4 * (t.val / 33 % 2) + hh.val) % 8 = 4 * (t.val / 33 % 2) + hh.val; omega

/-- The block of the forward output at an index. -/
theorem blk6 (r : Fin 256) (l : Fin 1024) : (iblk (F := Ideal) m c 6 t : Vec Ideal S256x1024 .f32) (ix2 r l) = m ((c : Thread nD τ).loc main_arg2)
    (ix2 ⟨256 * rowBlk t.val + r.val, row_lt t r⟩ ⟨1024 * (t.val / 33 % 2) + l.val, by have := l.isLt; omega⟩) := by
  unfold iblk
  rw [View.read_apply]
  show V (F := Ideal) m c main_arg2 _ = m (c.tc.loc main_arg2) _
  rw [V_main_arg2]
  congr 1
  funext a
  apply Fin.ext
  match a with
  | ⟨0, _⟩ => show win0_6.index t 0 * 256 + 1 * r.val = 256 * rowBlk t.val + r.val; rw [(idx6 t).1]; omega
  | ⟨1, _⟩ => show win0_6.index t 1 * 1024 + 1 * l.val = 1024 * (t.val / 33 % 2) + l.val; rw [(idx6 t).2]; omega

/-- The gate block at an index. -/
theorem blk7 (r : Fin 256) (l : Fin 1024) : (iblk (F := Ideal) m c 7 t : Vec Ideal S256x1024 .f32) (ix2 r l) = m ((c : Thread nD τ).loc main_arg0)
    (ix2 ⟨256 * rowBlk t.val + r.val, row_lt t r⟩
      ⟨6144 + 1024 * (t.val / 33 % 2) + l.val, by have := l.isLt; omega⟩) := by
  unfold iblk
  rw [View.read_apply]
  show V (F := Ideal) m c main_arg0 _ = m (c.tc.loc main_arg0) _
  rw [V_main_arg0]
  congr 1
  funext a
  apply Fin.ext
  match a with
  | ⟨0, _⟩ => show win0_7.index t 0 * 256 + 1 * r.val = 256 * rowBlk t.val + r.val; rw [(idx7 t).1]; omega
  | ⟨1, _⟩ =>
    show win0_7.index t 1 * 1024 + 1 * l.val = 6144 + 1024 * (t.val / 33 % 2) + l.val; rw [(idx7 t).2]; omega

/-- The gains as the host lays them out. -/
theorem V_v16 : (V (F := Ideal) m c main_v16 : Vec Ideal S1x2048 .f32)
    = shapeCast S1x2048 (m ((c : Thread nD τ).loc main_arg3)) shapeCasts_S2048_S1x2048 := by
  unfold V
  simp only [hostOps0]
  after_results
  rfl

/-- The gain block at an index. -/
theorem blk8 (l : Fin 1024) : (iblk (F := Ideal) m c 8 t : Vec Ideal S1x1024 .f32) (ix2 0 l) = m ((c : Thread nD τ).loc main_arg3)
    (ix1 ⟨1024 * (t.val / 33 % 2) + l.val, by have := l.isLt; omega⟩) := by
  have h : 1024 * (t.val / 33 % 2) + l.val < 2048 := by have := l.isLt; omega
  have e : ((cfg0.win 8).blk t).view.emb (ix2 0 l) = ix2 0 ⟨_, h⟩ := by
    funext a
    apply Fin.ext
    match a with
    | ⟨0, _⟩ => show win0_8.index t 0 * 1 + 1 * 0 = 0; rw [(idx8 t).1]
    | ⟨1, _⟩ => show win0_8.index t 1 * 1024 + 1 * l.val = 1024 * (t.val / 33 % 2) + l.val; rw [(idx8 t).2]; omega
  unfold iblk
  rw [View.read_apply]
  show (V (F := Ideal) m c main_v16 : Vec Ideal S1x2048 .f32) (((cfg0.win 8).blk t).view.emb (ix2 0 l)) = _
  rw [V_v16, e]
  pointwise

end Cert.BwdIdeal.Input
-- ==== Proof.BwdValue.lean ====
module

public import proofs.«01_k».proof.Proof.BwdInput

/-!
The backward kernel's result, index by index: the retention of every head of every token in the backward order, added to
the forward output, normed and gated. By induction along the grid, the four scratch states after a point are the
retention's states after the tokens seen so far.
-/

@[expose] public section

set_option maxRecDepth 16384
set_option maxHeartbeats 4000000

noncomputable section

open Idealize.ShloMosaic Idealize.ShloMosaic.TcCoe Idealize.SL.Sem

namespace Cert.BwdIdeal.Result

open Cert.BwdIdeal Cert.BwdIdeal.Gen Cert.BwdIdeal.Value Cert.BwdIdeal.Open Cert.BwdIdeal.Input Cert.Proof.Ret

/-- A row of a point's block is a token of the point's sequence. -/
theorem row_tok (t : ℕ) (r : Fin 256) :
    256 * rowBlk t + r.val = rowTok (t / 66) (backOrd (256 * (t % 33) + (Fin.rev r).val)) := by
  have := r.isLt
  rw [Fin.val_rev]
  unfold rowBlk
  by_cases h : t % 33 = 0
  · have hb : backOrd (256 * (t % 33) + (256 - (r.val + 1))) = r.val := by unfold backOrd; rw [if_pos (by omega)]; omega
    rw [if_pos h, hb, rowTok, if_pos (by omega)]
  · have hb : backOrd (256 * (t % 33) + (256 - (r.val + 1))) = 8448 - 256 * (t % 33) + r.val := by
      unfold backOrd; rw [if_neg (by omega)]; omega
    rw [if_neg h, hb, rowTok, if_neg (by omega)]; omega

/-- A row of a point's tables is that token's position. -/
theorem pos_tok (t : ℕ) (r : Fin 256) : 256 * posBlk t + r.val = backOrd (256 * (t % 33) + (Fin.rev r).val) := by
  have := r.isLt
  rw [Fin.val_rev]
  unfold posBlk backOrd
  by_cases h : t % 33 = 0
  · rw [if_pos h, if_pos (by omega)]; omega
  · rw [if_neg h, if_neg (by omega)]; omega

variable (m : (ℓ : Loc nD τ sig) → Buf (Elt Ideal) ℓ) (c : Dev nD)
variable (pr : ℕ → ℕ → ℝ) (rr : ℕ → ℝ)
variable (hp : ∀ (r : Fin 16896) (k : Fin 16384),
  (m ((c : Thread nD τ).loc main_arg0) : Vec Ideal S16896x16384 .f32) (ix2 r k) = (pr r.val k.val : EReal))
variable (hr : ∀ h : Fin 8,
  (m ((c : Thread nD τ).loc main_arg1) : Vec Ideal S2x8 .f32) (ix2 (1 : Fin 2) h) = (rr h.val : EReal))

/-- A head's state after a point. -/
def scr (n : ℕ) (hn : n < cfg0.N) (hh : Fin 4) : Vec Ideal S256x256 .f32 :=
  ![(outsAt0 (F := Ideal) m c n hn).2.1, (outsAt0 (F := Ideal) m c n hn).2.2.1,
    (outsAt0 (F := Ideal) m c n hn).2.2.2.1, (outsAt0 (F := Ideal) m c n hn).2.2.2.2] hh

/-- A head's state before a point: none at the first point of a run of 33, what the point before left at the others. -/
def before (t : Fin cfg0.N) (hh : Fin 4) : Vec Ideal S256x256 .f32 :=
  if t.val % 33 = 0 then zeroState else scr m c (t.val - 1) (Nat.lt_of_le_of_lt (Nat.sub_le _ _) t.isLt) hh

/-- A point's states from those before it. -/
theorem scr_eq (t : Fin cfg0.N) (hh : Fin 4) : scr m c t.val t.isLt hh
    = headState (iblk (F := Ideal) m c 3 t) (iblk (F := Ideal) m c 4 t) (rateOf hh (iblk (F := Ideal) m c 5 t))
        (colsOf hh (iblk (F := Ideal) m c 1 t)) (colsOf hh (iblk (F := Ideal) m c 2 t)) (before m c t hh) := by
  unfold before
  by_cases h0 : t.val % 33 = 0
  · rw [if_pos h0]
    have k := statesA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) ((hcond0_0 t).mpr h0)
    have o := outsAt0_A (F := Ideal) m c t h0
    match hh with
    | 0 => exact (congrArg (fun x => x.2.1) o).trans k.1
    | 1 => exact (congrArg (fun x => x.2.2.1) o).trans k.2.1
    | 2 => exact (congrArg (fun x => x.2.2.2.1) o).trans k.2.2.1
    | 3 => exact (congrArg (fun x => x.2.2.2.2) o).trans k.2.2.2
  · rw [if_neg h0]
    have k := statesB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2 (fun h => h0 ((hcond0_0 t).mp h))
    have o := outsAt0_B (F := Ideal) m c t h0
    match hh with
    | 0 => exact (congrArg (fun x => x.2.1) o).trans k.1
    | 1 => exact (congrArg (fun x => x.2.2.1) o).trans k.2.1
    | 2 => exact (congrArg (fun x => x.2.2.2.1) o).trans k.2.2.1
    | 3 => exact (congrArg (fun x => x.2.2.2.2) o).trans k.2.2.2

/-- A point's output rows from the states before it. -/
theorem out_eq (t : Fin cfg0.N) (hh : Fin 4) (r e : Fin 256) :
    (outsAt0 (F := Ideal) m c t.val t.isLt).1 (ix2 r ⟨256 * hh.val + e.val, by omega⟩)
      = headOut (iblk (F := Ideal) m c 3 t) (iblk (F := Ideal) m c 4 t) (rateOf hh (iblk (F := Ideal) m c 5 t))
          (colsOf hh (iblk (F := Ideal) m c 0 t)) (colsOf hh (iblk (F := Ideal) m c 1 t)) (colsOf hh (iblk (F := Ideal) m c 2 t))
          (before m c t hh) (colsOf hh (iblk (F := Ideal) m c 6 t)) (colsOf hh (iblk (F := Ideal) m c 7 t))
          (gainOf hh (iblk (F := Ideal) m c 8 t)) (ix2 r e) := by
  unfold before
  by_cases h0 : t.val % 33 = 0
  · rw [if_pos h0]
    refine (congrFun (congrArg (fun x => x.1) (outsAt0_A (F := Ideal) m c t h0)) _).trans ?_
    exact outA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) ((hcond0_0 t).mpr h0) r e hh
  · rw [if_neg h0]
    refine (congrFun (congrArg (fun x => x.1) (outsAt0_B (F := Ideal) m c t h0)) _).trans ?_
    exact outB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2 (fun h => h0 ((hcond0_0 t).mp h)) r e hh

include hp hr

/-- The blocks of point `t` are finite, and hold 256 tokens of its sequence, last first, for each of its four heads. -/
theorem block (t : Fin cfg0.N) (hh : Fin 4) :
    Block backOrd (seqOf backOrd pr 0 (t.val / 66) (4 * (t.val / 33 % 2) + hh.val))
      (seqOf backOrd pr 1 (t.val / 66) (4 * (t.val / 33 % 2) + hh.val))
      (seqOf backOrd pr 2 (t.val / 66) (4 * (t.val / 33 % 2) + hh.val)) (rr (4 * (t.val / 33 % 2) + hh.val))
      (256 * (t.val % 33)) (iblk (F := Ideal) m c 3 t) (iblk (F := Ideal) m c 4 t)
      (rateOf hh (iblk (F := Ideal) m c 5 t)) (colsOf hh (iblk (F := Ideal) m c 0 t))
      (colsOf hh (iblk (F := Ideal) m c 1 t)) (colsOf hh (iblk (F := Ideal) m c 2 t)) where
  hq r d := by
    have hh4 := hh.isLt
    have hd := d.isLt
    refine (blk0 m c t r ⟨256 * hh.val + d.val, by omega⟩).trans ((hp _ _).trans ?_)
    show (pr (256 * rowBlk t.val + r.val) (1024 * (t.val / 33 % 2) + (256 * hh.val + d.val)) : EReal) = _
    rw [row_tok, seqOf]
    congr 2
    omega
  hk r d := by
    have hh4 := hh.isLt
    have hd := d.isLt
    refine (blk1 m c t r ⟨256 * hh.val + d.val, by omega⟩).trans ((hp _ _).trans ?_)
    show (pr (256 * rowBlk t.val + r.val) (2048 + 1024 * (t.val / 33 % 2) + (256 * hh.val + d.val)) : EReal) = _
    rw [row_tok, seqOf]
    congr 2
    omega
  hv r d := by
    have hh4 := hh.isLt
    have hd := d.isLt
    refine (blk2 m c t r ⟨256 * hh.val + d.val, by omega⟩).trans ((hp _ _).trans ?_)
    show (pr (256 * rowBlk t.val + r.val) (4096 + 1024 * (t.val / 33 % 2) + (256 * hh.val + d.val)) : EReal) = _
    rw [row_tok, seqOf]
    congr 2
    omega
  hc r d := by rw [← pos_tok]; exact blk3 m c t r d
  hs r d := by rw [← pos_tok]; exact blk4 m c t r d
  hr := (blk5 m c t hh 0).trans (hr _)

/-- The states before a point, when those after the point before are the retention's. -/
theorem before_val (t : Fin cfg0.N) (hh : Fin 4)
    (ih : ¬t.val % 33 = 0 → ∀ d e : Fin 256, scr m c (t.val - 1) (Nat.lt_of_le_of_lt (Nat.sub_le _ _) t.isLt) hh (ix2 d e)
      = (retSt backOrd pr rr ((t.val - 1) / 66) (4 * ((t.val - 1) / 33 % 2) + hh.val) (256 * ((t.val - 1) % 33) + 256) d e : EReal))
    (d e : Fin 256) : before m c t hh (ix2 d e)
      = (retSt backOrd pr rr (t.val / 66) (4 * (t.val / 33 % 2) + hh.val) (256 * (t.val % 33)) d e : EReal) := by
  unfold before
  by_cases h0 : t.val % 33 = 0
  · rw [if_pos h0, h0]
    exact zeroState_val _ _ _ d e
  · rw [if_neg h0, ih h0 d e, show (t.val - 1) / 66 = t.val / 66 by omega, show (t.val - 1) / 33 = t.val / 33 by omega,
      show 256 * ((t.val - 1) % 33) + 256 = 256 * (t.val % 33) by omega]

/-- The states after every point. -/
theorem states (n : ℕ) (hn : n < cfg0.N) (hh : Fin 4) : ∀ d e : Fin 256, scr m c n hn hh (ix2 d e)
    = (retSt backOrd pr rr (n / 66) (4 * (n / 33 % 2) + hh.val) (256 * (n % 33) + 256) d e : EReal) := by
  induction n with
  | zero =>
    intro d e
    refine (congrFun (scr_eq m c ⟨0, hn⟩ hh) _).trans ?_
    exact headState_val (block m c pr rr hp hr ⟨0, hn⟩ hh)
      (before_val m c pr rr hp hr ⟨0, hn⟩ hh (fun h => absurd rfl h)) d e
  | succ n ih =>
    intro d e
    refine (congrFun (scr_eq m c ⟨n + 1, hn⟩ hh) _).trans ?_
    exact headState_val (block m c pr rr hp hr ⟨n + 1, hn⟩ hh)
      (before_val m c pr rr hp hr ⟨n + 1, hn⟩ hh (fun _ => ih (Nat.lt_of_succ_lt hn))) d e

/-- What a point writes to the result, at an index. -/
theorem out_val (t : Fin cfg0.N) (hh : Fin 4) (r e : Fin 256) :
    (outsAt0 (F := Ideal) m c t.val t.isLt).1 (ix2 r ⟨256 * hh.val + e.val, by omega⟩)
      = normGate
          (fun d => (retOut backOrd pr rr (t.val / 66) (4 * (t.val / 33 % 2) + hh.val) (256 * (t.val % 33) + (Fin.rev r).val) d : EReal)
            + (m ((c : Thread nD τ).loc main_arg2) : Vec Ideal S16896x2048 .f32)
                (ix2 ⟨256 * rowBlk t.val + r.val, row_lt t r⟩ ⟨1024 * (t.val / 33 % 2) + (256 * hh.val + d.val), by omega⟩))
          (fun d => (m ((c : Thread nD τ).loc main_arg3) : Vec Ideal S2048 .f32)
            (ix1 ⟨1024 * (t.val / 33 % 2) + (256 * hh.val + d.val), by omega⟩))
          (fun d => (m ((c : Thread nD τ).loc main_arg0) : Vec Ideal S16896x16384 .f32)
            (ix2 ⟨256 * rowBlk t.val + r.val, row_lt t r⟩ ⟨6144 + 1024 * (t.val / 33 % 2) + (256 * hh.val + d.val), by omega⟩)) e := by
  rw [out_eq]
  have hS := before_val m c pr rr hp hr t hh (fun _ => states m c pr rr hp hr (t.val - 1) (Nat.lt_of_le_of_lt (Nat.sub_le _ _) t.isLt) hh)
  rw [headOut_val (block m c pr rr hp hr t hh) hS]
  have e6 : (fun d : Fin 256 => colsOf hh (iblk (F := Ideal) m c 6 t) (ix2 r d)) = _ :=
    funext fun d => blk6 m c t r ⟨256 * hh.val + d.val, by omega⟩
  have e7 : (fun d : Fin 256 => colsOf hh (iblk (F := Ideal) m c 7 t) (ix2 r d)) = _ :=
    funext fun d => blk7 m c t r ⟨256 * hh.val + d.val, by omega⟩
  have e8 : (fun d : Fin 256 => gainOf hh (iblk (F := Ideal) m c 8 t) (ix2 0 d)) = _ :=
    funext fun d => blk8 m c t ⟨256 * hh.val + d.val, by omega⟩
  rw [e7, e8]
  refine congrArg (fun x => normGate x _ _ e) (funext fun d => ?_)
  exact congrArg _ (congrFun e6 d)

/-- The result at every token, head and coordinate. -/
theorem result {b n h : ℕ} (hb : b < 2) (hn : n < 8448) (hh : h < 8) (e : Fin 256) :
    ((dats (F := Ideal) m 0 c).arrAt 9 cfg0.N : Vec Ideal S16896x2048 .bf16)
        (ix2 ⟨rowTok b n, rowTok_lt hb hn⟩ ⟨256 * h + e.val, by omega⟩)
      = normGate
          (fun d => (retOut backOrd pr rr b h (backOrd n) d : EReal)
            + (m ((c : Thread nD τ).loc main_arg2) : Vec Ideal S16896x2048 .f32)
                (ix2 ⟨rowTok b n, rowTok_lt hb hn⟩ ⟨256 * h + d.val, by omega⟩))
          (fun d => (m ((c : Thread nD τ).loc main_arg3) : Vec Ideal S2048 .f32) (ix1 ⟨256 * h + d.val, by omega⟩))
          (fun d => (m ((c : Thread nD τ).loc main_arg0) : Vec Ideal S16896x16384 .f32)
            (ix2 ⟨rowTok b n, rowTok_lt hb hn⟩ ⟨6144 + 256 * h + d.val, by omega⟩)) e := by
  have hN : cfg0.N = 132 := N_0
  have hk := backOrd_lt hn
  have hkk := backOrd_backOrd hn
  generalize hkd : backOrd n = k at hk hkk ⊢
  let t : Fin cfg0.N := ⟨66 * b + 33 * (h / 4) + k / 256, by omega⟩
  let r : Fin 256 := ⟨255 - k % 256, by omega⟩
  have ht : t.val = 66 * b + 33 * (h / 4) + k / 256 := rfl
  have q1 : t.val / 66 = b := by omega
  have q2 : t.val / 33 % 2 = h / 4 := by omega
  have q3 : t.val % 33 = k / 256 := by omega
  have q4 : 256 * (t.val % 33) + (Fin.rev r).val = k := by
    rw [Fin.val_rev, q3]
    show 256 * (k / 256) + (256 - (255 - k % 256 + 1)) = k
    omega
  have q5 : 256 * rowBlk t.val + r.val = rowTok b n := by rw [row_tok, q4, q1, hkk]
  have key := out_val m c pr rr hp hr t ⟨h % 4, by omega⟩ r e
  have hb9 := congrFun (blocks9 (F := Ideal) m c t (flush0_9 t)) (ix2 r ⟨256 * (h % 4) + e.val, by omega⟩)
  rw [flushed9, View.read_apply] at hb9
  have h1 := hb9.trans key
  simp only [q4, q1, q2, show 4 * (h / 4) + h % 4 = h by omega] at h1
  refine Eq.trans ?_ (h1.trans ?_)
  · congr 1
    funext a
    apply Fin.ext
    match a with
    | ⟨0, _⟩ =>
      show rowTok b n = win0_9.index t 0 * 256 + 1 * r.val
      rw [(idx9 t).1]
      omega
    | ⟨1, _⟩ =>
      show 256 * h + e.val = win0_9.index t 1 * 1024 + 1 * (256 * (h % 4) + e.val)
      rw [(idx9 t).2, q2]
      omega
  · have c1 : ∀ d : Fin 256, 1024 * (h / 4) + (256 * (h % 4) + d.val) = 256 * h + d.val := fun d => by omega
    have c2 : ∀ d : Fin 256, 6144 + 1024 * (h / 4) + (256 * (h % 4) + d.val) = 6144 + 256 * h + d.val := fun d => by omega
    simp only [q5, c1, c2]

end Cert.BwdIdeal.Result
-- ==== Proof.BwdRefLoop.lean ====
module

public import proofs.«01_k».proof.Proof.Gen.BwdRefIdeal.Run
public import proofs.«01_k».proof.Proof.FwdRefLoop
public import proofs.«01_k».proof.Proof.RetMath
public import proofs.«01_k».proof.Proof.Words
public import Idealize.ShloMosaic.Lib.Pointwise.Tactic
public import Idealize.ShloMosaic.Lib.Pointwise.Contract
public import Idealize.ShloMosaic.Lib.Pointwise.Reshape
public import Idealize.ShloMosaic.Lib.Pointwise.ShapeOps
public import Idealize.ShloMosaic.Lib.IdealHost
public import Idealize.ShloMosaic.Lib.Pipeline.Value
public import Idealize.ShloMosaic.Lib.DynamicIndex

/-!
The loop of the backward reference: its trips carry the retention's state over chunks of 64 tokens.
-/

@[expose] public section

set_option maxRecDepth 16384

noncomputable section

open Idealize.ShloMosaic Idealize.ShloMosaic.TcCoe Idealize.SL.Sem

namespace Cert.BwdRefIdeal.Loop

open Cert.BwdRefIdeal Cert.BwdRefIdeal.Gen Cert.BwdRefIdeal.Value Cert.Proof.Ret

variable (V : Valuation τ sig (Elt Ideal))

/-- What the loop carries, each under its type: the chunks of queries, keys and values; the decay inside a chunk, from
    the chunk's start, over a chunk, to the chunk's end; the state; the outputs. -/
abbrev qs : Vec Ideal S132x2x8x64x256 .f32 := V (Proc.devRef .tc main_v146_0)
abbrev ks : Vec Ideal S132x2x8x64x256 .f32 := V (Proc.devRef .tc main_v146_1)
abbrev vs : Vec Ideal S132x2x8x64x256 .f32 := V (Proc.devRef .tc main_v146_2)
abbrev intra : Vec Ideal S8x64x64 .f32 := V (Proc.devRef .tc main_v146_3)
abbrev qdec : Vec Ideal S8x64x1 .f32 := V (Proc.devRef .tc main_v146_4)
abbrev cdec : Vec Ideal S8x1x1 .f32 := V (Proc.devRef .tc main_v146_5)
abbrev kdec : Vec Ideal S8x64x1 .f32 := V (Proc.devRef .tc main_v146_6)
abbrev state : Vec Ideal S2x8x256x256 .f32 := V (Proc.devRef .tc main_v146_8)
abbrev outs : Vec Ideal S132x2x8x64x256 .f32 := V (Proc.devRef .tc main_v146_9)

/-- The starts of trip `k`'s blocks. -/
theorem starts (k : Fin 132) (hk : V (Proc.devRef .tc main_v146_7) = (fun _ => BitVec.ofNat 32 k.val : IVec S_ 32)) (a : Fin 5) :
    (((![V (Proc.devRef .tc main_v146_7), constantI S_ 32 0#32, constantI S_ 32 0#32, constantI S_ 32 0#32, constantI S_ 32 0#32]
        : Fin 5 → (⟨S_, .i32⟩ : BufTy).Contents (Elt Ideal))) a (Shape.Idx.first h_S_)).toInt
      = ((![k.val, 0, 0, 0, 0] : Fin 5 → ℕ) a : ℤ) := by
  have e := toInt_small (r := k.val) (by omega)
  fin_cases a
  · show BitVec.toInt (V (Proc.devRef .tc main_v146_7) (Shape.Idx.first h_S_)) = _
    rw [hk]
    exact e
  all_goals rfl

/-- The chunk of queries a trip reads; then of keys; then of values. -/
theorem chunkQ (k : Fin 132) (hk : V (Proc.devRef .tc main_v146_7) = (fun _ => BitVec.ofNat 32 k.val : IVec S_ 32)) (b : Fin 2)
    (h : Fin 8) (r : Fin 64) (d : Fin 256) :
    (res_main_while0b_v186 (F := Ideal) V : Vec Ideal S2x8x64x256 .f32) (ix4 b h r d) = qs V (ix5 k b h r d) :=
  Cert.FwdRefIdeal.Loop.chunk_at _ _ _ k (starts V k hk) b h r d
theorem chunkK (k : Fin 132) (hk : V (Proc.devRef .tc main_v146_7) = (fun _ => BitVec.ofNat 32 k.val : IVec S_ 32)) (b : Fin 2)
    (h : Fin 8) (r : Fin 64) (d : Fin 256) :
    (res_main_while0b_v187 (F := Ideal) V : Vec Ideal S2x8x64x256 .f32) (ix4 b h r d) = ks V (ix5 k b h r d) :=
  Cert.FwdRefIdeal.Loop.chunk_at _ _ _ k (starts V k hk) b h r d
theorem chunkV (k : Fin 132) (hk : V (Proc.devRef .tc main_v146_7) = (fun _ => BitVec.ofNat 32 k.val : IVec S_ 32)) (b : Fin 2)
    (h : Fin 8) (r : Fin 64) (d : Fin 256) :
    (res_main_while0b_v188 (F := Ideal) V : Vec Ideal S2x8x64x256 .f32) (ix4 b h r d) = vs V (ix5 k b h r d) :=
  Cert.FwdRefIdeal.Loop.chunk_at _ _ _ k (starts V k hk) b h r d

variable (q k v : ℕ → ℕ → ℕ → Fin 256 → ℝ) (lg : ℕ → ℝ)

/-- What no trip changes, in real numbers: queries, keys and values of sequence `b` and head `h`, and the decays of
    logarithm `lg h`. -/
structure Given : Prop where
  hq : ∀ i b h r d, qs V (ix5 i b h r d) = (q b.val h.val (64 * i.val + r.val) d : EReal)
  hk : ∀ i b h r d, ks V (ix5 i b h r d) = (k b.val h.val (64 * i.val + r.val) d : EReal)
  hv : ∀ i b h r d, vs V (ix5 i b h r d) = (v b.val h.val (64 * i.val + r.val) d : EReal)
  hi : ∀ h r j, intra V (ix3 h r j)
    = ((if j.val ≤ r.val then Real.exp (lg h.val * ((r.val : ℝ) - j.val)) else 0 : ℝ) : EReal)
  hqd : ∀ h r, qdec V (ix3 h r 0) = (Real.exp (lg h.val * ((r.val : ℝ) + 1)) : EReal)
  hcd : ∀ h, cdec V (ix3 h 0 0) = (Real.exp (lg h.val * 64) : EReal)
  hkd : ∀ h r, kdec V (ix3 h r 0) = (Real.exp (lg h.val * (63 - (r.val : ℝ))) : EReal)

/-- After `n` trips: the count, the state after `64 n` tokens, the outputs of those tokens. -/
structure Carried (n : ℕ) : Prop extends Given V q k v lg where
  hc : V (Proc.devRef .tc main_v146_7) = (fun _ => BitVec.ofNat 32 n : IVec S_ 32)
  hs : ∀ b h d e, state V (ix4 b h d e) = (St (k b.val h.val) (v b.val h.val) (lg h.val) (64 * n) d e : EReal)
  ho : ∀ (i : Fin 132) b h r e, i.val < n →
    outs V (ix5 i b h r e) = (Out (q b.val h.val) (k b.val h.val) (v b.val h.val) (lg h.val) (64 * i.val + r.val) e : EReal)

variable {V q k v lg}

/-- A trip's state. -/
theorem state_step {n : ℕ} (hn : n < 132) (c : Carried V q k v lg n) (b : Fin 2) (h : Fin 8) (d e : Fin 256) :
    (step_main_v146_8 (F := Ideal) V : Vec Ideal S2x8x256x256 .f32) (ix4 b h d e)
      = (St (k b.val h.val) (v b.val h.val) (lg h.val) (64 * (n + 1)) d e : EReal) := by
  unfold step_main_v146_8
  dsimp only [id]
  pointwise
  have hS := c.hs b h d e
  have hC := c.hcd h
  have hK : ∀ x : Fin 64, _ := fun x => (chunkK V ⟨n, hn⟩ c.hc b h x d).trans (c.hk _ _ _ _ _)
  have hV : ∀ x : Fin 64, _ := fun x => (chunkV V ⟨n, hn⟩ c.hc b h x e).trans (c.hv _ _ _ _ _)
  have hD := c.hkd h
  simp only [hS, hC, hK, hV, hD, ← EReal.coe_mul, coe_sum, ← EReal.coe_add]
  refine congrArg _ ?_
  have key := St_chunk (k b.val h.val) (v b.val h.val) (lg h.val) 64 (64 * n) d e
  rw [show 64 * (n + 1) = 64 * n + 64 by ring, ← key]
  push_cast
  norm_num

/-- A trip's outputs, in front of which the outputs stay as they were. -/
theorem outs_step {n : ℕ} (hn : n < 132) (c : Carried V q k v lg n) (i : Fin 132) (hi : i.val < n + 1) (b : Fin 2) (h : Fin 8)
    (r : Fin 64) (e : Fin 256) : (step_main_v146_9 (F := Ideal) V : Vec Ideal S132x2x8x64x256 .f32) (ix5 i b h r e)
      = (Out (q b.val h.val) (k b.val h.val) (v b.val h.val) (lg h.val) (64 * i.val + r.val) e : EReal) := by
  unfold step_main_v146_9
  dsimp only [id]
  have hU := fun U : Vec Ideal S2x8x64x256 .f32 => Cert.FwdRefIdeal.Loop.update_at (outs V) U _ updateFits_S132x2x8x64x256_S1x2x8x64x256 ⟨n, hn⟩
    (starts V ⟨n, hn⟩ c.hc) i b h r e
  refine (hU _).trans ?_
  by_cases hin : i.val = n
  · rw [if_pos hin]
    pointwise
    have hQ : ∀ x : Fin 256, _ := fun x => (chunkQ V ⟨n, hn⟩ c.hc b h r x).trans (c.hq _ _ _ _ _)
    have hK : ∀ (y : Fin 64) (x : Fin 256), _ := fun y x => (chunkK V ⟨n, hn⟩ c.hc b h y x).trans (c.hk _ _ _ _ _)
    have hV : ∀ x : Fin 64, _ := fun x => (chunkV V ⟨n, hn⟩ c.hc b h x e).trans (c.hv _ _ _ _ _)
    have hS := fun d => c.hs b h d e
    have hI := c.hi h r
    have hD := c.hqd h r
    simp only [hQ, hK, hV, hS, hI, hD, ← EReal.coe_mul, coe_sum, ← EReal.coe_add]
    refine congrArg _ ?_
    rw [hin]
    exact Out_chunk (q b.val h.val) (k b.val h.val) (v b.val h.val) (lg h.val) 64 (64 * n) r e
  · rw [if_neg hin]
    exact c.ho i b h r e (by omega)

/-- A trip. -/
theorem step {n : ℕ} (hn : n < 132) (c : Carried V q k v lg n) : Carried (STEP V) q k v lg (n + 1) where
  hq := by have := c.hq; simp only [qs, STEP_main_v146_0] at *; exact this
  hk := by have := c.hk; simp only [ks, STEP_main_v146_1] at *; exact this
  hv := by have := c.hv; simp only [vs, STEP_main_v146_2] at *; exact this
  hi := by have := c.hi; simp only [intra, STEP_main_v146_3] at *; exact this
  hqd := by have := c.hqd; simp only [qdec, STEP_main_v146_4] at *; exact this
  hcd := by have := c.hcd; simp only [cdec, STEP_main_v146_5] at *; exact this
  hkd := by have := c.hkd; simp only [kdec, STEP_main_v146_6] at *; exact this
  hc := by
    rw [STEP_main_v146_7]
    unfold step_main_v146_7
    rw [c.hc]
    funext j
    show BitVec.ofNat 32 n + 1#32 = BitVec.ofNat 32 (n + 1)
    rw [BitVec.ofNat_add]
  hs b h d e := by
    simp only [state, STEP_main_v146_8]
    exact state_step hn c b h d e
  ho i b h r e hi := by
    simp only [outs, STEP_main_v146_9]
    exact outs_step hn c i hi b h r e

/-- All the trips up to the `n`-th. -/
theorem steps (c : Carried V q k v lg 0) : ∀ n : ℕ, n ≤ 132 → Carried (STEP^[n] V) q k v lg n
  | 0, _ => c
  | n + 1, hn => by
    rw [Function.iterate_succ_apply']
    exact step (by omega) (steps c n (by omega))

end Cert.BwdRefIdeal.Loop
-- ==== Proof.BwdRefEntry.lean ====
module

public import proofs.«01_k».proof.Proof.BwdRefLoop
public import proofs.«01_k».proof.Proof.FwdRefEntry
public import proofs.«01_k».proof.Proof.RetBack
public import Idealize.ShloMosaic.Lib.Pointwise.Reduce

/-!
What the backward reference's loop starts from, read at an index, and what its last operations make of the loop's outputs.
-/

@[expose] public section

set_option maxRecDepth 16384

noncomputable section

open Idealize.ShloMosaic Idealize.ShloMosaic.TcCoe Idealize.SL.Sem Idealize.ShloMosaic.StableHlo

namespace Cert.BwdRefIdeal.Entry

open Cert.BwdRefIdeal Cert.BwdRefIdeal.Gen Cert.BwdRefIdeal.Value Cert.BwdRefIdeal.Loop Cert.Proof.Ret
open Cert.FwdRefIdeal.Entry (cat3 cat4 tokens rope chunks scaled places intraT power wholeT laid tokens_val rope_val chunks_val
  scaled_val intra_val power_val whole_val from_val to_val laid_val)

theorem cat3_def {α : Type} (a : S2x256x2048.Idx → α) (b : S2x8192x2048.Idx → α) :
    concatenate S2x8448x2048 1 [⟨S2x256x2048, a⟩, ⟨S2x8192x2048, b⟩] concatenates_S2x256x2048_S2x8192x2048_S2x8448x2048_d1
      = cat3 a b := rfl
theorem cat4_def {α : Type} (a b : S2x8448x8x128.Idx → α) :
    concatenate S2x8448x8x256 3 [⟨S2x8448x8x128, a⟩, ⟨S2x8448x8x128, b⟩] concatenates_S2x8448x8x128_S2x8448x8x128_S2x8448x8x256_d3
      = cat4 a b := rfl

/-- The heads of two stretches of tokens joined along the tokens. -/
def cat5 {α : Type} (a : S2x256x8x256.Idx → α) (b : S2x8192x8x256.Idx → α) : S2x8448x8x256.Idx → α :=
  concatenate S2x8448x8x256 1 [⟨S2x256x8x256, a⟩, ⟨S2x8192x8x256, b⟩] concatenates_S2x256x8x256_S2x8192x8x256_S2x8448x8x256_d1
theorem cat5_def {α : Type} (a : S2x256x8x256.Idx → α) (b : S2x8192x8x256.Idx → α) :
    concatenate S2x8448x8x256 1 [⟨S2x256x8x256, a⟩, ⟨S2x8192x8x256, b⟩] concatenates_S2x256x8x256_S2x8192x8x256_S2x8448x8x256_d1
      = cat5 a b := rfl

/-- The context's tokens from the last to the first; then the latents'. -/
def revA (x : Vec Ideal S2x8448x8x256 .f32) : Vec Ideal S2x256x8x256 .f32 :=
  Host.reverse [1] (extractStridedSlice S2x256x8x256 ![0, 0, 0, 0] x slices_S2x8448x8x256_S2x256x8x256_0_0_0_0)
def revB (x : Vec Ideal S2x8448x8x256 .f32) : Vec Ideal S2x8192x8x256 .f32 :=
  Host.reverse [1] (extractStridedSlice S2x8192x8x256 ![0, 256, 0, 0] x slices_S2x8448x8x256_S2x8192x8x256_0_256_0_0)

/-- Context and latents each from the last token to the first. -/
def flip (x : Vec Ideal S2x8448x8x256 .f32) : Vec Ideal S2x8448x8x256 .f32 := cat5 (revA x) (revB x)

/-- The reversed stretches at an index. -/
theorem revA_val (x : Vec Ideal S2x8448x8x256 .f32) (b : Fin 2) (n : Fin 256) (h : Fin 8) (d : Fin 256) :
    revA x (ix4 b n h d) = x (ix4 b ⟨255 - n.val, by omega⟩ h d) := by
  unfold revA
  pointwise
  refine congrArg x ?_
  funext a
  apply Fin.ext
  match a with
  | ⟨0, _⟩ => rfl
  | ⟨1, _⟩ => show 256 - (n.val + 1) = 255 - n.val; omega
  | ⟨2, _⟩ => rfl
  | ⟨3, _⟩ => rfl
theorem revB_val (x : Vec Ideal S2x8448x8x256 .f32) (b : Fin 2) (n : Fin 8192) (h : Fin 8) (d : Fin 256) :
    revB x (ix4 b n h d) = x (ix4 b ⟨8447 - n.val, by omega⟩ h d) := by
  unfold revB
  pointwise
  refine congrArg x ?_
  funext a
  apply Fin.ext
  match a with
  | ⟨0, _⟩ => rfl
  | ⟨1, _⟩ => show 256 + (8192 - (n.val + 1)) = 8447 - n.val; omega
  | ⟨2, _⟩ => rfl
  | ⟨3, _⟩ => rfl

/-- Step `n` of the backward order reads token `backOrd n`. -/
theorem flip_val (x : Vec Ideal S2x8448x8x256 .f32) (b : Fin 2) (n : Fin 8448) (h : Fin 8) (d : Fin 256) :
    flip x (ix4 b n h d) = x (ix4 b ⟨backOrd n.val, backOrd_lt n.isLt⟩ h d) := by
  unfold flip cat5
  by_cases hn : n.val < 256
  · rw [concatenate_pair_apply_left (t := S2x8448x8x256) (s₁ := S2x256x8x256) (s₂ := S2x8192x8x256) 1 _ _ _ (ix4 b n h d) rfl
      (ix4 b (⟨n.val, hn⟩ : Fin 256) h d) (fun a => by fin_cases a <;> rfl), revA_val]
    have e : (⟨255 - n.val, by omega⟩ : Fin 8448) = ⟨backOrd n.val, backOrd_lt n.isLt⟩ :=
      Fin.ext (by show 255 - n.val = if n.val < 256 then _ else _; rw [if_pos hn])
    exact congrArg (fun t => x (ix4 b t h d)) e
  · rw [concatenate_pair_apply_right (t := S2x8448x8x256) (s₁ := S2x256x8x256) (s₂ := S2x8192x8x256) 1 _ _ _ (ix4 b n h d) rfl rfl
      (ix4 b (⟨n.val - 256, by omega⟩ : Fin 8192) h d) (fun a ha => by
        fin_cases a
        · rfl
        · exact absurd rfl ha
        · rfl
        · rfl) (by show n.val - 256 + 256 = n.val; omega), revB_val]
    have e : (⟨8447 - (n.val - 256), by omega⟩ : Fin 8448) = ⟨backOrd n.val, backOrd_lt n.isLt⟩ :=
      Fin.ext (by show 8447 - (n.val - 256) = if n.val < 256 then _ else _; rw [if_neg hn]; omega)
    exact congrArg (fun t => x (ix4 b t h d)) e

variable (m : (ℓ : Loc nD τ sig) → Buf (Elt Ideal) ℓ) (c : Dev nD)

/-- The projections; then the rates, the forward direction's result, the gains of the norm. -/
abbrev proj : Vec Ideal S16896x16384 .f32 := m ((c.tc : Thread nD τ).loc main_arg0)
abbrev rates : Vec Ideal S2x8 .f32 := m ((c.tc : Thread nD τ).loc main_arg1)
abbrev fwd : Vec Ideal S16896x2048 .f32 := m ((c.tc : Thread nD τ).loc main_arg2)
abbrev gains : Vec Ideal S2048 .f32 := m ((c.tc : Thread nD τ).loc main_arg3)

theorem entry_q : qs (entryContents preI m c) = chunks (flip (rope (tokens (extractStridedSlice S16896x2048 ![0, 0] (proj m c)
    slices_S16896x16384_S16896x2048_0_0)))) := by
  unfold qs
  simp only [entryContents, afterL_cons, afterL_nil]
  after_reads_simp
  simp only [cat5_def, cat4_def, cat3_def]
  after_reads_simp
  simp only [cat4_def, cat3_def]
  after_reads_simp
  simp only [cat3_def]
  after_reads_simp
  rfl

theorem entry_k : ks (entryContents preI m c) = chunks (flip (scaled (rope (tokens (extractStridedSlice S16896x2048 ![0, 2048] (proj m c)
    slices_S16896x16384_S16896x2048_0_2048))))) := by
  unfold ks
  simp only [entryContents, afterL_cons, afterL_nil]
  after_reads_simp
  simp only [cat5_def, cat4_def, cat3_def]
  after_reads_simp
  simp only [cat4_def, cat3_def]
  after_reads_simp
  simp only [cat3_def]
  after_reads_simp
  exact congrArg (fun t => chunks (cat5 (revA (scaled t)) (revB (scaled t)))) (show (_ : Vec Ideal S2x8448x8x256 .f32) = rope (tokens _) from rfl)

/-- The values in the tokens' own order. -/
abbrev vals (V : Valuation τ sig (Elt Ideal)) : Vec Ideal S2x8448x8x256 .f32 := V (Proc.devRef .tc main_v82)

theorem entry_vals : vals (entryContents preI m c) = tokens (extractStridedSlice S16896x2048 ![0, 4096] (proj m c)
    slices_S16896x16384_S16896x2048_0_4096) := by
  unfold vals
  simp only [entryContents, afterL_cons, afterL_nil]
  after_reads_simp
  simp only [cat3_def]
  after_reads_simp
  rfl

theorem entry_v : vs (entryContents preI m c) = chunks (flip (vals (entryContents preI m c))) := by
  obtain ⟨T, hT⟩ : ∃ T, T = vals (entryContents preI m c) := ⟨_, rfl⟩
  rw [← hT]
  unfold vs
  unfold vals at hT
  revert hT
  simp only [entryContents, afterL_cons, afterL_nil]
  after_reads_simp
  simp only [cat5_def, cat3_def]
  after_reads_simp
  simp only [cat3_def]
  after_reads_simp
  intro hT
  rw [← hT]
  clear hT
  rfl

/-- The logarithms of the backward direction's decays. -/
def logs (x : Vec Ideal S2x8 .f32) : Vec Ideal S8 .f32 :=
  shapeCast S8 (extractStridedSlice S1x8 ![1, 0] (Host.negf (F := Ideal) (s := S2x8) (φ := .f32) (Host.exp (F := Ideal) (s := S2x8) (φ := .f32) x)) slices_S2x8_S1x8_1_0) shapeCasts_S1x8_S8

theorem entry_i : intra (entryContents preI m c) = intraT (logs (rates m c)) := by
  unfold intra
  simp only [entryContents, afterL_cons, afterL_nil]
  after_reads_simp
  rfl

theorem entry_qd : qdec (entryContents preI m c) = power (logs (rates m c))
    (addf (F := Ideal) (φ := .f32) places (broadcastInDim S64 ![] bcast_S_S64 (constant (F := Ideal) S_ .f32 0x3F800000#32))) := by
  unfold qdec
  simp only [entryContents, afterL_cons, afterL_nil]
  after_reads_simp
  rfl

theorem entry_kd : kdec (entryContents preI m c) = power (logs (rates m c))
    (subf (F := Ideal) (φ := .f32) (broadcastInDim S64 ![] bcast_S_S64 (constant (F := Ideal) S_ .f32 0x427C0000#32)) places) := by
  unfold kdec
  simp only [entryContents, afterL_cons, afterL_nil]
  after_reads_simp
  rfl

theorem entry_cd : cdec (entryContents preI m c) = wholeT (logs (rates m c)) := by
  unfold cdec
  simp only [entryContents, afterL_cons, afterL_nil]
  after_reads_simp
  rfl

theorem entry_s : state (entryContents preI m c)
    = broadcastInDim S2x8x256x256 ![] bcast_S_S2x8x256x256 (constant (F := Ideal) S_ .f32 0#32) := by
  unfold state
  simp only [entryContents, afterL_cons, afterL_nil]
  after_reads_simp
  rfl

theorem entry_c : (entryContents preI m c) (Proc.devRef .tc main_v146_7) = (fun _ => BitVec.ofNat 32 0 : IVec S_ 32) := by
  simp only [entryContents, afterL_cons, afterL_nil]
  after_reads_simp
  rfl

/-- A head's logarithm. -/
theorem logs_val (x : Vec Ideal S2x8 .f32) (h : Fin 8) (y : ℝ) (hx : x (ix2 1 h) = (y : EReal)) :
    logs x (ix1 h) = ((-Real.exp y : ℝ) : EReal) := by
  unfold logs
  pointwise
  rw [hx, EReal.coe_neg]
  rfl

variable (pr : ℕ → ℕ → ℝ) (rr : ℕ → ℝ)
variable (hp : ∀ (r : Fin 16896) (k : Fin 16384), proj m c (ix2 r k) = (pr r.val k.val : EReal))
variable (hr : ∀ h : Fin 8, rates m c (ix2 (1 : Fin 2) h) = (rr h.val : EReal))

include hp hr

/-- The loop starts from the sequences' turned queries and keys in backward order, their values, and the heads' decays. -/
theorem entry : Carried (entryContents preI m c) (fun b h => turnQ backOrd (seqOf backOrd pr 0 b h))
    (fun b h => turnK backOrd (seqOf backOrd pr 1 b h)) (fun b h => seqOf backOrd pr 2 b h) (fun h => -Real.exp (rr h)) 0 where
  hq i b h r d := by
    rw [entry_q, chunks_val, flip_val]
    refine (rope_val _ (seqOf id pr 0 b.val h.val) b _ h (fun d => ?_) d).trans rfl
    rw [tokens_val]
    pointwise
    rw [hp, seqOf]
    simp only [id]
    congr 2
    omega
  hk i b h r d := by
    rw [entry_k, chunks_val, flip_val]
    refine (scaled_val _ _ _ (rope_val _ (seqOf id pr 1 b.val h.val) b _ h (fun d => ?_) d)).trans rfl
    rw [tokens_val]
    pointwise
    rw [hp, seqOf]
    simp only [id]
    congr 2
    omega
  hv i b h r d := by
    rw [entry_v, chunks_val, flip_val, entry_vals, tokens_val]
    pointwise
    rw [hp, seqOf]
    dsimp only
    congr 2
    omega
  hi h r j := by
    rw [entry_i]
    exact intra_val _ h _ (logs_val _ h _ (hr h)) r j
  hqd h r := by
    rw [entry_qd]
    exact power_val _ h _ (logs_val _ h _ (hr h)) _ r _ (from_val r)
  hcd h := by
    rw [entry_cd]
    exact whole_val _ h _ (logs_val _ h _ (hr h))
  hkd h r := by
    rw [entry_kd]
    exact power_val _ h _ (logs_val _ h _ (hr h)) _ r _ (to_val r)
  hc := entry_c m c
  hs b h d e := by
    rw [entry_s, Nat.mul_zero, St_zero]
    exact f0
  ho i b h r e hi := absurd hi (Nat.not_lt_zero _)

end Cert.BwdRefIdeal.Entry
-- ==== Proof.BwdRefExit.lean ====
module

public import proofs.«01_k».proof.Proof.BwdRefEntry

/-!
What the backward reference makes of the loop's outputs: the rows in the tokens' own order, the forward direction added,
every head normalised and gated.
-/

@[expose] public section

set_option maxRecDepth 16384
set_option maxHeartbeats 1000000

noncomputable section

open Idealize.ShloMosaic Idealize.ShloMosaic.TcCoe Idealize.SL.Sem Idealize.ShloMosaic.StableHlo

namespace Cert.BwdRefIdeal.Entry

open Cert.BwdRefIdeal Cert.BwdRefIdeal.Gen Cert.BwdRefIdeal.Value Cert.BwdRefIdeal.Loop Cert.Proof.Ret
open Cert.FwdRefIdeal.Entry (laid laid_val)

/-- The loop's outputs in rows, in the tokens' own order. -/
def rowsOf (x : Vec Ideal S132x2x8x64x256 .f32) : Vec Ideal S16896x2048 .f32 :=
  concatenate S16896x2048 0 [⟨S512x2048, shapeCast S512x2048 (revA (laid x)) shapeCasts_S2x256x8x256_S512x2048⟩,
    ⟨S16384x2048, shapeCast S16384x2048 (revB (laid x)) shapeCasts_S2x8192x8x256_S16384x2048⟩]
    concatenates_S512x2048_S16384x2048_S16896x2048_d0

/-- The row of token `n` is the output of step `backOrd n`. -/
theorem rows_val (x : Vec Ideal S132x2x8x64x256 .f32) (b : Fin 2) (n : Fin 8448) (h : Fin 8) (e : Fin 256) :
    rowsOf x (ix2 ⟨rowTok b.val n.val, rowTok_lt b.isLt n.isLt⟩ ⟨256 * h.val + e.val, by omega⟩)
      = laid x (ix4 b ⟨backOrd n.val, backOrd_lt n.isLt⟩ h e) := by
  unfold rowsOf
  by_cases hn : n.val < 256
  · have hrow : rowTok b.val n.val = 256 * b.val + n.val := if_pos hn
    have hb : backOrd n.val = 255 - n.val := if_pos hn
    rw [concatenate_pair_apply_left (t := S16896x2048) (s₁ := S512x2048) (s₂ := S16384x2048) 0 _ _ _ _ rfl
      (ix2 (⟨256 * b.val + n.val, by omega⟩ : Fin 512) ⟨256 * h.val + e.val, by omega⟩) (fun a => by
        fin_cases a
        · exact hrow.symm
        · rfl)]
    pointwise
    rw [revA_val]
    congr 1
    funext a
    apply Fin.ext
    match a with
    | ⟨0, _⟩ => first | rfl | (show (256 * b.val + n.val) / 256 = b.val; omega)
    | ⟨1, _⟩ => show 255 - (256 * b.val + n.val) % 256 = backOrd n.val; omega
    | ⟨2, _⟩ => first | rfl | (show (256 * h.val + e.val) / 256 = h.val; omega)
    | ⟨3, _⟩ => first | rfl | (show (256 * h.val + e.val) % 256 = e.val; omega)
  · have hrow : rowTok b.val n.val = 512 + 8192 * b.val + (n.val - 256) := if_neg hn
    have hb : backOrd n.val = 8703 - n.val := if_neg hn
    rw [concatenate_pair_apply_right (t := S16896x2048) (s₁ := S512x2048) (s₂ := S16384x2048) 0 _ _ _ _ rfl rfl
      (ix2 (⟨8192 * b.val + (n.val - 256), by omega⟩ : Fin 16384) ⟨256 * h.val + e.val, by omega⟩) (fun a ha => by
        fin_cases a
        · exact absurd rfl ha
        · rfl) (by show 8192 * b.val + (n.val - 256) + 512 = rowTok b.val n.val; omega)]
    pointwise
    rw [revB_val]
    congr 1
    funext a
    apply Fin.ext
    match a with
    | ⟨0, _⟩ => first | rfl | (show (8192 * b.val + (n.val - 256)) / 8192 = b.val; omega)
    | ⟨1, _⟩ => show 8447 - (8192 * b.val + (n.val - 256)) % 8192 = backOrd n.val; omega
    | ⟨2, _⟩ => first | rfl | (show (256 * h.val + e.val) / 256 = h.val; omega)
    | ⟨3, _⟩ => first | rfl | (show (256 * h.val + e.val) % 256 = e.val; omega)

/-- The mean over every head of every row. -/
def meanT (y : Vec Ideal S16896x8x256 .f32) : Vec Ideal S16896x8x1 .f32 :=
  Host.divf (F := Ideal) (φ := .f32) (broadcastInDim S16896x8x1 ![0, 1] bcast_S16896x8_S16896x8x1_0_1
    (Host.reduceAdd (F := Ideal) (φ := .f32) y (constant (F := Ideal) S_ .f32 0x00000000#32) reducesTo_S16896x8x256_S16896x8_d2 h_S_))
    (broadcastInDim S16896x8x1 ![] bcast_S_S16896x8x1 (constant (F := Ideal) S_ .f32 0x43800000#32))

/-- Every head of every row without its mean. -/
def centred (y : Vec Ideal S16896x8x256 .f32) : Vec Ideal S16896x8x256 .f32 :=
  subf (F := Ideal) (φ := .f32) y (broadcastInDim S16896x8x256 ![0, 1, 2] bcast_S16896x8x1_S16896x8x256_0_1_2 (meanT y))

/-- The reciprocal of every head's deviation. -/
def devT (y : Vec Ideal S16896x8x256 .f32) : Vec Ideal S16896x8x1 .f32 :=
  Host.rsqrt (F := Ideal) (φ := .f32) (addf (F := Ideal) (φ := .f32) (meanT (mulf (F := Ideal) (φ := .f32) (centred y) (centred y)))
    (broadcastInDim S16896x8x1 ![] bcast_S_S16896x8x1 (constant (F := Ideal) S_ .f32 0x3727C5AC#32)))

/-- The gate of every head of every row. -/
def gateT (p : Vec Ideal S16896x8x256 .f32) : Vec Ideal S16896x8x256 .f32 :=
  mulf (F := Ideal) (φ := .f32) p (Host.divf (F := Ideal) (φ := .f32) (broadcastInDim S16896x8x256 ![] bcast_S_S16896x8x256 (constant (F := Ideal) S_ .f32 0x3F800000#32))
    (addf (F := Ideal) (φ := .f32) (broadcastInDim S16896x8x256 ![] bcast_S_S16896x8x256 (constant (F := Ideal) S_ .f32 0x3F800000#32))
      (Host.exp (F := Ideal) (φ := .f32) (Host.negf (F := Ideal) (φ := .f32) p))))

/-- The rows in heads. -/
def heads (x : Vec Ideal S16896x2048 .f32) : Vec Ideal S16896x8x256 .f32 := shapeCast S16896x8x256 x shapeCasts_S16896x2048_S16896x8x256

/-- The gains, for every row. -/
def gainT (g : Vec Ideal S2048 .f32) : Vec Ideal S16896x8x256 .f32 :=
  broadcastInDim S16896x8x256 ![0, 1, 2] bcast_S1x8x256_S16896x8x256_0_1_2
    (broadcastInDim S1x8x256 ![1, 2] bcast_S8x256_S1x8x256_1_2 (shapeCast S8x256 g shapeCasts_S2048_S8x256))

/-- Every head of every row normalised and gated. -/
def normed (x : Vec Ideal S16896x2048 .f32) (g : Vec Ideal S2048 .f32) (p : Vec Ideal S16896x16384 .f32) : Vec Ideal S16896x2048 .bf16 :=
  truncf (F := Ideal) .bf16 (shapeCast S16896x2048
    (mulf (F := Ideal) (φ := .f32) (mulf (F := Ideal) (φ := .f32) (mulf (F := Ideal) (φ := .f32) (centred (heads x))
      (broadcastInDim S16896x8x256 ![0, 1, 2] bcast_S16896x8x1_S16896x8x256_0_1_2 (devT (heads x)))) (gainT g))
      (gateT (heads (extractStridedSlice S16896x2048 ![0, 6144] p slices_S16896x16384_S16896x2048_0_6144))))
    shapeCasts_S16896x8x256_S16896x2048) bitsLt_bf16_f32

theorem out_eq (V : Valuation τ sig (Elt Ideal)) : (out_main_v185 (F := Ideal) V : Vec Ideal S16896x2048 .bf16)
    = normed (addf (F := Ideal) (φ := .f32) (V (Proc.devRef .tc main_arg2) : Vec Ideal S16896x2048 .f32) (rowsOf (outs V)))
        (V (Proc.devRef .tc main_arg3)) (V (Proc.devRef .tc main_arg0)) := rfl

/-- A head's mean. -/
theorem mean_val (y : Vec Ideal S16896x8x256 .f32) (r : Fin 16896) (h : Fin 8) :
    meanT y (ix3 r h 0) = mean (fun d => y (ix3 r h d)) := by
  unfold meanT mean
  pointwise
  rw [f256]

/-- A head without its mean, at a coordinate. -/
theorem centred_val (y : Vec Ideal S16896x8x256 .f32) (r : Fin 16896) (h : Fin 8) (e : Fin 256) :
    centred y (ix3 r h e) = y (ix3 r h e) - mean (fun d => y (ix3 r h d)) := by
  unfold centred
  pointwise
  rw [mean_val]

/-- The reciprocal of a head's deviation. -/
theorem dev_val (y : Vec Ideal S16896x8x256 .f32) (r : Fin 16896) (h : Fin 8) :
    devT y (ix3 r h 0) = Ideal.rsqrt (mean (fun d => (y (ix3 r h d) - mean (fun d => y (ix3 r h d)))
      * (y (ix3 r h d) - mean (fun d => y (ix3 r h d)))) + Ideal.ofBits .f32 0x3727C5AC#32) := by
  unfold devT
  pointwise
  rw [mean_val]
  simp only [mulf_apply, centred_val]
  rfl

/-- A gate at a coordinate. -/
theorem gate_val (p : Vec Ideal S16896x8x256 .f32) (j : S16896x8x256.Idx) : gateT p j = Cert.Proof.Experts.swish (p j) := by
  show p j * Ideal.div (Ideal.ofBits .f32 0x3F800000#32) (Ideal.ofBits .f32 0x3F800000#32 + Ideal.exp (-(p j))) = _
  rw [f1]
  rfl

/-- A row in heads. -/
theorem heads_val (x : Vec Ideal S16896x2048 .f32) (r : Fin 16896) (h : Fin 8) (e : Fin 256) :
    heads x (ix3 r h e) = x (ix2 r ⟨256 * h.val + e.val, by omega⟩) := by
  unfold heads
  pointwise
  simp only [Nat.mul_comm]

/-- A gain. -/
theorem gain_val (g : Vec Ideal S2048 .f32) (r : Fin 16896) (h : Fin 8) (e : Fin 256) :
    gainT g (ix3 r h e) = g (ix1 ⟨256 * h.val + e.val, by omega⟩) := by
  unfold gainT
  pointwise
  simp only [Nat.mul_comm]

/-- The result at a row, head and coordinate. -/
theorem normed_val (x : Vec Ideal S16896x2048 .f32) (g : Vec Ideal S2048 .f32) (p : Vec Ideal S16896x16384 .f32) (r : Fin 16896)
    (h : Fin 8) (e : Fin 256) : normed x g p (ix2 r ⟨256 * h.val + e.val, by omega⟩)
      = normGate (fun d => x (ix2 r ⟨256 * h.val + d.val, by omega⟩)) (fun d => g (ix1 ⟨256 * h.val + d.val, by omega⟩))
          (fun d => p (ix2 r ⟨6144 + 256 * h.val + d.val, by omega⟩)) e := by
  unfold normed normGate
  pointwise
  rw [centred_val, dev_val, gain_val, gate_val]
  simp only [heads_val]
  pointwise
  simp only [Nat.add_assoc]

variable (m : (ℓ : Loc nD τ sig) → Buf (Elt Ideal) ℓ) (c : Dev nD)
variable (pr : ℕ → ℕ → ℝ) (rr : ℕ → ℝ)
variable (hp : ∀ (r : Fin 16896) (k : Fin 16384), proj m c (ix2 r k) = (pr r.val k.val : EReal))
variable (hr : ∀ h : Fin 8, rates m c (ix2 (1 : Fin 2) h) = (rr h.val : EReal))

include hp hr

/-- The reference's result at every token, head and coordinate. -/
theorem result {b n h : ℕ} (hb : b < 2) (hn : n < 8448) (hh : h < 8) (e : Fin 256) :
    (out_main_v185 (F := Ideal) (STEP^[132] (entryContents preI m c)) : Vec Ideal S16896x2048 .bf16)
        (ix2 ⟨rowTok b n, rowTok_lt hb hn⟩ ⟨256 * h + e.val, by omega⟩)
      = normGate (fun d => (retOut backOrd pr rr b h (backOrd n) d : EReal)
            + fwd m c (ix2 ⟨rowTok b n, rowTok_lt hb hn⟩ ⟨256 * h + d.val, by omega⟩))
          (fun d => gains m c (ix1 ⟨256 * h + d.val, by omega⟩))
          (fun d => proj m c (ix2 ⟨rowTok b n, rowTok_lt hb hn⟩ ⟨6144 + 256 * h + d.val, by omega⟩)) e := by
  rw [out_eq]
  refine (normed_val _ _ _ ⟨rowTok b n, rowTok_lt hb hn⟩ ⟨h, hh⟩ e).trans ?_
  rw [iter_main_arg0 m c 132, iter_main_arg2 m c 132, iter_main_arg3 m c 132]
  refine congrArg (fun f => normGate f _ _ e) ?_
  funext d
  show fwd m c _ + rowsOf _ _ = _
  rw [add_comm]
  refine congrArg (· + _) ?_
  have hk := backOrd_lt hn
  refine (rows_val _ ⟨b, hb⟩ ⟨n, hn⟩ ⟨h, hh⟩ d).trans ((laid_val _ _ _ _ _).trans ?_)
  refine ((steps (entry m c pr rr hp hr) 132 le_rfl).ho ⟨backOrd n / 64, by omega⟩ ⟨b, hb⟩ ⟨h, hh⟩ ⟨backOrd n % 64, by omega⟩ d
    (show backOrd n / 64 < 132 by omega)).trans ?_
  show (Out _ _ _ _ (64 * (backOrd n / 64) + backOrd n % 64) d : EReal) = _
  rw [Nat.div_add_mod]
  rfl

end Cert.BwdRefIdeal.Entry
-- ==== Proof.BwdClaim.lean ====
module

public import proofs.«01_k».proof.Defs
public import proofs.«01_k».proof.Proof.Gen.Bwd.Frame
public import proofs.«01_k».proof.Proof.Gen.Pre_finite_backward
public import proofs.«01_k».proof.Proof.Finite
public import proofs.«01_k».proof.Proof.BwdValue
public import proofs.«01_k».proof.Proof.BwdRefExit
public import Idealize.ShloMosaic.Lib.Affine
public import Idealize.ShloMosaic.Adequacy
public import Idealize.ShloMosaic.Init

/-!
The claims of the backward retention: on finite projections and rates the kernel and the reference end with the same
array, every head of every token normalised and gated.
-/

@[expose] public section

set_option maxRecDepth 16384

noncomputable section

open Idealize.ShloMosaic Idealize.SL.Sem

namespace Cert.Proof.Backward

open Cert.Proof.Ret

instance : Cert.Bwd.Facts := Cert.Bwd.Gen.facts
instance : Cert.BwdIdeal.Facts := Cert.BwdIdeal.Gen.facts
instance : Cert.BwdRefIdeal.Facts := Cert.BwdRefIdeal.Gen.facts
instance : Cert.Pre_finite_backward.Facts := Cert.Pre_finite_backward.Gen.facts

/-- The precondition says that projections and rates are finite. -/
theorem finite_of_pre {x : FVec Ideal Cert.Pre_finite_backward.S16896x16384 .f32} {y : FVec Ideal Cert.Pre_finite_backward.S2x8 .f32}
    {z : FVec Ideal Cert.Pre_finite_backward.S16896x2048 .f32} {w : FVec Ideal Cert.Pre_finite_backward.S2048 .f32}
    (h : Cert.Pre_finite_backward.fn (F := Ideal) x y z w = fun _ => 1#1) :
    (∀ i, ∃ a : ℝ, x i = (a : EReal)) ∧ (∀ i, ∃ a : ℝ, y i = (a : EReal)) := by
  have h0 := congrFun h (Shape.Idx.first Cert.Pre_finite_backward.Facts.h_S_)
  unfold Cert.Pre_finite_backward.fn at h0
  dsimp only at h0
  obtain ⟨h1, h2⟩ := Cert.Proof.Ret.andi_one h0
  exact ⟨finite_of_all x _ _ _ _ _ h1, finite_of_all y _ _ _ _ _ h2⟩

/-- The kernel's run as lowered, and over the extended reals; then the reference's. -/
theorem frame_kernel : Cert.quiescent_Bwd := fun m ρ _ => Cert.Bwd.Gen.frame (F := Bits) m ρ
theorem frame_ideal : Cert.quiescent_BwdIdeal := fun m ρ _ => Cert.BwdIdeal.Gen.frame (F := Ideal) m ρ
theorem frame_ideal_pre : Cert.quiescent_BwdIdeal_pre_finite_backward := fun m ρ _ => Cert.BwdIdeal.Gen.frame (F := Ideal) m ρ
theorem frame_ref : Cert.quiescent_BwdRefIdeal := fun m ρ _ =>
  (θ_run Cert.BwdRefIdeal.defs _ _).mono (fun r h => ⟨fun c => (h c).2, sem_eq_zero_of_no_sems (by decide) r.2⟩)
    (Cert.BwdRefIdeal.Value.run (F := Ideal) m ρ)
theorem frame_ref_pre : Cert.quiescent_BwdRefIdeal_pre_finite_backward := fun m ρ _ => frame_ref m ρ trivial

/-- On finite arguments the kernel's result array is the reference's. -/
theorem equal (m : (ℓ : Loc Cert.BwdIdeal.nD Cert.BwdIdeal.τ Cert.BwdIdeal.sig) → Buf (Elt Ideal) ℓ)
    (m' : (ℓ : Loc Cert.BwdRefIdeal.nD Cert.BwdRefIdeal.τ Cert.BwdRefIdeal.sig) → Buf (Elt Ideal) ℓ) (c : Dev Cert.BwdIdeal.nD)
    (h0 : m' ((c.tc : Thread Cert.BwdRefIdeal.nD Cert.BwdRefIdeal.τ).loc Cert.BwdRefIdeal.main_arg0)
      = m ((c.tc : Thread Cert.BwdIdeal.nD Cert.BwdIdeal.τ).loc Cert.BwdIdeal.main_arg0))
    (h1 : m' ((c.tc : Thread Cert.BwdRefIdeal.nD Cert.BwdRefIdeal.τ).loc Cert.BwdRefIdeal.main_arg1)
      = m ((c.tc : Thread Cert.BwdIdeal.nD Cert.BwdIdeal.τ).loc Cert.BwdIdeal.main_arg1))
    (h2 : m' ((c.tc : Thread Cert.BwdRefIdeal.nD Cert.BwdRefIdeal.τ).loc Cert.BwdRefIdeal.main_arg2)
      = m ((c.tc : Thread Cert.BwdIdeal.nD Cert.BwdIdeal.τ).loc Cert.BwdIdeal.main_arg2))
    (h3 : m' ((c.tc : Thread Cert.BwdRefIdeal.nD Cert.BwdRefIdeal.τ).loc Cert.BwdRefIdeal.main_arg3)
      = m ((c.tc : Thread Cert.BwdIdeal.nD Cert.BwdIdeal.τ).loc Cert.BwdIdeal.main_arg3))
    (hf : Cert.Pre_finite_backward.fn (F := Ideal)
      (m ((c.tc : Thread Cert.BwdIdeal.nD Cert.BwdIdeal.τ).loc Cert.BwdIdeal.main_arg0))
      (m ((c.tc : Thread Cert.BwdIdeal.nD Cert.BwdIdeal.τ).loc Cert.BwdIdeal.main_arg1))
      (m ((c.tc : Thread Cert.BwdIdeal.nD Cert.BwdIdeal.τ).loc Cert.BwdIdeal.main_arg2))
      (m ((c.tc : Thread Cert.BwdIdeal.nD Cert.BwdIdeal.τ).loc Cert.BwdIdeal.main_arg3)) = fun _ => 1#1) :
    (Cert.BwdRefIdeal.Value.out_main_v185 (F := Ideal)
        (Cert.BwdRefIdeal.Value.STEP^[132] (StableHlo.entryContents Cert.BwdRefIdeal.Value.preI m' c))
        : Vec Ideal Cert.BwdIdeal.S16896x2048 .bf16)
      = (Cert.BwdIdeal.Gen.dats (F := Ideal) m 0 c).arrAt 9 Cert.BwdIdeal.cfg0.N := by
  obtain ⟨fx, fy⟩ := finite_of_pre hf
  obtain ⟨pr, hp⟩ := exists_real2 _ fx
  obtain ⟨rr, hr⟩ := exists_real2 _ fy
  funext i
  obtain ⟨b, n, hb, hn, hrow⟩ := exists_tok (i 0).isLt
  have hcol : (i 1).val < 2048 := (i 1).isLt
  have hi : i = ix2 ⟨rowTok b n, rowTok_lt hb hn⟩ ⟨256 * ((i 1).val / 256) + (i 1).val % 256, by omega⟩ := by
    funext a
    apply Fin.ext
    match a with
    | ⟨0, _⟩ => exact hrow.symm
    | ⟨1, _⟩ => show (i 1).val = 256 * ((i 1).val / 256) + (i 1).val % 256; omega
  rw [hi]
  have hh : (i 1).val / 256 < 8 := by omega
  refine (Cert.BwdRefIdeal.Entry.result m' c pr (rr 1) (fun r k => ?_) (fun h => ?_) hb hn hh ⟨(i 1).val % 256, by omega⟩).trans
    (Eq.trans ?_ (Cert.BwdIdeal.Result.result m c pr (rr 1) hp (fun h => hr 1 h) hb hn hh ⟨(i 1).val % 256, by omega⟩).symm)
  · exact (congrFun h0 _).trans (hp r k)
  · exact (congrFun h1 _).trans (hr 1 h)
  · unfold Cert.BwdRefIdeal.Entry.fwd Cert.BwdRefIdeal.Entry.gains Cert.BwdRefIdeal.Entry.proj
    rw [h0, h2, h3]

/-- The value claim. -/
theorem algebraic : Cert.algebraic_BwdIdeal_BwdRefIdeal_pre_finite_backward := by
  intro m ρ m' ρ' hpre hagree
  refine ⟨fun c => (Cert.BwdIdeal.Gen.dats (F := Ideal) m 0 c).arrAt 9 Cert.BwdIdeal.cfg0.N,
    Cert.BwdIdeal.Value.run_blocks (F := Ideal) m ρ, ?_⟩
  refine (θ_run _ _ _).mono (fun _ h c => ⟨(h c).1.trans ?_, (h c).2⟩) (Cert.BwdRefIdeal.Value.run (F := Ideal) m' ρ')
  exact equal m m' c (hagree c).1 (hagree c).2.1 (hagree c).2.2.1 (hagree c).2.2.2 (hpre c)

end Cert.Proof.Backward

end
-- ==== Proof.AdaClaim.lean ====
module

public import proofs.«01_k».proof.Defs
public import proofs.«01_k».proof.Proof.Gen.Ada.Frame
public import proofs.«01_k».proof.Proof.Gen.AdaIdeal.Value
public import proofs.«01_k».proof.Proof.Gen.AdaRefIdeal.Run
public import proofs.«01_k».proof.Proof.MoeMath
public import proofs.«01_k».proof.Proof.Words
public import Idealize.ShloMosaic.Lib.Pointwise.Tactic
public import Idealize.ShloMosaic.Lib.Pointwise.Contract
public import Idealize.ShloMosaic.Lib.Pointwise.Reshape
public import Idealize.ShloMosaic.Lib.Pointwise.ShapeOps
public import Idealize.ShloMosaic.Lib.IdealHost
public import Idealize.ShloMosaic.Lib.MatmulPlain
public import Idealize.ShloMosaic.Lib.Pipeline.Value
public import Idealize.ShloMosaic.Adequacy
public import Idealize.ShloMosaic.Init

/-!
The table of shifts, scales and gates: for either layer, the logistic units of the condition vectors through that
layer's weights, with its bias; 48 blocks of columns for each layer, one at each grid point.
-/

@[expose] public section

set_option maxRecDepth 16384

noncomputable section

open Idealize.ShloMosaic Idealize.ShloMosaic.TcCoe Idealize.SL.Sem
open Cert.Proof.Experts (swish)

namespace Cert.Proof.Ada

open Cert.AdaIdeal Cert.AdaIdeal.Gen Cert.AdaIdeal.Value

instance : Cert.Ada.Facts := Cert.Ada.Gen.facts
instance : Cert.AdaRefIdeal.Facts := Cert.AdaRefIdeal.Gen.facts

/-- An entry of the table: layer `l`, condition row `r`, column `e`. -/
def entry (x : Vec Ideal S8x4096 .f32) (w : Vec Ideal S2x4096x24576 .f32) (b : Vec Ideal S2x24576 .f32)
    (l : Fin 2) (r : Fin 8) (e : Fin 24576) : EReal :=
  (∑ d : Fin 4096, swish (x (ix2 r d)) * (w (ix3 l d e) : EReal)) + (b (ix2 l e) : EReal)

/-- The table. -/
def table (x : Vec Ideal S8x4096 .f32) (w : Vec Ideal S2x4096x24576 .f32) (b : Vec Ideal S2x24576 .f32) :
    Vec Ideal S2x8x24576 .f32 :=
  fun i => entry x w b (i 0) (i 1) (i 2)

/-- The blocks a grid point reads and writes. -/
theorem idx0 : ∀ t : Fin grid0.N, win0_0.index t 0 = 0 ∧ win0_0.index t 1 = 0 := by decide +kernel
theorem idx1 : ∀ t : Fin grid0.N, win0_1.index t 0 = t.val / 48 ∧ win0_1.index t 1 = 0 ∧ win0_1.index t 2 = t.val % 48 := by
  decide +kernel
theorem idx2 : ∀ t : Fin grid0.N, win0_2.index t 0 = t.val / 48 ∧ win0_2.index t 1 = 0 ∧ win0_2.index t 2 = t.val % 48 := by
  decide +kernel
theorem idx3 : ∀ t : Fin grid0.N, win0_3.index t 0 = t.val / 48 ∧ win0_3.index t 1 = 0 ∧ win0_3.index t 2 = t.val % 48 := by
  decide +kernel

variable (m : (ℓ : Loc nD τ sig) → Buf (Elt Ideal) ℓ) (c : Dev nD)

/-- The arguments, as arrays. -/
abbrev conds : Vec Ideal S8x4096 .f32 := m ((c : Thread nD τ).loc main_arg0)
abbrev weights : Vec Ideal S2x4096x24576 .f32 := m ((c : Thread nD τ).loc main_arg1)
abbrev biases : Vec Ideal S2x24576 .f32 := m ((c : Thread nD τ).loc main_arg2)

theorem point_lt (t : Fin cfg0.N) : t.val < 96 := t.isLt.trans_eq N_0

/-- A point's layer, and one of its columns. -/
abbrev layer (t : Fin cfg0.N) : Fin 2 := ⟨t.val / 48, by have := point_lt t; omega⟩
abbrev column (t : Fin cfg0.N) (e : Fin 512) : Fin 24576 :=
  ⟨512 * (t.val % 48) + e.val, by have := e.isLt; omega⟩

/-- Every point reads all the condition vectors. -/
theorem blk0 (t : Fin cfg0.N) (r : Fin 8) (d : Fin 4096) :
    (iblk (F := Ideal) m c 0 t : Vec Ideal S8x4096 .f32) (ix2 r d) = conds m c (ix2 r d) := by
  unfold iblk
  rw [View.read_apply]
  show V (F := Ideal) m c main_arg0 _ = m (c.tc.loc main_arg0) _
  rw [V_main_arg0]
  congr 1
  funext a
  apply Fin.ext
  match a with
  | ⟨0, _⟩ => show win0_0.index t 0 * 8 + 1 * r.val = r.val; rw [(idx0 t).1]; omega
  | ⟨1, _⟩ => show win0_0.index t 1 * 4096 + 1 * d.val = d.val; rw [(idx0 t).2]; omega

/-- The weights a point reads. -/
theorem blk1 (t : Fin cfg0.N) (z : Fin 1) (d : Fin 4096) (e : Fin 512) :
    (iblk (F := Ideal) m c 1 t : Vec Ideal S1x4096x512 .f32) (ix3 z d e) = weights m c (ix3 (layer t) d (column t e)) := by
  have hz := z.isLt
  unfold iblk
  rw [View.read_apply]
  show V (F := Ideal) m c main_arg1 _ = m (c.tc.loc main_arg1) _
  rw [V_main_arg1]
  congr 1
  funext a
  apply Fin.ext
  match a with
  | ⟨0, _⟩ => show win0_1.index t 0 * 1 + 1 * z.val = t.val / 48; rw [(idx1 t).1]; omega
  | ⟨1, _⟩ => show win0_1.index t 1 * 4096 + 1 * d.val = d.val; rw [(idx1 t).2.1]; omega
  | ⟨2, _⟩ => show win0_1.index t 2 * 512 + 1 * e.val = 512 * (t.val % 48) + e.val; rw [(idx1 t).2.2]; omega

/-- The biases as the host lays them: a row for each layer. -/
theorem V_v0 : (V (F := Ideal) m c main_v0 : Vec Ideal S2x1x24576 .f32)
    = shapeCast S2x1x24576 (biases m c) shapeCasts_S2x24576_S2x1x24576 := by
  unfold V
  simp only [hostOps0]
  after_results
  rfl

/-- The biases a point reads. -/
theorem blk2 (t : Fin cfg0.N) (z y : Fin 1) (e : Fin 512) :
    (iblk (F := Ideal) m c 2 t : Vec Ideal S1x1x512 .f32) (ix3 z y e) = biases m c (ix2 (layer t) (column t e)) := by
  have hz := z.isLt
  have hy := y.isLt
  have hi : ((cfg0.win 2).blk t).view.emb (ix3 z y e : S1x1x512.Idx)
      = (ix3 (layer t) (0 : Fin 1) (column t e) : S2x1x24576.Idx) := by
    funext a
    apply Fin.ext
    match a with
    | ⟨0, _⟩ => show win0_2.index t 0 * 1 + 1 * z.val = t.val / 48; rw [(idx2 t).1]; omega
    | ⟨1, _⟩ => show win0_2.index t 1 * 1 + 1 * y.val = 0; rw [(idx2 t).2.1]; omega
    | ⟨2, _⟩ => show win0_2.index t 2 * 512 + 1 * e.val = 512 * (t.val % 48) + e.val; rw [(idx2 t).2.2]; omega
  unfold iblk
  rw [View.read_apply]
  refine (congrArg (V (F := Ideal) m c main_v0 : Vec Ideal S2x1x24576 .f32) hi).trans ?_
  rw [V_v0]
  pointwise

/-- A point's block of the table, at an index. -/
theorem pay (x : Vec Ideal S8x4096 .f32) (w : Vec Ideal S1x4096x512 .f32) (b : Vec Ideal S1x1x512 .f32)
    (z : Fin 1) (r : Fin 8) (e : Fin 512) :
    k0_pay1 (F := Ideal) x w b (ix3 z r e)
      = (∑ d : Fin 4096, swish (x (ix2 r d)) * (w (ix3 0 d e) : EReal)) + (b (ix3 0 0 e) : EReal) := by
  obtain rfl : z = 0 := Subsingleton.elim _ _
  unfold k0_pay1
  pointwise
  simp only [swish, Ret.f0, Ret.f1, zero_sub, EReal.coe_one]

theorem hz2 : ![0, 0] = (fun _ : Fin 2 => 0) := by funext a; fin_cases a <;> rfl
theorem hz3 : ![0, 0, 0] = (fun _ : Fin 3 => 0) := by funext a; fin_cases a <;> rfl

/-- What a point writes back is its block of the table. -/
theorem flushed (t : Fin cfg0.N) :
    (dats (F := Ideal) m 0 c).flushed 3 t = ((cfg0.win 3).blk t).view.read (Elt Ideal)
      (table (conds m c) (weights m c) (biases m c)) := by
  rw [flushed3]
  funext y
  rw [View.read_apply]
  obtain ⟨z, r, e, rfl⟩ : ∃ (z : Fin 1) (r : Fin 8) (e : Fin 512), y = (ix3 z r e : S1x8x512.Idx) :=
    ⟨y 0, y 1, y 2, by funext a; match a with | ⟨0, _⟩ => rfl | ⟨1, _⟩ => rfl | ⟨2, _⟩ => rfl⟩
  have hz := z.isLt
  have h : out0_3 (F := Ideal) (iblk m c 0 t) (iblk m c 1 t) (iblk m c 2 t) (ix3 z r e)
      = entry (conds m c) (weights m c) (biases m c) (layer t) r (column t e) := by
    unfold out0_3
    rw [View.canon_unit_zero (S := S1x8x512) hz3, View.ld_unit_zero (S := S8x4096) hz2,
      View.ld_unit_zero (S := S1x4096x512) hz3, View.ld_unit_zero (S := S1x1x512) hz3, pay]
    unfold entry
    rw [blk2]
    congr 1
    exact Finset.sum_congr rfl fun d _ => by rw [blk0, blk1]
  have hi : ((cfg0.win 3).blk t).view.emb (ix3 z r e : S1x8x512.Idx) = (ix3 (layer t) r (column t e) : S2x8x24576.Idx) := by
    funext a
    apply Fin.ext
    match a with
    | ⟨0, _⟩ => show win0_3.index t 0 * 1 + 1 * z.val = t.val / 48; rw [(idx3 t).1]; omega
    | ⟨1, _⟩ => show win0_3.index t 1 * 8 + 1 * r.val = r.val; rw [(idx3 t).2.1]; omega
    | ⟨2, _⟩ => show win0_3.index t 2 * 512 + 1 * e.val = 512 * (t.val % 48) + e.val; rw [(idx3 t).2.2]; omega
  exact h.trans (congrArg (table (conds m c) (weights m c) (biases m c)) hi).symm

/-- Every index of the table is in some point's block. -/
theorem cover (i : S2x8x24576.Idx) : ∃ t : Fin cfg0.N, (cfg0.win 3).flush t = true ∧ i ∈ ((cfg0.win 3).blk t).view.set := by
  have h0 : (i 0).val < 2 := (i 0).isLt
  have h2 : (i 2).val < 24576 := (i 2).isLt
  have hN : cfg0.N = 96 := N_0
  let t : Fin cfg0.N := ⟨48 * (i 0).val + (i 2).val / 512, by omega⟩
  refine ⟨t, flush0_3 t, ?_⟩
  have hi : i = ((cfg0.win 3).blk t).view.emb (ix3 0 (i 1) ⟨(i 2).val % 512, by omega⟩ : S1x8x512.Idx) := by
    have ht : t.val = 48 * (i 0).val + (i 2).val / 512 := rfl
    funext a
    apply Fin.ext
    match a with
    | ⟨0, _⟩ => show (i 0).val = win0_3.index t 0 * 1 + 1 * 0; rw [(idx3 t).1]; omega
    | ⟨1, _⟩ => show (i 1).val = win0_3.index t 1 * 8 + 1 * (i 1).val; rw [(idx3 t).2.1]; omega
    | ⟨2, _⟩ => show (i 2).val = win0_3.index t 2 * 512 + 1 * ((i 2).val % 512); rw [(idx3 t).2.2]; omega
  rw [hi]
  exact View.emb_mem_set _ _

/-- The kernel ends with the table. -/
theorem final : (dats (F := Ideal) m 0 c).arrAt 3 cfg0.N = table (conds m c) (weights m c) (biases m c) :=
  (dats (F := Ideal) m 0 c).arrAt_eq_of_cover 3 _ (fun t _ => flushed m c t) cover

section Reference
open Cert.AdaRefIdeal Cert.AdaRefIdeal.Gen

variable (x : FVec Ideal Cert.AdaRefIdeal.S8x4096 .f32) (w : FVec Ideal Cert.AdaRefIdeal.S2x4096x24576 .f32)
  (b : FVec Ideal Cert.AdaRefIdeal.S2x24576 .f32)

/-- One layer of the reference's table, from that layer's weights and bias. -/
def half (W : FVec Ideal Cert.AdaRefIdeal.S1x4096x24576 .f32) (B : FVec Ideal Cert.AdaRefIdeal.S1x24576 .f32) :
    FVec Ideal Cert.AdaRefIdeal.S1x8x24576 .f32 :=
  broadcastInDim Cert.AdaRefIdeal.S1x8x24576 ![1, 2] bcast_S8x24576_S1x8x24576_1_2 (addf (Host.dotGeneral
    dot_S8x4096_S4096x24576_S8x24576_1_0_0_1_n_n none (mulf x (Host.divf (broadcastInDim Cert.AdaRefIdeal.S8x4096 ![] bcast_S_S8x4096
      (constant Cert.AdaRefIdeal.S_ .f32 0x3F800000#32)) (addf (broadcastInDim Cert.AdaRefIdeal.S8x4096 ![] bcast_S_S8x4096
      (constant Cert.AdaRefIdeal.S_ .f32 0x3F800000#32)) (Host.exp (Host.negf x)))))
    (shapeCast Cert.AdaRefIdeal.S4096x24576 W shapeCasts_S1x4096x24576_S4096x24576))
    (broadcastInDim Cert.AdaRefIdeal.S8x24576 ![0, 1] bcast_S1x24576_S8x24576_0_1 (broadcastInDim Cert.AdaRefIdeal.S1x24576 ![1]
      bcast_S24576_S1x24576_1 (shapeCast Cert.AdaRefIdeal.S24576 B shapeCasts_S1x24576_S24576))))

/-- That layer, index by index. -/
theorem half_at (W : FVec Ideal Cert.AdaRefIdeal.S1x4096x24576 .f32) (B : FVec Ideal Cert.AdaRefIdeal.S1x24576 .f32)
    (r : Fin 8) (e : Fin 24576) :
    half x W B (ix3 0 r e) = (∑ d : Fin 4096, swish (x (ix2 r d)) * (W (ix3 0 d e) : EReal)) + (B (ix2 0 e) : EReal) := by
  unfold half
  pointwise
  simp only [swish, Ret.f1, EReal.coe_one]

/-- The reference's table: the two layers, one after the other. -/
theorem ref_table :
    concatenate Cert.AdaRefIdeal.S2x8x24576 0
      [⟨Cert.AdaRefIdeal.S1x8x24576, half x
          (extractStridedSlice Cert.AdaRefIdeal.S1x4096x24576 ![0, 0, 0] w slices_S2x4096x24576_S1x4096x24576_0_0_0)
          (extractStridedSlice Cert.AdaRefIdeal.S1x24576 ![0, 0] b slices_S2x24576_S1x24576_0_0)⟩,
       ⟨Cert.AdaRefIdeal.S1x8x24576, half x
          (extractStridedSlice Cert.AdaRefIdeal.S1x4096x24576 ![1, 0, 0] w slices_S2x4096x24576_S1x4096x24576_1_0_0)
          (extractStridedSlice Cert.AdaRefIdeal.S1x24576 ![1, 0] b slices_S2x24576_S1x24576_1_0)⟩]
      concatenates_S1x8x24576_S1x8x24576_S2x8x24576_d0 = table x w b := by
  funext i
  obtain ⟨l, r, e, rfl⟩ : ∃ (l : Fin 2) (r : Fin 8) (e : Fin 24576), i = (ix3 l r e : Cert.AdaRefIdeal.S2x8x24576.Idx) :=
    ⟨i 0, i 1, i 2, by funext a; match a with | ⟨0, _⟩ => rfl | ⟨1, _⟩ => rfl | ⟨2, _⟩ => rfl⟩
  show _ = entry x w b l r e
  match l with
  | ⟨0, h⟩ =>
    rw [concatenate_pair_apply_left (t := Cert.AdaRefIdeal.S2x8x24576) (s₁ := Cert.AdaRefIdeal.S1x8x24576) (s₂ := Cert.AdaRefIdeal.S1x8x24576) 0 _ _ _ _ rfl
      (ix3 0 r e) (fun a => by fin_cases a <;> rfl), half_at]
    unfold entry
    pointwise
  | ⟨1, h⟩ =>
    rw [concatenate_pair_apply_right (t := Cert.AdaRefIdeal.S2x8x24576) (s₁ := Cert.AdaRefIdeal.S1x8x24576) (s₂ := Cert.AdaRefIdeal.S1x8x24576) 0 _ _ _ _ rfl rfl
      (ix3 0 r e) (fun a ha => by
        fin_cases a
        · exact absurd rfl ha
        · rfl
        · rfl) rfl, half_at]
    unfold entry
    pointwise

end Reference

/-- The frames of the kernel, of the ideal kernel and of the reference. -/
theorem frame_kernel : Cert.quiescent_Ada := fun m ρ _ => Cert.Ada.Gen.frame (F := Bits) m ρ
theorem frame_ideal : Cert.quiescent_AdaIdeal := fun m ρ _ => Cert.AdaIdeal.Gen.frame (F := Ideal) m ρ
theorem frame_ref : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- The value claim: kernel and reference end with the same table. -/
theorem algebraic : Cert.algebraic_AdaIdeal_AdaRefIdeal := by
  intro m ρ m' ρ' _ hagree
  refine ⟨fun c => table (conds m c) (weights m c) (biases m c), ?_, ?_⟩
  · exact (θ_run _ _ _).mono (fun _ h c => ⟨(h c).1.trans (final m c), (h c).2⟩) (run_blocks (F := Ideal) m ρ)
  · refine (θ_run _ _ _).mono (fun _ h c => ⟨(h c).1.trans ?_, (h c).2⟩) (Cert.AdaRefIdeal.Value.run (F := Ideal) m' ρ')
    rw [(hagree c).1, (hagree c).2.1, (hagree c).2.2]
    exact ref_table _ _ _

end Cert.Proof.Ada

end
-- ==== Proof.ModulateClaim.lean ====
module

public import proofs.«01_k».proof.Defs
public import proofs.«01_k».proof.Proof.Gen.Mod.Frame
public import proofs.«01_k».proof.Proof.Gen.ModIdeal.Value
public import proofs.«01_k».proof.Proof.Gen.ModRefIdeal.Run
public import proofs.«01_k».proof.Proof.Words
public import Idealize.ShloMosaic.Lib.Pointwise.Tactic
public import Idealize.ShloMosaic.Lib.Pointwise.Contract
public import Idealize.ShloMosaic.Lib.Pointwise.Reshape
public import Idealize.ShloMosaic.Lib.Pointwise.ShapeOps
public import Idealize.ShloMosaic.Lib.IdealHost
public import Idealize.ShloMosaic.Lib.MatmulPlain
public import Idealize.ShloMosaic.Lib.Pipeline.Value
public import Idealize.ShloMosaic.Adequacy
public import Idealize.ShloMosaic.Init

/-!
The modulated rows: every row of the context and of the latents times one plus its condition row's scale, plus its
condition row's shift; 512 rows at each grid point, the context's at the first.
-/

@[expose] public section

set_option maxRecDepth 16384

noncomputable section

open Idealize.ShloMosaic Idealize.ShloMosaic.TcCoe Idealize.SL.Sem

namespace Cert.Proof.Modulate

open Cert.ModIdeal Cert.ModIdeal.Gen Cert.ModIdeal.Value

instance : Cert.Mod.Facts := Cert.Mod.Gen.facts
instance : Cert.ModRefIdeal.Facts := Cert.ModRefIdeal.Gen.facts

/-- Column `k * 4096 + d` of a condition row of layer 0 of the table: shift, scale and gate of the mixer for `k = 0, 1, 2`,
of the experts for `k = 3, 4, 5`. -/
def tab (T : Vec Ideal S2x8x24576 .f32) (s : Fin 8) (k : Fin 6) (d : Fin 4096) : EReal :=
  T (ix3 0 s ⟨4096 * k.val + d.val, by omega⟩)

/-- An entry scaled and shifted by a condition row. -/
def turn (T : Vec Ideal S2x8x24576 .f32) (s : Fin 8) (d : Fin 4096) (a : EReal) : EReal := a * (1 + tab T s 1 d) + tab T s 0 d

/-- The condition row of a row: 2 for the context, the example for the latents. -/
def seg (r : Fin 16896) : Fin 8 := if r.val < 512 then 2 else ⟨(r.val - 512) / 8192, by have := r.isLt; omega⟩

/-- A row of the context and the latents, laid one after the other. -/
def laid (k : Vec Ideal S2x256x4096 .f32) (x : Vec Ideal S2x8192x4096 .f32) (r : Fin 16896) (d : Fin 4096) : EReal :=
  if h : r.val < 512 then k (ix3 ⟨r.val / 256, by omega⟩ ⟨r.val % 256, by omega⟩ d)
  else x (ix3 ⟨(r.val - 512) / 8192, by have := r.isLt; omega⟩ ⟨(r.val - 512) % 8192, by omega⟩ d)

/-- The modulated rows. -/
def rows (k : Vec Ideal S2x256x4096 .f32) (x : Vec Ideal S2x8192x4096 .f32) (T : Vec Ideal S2x8x24576 .f32) :
    Vec Ideal S16896x4096 .bf16 :=
  fun i => turn T (seg (i 0)) (i 1) (laid k x (i 0) (i 1))

/-- A tile's condition row. -/
def tileSeg (t : ℕ) : ℕ := if t = 0 then 2 else (t - 1) / 16

/-- The blocks a grid point reads and writes. -/
theorem idx0 : ∀ t : Fin grid0.N, win0_0.index t 0 = 0 ∧ win0_0.index t 1 = 0 := by decide +kernel
theorem idx1 : ∀ t : Fin grid0.N, win0_1.index t 0 = t.val - 1 ∧ win0_1.index t 1 = 0 := by decide +kernel
theorem idx2 : ∀ t : Fin grid0.N, win0_2.index t 0 = 6 * tileSeg t.val + 1 ∧ win0_2.index t 1 = 0 ∧ win0_2.index t 2 = 0 := by
  decide +kernel
theorem idx3 : ∀ t : Fin grid0.N, win0_3.index t 0 = 6 * tileSeg t.val ∧ win0_3.index t 1 = 0 ∧ win0_3.index t 2 = 0 := by
  decide +kernel
theorem idx4 : ∀ t : Fin grid0.N, win0_4.index t 0 = t.val ∧ win0_4.index t 1 = 0 := by decide +kernel

/-- The first point, and no other, takes the context's rows. -/
theorem first : ∀ t : Fin grid0.N, Scalar.cmpi .slt (BitVec.ofNat 32 (grid0.coords t 0).val) 1#32 = if t.val = 0 then 1#1 else 0#1 := by
  decide +kernel

variable (m : (ℓ : Loc nD τ sig) → Buf (Elt Ideal) ℓ) (c : Dev nD)

/-- The arguments, as arrays. -/
abbrev context : Vec Ideal S2x256x4096 .f32 := m ((c : Thread nD τ).loc main_arg0)
abbrev latents : Vec Ideal S2x8192x4096 .f32 := m ((c : Thread nD τ).loc main_arg1)
abbrev conds : Vec Ideal S2x8x24576 .f32 := m ((c : Thread nD τ).loc main_arg2)

theorem point_lt (t : Fin cfg0.N) : t.val < 33 := t.isLt.trans_eq N_0

theorem tileSeg_lt (t : Fin cfg0.N) : tileSeg t.val < 8 := by
  have := point_lt t
  unfold tileSeg
  split <;> omega

/-- The arguments as the host lays them. -/
theorem V_v0 : (V (F := Ideal) m c main_v0 : Vec Ideal S96x1x4096 .f32)
    = shapeCast S96x1x4096 (conds m c) shapeCasts_S2x8x24576_S96x1x4096 := by
  unfold V
  simp only [hostOps0]
  after_results
  rfl
theorem V_v1 : (V (F := Ideal) m c main_v1 : Vec Ideal S512x4096 .f32)
    = shapeCast S512x4096 (context m c) shapeCasts_S2x256x4096_S512x4096 := by
  unfold V
  simp only [hostOps0]
  after_results
  rfl
theorem V_v2 : (V (F := Ideal) m c main_v2 : Vec Ideal S16384x4096 .f32)
    = shapeCast S16384x4096 (latents m c) shapeCasts_S2x8192x4096_S16384x4096 := by
  unfold V
  simp only [hostOps0]
  after_results
  rfl

/-- The table laid in rows of 4096: six to a condition row. -/
theorem tab_row (T : Vec Ideal S2x8x24576 .f32) (s : Fin 8) (k : Fin 6) (d : Fin 4096) (j : Fin 96) (hj : j.val = 6 * s.val + k.val) :
    shapeCast S96x1x4096 T shapeCasts_S2x8x24576_S96x1x4096 (ix3 j 0 d) = tab T s k d := by
  have hs := s.isLt
  have hk := k.isLt
  have hd := d.isLt
  pointwise
  unfold tab
  congr 1
  funext a
  apply Fin.ext
  match a with
  | ⟨0, _⟩ => show j.val / 48 = 0; omega
  | ⟨1, _⟩ => show j.val / 6 % 8 = s.val; omega
  | ⟨2, _⟩ => show j.val % 6 * 4096 + d.val = 4096 * k.val + d.val; omega

/-- The context's rows, one example after the other. -/
theorem context_row (k : Vec Ideal S2x256x4096 .f32) (r : Fin 512) (d : Fin 4096) :
    shapeCast S512x4096 k shapeCasts_S2x256x4096_S512x4096 (ix2 r d)
      = k (ix3 ⟨r.val / 256, by have := r.isLt; omega⟩ ⟨r.val % 256, by omega⟩ d) := by
  pointwise

/-- The latents' rows, one example after the other. -/
theorem latent_row (x : Vec Ideal S2x8192x4096 .f32) (r : Fin 16384) (d : Fin 4096) :
    shapeCast S16384x4096 x shapeCasts_S2x8192x4096_S16384x4096 (ix2 r d)
      = x (ix3 ⟨r.val / 8192, by have := r.isLt; omega⟩ ⟨r.val % 8192, by omega⟩ d) := by
  pointwise

/-- A row of the result that a point writes. -/
abbrev row (t : Fin cfg0.N) (r : Fin 512) : Fin 16896 :=
  ⟨512 * t.val + r.val, by have := r.isLt; have := point_lt t; omega⟩

/-- That row's condition row. -/
theorem seg_row (t : Fin cfg0.N) (r : Fin 512) : seg (row t r) = ⟨tileSeg t.val, tileSeg_lt t⟩ := by
  have hr := r.isLt
  apply Fin.ext
  unfold seg tileSeg
  by_cases ht : t.val = 0
  · rw [if_pos (show 512 * t.val + r.val < 512 by omega)]
    show 2 = if t.val = 0 then 2 else _
    rw [if_pos ht]
  · rw [if_neg (show ¬ 512 * t.val + r.val < 512 by omega)]
    show (512 * t.val + r.val - 512) / 8192 = if t.val = 0 then 2 else _
    rw [if_neg ht]
    omega

/-- The context rows every point is handed. -/
theorem blk0 (t : Fin cfg0.N) (r : Fin 512) (d : Fin 4096) (ht : t.val = 0) :
    (iblk (F := Ideal) m c 0 t : Vec Ideal S512x4096 .f32) (ix2 r d) = laid (context m c) (latents m c) (row t r) d := by
  have hr := r.isLt
  have hi : ((cfg0.win 0).blk t).view.emb (ix2 r d : S512x4096.Idx) = (ix2 r d : S512x4096.Idx) := by
    funext a
    apply Fin.ext
    match a with
    | ⟨0, _⟩ => show win0_0.index t 0 * 512 + 1 * r.val = r.val; rw [(idx0 t).1]; omega
    | ⟨1, _⟩ => show win0_0.index t 1 * 4096 + 1 * d.val = d.val; rw [(idx0 t).2]; omega
  unfold iblk
  rw [View.read_apply]
  refine (congrArg (V (F := Ideal) m c main_v1 : Vec Ideal S512x4096 .f32) hi).trans ?_
  rw [V_v1, context_row]
  unfold laid
  rw [dif_pos (show 512 * t.val + r.val < 512 by omega)]
  congr 1
  funext a
  apply Fin.ext
  match a with
  | ⟨0, _⟩ => show r.val / 256 = (512 * t.val + r.val) / 256; omega
  | ⟨1, _⟩ => show r.val % 256 = (512 * t.val + r.val) % 256; omega
  | ⟨2, _⟩ => rfl

/-- The latent rows a point after the first is handed. -/
theorem blk1 (t : Fin cfg0.N) (r : Fin 512) (d : Fin 4096) (ht : t.val ≠ 0) :
    (iblk (F := Ideal) m c 1 t : Vec Ideal S512x4096 .f32) (ix2 r d) = laid (context m c) (latents m c) (row t r) d := by
  have hr := r.isLt
  have hN := point_lt t
  have hi : ((cfg0.win 1).blk t).view.emb (ix2 r d : S512x4096.Idx)
      = (ix2 ⟨512 * t.val + r.val - 512, by omega⟩ d : S16384x4096.Idx) := by
    funext a
    apply Fin.ext
    match a with
    | ⟨0, _⟩ => show win0_1.index t 0 * 512 + 1 * r.val = 512 * t.val + r.val - 512; rw [(idx1 t).1]; omega
    | ⟨1, _⟩ => show win0_1.index t 1 * 4096 + 1 * d.val = d.val; rw [(idx1 t).2]; omega
  unfold iblk
  rw [View.read_apply]
  refine (congrArg (V (F := Ideal) m c main_v2 : Vec Ideal S16384x4096 .f32) hi).trans ?_
  rw [V_v2, latent_row]
  unfold laid
  rw [dif_neg (show ¬ 512 * t.val + r.val < 512 by omega)]

/-- The scales a point is handed. -/
theorem blk2 (t : Fin cfg0.N) (d : Fin 4096) :
    (iblk (F := Ideal) m c 2 t : Vec Ideal S1x1x4096 .f32) (ix3 0 0 d) = tab (conds m c) ⟨tileSeg t.val, tileSeg_lt t⟩ 1 d := by
  have hs := tileSeg_lt t
  have hi : ((cfg0.win 2).blk t).view.emb (ix3 0 0 d : S1x1x4096.Idx)
      = (ix3 ⟨6 * tileSeg t.val + 1, by omega⟩ (0 : Fin 1) d : S96x1x4096.Idx) := by
    funext a
    apply Fin.ext
    match a with
    | ⟨0, _⟩ => show win0_2.index t 0 * 1 + 1 * 0 = 6 * tileSeg t.val + 1; rw [(idx2 t).1]; omega
    | ⟨1, _⟩ => show win0_2.index t 1 * 1 + 1 * 0 = 0; rw [(idx2 t).2.1]
    | ⟨2, _⟩ => show win0_2.index t 2 * 4096 + 1 * d.val = d.val; rw [(idx2 t).2.2]; omega
  unfold iblk
  rw [View.read_apply]
  refine (congrArg (V (F := Ideal) m c main_v0 : Vec Ideal S96x1x4096 .f32) hi).trans ?_
  rw [V_v0]
  exact tab_row _ _ 1 d _ rfl

/-- The shifts a point is handed. -/
theorem blk3 (t : Fin cfg0.N) (d : Fin 4096) :
    (iblk (F := Ideal) m c 3 t : Vec Ideal S1x1x4096 .f32) (ix3 0 0 d) = tab (conds m c) ⟨tileSeg t.val, tileSeg_lt t⟩ 0 d := by
  have hs := tileSeg_lt t
  have hi : ((cfg0.win 3).blk t).view.emb (ix3 0 0 d : S1x1x4096.Idx)
      = (ix3 ⟨6 * tileSeg t.val, by omega⟩ (0 : Fin 1) d : S96x1x4096.Idx) := by
    funext a
    apply Fin.ext
    match a with
    | ⟨0, _⟩ => show win0_3.index t 0 * 1 + 1 * 0 = 6 * tileSeg t.val; rw [(idx3 t).1]; omega
    | ⟨1, _⟩ => show win0_3.index t 1 * 1 + 1 * 0 = 0; rw [(idx3 t).2.1]
    | ⟨2, _⟩ => show win0_3.index t 2 * 4096 + 1 * d.val = d.val; rw [(idx3 t).2.2]; omega
  unfold iblk
  rw [View.read_apply]
  refine (congrArg (V (F := Ideal) m c main_v0 : Vec Ideal S96x1x4096 .f32) hi).trans ?_
  rw [V_v0]
  exact tab_row _ _ 0 d _ rfl

/-- A point's block at an index: the first argument's rows or the second's, scaled and shifted. -/
theorem pay (i : grid0.Coords) (k x : Vec Ideal S512x4096 .f32) (sc sh : Vec Ideal S1x1x4096 .f32) (r : Fin 512) (d : Fin 4096) :
    k0_pay1 (F := Ideal) i k x sc sh (ix2 r d)
      = (Scalar.select (Scalar.cmpi .slt (BitVec.ofNat 32 (i 0).val) 1#32) k x (ix2 r d) : EReal)
        * (1 + (sc (ix3 0 0 d) : EReal)) + (sh (ix3 0 0 d) : EReal) := by
  unfold k0_pay1
  have hk : ∀ v : Vec Ideal S512x4096 .f32, shapeCast S512x4096 v shapeCasts_S512x4096_S512x4096 = v := fun v => by
    funext y
    obtain ⟨a, b, rfl⟩ : ∃ (a : Fin 512) (b : Fin 4096), y = (ix2 a b : S512x4096.Idx) :=
      ⟨y 0, y 1, by funext a; match a with | ⟨0, _⟩ => rfl | ⟨1, _⟩ => rfl⟩
    pointwise
  simp only [hk]
  generalize Scalar.select (Scalar.cmpi .slt (BitVec.ofNat 32 (i 0).val) 1#32) k x = u
  pointwise

theorem hz2 : ![0, 0] = (fun _ : Fin 2 => 0) := by funext a; fin_cases a <;> rfl
theorem hz3 : ![0, 0, 0] = (fun _ : Fin 3 => 0) := by funext a; fin_cases a <;> rfl

/-- What a point writes back is its block of the modulated rows. -/
theorem flushed (t : Fin cfg0.N) :
    (dats (F := Ideal) m 0 c).flushed 4 t = ((cfg0.win 4).blk t).view.read (Elt Ideal)
      (rows (context m c) (latents m c) (conds m c)) := by
  rw [flushed4]
  funext y
  rw [View.read_apply]
  obtain ⟨r, d, rfl⟩ : ∃ (r : Fin 512) (d : Fin 4096), y = (ix2 r d : S512x4096.Idx) :=
    ⟨y 0, y 1, by funext a; match a with | ⟨0, _⟩ => rfl | ⟨1, _⟩ => rfl⟩
  have h : out0_4 (F := Ideal) (grid0.coords t) (iblk m c 0 t) (iblk m c 1 t) (iblk m c 2 t) (iblk m c 3 t) (ix2 r d)
      = turn (conds m c) (seg (row t r)) d (laid (context m c) (latents m c) (row t r) d) := by
    unfold out0_4
    rw [View.canon_unit_zero (S := S512x4096) hz2, View.ld_unit_zero (S := S512x4096) hz2, View.ld_unit_zero (S := S512x4096) hz2,
      View.ld_unit_zero (S := S1x1x4096) hz3, View.ld_unit_zero (S := S1x1x4096) hz3, pay, blk2, blk3, first, seg_row]
    unfold turn
    by_cases ht : t.val = 0
    · rw [if_pos ht, ValueIdx.select_one, blk0 m c t r d ht]
    · rw [if_neg ht, ValueIdx.select_zero, blk1 m c t r d ht]
  have hi : ((cfg0.win 4).blk t).view.emb (ix2 r d : S512x4096.Idx) = (ix2 (row t r) d : S16896x4096.Idx) := by
    funext a
    apply Fin.ext
    match a with
    | ⟨0, _⟩ => show win0_4.index t 0 * 512 + 1 * r.val = 512 * t.val + r.val; rw [(idx4 t).1]; omega
    | ⟨1, _⟩ => show win0_4.index t 1 * 4096 + 1 * d.val = d.val; rw [(idx4 t).2]; omega
  exact h.trans (congrArg (rows (context m c) (latents m c) (conds m c)) hi).symm

/-- Every index of the result is in some point's block. -/
theorem cover (i : S16896x4096.Idx) : ∃ t : Fin cfg0.N, (cfg0.win 4).flush t = true ∧ i ∈ ((cfg0.win 4).blk t).view.set := by
  have h0 : (i 0).val < 16896 := (i 0).isLt
  have hN : cfg0.N = 33 := N_0
  let t : Fin cfg0.N := ⟨(i 0).val / 512, by omega⟩
  refine ⟨t, flush0_4 t, ?_⟩
  have hi : i = ((cfg0.win 4).blk t).view.emb (ix2 ⟨(i 0).val % 512, by omega⟩ (i 1) : S512x4096.Idx) := by
    have ht : t.val = (i 0).val / 512 := rfl
    funext a
    apply Fin.ext
    match a with
    | ⟨0, _⟩ => show (i 0).val = win0_4.index t 0 * 512 + 1 * ((i 0).val % 512); rw [(idx4 t).1]; omega
    | ⟨1, _⟩ => show (i 1).val = win0_4.index t 1 * 4096 + 1 * (i 1).val; rw [(idx4 t).2]; omega
  rw [hi]
  exact View.emb_mem_set _ _

/-- The kernel ends with the modulated rows. -/
theorem final : (dats (F := Ideal) m 0 c).arrAt 4 cfg0.N = rows (context m c) (latents m c) (conds m c) :=
  (dats (F := Ideal) m 0 c).arrAt_eq_of_cover 4 _ (fun t _ => flushed m c t) cover

section Reference
open Cert.ModRefIdeal Cert.ModRefIdeal.Gen

variable (k : FVec Ideal Cert.ModRefIdeal.S2x256x4096 .f32) (x : FVec Ideal Cert.ModRefIdeal.S2x8192x4096 .f32)
  (T : FVec Ideal Cert.ModRefIdeal.S2x8x24576 .f32)

/-- The reference's condition row of the context. -/
def refCtxRow : FVec Ideal Cert.ModRefIdeal.S24576 .f32 :=
  shapeCast Cert.ModRefIdeal.S24576 (extractStridedSlice Cert.ModRefIdeal.S1x1x24576 ![0, 2, 0] T slices_S2x8x24576_S1x1x24576_0_2_0)
    shapeCasts_S1x1x24576_S24576

/-- The reference's modulated context. -/
def refCtx : FVec Ideal Cert.ModRefIdeal.S2x256x4096 .f32 :=
  addf (mulf k (broadcastInDim Cert.ModRefIdeal.S2x256x4096 ![0, 1, 2] bcast_S1x1x4096_S2x256x4096_0_1_2
      (broadcastInDim Cert.ModRefIdeal.S1x1x4096 ![2] bcast_S4096_S1x1x4096_2
        (addf (broadcastInDim Cert.ModRefIdeal.S4096 ![] bcast_S_S4096 (constant Cert.ModRefIdeal.S_ .f32 0x3F800000#32))
          (extractStridedSlice Cert.ModRefIdeal.S4096 ![4096] (refCtxRow T) slices_S24576_S4096_4096)))))
    (broadcastInDim Cert.ModRefIdeal.S2x256x4096 ![0, 1, 2] bcast_S1x1x4096_S2x256x4096_0_1_2
      (broadcastInDim Cert.ModRefIdeal.S1x1x4096 ![2] bcast_S4096_S1x1x4096_2
        (extractStridedSlice Cert.ModRefIdeal.S4096 ![0] (refCtxRow T) slices_S24576_S4096_0)))

/-- The reference's condition rows of the latents. -/
def refLatRow : FVec Ideal Cert.ModRefIdeal.S2x1x24576 .f32 :=
  broadcastInDim Cert.ModRefIdeal.S2x1x24576 ![0, 2] bcast_S2x24576_S2x1x24576_0_2 (shapeCast Cert.ModRefIdeal.S2x24576
    (extractStridedSlice Cert.ModRefIdeal.S1x2x24576 ![0, 0, 0] T slices_S2x8x24576_S1x2x24576_0_0_0) shapeCasts_S1x2x24576_S2x24576)

/-- The reference's modulated latents. -/
def refLat : FVec Ideal Cert.ModRefIdeal.S2x8192x4096 .f32 :=
  addf (mulf x (broadcastInDim Cert.ModRefIdeal.S2x8192x4096 ![0, 1, 2] bcast_S2x1x4096_S2x8192x4096_0_1_2
      (addf (broadcastInDim Cert.ModRefIdeal.S2x1x4096 ![] bcast_S_S2x1x4096 (constant Cert.ModRefIdeal.S_ .f32 0x3F800000#32))
        (extractStridedSlice Cert.ModRefIdeal.S2x1x4096 ![0, 0, 4096] (refLatRow T) slices_S2x1x24576_S2x1x4096_0_0_4096))))
    (broadcastInDim Cert.ModRefIdeal.S2x8192x4096 ![0, 1, 2] bcast_S2x1x4096_S2x8192x4096_0_1_2
      (extractStridedSlice Cert.ModRefIdeal.S2x1x4096 ![0, 0, 0] (refLatRow T) slices_S2x1x24576_S2x1x4096_0_0_0))

/-- The context's condition row, at a column. -/
theorem refCtxRow_at (e : Fin 24576) : refCtxRow T (ix1 e) = T (ix3 0 2 e) := by
  unfold refCtxRow
  pointwise

/-- A latent's condition row, at a column. -/
theorem refLatRow_at (b : Fin 2) (e : Fin 24576) : refLatRow T (ix3 b 0 e) = T (ix3 0 ⟨b.val, by omega⟩ e) := by
  unfold refLatRow
  pointwise

/-- The modulated context, index by index. -/
theorem refCtx_at (b : Fin 2) (n : Fin 256) (d : Fin 4096) : refCtx k T (ix3 b n d) = turn T 2 d (k (ix3 b n d)) := by
  have h := refCtxRow_at T
  unfold refCtx
  generalize refCtxRow T = R at h ⊢
  pointwise
  rw [h, h]
  unfold turn tab
  congr 3
  apply Fin.ext
  show d.val = 4096 * 0 + d.val
  omega

/-- The modulated latents, index by index. -/
theorem refLat_at (b : Fin 2) (n : Fin 8192) (d : Fin 4096) :
    refLat x T (ix3 b n d) = turn T ⟨b.val, by omega⟩ d (x (ix3 b n d)) := by
  have h := refLatRow_at T
  unfold refLat
  generalize refLatRow T = R at h ⊢
  pointwise
  rw [h, h]
  unfold turn tab
  congr 3
  apply Fin.ext
  show d.val = 4096 * 0 + d.val
  omega

/-- The reference's rows before they are rounded: the modulated context, then the modulated latents. -/
def refLaid : FVec Ideal Cert.ModRefIdeal.S16896x4096 .f32 :=
  concatenate Cert.ModRefIdeal.S16896x4096 0
    [⟨Cert.ModRefIdeal.S512x4096, shapeCast Cert.ModRefIdeal.S512x4096 (refCtx k T) Cert.ModRefIdeal.Gen.shapeCasts_S2x256x4096_S512x4096⟩,
     ⟨Cert.ModRefIdeal.S16384x4096, shapeCast Cert.ModRefIdeal.S16384x4096 (refLat x T) Cert.ModRefIdeal.Gen.shapeCasts_S2x8192x4096_S16384x4096⟩]
    concatenates_S512x4096_S16384x4096_S16896x4096_d0

/-- The reference's rows, rounded: over the extended reals, the same rows. -/
theorem ref_rows :
    truncf (F := Ideal) .bf16 (refLaid k x T) Cert.ModRefIdeal.Gen.bitsLt_bf16_f32 = rows k x T := by
  funext i
  obtain ⟨r, d, rfl⟩ : ∃ (r : Fin 16896) (d : Fin 4096), i = (ix2 r d : Cert.ModRefIdeal.S16896x4096.Idx) :=
    ⟨i 0, i 1, by funext a; match a with | ⟨0, _⟩ => rfl | ⟨1, _⟩ => rfl⟩
  have hr := r.isLt
  show refLaid k x T (ix2 r d) = turn T (seg r) d (laid k x r d)
  unfold seg laid refLaid
  by_cases h : r.val < 512
  · rw [concatenate_pair_apply_left (t := Cert.ModRefIdeal.S16896x4096) (s₁ := Cert.ModRefIdeal.S512x4096)
      (s₂ := Cert.ModRefIdeal.S16384x4096) 0 _ _ _ _ rfl (ix2 (⟨r.val, h⟩ : Fin 512) d) (fun a => by fin_cases a <;> rfl),
      if_pos h, dif_pos h]
    exact (context_row (refCtx k T) _ d).trans (refCtx_at k T _ _ d)
  · rw [concatenate_pair_apply_right (t := Cert.ModRefIdeal.S16896x4096) (s₁ := Cert.ModRefIdeal.S512x4096)
      (s₂ := Cert.ModRefIdeal.S16384x4096) 0 _ _ _ _ rfl rfl (ix2 (⟨r.val - 512, by omega⟩ : Fin 16384) d) (fun a ha => by
        fin_cases a
        · exact absurd rfl ha
        · rfl) (by show r.val - 512 + 512 = r.val; omega), if_neg h, dif_neg h]
    exact (latent_row (refLat x T) _ d).trans (refLat_at x T _ _ d)

end Reference

/-- The frames of the kernel, of the ideal kernel and of the reference. -/
theorem frame_kernel : Cert.quiescent_Mod := fun m ρ _ => Cert.Mod.Gen.frame (F := Bits) m ρ
theorem frame_ideal : Cert.quiescent_ModIdeal := fun m ρ _ => Cert.ModIdeal.Gen.frame (F := Ideal) m ρ
theorem frame_ref : Cert.quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

/-- The value claim: kernel and reference end with the same rows. -/
theorem algebraic : Cert.algebraic_ModIdeal_ModRefIdeal := by
  intro m ρ m' ρ' _ hagree
  refine ⟨fun c => rows (context m c) (latents m c) (conds m c), ?_, ?_⟩
  · exact (θ_run _ _ _).mono (fun _ h c => ⟨(h c).1.trans (final m c), (h c).2⟩) (run_blocks (F := Ideal) m ρ)
  · refine (θ_run _ _ _).mono (fun _ h c => ⟨(h c).1.trans ?_, (h c).2⟩) (Cert.ModRefIdeal.Value.run (F := Ideal) m' ρ')
    rw [(hagree c).1, (hagree c).2.1, (hagree c).2.2]
    exact ref_rows _ _ _

end Cert.Proof.Modulate

end
-- ==== Proof.GateClaim.lean ====
module

public import proofs.«01_k».proof.Defs
public import proofs.«01_k».proof.Proof.Gen.Gate.Frame
public import proofs.«01_k».proof.Proof.Gen.GateIdeal.Value
public import proofs.«01_k».proof.Proof.Gen.GateRefIdeal.Run
public import proofs.«01_k».proof.Proof.Words
public import Idealize.ShloMosaic.Lib.Pointwise.Tactic
public import Idealize.ShloMosaic.Lib.Pointwise.Contract
public import Idealize.ShloMosaic.Lib.Pointwise.Reshape
public import Idealize.ShloMosaic.Lib.Pointwise.ShapeOps
public import Idealize.ShloMosaic.Lib.IdealHost
public import Idealize.ShloMosaic.Lib.MatmulPlain
public import Idealize.ShloMosaic.Lib.Pipeline.Value
public import Idealize.ShloMosaic.Adequacy
public import Idealize.ShloMosaic.Init

/-!
The gate columns of the mixer's projection: the last 32 columns of the weights, padded with zeros to 128, multiply the
modulated rows 768 at a time; the padding columns stay zero.
-/

@[expose] public section

set_option maxRecDepth 16384

noncomputable section

open Idealize.ShloMosaic Idealize.ShloMosaic.TcCoe Idealize.SL.Sem

namespace Cert.Proof.Gates

open Cert.GateIdeal Cert.GateIdeal.Gen Cert.GateIdeal.Value

instance : Cert.Gate.Facts := Cert.Gate.Gen.facts
instance : Cert.GateRefIdeal.Facts := Cert.GateRefIdeal.Gen.facts

/-- The last 32 columns of the weights, then zeros. -/
def gateCols (w : Vec Ideal S4096x16416 .f32) (d : Fin 4096) (e : Fin 128) : EReal :=
  if h : e.val < 32 then w (ix2 d ⟨16384 + e.val, by omega⟩) else 0

/-- The product of the rows with those columns, index by index. -/
def prod (x : Vec Ideal S16896x4096 .bf16) (w : Vec Ideal S4096x16416 .f32) : Vec Ideal S16896x128 .f32 :=
  fun i => ∑ d : Fin 4096, (x (ix2 (i 0) d) : EReal) * gateCols w d (i 1)

/-- The blocks a grid point reads and writes. -/
theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

variable (m : (ℓ : Loc nD τ sig) → Buf (Elt Ideal) ℓ) (c : Dev nD)

/-- The arguments, as arrays. -/
abbrev rowsOf : Vec Ideal S16896x4096 .bf16 := m ((c : Thread nD τ).loc main_arg0)
abbrev weights : Vec Ideal S4096x16416 .f32 := m ((c : Thread nD τ).loc main_arg1)

theorem point_lt (t : Fin cfg0.N) : t.val < 22 := t.isLt.trans_eq N_0

/-- The rows a point reads. -/
theorem blk0 (t : Fin cfg0.N) (r : Fin 768) (d : Fin 4096) :
    (iblk (F := Ideal) m c 0 t : Vec Ideal S768x4096 .bf16) (ix2 r d) = rowsOf m c
      (ix2 ⟨768 * t.val + r.val, by have := r.isLt; have := point_lt t; omega⟩ d) := by
  unfold iblk
  rw [View.read_apply]
  show V (F := Ideal) m c main_arg0 _ = m (c.tc.loc main_arg0) _
  rw [V_main_arg0]
  congr 1
  funext a
  apply Fin.ext
  match a with
  | ⟨0, _⟩ => show win0_0.index t 0 * 768 + 1 * r.val = 768 * t.val + r.val; rw [(idx0 t).1]; omega
  | ⟨1, _⟩ => show win0_0.index t 1 * 4096 + 1 * d.val = d.val; rw [(idx0 t).2]; omega

/-- The weights as the host prepares them: rounded, cut and padded. -/
theorem V_v2 : (V (F := Ideal) m c main_v2 : Vec Ideal S4096x128 .bf16)
    = pad S4096x128 ![0, 0] ![0, 96] ![0, 0] (extractStridedSlice S4096x32 ![0, 16384]
        (truncf (F := Ideal) (s := S4096x16416) (φ := .f32) .bf16 (weights m c) bitsLt_bf16_f32) slices_S4096x16416_S4096x32_0_16384)
        (sitofp (F := Ideal) .bf16 (constantI S_ 32 0#32)) pads_S4096x32_S4096x128_000_0960 h_S_ := by
  unfold V
  simp only [hostOps0, hostOps0_1, List.flatten_cons, List.flatten_nil, List.append_nil, List.cons_append, List.nil_append,
    StableHlo.TRef.binary, StableHlo.TRef.unary, StableHlo.TRef.toBuf, StableHlo.TRef.ofBuf, cast_eq]
  after_results

/-- The padding value is zero. -/
theorem zero_word (φ : FTy) : (sitofp (F := Ideal) φ (constantI S_ 32 0#32) : FVec Ideal S_ φ) = fun _ => (0 : EReal) := by
  funext i
  show (((0#32 : BitVec 32).toInt : ℝ) : EReal) = 0
  simp

/-- An array padded with columns on the right: the array where it reaches, the padding value past it. -/
theorem pad_at (n : ℕ) (x : (⟨2, ![n, 32]⟩ : Shape).Idx → EReal) (v : S_.Idx → EReal) (h) (hu) (r : Fin n) (e : Fin 128) :
    pad (⟨2, ![n, 128]⟩ : Shape) ![0, 0] ![0, 96] ![0, 0] x v h hu (ix2 r e)
      = if he : e.val < 32 then x (ix2 r ⟨e.val, he⟩) else v (Shape.Idx.first hu) := by
  rw [pad_apply]
  by_cases he : e.val < 32
  · rw [dif_pos he, dif_pos (fun a => by
      match a with
      | ⟨0, _⟩ => exact ⟨Nat.zero_le _, Nat.mod_one _, by show (r.val - 0) / (0 + 1) < n; have := r.isLt; omega⟩
      | ⟨1, _⟩ => exact ⟨Nat.zero_le _, Nat.mod_one _, by show (e.val - 0) / (0 + 1) < 32; omega⟩)]
    congr 1
    funext a
    apply Fin.ext
    match a with
    | ⟨0, _⟩ => show (r.val - 0) / (0 + 1) = r.val; omega
    | ⟨1, _⟩ => show (e.val - 0) / (0 + 1) = e.val; omega
  · rw [dif_neg he, dif_neg (fun hin => he (by
      have := (hin (1 : Fin 2)).2.2
      have h2 : (e.val - 0) / (0 + 1) < 32 := this
      omega))]

/-- The columns a point reads. -/
theorem blk1 (t : Fin cfg0.N) (d : Fin 4096) (e : Fin 128) :
    (iblk (F := Ideal) m c 1 t : Vec Ideal S4096x128 .bf16) (ix2 d e) = gateCols (weights m c) d e := by
  have hi : ((cfg0.win 1).blk t).view.emb (ix2 d e : S4096x128.Idx) = (ix2 d e : S4096x128.Idx) := by
    funext a
    apply Fin.ext
    match a with
    | ⟨0, _⟩ => show win0_1.index t 0 * 4096 + 1 * d.val = d.val; rw [(idx1 t).1]; omega
    | ⟨1, _⟩ => show win0_1.index t 1 * 128 + 1 * e.val = e.val; rw [(idx1 t).2]; omega
  unfold iblk
  rw [View.read_apply]
  refine (congrArg (V (F := Ideal) m c main_v2 : Vec Ideal S4096x128 .bf16) hi).trans ?_
  rw [V_v2]
  refine (pad_at 4096 _ _ _ _ d e).trans ?_
  unfold gateCols
  by_cases he : e.val < 32
  · rw [dif_pos he, dif_pos he]
    pointwise
  · rw [dif_neg he, dif_neg he, zero_word]

/-- A point's block of the product, at an index. -/
theorem pay (x : Vec Ideal S768x4096 .bf16) (w : Vec Ideal S4096x128 .bf16) (r : Fin 768) (e : Fin 128) :
    k0_pay1 (F := Ideal) x w (ix2 r e) = ∑ d : Fin 4096, (x (ix2 r d) : EReal) * (w (ix2 d e) : EReal) := by
  unfold k0_pay1
  pointwise

theorem hz : ![0, 0] = (fun _ : Fin 2 => 0) := by funext a; fin_cases a <;> rfl

/-- What a point writes back is its block of the product. -/
theorem flushed (t : Fin cfg0.N) :
    (dats (F := Ideal) m 0 c).flushed 2 t = ((cfg0.win 2).blk t).view.read (Elt Ideal)
      (prod (rowsOf m c) (weights m c)) := by
  rw [flushed2]
  funext y
  rw [View.read_apply]
  have ht := point_lt t
  obtain ⟨r, e, rfl⟩ : ∃ (r : Fin 768) (e : Fin 128), y = (ix2 r e : S768x128.Idx) :=
    ⟨y 0, y 1, by funext a; match a with | ⟨0, _⟩ => rfl | ⟨1, _⟩ => rfl⟩
  have h : out0_2 (F := Ideal) (iblk m c 0 t) (iblk m c 1 t) (ix2 r e)
      = ∑ d : Fin 4096, (rowsOf m c (ix2 ⟨768 * t.val + r.val, by have := r.isLt; omega⟩ d) : EReal)
        * gateCols (weights m c) d e := by
    unfold out0_2
    rw [View.canon_unit_zero (S := S768x128) hz, View.ld_unit_zero (S := S768x4096) hz, View.ld_unit_zero (S := S4096x128) hz, pay]
    exact Finset.sum_congr rfl fun d _ => by rw [blk0, blk1]
  have hi : ((cfg0.win 2).blk t).view.emb (ix2 r e : S768x128.Idx)
      = (ix2 ⟨768 * t.val + r.val, by have := r.isLt; omega⟩ e : S16896x128.Idx) := by
    funext a
    apply Fin.ext
    match a with
    | ⟨0, _⟩ => show win0_2.index t 0 * 768 + 1 * r.val = 768 * t.val + r.val; rw [(idx2 t).1]; omega
    | ⟨1, _⟩ => show win0_2.index t 1 * 128 + 1 * e.val = e.val; rw [(idx2 t).2]; omega
  exact h.trans (congrArg (prod (rowsOf m c) (weights m c)) hi).symm

/-- Every index of the result is in some point's block. -/
theorem cover (i : S16896x128.Idx) : ∃ t : Fin cfg0.N, (cfg0.win 2).flush t = true ∧ i ∈ ((cfg0.win 2).blk t).view.set := by
  have h0 : (i 0).val < 16896 := (i 0).isLt
  have hN : cfg0.N = 22 := N_0
  let t : Fin cfg0.N := ⟨(i 0).val / 768, by omega⟩
  refine ⟨t, flush0_2 t, ?_⟩
  have hi : i = ((cfg0.win 2).blk t).view.emb (ix2 ⟨(i 0).val % 768, by omega⟩ (i 1) : S768x128.Idx) := by
    have ht : t.val = (i 0).val / 768 := rfl
    funext a
    apply Fin.ext
    match a with
    | ⟨0, _⟩ => show (i 0).val = win0_2.index t 0 * 768 + 1 * ((i 0).val % 768); rw [(idx2 t).1]; omega
    | ⟨1, _⟩ => show (i 1).val = win0_2.index t 1 * 128 + 1 * (i 1).val; rw [(idx2 t).2]; omega
  rw [hi]
  exact View.emb_mem_set _ _

/-- The kernel ends with the product. -/
theorem final : (dats (F := Ideal) m 0 c).arrAt 2 cfg0.N
    = prod (rowsOf m c) (weights m c) :=
  (dats (F := Ideal) m 0 c).arrAt_eq_of_cover 2 _ (fun t _ => flushed m c t) cover

/-- The reference's product of the last 32 columns, padded afterwards, is the product with the padded columns. -/
theorem ref_prod (x : FVec Ideal Cert.GateRefIdeal.S16896x4096 .bf16) (w : FVec Ideal Cert.GateRefIdeal.S4096x16416 .f32) :
    pad Cert.GateRefIdeal.S16896x128 ![0, 0] ![0, 96] ![0, 0]
      (Host.dotGeneral (F := Ideal) Cert.GateRefIdeal.dot_S16896x4096_S4096x32_S16896x32_1_0_0_1_n_n none
        (extf .f32 x Cert.GateRefIdeal.Gen.bitsLt_bf16_f32)
        (extractStridedSlice Cert.GateRefIdeal.S4096x32 ![0, 16384] w Cert.GateRefIdeal.Gen.slices_S4096x16416_S4096x32_0_16384))
      (sitofp (F := Ideal) .f32 (constantI Cert.GateRefIdeal.S_ 32 0#32))
      Cert.GateRefIdeal.Gen.pads_S16896x32_S16896x128_000_0960 Cert.GateRefIdeal.Gen.h_S_ = prod x w := by
  funext i
  obtain ⟨r, e, rfl⟩ : ∃ (r : Fin 16896) (e : Fin 128), i = (ix2 r e : S16896x128.Idx) :=
    ⟨i 0, i 1, by funext a; match a with | ⟨0, _⟩ => rfl | ⟨1, _⟩ => rfl⟩
  refine (pad_at 16896 _ _ _ _ r e).trans ?_
  show _ = ∑ d : Fin 4096, (x (ix2 r d) : EReal) * gateCols w d e
  unfold gateCols
  by_cases he : e.val < 32
  · simp only [dif_pos he]
    pointwise
  · simp only [dif_neg he, mul_zero, Finset.sum_const_zero]
    exact congrFun (zero_word .f32) _

/-- The frames of the kernel, of the ideal kernel and of the reference. -/
theorem frame_kernel : Cert.quiescent_Gate := fun m ρ _ => Cert.Gate.Gen.frame (F := Bits) m ρ
theorem frame_ideal : Cert.quiescent_GateIdeal := fun m ρ _ => Cert.GateIdeal.Gen.frame (F := Ideal) m ρ
theorem frame_ref : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

/-- The value claim: kernel and reference end with the same product. -/
theorem algebraic : Cert.algebraic_GateIdeal_GateRefIdeal := by
  intro m ρ m' ρ' _ hagree
  refine ⟨fun c => prod (rowsOf m c) (weights m c), ?_, ?_⟩
  · exact (θ_run _ _ _).mono (fun _ h c => ⟨(h c).1.trans (final m c), (h c).2⟩) (run_blocks (F := Ideal) m ρ)
  · refine (θ_run _ _ _).mono (fun _ h c => ⟨(h c).1.trans ?_, (h c).2⟩) (Cert.GateRefIdeal.Value.run (F := Ideal) m' ρ')
    rw [(hagree c).1, (hagree c).2]
    exact ref_prod _ _

end Cert.Proof.Gates

end
-- ==== Proof.DnGateClaim.lean ====
module

public import proofs.«01_k».proof.Defs
public import proofs.«01_k».proof.Proof.Gen.DnGate.Frame
public import proofs.«01_k».proof.Proof.Gen.DnGateIdeal.Value
public import proofs.«01_k».proof.Proof.Gen.DnGateRefIdeal.Run
public import proofs.«01_k».proof.Proof.Words
public import Idealize.ShloMosaic.Lib.Pointwise.Tactic
public import Idealize.ShloMosaic.Lib.Pointwise.Contract
public import Idealize.ShloMosaic.Lib.Pointwise.Reshape
public import Idealize.ShloMosaic.Lib.Pointwise.ShapeOps
public import Idealize.ShloMosaic.Lib.IdealHost
public import Idealize.ShloMosaic.Lib.MatmulPlain
public import Idealize.ShloMosaic.Lib.Pipeline.Value
public import Idealize.ShloMosaic.Adequacy
public import Idealize.ShloMosaic.Init

/-!
The gate columns of the delta mixer's projection: the last 128 columns of the weights multiply the modulated rows, 768 at
a time.
-/

@[expose] public section

set_option maxRecDepth 16384

noncomputable section

open Idealize.ShloMosaic Idealize.ShloMosaic.TcCoe Idealize.SL.Sem

namespace Cert.Proof.DnGates

open Cert.DnGateIdeal Cert.DnGateIdeal.Gen Cert.DnGateIdeal.Value

instance : Cert.DnGate.Facts := Cert.DnGate.Gen.facts
instance : Cert.DnGateRefIdeal.Facts := Cert.DnGateRefIdeal.Gen.facts

/-- The last 128 columns of the weights. -/
def gateCols (w : Vec Ideal S4096x16512 .f32) (d : Fin 4096) (e : Fin 128) : EReal := w (ix2 d ⟨16384 + e.val, by omega⟩)

/-- The product of the rows with those columns, index by index. -/
def prod (x : Vec Ideal S16896x4096 .bf16) (w : Vec Ideal S4096x16512 .f32) : Vec Ideal S16896x128 .f32 :=
  fun i => ∑ d : Fin 4096, (x (ix2 (i 0) d) : EReal) * gateCols w d (i 1)

/-- The blocks a grid point reads and writes. -/
theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

variable (m : (ℓ : Loc nD τ sig) → Buf (Elt Ideal) ℓ) (c : Dev nD)

/-- The arguments, as arrays. -/
abbrev rowsOf : Vec Ideal S16896x4096 .bf16 := m ((c : Thread nD τ).loc main_arg0)
abbrev weights : Vec Ideal S4096x16512 .f32 := m ((c : Thread nD τ).loc main_arg1)

theorem point_lt (t : Fin cfg0.N) : t.val < 22 := t.isLt.trans_eq N_0

/-- The rows a point reads. -/
theorem blk0 (t : Fin cfg0.N) (r : Fin 768) (d : Fin 4096) :
    (iblk (F := Ideal) m c 0 t : Vec Ideal S768x4096 .bf16) (ix2 r d) = rowsOf m c
      (ix2 ⟨768 * t.val + r.val, by have := r.isLt; have := point_lt t; omega⟩ d) := by
  unfold iblk
  rw [View.read_apply]
  show V (F := Ideal) m c main_arg0 _ = m (c.tc.loc main_arg0) _
  rw [V_main_arg0]
  congr 1
  funext a
  apply Fin.ext
  match a with
  | ⟨0, _⟩ => show win0_0.index t 0 * 768 + 1 * r.val = 768 * t.val + r.val; rw [(idx0 t).1]; omega
  | ⟨1, _⟩ => show win0_0.index t 1 * 4096 + 1 * d.val = d.val; rw [(idx0 t).2]; omega

/-- The weights as the host prepares them: rounded, cut and padded by nothing. -/
theorem V_v2 : (V (F := Ideal) m c main_v2 : Vec Ideal S4096x128 .bf16)
    = pad S4096x128 ![0, 0] ![0, 0] ![0, 0] (extractStridedSlice S4096x128 ![0, 16384]
        (truncf (F := Ideal) (s := S4096x16512) (φ := .f32) .bf16 (weights m c) bitsLt_bf16_f32) slices_S4096x16512_S4096x128_0_16384)
        (sitofp (F := Ideal) .bf16 (constantI S_ 32 0#32)) pads_S4096x128_S4096x128_000_000 h_S_ := by
  unfold V
  simp only [hostOps0, hostOps0_1, List.flatten_cons, List.flatten_nil, List.append_nil, List.cons_append, List.nil_append,
    StableHlo.TRef.binary, StableHlo.TRef.unary, StableHlo.TRef.toBuf, StableHlo.TRef.ofBuf, cast_eq]
  after_results

/-- An array padded by nothing is the array. -/
theorem pad_none (x : S4096x128.Idx → EReal) (v : S_.Idx → EReal) (h) (hu) (d : Fin 4096) (e : Fin 128) :
    pad S4096x128 ![0, 0] ![0, 0] ![0, 0] x v h hu (ix2 d e) = x (ix2 d e) := by
  rw [pad_apply, dif_pos (fun a => by
    match a with
    | ⟨0, _⟩ => exact ⟨Nat.zero_le _, Nat.mod_one _, by show (d.val - 0) / (0 + 1) < 4096; have := d.isLt; omega⟩
    | ⟨1, _⟩ => exact ⟨Nat.zero_le _, Nat.mod_one _, by show (e.val - 0) / (0 + 1) < 128; have := e.isLt; omega⟩)]
  congr 1
  funext a
  apply Fin.ext
  match a with
  | ⟨0, _⟩ => show (d.val - 0) / (0 + 1) = d.val; omega
  | ⟨1, _⟩ => show (e.val - 0) / (0 + 1) = e.val; omega

/-- The columns a point reads. -/
theorem blk1 (t : Fin cfg0.N) (d : Fin 4096) (e : Fin 128) :
    (iblk (F := Ideal) m c 1 t : Vec Ideal S4096x128 .bf16) (ix2 d e) = gateCols (weights m c) d e := by
  have hi : ((cfg0.win 1).blk t).view.emb (ix2 d e : S4096x128.Idx) = (ix2 d e : S4096x128.Idx) := by
    funext a
    apply Fin.ext
    match a with
    | ⟨0, _⟩ => show win0_1.index t 0 * 4096 + 1 * d.val = d.val; rw [(idx1 t).1]; omega
    | ⟨1, _⟩ => show win0_1.index t 1 * 128 + 1 * e.val = e.val; rw [(idx1 t).2]; omega
  unfold iblk
  rw [View.read_apply]
  refine (congrArg (V (F := Ideal) m c main_v2 : Vec Ideal S4096x128 .bf16) hi).trans ?_
  rw [V_v2]
  refine (pad_none _ _ _ _ d e).trans ?_
  unfold gateCols
  pointwise

/-- A point's block of the product, at an index. -/
theorem pay (x : Vec Ideal S768x4096 .bf16) (w : Vec Ideal S4096x128 .bf16) (r : Fin 768) (e : Fin 128) :
    k0_pay1 (F := Ideal) x w (ix2 r e) = ∑ d : Fin 4096, (x (ix2 r d) : EReal) * (w (ix2 d e) : EReal) := by
  unfold k0_pay1
  pointwise

theorem hz : ![0, 0] = (fun _ : Fin 2 => 0) := by funext a; fin_cases a <;> rfl

/-- What a point writes back is its block of the product. -/
theorem flushed (t : Fin cfg0.N) :
    (dats (F := Ideal) m 0 c).flushed 2 t = ((cfg0.win 2).blk t).view.read (Elt Ideal)
      (prod (rowsOf m c) (weights m c)) := by
  rw [flushed2]
  funext y
  rw [View.read_apply]
  have ht := point_lt t
  obtain ⟨r, e, rfl⟩ : ∃ (r : Fin 768) (e : Fin 128), y = (ix2 r e : S768x128.Idx) :=
    ⟨y 0, y 1, by funext a; match a with | ⟨0, _⟩ => rfl | ⟨1, _⟩ => rfl⟩
  have h : out0_2 (F := Ideal) (iblk m c 0 t) (iblk m c 1 t) (ix2 r e)
      = ∑ d : Fin 4096, (rowsOf m c (ix2 ⟨768 * t.val + r.val, by have := r.isLt; omega⟩ d) : EReal)
        * gateCols (weights m c) d e := by
    unfold out0_2
    rw [View.canon_unit_zero (S := S768x128) hz, View.ld_unit_zero (S := S768x4096) hz, View.ld_unit_zero (S := S4096x128) hz, pay]
    exact Finset.sum_congr rfl fun d _ => by rw [blk0, blk1]
  have hi : ((cfg0.win 2).blk t).view.emb (ix2 r e : S768x128.Idx)
      = (ix2 ⟨768 * t.val + r.val, by have := r.isLt; omega⟩ e : S16896x128.Idx) := by
    funext a
    apply Fin.ext
    match a with
    | ⟨0, _⟩ => show win0_2.index t 0 * 768 + 1 * r.val = 768 * t.val + r.val; rw [(idx2 t).1]; omega
    | ⟨1, _⟩ => show win0_2.index t 1 * 128 + 1 * e.val = e.val; rw [(idx2 t).2]; omega
  exact h.trans (congrArg (prod (rowsOf m c) (weights m c)) hi).symm

/-- Every index of the result is in some point's block. -/
theorem cover (i : S16896x128.Idx) : ∃ t : Fin cfg0.N, (cfg0.win 2).flush t = true ∧ i ∈ ((cfg0.win 2).blk t).view.set := by
  have h0 : (i 0).val < 16896 := (i 0).isLt
  have hN : cfg0.N = 22 := N_0
  let t : Fin cfg0.N := ⟨(i 0).val / 768, by omega⟩
  refine ⟨t, flush0_2 t, ?_⟩
  have hi : i = ((cfg0.win 2).blk t).view.emb (ix2 ⟨(i 0).val % 768, by omega⟩ (i 1) : S768x128.Idx) := by
    have ht : t.val = (i 0).val / 768 := rfl
    funext a
    apply Fin.ext
    match a with
    | ⟨0, _⟩ => show (i 0).val = win0_2.index t 0 * 768 + 1 * ((i 0).val % 768); rw [(idx2 t).1]; omega
    | ⟨1, _⟩ => show (i 1).val = win0_2.index t 1 * 128 + 1 * (i 1).val; rw [(idx2 t).2]; omega
  rw [hi]
  exact View.emb_mem_set _ _

/-- The kernel ends with the product. -/
theorem final : (dats (F := Ideal) m 0 c).arrAt 2 cfg0.N
    = prod (rowsOf m c) (weights m c) :=
  (dats (F := Ideal) m 0 c).arrAt_eq_of_cover 2 _ (fun t _ => flushed m c t) cover

/-- The reference's product with the last 128 columns. -/
theorem ref_prod (x : FVec Ideal Cert.DnGateRefIdeal.S16896x4096 .bf16) (w : FVec Ideal Cert.DnGateRefIdeal.S4096x16512 .f32) :
    Host.dotGeneral (F := Ideal) Cert.DnGateRefIdeal.dot_S16896x4096_S4096x128_S16896x128_1_0_0_1_n_n none
      (extf .f32 x Cert.DnGateRefIdeal.Gen.bitsLt_bf16_f32)
      (extractStridedSlice Cert.DnGateRefIdeal.S4096x128 ![0, 16384] w Cert.DnGateRefIdeal.Gen.slices_S4096x16512_S4096x128_0_16384)
      = prod x w := by
  funext i
  obtain ⟨r, e, rfl⟩ : ∃ (r : Fin 16896) (e : Fin 128), i = (ix2 r e : S16896x128.Idx) :=
    ⟨i 0, i 1, by funext a; match a with | ⟨0, _⟩ => rfl | ⟨1, _⟩ => rfl⟩
  show _ = ∑ d : Fin 4096, (x (ix2 r d) : EReal) * gateCols w d e
  unfold gateCols
  pointwise

/-- The frames of the kernel, of the ideal kernel and of the reference. -/
theorem frame_kernel : Cert.quiescent_DnGate := fun m ρ _ => Cert.DnGate.Gen.frame (F := Bits) m ρ
theorem frame_ideal : Cert.quiescent_DnGateIdeal := fun m ρ _ => Cert.DnGateIdeal.Gen.frame (F := Ideal) m ρ
theorem frame_ref : Cert.quiescent_DnGateRefIdeal := fun m ρ _ =>
  (θ_run Cert.DnGateRefIdeal.defs _ _).mono (fun r h => ⟨fun c => (h c).2, sem_eq_zero_of_no_sems (by decide) r.2⟩)
    (Cert.DnGateRefIdeal.Value.run (F := Ideal) m ρ)

/-- The value claim: kernel and reference end with the same product. -/
theorem algebraic : Cert.algebraic_DnGateIdeal_DnGateRefIdeal := by
  intro m ρ m' ρ' _ hagree
  refine ⟨fun c => prod (rowsOf m c) (weights m c), ?_, ?_⟩
  · exact (θ_run _ _ _).mono (fun _ h c => ⟨(h c).1.trans (final m c), (h c).2⟩) (run_blocks (F := Ideal) m ρ)
  · refine (θ_run _ _ _).mono (fun _ h c => ⟨(h c).1.trans ?_, (h c).2⟩) (Cert.DnGateRefIdeal.Value.run (F := Ideal) m' ρ')
    rw [(hagree c).1, (hagree c).2]
    exact ref_prod _ _

end Cert.Proof.DnGates

end
-- ==== Proof.NormClaim.lean ====
module

public import proofs.«01_k».proof.Defs
public import proofs.«01_k».proof.Proof.Gen.Norm.Frame
public import proofs.«01_k».proof.Proof.Gen.NormIdeal.Value
public import proofs.«01_k».proof.Proof.Gen.NormRefIdeal.Run
public import proofs.«01_k».proof.Proof.ModulateClaim
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.ShapeOps
public import Idealize.ShloMosaic.Lib.IdealHost
public import Idealize.ShloMosaic.Lib.MatmulPlain
public import Idealize.ShloMosaic.Lib.Pipeline.Value
public import Idealize.ShloMosaic.Adequacy
public import Idealize.ShloMosaic.Init

/-!
The residual and the norm of the first layer's mixer: every row of the context and of the latents, scaled, plus its gate
times the mixer's row, normalised over its 4096 entries; and that row scaled and shifted for the experts. 256 rows at
each grid point, the context's at the first two.
-/

@[expose] public section

set_option maxRecDepth 16384

noncomputable section

open Idealize.ShloMosaic Idealize.ShloMosaic.TcCoe Idealize.SL.Sem

namespace Cert.Proof.Norms

open Cert.NormIdeal Cert.NormIdeal.Gen Cert.NormIdeal.Value
open Cert.Proof.Modulate (tab seg laid tab_row context_row latent_row refCtxRow refLatRow refCtxRow_at refLatRow_at hz2 hz3)

instance : Cert.Norm.Facts := Cert.Norm.Gen.facts
instance : Cert.NormRefIdeal.Facts := Cert.NormRefIdeal.Gen.facts

/-- The mean of a row of 4096. -/
def mean (y : Fin 4096 → EReal) : EReal := Ideal.div (∑ d, y d) (Ideal.ofBits .f32 0x45800000#32)

/-- A row without its mean. -/
def centre (y : Fin 4096 → EReal) (e : Fin 4096) : EReal := y e - mean y

/-- A row normalised to mean zero and variance one, times the gains, plus the offsets. -/
def normed (g b y : Fin 4096 → EReal) (e : Fin 4096) : EReal :=
  centre y e * Ideal.rsqrt (mean (fun d => centre y d * centre y d) + Ideal.ofBits .f32 0x3727C5AC#32) * g e + b e

/-- A row of the residual: the layer's row scaled, plus its condition row's gate times the mixer's row. -/
def mixed (k : Vec Ideal S2x256x4096 .f32) (x : Vec Ideal S2x8192x4096 .f32) (z : Vec Ideal S16896x4096 .f32)
    (T : Vec Ideal S2x8x24576 .f32) (r : Fin 16896) (d : Fin 4096) : EReal :=
  Ideal.ofBits .f32 0x3FB504F3#32 * laid k x r d + tab T (seg r) 2 d * z (ix2 r d)

/-- The normalised rows. -/
def outH (k : Vec Ideal S2x256x4096 .f32) (x : Vec Ideal S2x8192x4096 .f32) (z : Vec Ideal S16896x4096 .f32)
    (T : Vec Ideal S2x8x24576 .f32) (g b : Vec Ideal S4096 .f32) : Vec Ideal S16896x4096 .f32 :=
  fun i => normed (fun d => g (ix1 d)) (fun d => b (ix1 d)) (mixed k x z T (i 0)) (i 1)

/-- An entry scaled and shifted for the experts by a condition row. -/
def turn (T : Vec Ideal S2x8x24576 .f32) (s : Fin 8) (d : Fin 4096) (a : EReal) : EReal := a * (1 + tab T s 4 d) + tab T s 3 d

/-- The rows the experts are given. -/
def outV (k : Vec Ideal S2x256x4096 .f32) (x : Vec Ideal S2x8192x4096 .f32) (z : Vec Ideal S16896x4096 .f32)
    (T : Vec Ideal S2x8x24576 .f32) (g b : Vec Ideal S4096 .f32) : Vec Ideal S16896x4096 .bf16 :=
  fun i => turn T (seg (i 0)) (i 1) (outH k x z T g b i)

/-- A tile's condition row. -/
def tileSeg (t : ℕ) : ℕ := if t < 2 then 2 else (t - 2) / 32

/-- The blocks a grid point reads and writes. -/
theorem idx0 : ∀ t : Fin grid0.N, win0_0.index t 0 = min t.val 1 ∧ win0_0.index t 1 = 0 := by decide +kernel
theorem idx1 : ∀ t : Fin grid0.N, win0_1.index t 0 = t.val - 2 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 6 * tileSeg t.val + 2 ∧ win0_3.index t 2 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 6 * tileSeg t.val + 4 ∧ win0_6.index t 2 = 0 := by decide +kernel
theorem idx7 : ∀ t : Fin grid0.N, win0_7.index t 0 = 6 * tileSeg t.val + 3 ∧ win0_7.index t 2 = 0 := by decide +kernel
theorem idx8 : ∀ t : Fin grid0.N, win0_8.index t 0 = t.val ∧ win0_8.index t 1 = 0 := by decide +kernel
theorem idx9 : ∀ t : Fin grid0.N, win0_9.index t 0 = t.val ∧ win0_9.index t 1 = 0 := by decide +kernel

/-- The first two points, and no others, take the context's rows. -/
theorem first : ∀ t : Fin grid0.N, Scalar.cmpi .slt (BitVec.ofNat 32 (grid0.coords t 0).val) 2#32 = if t.val < 2 then 1#1 else 0#1 := by
  decide +kernel

section Payload

/-- The kernel's mean of every row of a block. -/
def kmean (u : FVec Ideal S256x4096 .f32) : FVec Ideal S256x1 .f32 :=
  divf (shapeCast S256x1 (multiReduction .add [1] S256 u 0x00000000#32 reduces_S256x4096_S256 (.inl rfl) rfl) shapeCasts_S256_S256x1)
    (broadcast S256x1 (Scalar.ofBits .f32 0x45800000#32))

/-- The kernel's block without its rows' means. -/
def kcentre (u : FVec Ideal S256x4096 .f32) : FVec Ideal S256x4096 .f32 :=
  subf u (broadcastTo S256x4096 (kmean u) broadcasts_S256x1_S256x4096)

/-- The kernel's reciprocal of every row's deviation. -/
def kdev (u : FVec Ideal S256x4096 .f32) : FVec Ideal S256x1 .f32 :=
  rsqrt (addf (kmean (mulf (kcentre u) (kcentre u))) (broadcast S256x1 (Scalar.ofBits .f32 0x3727C5AC#32)))

/-- The kernel's normalised block. -/
def knormed (u : FVec Ideal S256x4096 .f32) (g b : FVec Ideal S1x4096 .f32) : FVec Ideal S256x4096 .f32 :=
  addf (mulf (mulf (kcentre u) (broadcastTo S256x4096 (kdev u) broadcasts_S256x1_S256x4096))
    (broadcastTo S256x4096 (shapeCast S1x4096 g shapeCasts_S1x4096_S1x4096) broadcasts_S1x4096_S256x4096))
    (broadcastTo S256x4096 (shapeCast S1x4096 b shapeCasts_S1x4096_S1x4096) broadcasts_S1x4096_S256x4096)

variable (u : FVec Ideal S256x4096 .f32) (r : Fin 256)

theorem kmean_at : kmean u (ix2 r 0) = mean (fun d => u (ix2 r d)) := by
  unfold kmean mean
  pointwise

theorem kcentre_at (d : Fin 4096) : kcentre u (ix2 r d) = centre (fun d => u (ix2 r d)) d := by
  have h := kmean_at u r
  unfold kcentre centre
  generalize kmean u = M at h ⊢
  pointwise
  rw [h]

theorem kdev_at : kdev u (ix2 r 0) = Ideal.rsqrt (mean (fun d => centre (fun d => u (ix2 r d)) d * centre (fun d => u (ix2 r d)) d)
    + Ideal.ofBits .f32 0x3727C5AC#32) := by
  have h := kmean_at (mulf (kcentre u) (kcentre u)) r
  simp only [mulf_apply, kcentre_at] at h
  unfold kdev
  generalize kmean (mulf (kcentre u) (kcentre u)) = M at h ⊢
  pointwise
  rw [h]
  rfl

theorem knormed_at (g b : FVec Ideal S1x4096 .f32) (d : Fin 4096) :
    knormed u g b (ix2 r d) = normed (fun d => g (ix2 0 d)) (fun d => b (ix2 0 d)) (fun d => u (ix2 r d)) d := by
  have h1 := kcentre_at u r d
  have h2 := kdev_at u r
  unfold knormed normed
  generalize kcentre u = C at h1 ⊢
  generalize kdev u = D at h2 ⊢
  pointwise
  rw [h1, h2]

end Payload

/-- A block of the residual at an index: the first argument's rows or the second's scaled, plus the gated rows of the
third. -/
theorem pay2 (i : grid0.Coords) (k x z : Vec Ideal S256x4096 .f32) (gt : Vec Ideal S1x1x4096 .f32) (g b : Vec Ideal S1x4096 .f32)
    (r : Fin 256) (d : Fin 4096) (y : Fin 4096 → EReal)
    (hy : ∀ d, Ideal.ofBits .f32 0x3FB504F3#32
        * (Scalar.select (Scalar.cmpi .slt (BitVec.ofNat 32 (i 0).val) 2#32) k x (ix2 r d) : EReal)
        + (gt (ix3 0 0 d) : EReal) * (z (ix2 r d) : EReal) = y d) :
    k0_pay2 (F := Ideal) i k x gt z g b (ix2 r d) = normed (fun d => g (ix2 0 d)) (fun d => b (ix2 0 d)) y d := by
  have hk : ∀ v : Vec Ideal S256x4096 .f32, shapeCast S256x4096 v shapeCasts_S256x4096_S256x4096 = v := fun v => by
    funext y
    obtain ⟨a, b, rfl⟩ : ∃ (a : Fin 256) (b : Fin 4096), y = (ix2 a b : S256x4096.Idx) :=
      ⟨y 0, y 1, by funext a; match a with | ⟨0, _⟩ => rfl | ⟨1, _⟩ => rfl⟩
    pointwise
  have h : k0_pay2 (F := Ideal) i k x gt z g b = knormed (addf (mulf (broadcast S256x4096 (Scalar.ofBits .f32 0x3FB504F3#32))
      (Scalar.select (Scalar.cmpi .slt (BitVec.ofNat 32 (i 0).val) 2#32) k x))
      (mulf (broadcastTo S256x4096 (shapeCast S1x4096 gt shapeCasts_S1x1x4096_S1x4096) broadcasts_S1x4096_S256x4096) z)) g b := by
    unfold k0_pay2
    simp only [hk]
    rfl
  rw [h, knormed_at]
  congr 1
  funext e
  rw [← hy e]
  generalize Scalar.select (Scalar.cmpi .slt (BitVec.ofNat 32 (i 0).val) 2#32) k x = u
  pointwise

/-- A block scaled and shifted, at an index. -/
theorem pay1 (h : FVec Ideal S256x4096 .f32) (sc sh : Vec Ideal S1x1x4096 .f32) (r : Fin 256) (d : Fin 4096) :
    k0_pay1 (F := Ideal) h sc sh (ix2 r d) = (h (ix2 r d) : EReal) * (1 + (sc (ix3 0 0 d) : EReal)) + (sh (ix3 0 0 d) : EReal) := by
  unfold k0_pay1
  pointwise

variable (m : (ℓ : Loc nD τ sig) → Buf (Elt Ideal) ℓ) (c : Dev nD)

/-- The arguments, as arrays. -/
abbrev context : Vec Ideal S2x256x4096 .f32 := m ((c : Thread nD τ).loc main_arg0)
abbrev latents : Vec Ideal S2x8192x4096 .f32 := m ((c : Thread nD τ).loc main_arg1)
abbrev mixer : Vec Ideal S16896x4096 .f32 := m ((c : Thread nD τ).loc main_arg2)
abbrev conds : Vec Ideal S2x8x24576 .f32 := m ((c : Thread nD τ).loc main_arg3)
abbrev gains : Vec Ideal S4096 .f32 := m ((c : Thread nD τ).loc main_arg4)
abbrev offsets : Vec Ideal S4096 .f32 := m ((c : Thread nD τ).loc main_arg5)

theorem point_lt (t : Fin cfg0.N) : t.val < 66 := t.isLt.trans_eq N_0

theorem tileSeg_lt (t : Fin cfg0.N) : tileSeg t.val < 8 := by
  have := point_lt t
  unfold tileSeg
  split <;> omega

/-- The arguments as the host lays them. -/
theorem V_v0 : (V (F := Ideal) m c main_v0 : Vec Ideal S96x1x4096 .f32)
    = shapeCast S96x1x4096 (conds m c) shapeCasts_S2x8x24576_S96x1x4096 := by
  unfold V
  simp only [hostOps0]
  after_results
  rfl
theorem V_v1 : (V (F := Ideal) m c main_v1 : Vec Ideal S512x4096 .f32)
    = shapeCast S512x4096 (context m c) shapeCasts_S2x256x4096_S512x4096 := by
  unfold V
  simp only [hostOps0]
  after_results
  rfl
theorem V_v2 : (V (F := Ideal) m c main_v2 : Vec Ideal S16384x4096 .f32)
    = shapeCast S16384x4096 (latents m c) shapeCasts_S2x8192x4096_S16384x4096 := by
  unfold V
  simp only [hostOps0]
  after_results
  rfl
theorem V_v3 : (V (F := Ideal) m c main_v3 : Vec Ideal S1x4096 .f32) = shapeCast S1x4096 (gains m c) shapeCasts_S4096_S1x4096 := by
  unfold V
  simp only [hostOps0]
  after_results
  rfl
theorem V_v4 : (V (F := Ideal) m c main_v4 : Vec Ideal S1x4096 .f32) = shapeCast S1x4096 (offsets m c) shapeCasts_S4096_S1x4096 := by
  unfold V
  simp only [hostOps0]
  after_results
  rfl

/-- A row of the result that a point writes. -/
abbrev row (t : Fin cfg0.N) (r : Fin 256) : Fin 16896 :=
  ⟨256 * t.val + r.val, by have := r.isLt; have := point_lt t; omega⟩

/-- That row's condition row. -/
theorem seg_row (t : Fin cfg0.N) (r : Fin 256) : seg (row t r) = ⟨tileSeg t.val, tileSeg_lt t⟩ := by
  have hr := r.isLt
  apply Fin.ext
  unfold seg tileSeg
  by_cases ht : t.val < 2
  · rw [if_pos (show 256 * t.val + r.val < 512 by omega)]
    show 2 = if t.val < 2 then 2 else _
    rw [if_pos ht]
  · rw [if_neg (show ¬ 256 * t.val + r.val < 512 by omega)]
    show (256 * t.val + r.val - 512) / 8192 = if t.val < 2 then 2 else _
    rw [if_neg ht]
    omega

/-- The context rows the first two points are handed. -/
theorem blk0 (t : Fin cfg0.N) (r : Fin 256) (d : Fin 4096) (ht : t.val < 2) :
    (iblk (F := Ideal) m c 0 t : Vec Ideal S256x4096 .f32) (ix2 r d) = laid (context m c) (latents m c) (row t r) d := by
  have hr := r.isLt
  have hi : ((cfg0.win 0).blk t).view.emb (ix2 r d : S256x4096.Idx) = (ix2 ⟨256 * t.val + r.val, by omega⟩ d : S512x4096.Idx) := by
    funext a
    apply Fin.ext
    match a with
    | ⟨0, _⟩ => show win0_0.index t 0 * 256 + 1 * r.val = 256 * t.val + r.val; rw [(idx0 t).1]; omega
    | ⟨1, _⟩ => show win0_0.index t 1 * 4096 + 1 * d.val = d.val; rw [(idx0 t).2]; omega
  unfold iblk
  rw [View.read_apply]
  refine (congrArg (V (F := Ideal) m c main_v1 : Vec Ideal S512x4096 .f32) hi).trans ?_
  rw [V_v1]
  refine (context_row _ _ d).trans ?_
  unfold laid
  rw [dif_pos (show 256 * t.val + r.val < 512 by omega)]

/-- The latent rows a later point is handed. -/
theorem blk1 (t : Fin cfg0.N) (r : Fin 256) (d : Fin 4096) (ht : ¬ t.val < 2) :
    (iblk (F := Ideal) m c 1 t : Vec Ideal S256x4096 .f32) (ix2 r d) = laid (context m c) (latents m c) (row t r) d := by
  have hr := r.isLt
  have hN := point_lt t
  have hi : ((cfg0.win 1).blk t).view.emb (ix2 r d : S256x4096.Idx)
      = (ix2 ⟨256 * t.val + r.val - 512, by omega⟩ d : S16384x4096.Idx) := by
    funext a
    apply Fin.ext
    match a with
    | ⟨0, _⟩ => show win0_1.index t 0 * 256 + 1 * r.val = 256 * t.val + r.val - 512; rw [(idx1 t).1]; omega
    | ⟨1, _⟩ => show win0_1.index t 1 * 4096 + 1 * d.val = d.val; rw [(idx1 t).2]; omega
  unfold iblk
  rw [View.read_apply]
  refine (congrArg (V (F := Ideal) m c main_v2 : Vec Ideal S16384x4096 .f32) hi).trans ?_
  rw [V_v2]
  refine (latent_row _ _ d).trans ?_
  unfold laid
  rw [dif_neg (show ¬ 256 * t.val + r.val < 512 by omega)]

/-- The mixer's rows a point is handed. -/
theorem blk2 (t : Fin cfg0.N) (r : Fin 256) (d : Fin 4096) :
    (iblk (F := Ideal) m c 2 t : Vec Ideal S256x4096 .f32) (ix2 r d) = mixer m c (ix2 (row t r) d) := by
  unfold iblk
  rw [View.read_apply]
  show V (F := Ideal) m c main_arg2 _ = m (c.tc.loc main_arg2) _
  rw [V_main_arg2]
  congr 1
  funext a
  apply Fin.ext
  match a with
  | ⟨0, _⟩ => show win0_2.index t 0 * 256 + 1 * r.val = 256 * t.val + r.val; rw [(idx2 t).1]; omega
  | ⟨1, _⟩ => show win0_2.index t 1 * 4096 + 1 * d.val = d.val; rw [(idx2 t).2]; omega

/-- A row of the table at an index of the array the host lays. -/
theorem cond_row (s : Fin 8) (k : Fin 6) (d : Fin 4096) (i : S96x1x4096.Idx) (h0 : (i 0).val = 6 * s.val + k.val)
    (h2 : (i 2).val = d.val) : (V (F := Ideal) m c main_v0 : Vec Ideal S96x1x4096 .f32) i = tab (conds m c) s k d := by
  have hi : i = (ix3 (i 0) (0 : Fin 1) d : S96x1x4096.Idx) := by
    funext a
    match a with
    | ⟨0, _⟩ => rfl
    | ⟨1, _⟩ => exact Fin.ext (by have : (i 1).val < 1 := (i 1).isLt; show (i 1).val = 0; omega)
    | ⟨2, _⟩ => exact Fin.ext h2
  rw [hi, V_v0]
  exact tab_row _ s k d _ h0

/-- The gates, the scales and the shifts a point is handed. -/
theorem blk3 (t : Fin cfg0.N) (d : Fin 4096) :
    (iblk (F := Ideal) m c 3 t : Vec Ideal S1x1x4096 .f32) (ix3 0 0 d) = tab (conds m c) ⟨tileSeg t.val, tileSeg_lt t⟩ 2 d := by
  unfold iblk
  rw [View.read_apply]
  exact cond_row m c _ 2 d _ (by show win0_3.index t 0 * 1 + 1 * 0 = 6 * tileSeg t.val + 2; rw [(idx3 t).1]; omega)
    (by show win0_3.index t 2 * 4096 + 1 * d.val = d.val; rw [(idx3 t).2]; omega)
theorem blk6 (t : Fin cfg0.N) (d : Fin 4096) :
    (iblk (F := Ideal) m c 6 t : Vec Ideal S1x1x4096 .f32) (ix3 0 0 d) = tab (conds m c) ⟨tileSeg t.val, tileSeg_lt t⟩ 4 d := by
  unfold iblk
  rw [View.read_apply]
  exact cond_row m c _ 4 d _ (by show win0_6.index t 0 * 1 + 1 * 0 = 6 * tileSeg t.val + 4; rw [(idx6 t).1]; omega)
    (by show win0_6.index t 2 * 4096 + 1 * d.val = d.val; rw [(idx6 t).2]; omega)
theorem blk7 (t : Fin cfg0.N) (d : Fin 4096) :
    (iblk (F := Ideal) m c 7 t : Vec Ideal S1x1x4096 .f32) (ix3 0 0 d) = tab (conds m c) ⟨tileSeg t.val, tileSeg_lt t⟩ 3 d := by
  unfold iblk
  rw [View.read_apply]
  exact cond_row m c _ 3 d _ (by show win0_7.index t 0 * 1 + 1 * 0 = 6 * tileSeg t.val + 3; rw [(idx7 t).1]; omega)
    (by show win0_7.index t 2 * 4096 + 1 * d.val = d.val; rw [(idx7 t).2]; omega)

/-- A vector laid as one row, at an index of that row. -/
theorem line (v : Vec Ideal S4096 .f32) (d : Fin 4096) (i : S1x4096.Idx) (h1 : (i 1).val = d.val) :
    shapeCast S1x4096 v shapeCasts_S4096_S1x4096 i = v (ix1 d) := by
  have hi : i = (ix2 (0 : Fin 1) d : S1x4096.Idx) := by
    funext a
    match a with
    | ⟨0, _⟩ => exact Fin.ext (by have : (i 0).val < 1 := (i 0).isLt; show (i 0).val = 0; omega)
    | ⟨1, _⟩ => exact Fin.ext h1
  rw [hi]
  pointwise

/-- The gains and the offsets every point is handed. -/
theorem blk4 (t : Fin cfg0.N) (d : Fin 4096) :
    (iblk (F := Ideal) m c 4 t : Vec Ideal S1x4096 .f32) (ix2 0 d) = gains m c (ix1 d) := by
  unfold iblk
  rw [View.read_apply]
  refine (congrFun (V_v3 m c) _).trans (line _ d _ ?_)
  show win0_4.index t 1 * 4096 + 1 * d.val = d.val
  rw [(idx4 t).2]
  omega
theorem blk5 (t : Fin cfg0.N) (d : Fin 4096) :
    (iblk (F := Ideal) m c 5 t : Vec Ideal S1x4096 .f32) (ix2 0 d) = offsets m c (ix1 d) := by
  unfold iblk
  rw [View.read_apply]
  refine (congrFun (V_v4 m c) _).trans (line _ d _ ?_)
  show win0_5.index t 1 * 4096 + 1 * d.val = d.val
  rw [(idx5 t).2]
  omega

/-- The results of the arguments. -/
abbrev finalH : Vec Ideal S16896x4096 .f32 := outH (context m c) (latents m c) (mixer m c) (conds m c) (gains m c) (offsets m c)
abbrev finalV : Vec Ideal S16896x4096 .bf16 := outV (context m c) (latents m c) (mixer m c) (conds m c) (gains m c) (offsets m c)

/-- A point's normalised rows. -/
theorem block_h (t : Fin cfg0.N) (r : Fin 256) (d : Fin 4096) :
    k0_pay3 (F := Ideal) (grid0.coords t) (iblk m c 0 t) (iblk m c 1 t) (iblk m c 2 t) (iblk m c 3 t) (iblk m c 4 t) (iblk m c 5 t)
      (iblk m c 6 t) (iblk m c 7 t) (ix2 r d) = finalH m c (ix2 (row t r) d) := by
  unfold k0_pay3
  rw [View.ld_unit_zero (S := S256x4096) hz2, View.ld_unit_zero (S := S256x4096) hz2, View.ld_unit_zero (S := S256x4096) hz2,
    View.ld_unit_zero (S := S1x1x4096) hz3, View.ld_unit_zero (S := S1x4096) hz2, View.ld_unit_zero (S := S1x4096) hz2]
  refine (pay2 _ _ _ _ _ _ _ r d (mixed (context m c) (latents m c) (mixer m c) (conds m c) (row t r)) fun e => ?_).trans ?_
  · unfold mixed
    rw [blk2, blk3, first, seg_row]
    by_cases ht : t.val < 2
    · rw [if_pos ht, ValueIdx.select_one, blk0 m c t r e ht]
    · rw [if_neg ht, ValueIdx.select_zero, blk1 m c t r e ht]
  · simp only [blk4, blk5]
    rfl

/-- Where a point's blocks lie in the results. -/
theorem emb8 (t : Fin cfg0.N) (r : Fin 256) (d : Fin 4096) :
    ((cfg0.win 8).blk t).view.emb (ix2 r d : S256x4096.Idx) = (ix2 (row t r) d : S16896x4096.Idx) := by
  funext a
  apply Fin.ext
  match a with
  | ⟨0, _⟩ => show win0_8.index t 0 * 256 + 1 * r.val = 256 * t.val + r.val; rw [(idx8 t).1]; omega
  | ⟨1, _⟩ => show win0_8.index t 1 * 4096 + 1 * d.val = d.val; rw [(idx8 t).2]; omega
theorem emb9 (t : Fin cfg0.N) (r : Fin 256) (d : Fin 4096) :
    ((cfg0.win 9).blk t).view.emb (ix2 r d : S256x4096.Idx) = (ix2 (row t r) d : S16896x4096.Idx) := by
  funext a
  apply Fin.ext
  match a with
  | ⟨0, _⟩ => show win0_9.index t 0 * 256 + 1 * r.val = 256 * t.val + r.val; rw [(idx9 t).1]; omega
  | ⟨1, _⟩ => show win0_9.index t 1 * 4096 + 1 * d.val = d.val; rw [(idx9 t).2]; omega

/-- What a point writes back is its block of the two results. -/
theorem flushed_h (t : Fin cfg0.N) :
    (dats (F := Ideal) m 0 c).flushed 8 t = ((cfg0.win 8).blk t).view.read (Elt Ideal) (finalH m c) := by
  rw [flushed8]
  funext y
  rw [View.read_apply]
  obtain ⟨r, d, rfl⟩ : ∃ (r : Fin 256) (d : Fin 4096), y = (ix2 r d : S256x4096.Idx) :=
    ⟨y 0, y 1, by funext a; match a with | ⟨0, _⟩ => rfl | ⟨1, _⟩ => rfl⟩
  have h : out0_8 (F := Ideal) (grid0.coords t) (iblk m c 0 t) (iblk m c 1 t) (iblk m c 2 t) (iblk m c 3 t) (iblk m c 4 t)
      (iblk m c 5 t) (iblk m c 6 t) (iblk m c 7 t) (ix2 r d) = finalH m c (ix2 (row t r) d) := by
    unfold out0_8
    rw [View.canon_unit_zero (S := S256x4096) hz2, block_h]
  exact h.trans (congrArg (finalH m c) (emb8 t r d)).symm
theorem flushed_v (t : Fin cfg0.N) :
    (dats (F := Ideal) m 0 c).flushed 9 t = ((cfg0.win 9).blk t).view.read (Elt Ideal) (finalV m c) := by
  rw [flushed9]
  funext y
  rw [View.read_apply]
  obtain ⟨r, d, rfl⟩ : ∃ (r : Fin 256) (d : Fin 4096), y = (ix2 r d : S256x4096.Idx) :=
    ⟨y 0, y 1, by funext a; match a with | ⟨0, _⟩ => rfl | ⟨1, _⟩ => rfl⟩
  have h : out0_9 (F := Ideal) (grid0.coords t) (iblk m c 0 t) (iblk m c 1 t) (iblk m c 2 t) (iblk m c 3 t) (iblk m c 4 t)
      (iblk m c 5 t) (iblk m c 6 t) (iblk m c 7 t) (ix2 r d) = finalV m c (ix2 (row t r) d) := by
    unfold out0_9
    rw [View.canon_unit_zero (S := S256x4096) hz2, View.ld_unit_zero (S := S1x1x4096) hz3, View.ld_unit_zero (S := S1x1x4096) hz3,
      pay1, block_h, blk6, blk7, ← seg_row t r]
    rfl
  exact h.trans (congrArg (finalV m c) (emb9 t r d)).symm

/-- Every index of the results is in some point's rows. -/
theorem in_rows (i : S16896x4096.Idx) : ∃ (t : Fin cfg0.N) (r : Fin 256) (d : Fin 4096), i = (ix2 (row t r) d : S16896x4096.Idx) := by
  have h0 : (i 0).val < 16896 := (i 0).isLt
  have hN : cfg0.N = 66 := N_0
  refine ⟨⟨(i 0).val / 256, by omega⟩, ⟨(i 0).val % 256, by omega⟩, i 1, ?_⟩
  funext a
  match a with
  | ⟨0, _⟩ => exact Fin.ext (by show (i 0).val = 256 * ((i 0).val / 256) + (i 0).val % 256; omega)
  | ⟨1, _⟩ => rfl

theorem cover_h (i : S16896x4096.Idx) : ∃ t : Fin cfg0.N, (cfg0.win 8).flush t = true ∧ i ∈ ((cfg0.win 8).blk t).view.set := by
  obtain ⟨t, r, d, rfl⟩ := in_rows i
  exact ⟨t, flush0_8 t, emb8 t r d ▸ View.emb_mem_set _ _⟩
theorem cover_v (i : S16896x4096.Idx) : ∃ t : Fin cfg0.N, (cfg0.win 9).flush t = true ∧ i ∈ ((cfg0.win 9).blk t).view.set := by
  obtain ⟨t, r, d, rfl⟩ := in_rows i
  exact ⟨t, flush0_9 t, emb9 t r d ▸ View.emb_mem_set _ _⟩

/-- The kernel ends with the normalised rows and with the rows for the experts. -/
theorem final_h : (dats (F := Ideal) m 0 c).arrAt 8 cfg0.N = finalH m c :=
  (dats (F := Ideal) m 0 c).arrAt_eq_of_cover 8 _ (fun t _ => flushed_h m c t) cover_h
theorem final_v : (dats (F := Ideal) m 0 c).arrAt 9 cfg0.N = finalV m c :=
  (dats (F := Ideal) m 0 c).arrAt_eq_of_cover 9 _ (fun t _ => flushed_v m c t) cover_v

section Reference
open Cert.NormRefIdeal Cert.NormRefIdeal.Gen

/-- The reference's mean of every context row. -/
def meanCtx (y : FVec Ideal Cert.NormRefIdeal.S2x256x4096 .f32) : FVec Ideal Cert.NormRefIdeal.S2x256x1 .f32 :=
  Host.divf (broadcastInDim Cert.NormRefIdeal.S2x256x1 ![0, 1] bcast_S2x256_S2x256x1_0_1
    (Host.reduceAdd y (constant Cert.NormRefIdeal.S_ .f32 0x00000000#32) reducesTo_S2x256x4096_S2x256_d2 Cert.NormRefIdeal.Gen.h_S_))
    (broadcastInDim Cert.NormRefIdeal.S2x256x1 ![] bcast_S_S2x256x1 (constant Cert.NormRefIdeal.S_ .f32 0x45800000#32))

/-- The reference's context rows without their means. -/
def centreCtx (y : FVec Ideal Cert.NormRefIdeal.S2x256x4096 .f32) : FVec Ideal Cert.NormRefIdeal.S2x256x4096 .f32 :=
  subf y (broadcastInDim Cert.NormRefIdeal.S2x256x4096 ![0, 1, 2] bcast_S2x256x1_S2x256x4096_0_1_2 (meanCtx y))

/-- The reference's reciprocal of every context row's deviation. -/
def devCtx (y : FVec Ideal Cert.NormRefIdeal.S2x256x4096 .f32) : FVec Ideal Cert.NormRefIdeal.S2x256x1 .f32 :=
  Host.rsqrt (addf (meanCtx (mulf (centreCtx y) (centreCtx y)))
    (broadcastInDim Cert.NormRefIdeal.S2x256x1 ![] bcast_S_S2x256x1 (constant Cert.NormRefIdeal.S_ .f32 0x3727C5AC#32)))

/-- The reference's normalised context rows. -/
def normedCtx (y : FVec Ideal Cert.NormRefIdeal.S2x256x4096 .f32) (g b : FVec Ideal Cert.NormRefIdeal.S4096 .f32) : FVec Ideal Cert.NormRefIdeal.S2x256x4096 .f32 :=
  addf (mulf (mulf (centreCtx y) (broadcastInDim Cert.NormRefIdeal.S2x256x4096 ![0, 1, 2] bcast_S2x256x1_S2x256x4096_0_1_2 (devCtx y)))
    (broadcastInDim Cert.NormRefIdeal.S2x256x4096 ![0, 1, 2] bcast_S1x1x4096_S2x256x4096_0_1_2
      (broadcastInDim Cert.NormRefIdeal.S1x1x4096 ![2] bcast_S4096_S1x1x4096_2 g)))
    (broadcastInDim Cert.NormRefIdeal.S2x256x4096 ![0, 1, 2] bcast_S1x1x4096_S2x256x4096_0_1_2
      (broadcastInDim Cert.NormRefIdeal.S1x1x4096 ![2] bcast_S4096_S1x1x4096_2 b))

theorem meanCtx_at (y : FVec Ideal Cert.NormRefIdeal.S2x256x4096 .f32) (e : Fin 2) (n : Fin 256) : meanCtx y (ix3 e n 0) = mean (fun d => y (ix3 e n d)) := by
  unfold meanCtx mean
  pointwise

theorem centreCtx_at (y : FVec Ideal Cert.NormRefIdeal.S2x256x4096 .f32) (e : Fin 2) (n : Fin 256) (d : Fin 4096) :
    centreCtx y (ix3 e n d) = centre (fun d => y (ix3 e n d)) d := by
  have h := meanCtx_at y e n
  unfold centreCtx centre
  generalize meanCtx y = M at h ⊢
  pointwise
  rw [h]

theorem devCtx_at (y : FVec Ideal Cert.NormRefIdeal.S2x256x4096 .f32) (e : Fin 2) (n : Fin 256) :
    devCtx y (ix3 e n 0) = Ideal.rsqrt (mean (fun d => centre (fun d => y (ix3 e n d)) d * centre (fun d => y (ix3 e n d)) d)
      + Ideal.ofBits .f32 0x3727C5AC#32) := by
  have h := meanCtx_at (mulf (centreCtx y) (centreCtx y)) e n
  simp only [mulf_apply, centreCtx_at] at h
  unfold devCtx
  generalize meanCtx (mulf (centreCtx y) (centreCtx y)) = M at h ⊢
  pointwise
  rw [h]
  rfl

theorem normedCtx_at (y : FVec Ideal Cert.NormRefIdeal.S2x256x4096 .f32) (g b : FVec Ideal Cert.NormRefIdeal.S4096 .f32) (e : Fin 2) (n : Fin 256) (d : Fin 4096) :
    normedCtx y g b (ix3 e n d) = normed (fun d => g (ix1 d)) (fun d => b (ix1 d)) (fun d => y (ix3 e n d)) d := by
  have h1 := centreCtx_at y e n d
  have h2 := devCtx_at y e n
  unfold normedCtx normed
  generalize centreCtx y = C at h1 ⊢
  generalize devCtx y = D at h2 ⊢
  pointwise
  rw [h1, h2]

/-- The mixer's context rows, by example. -/
def mixerCtx (z : FVec Ideal Cert.NormRefIdeal.S16896x4096 .f32) : FVec Ideal Cert.NormRefIdeal.S2x256x4096 .f32 :=
  shapeCast Cert.NormRefIdeal.S2x256x4096 (extractStridedSlice Cert.NormRefIdeal.S512x4096 ![0, 0] z slices_S16896x4096_S512x4096_0_0)
    shapeCasts_S512x4096_S2x256x4096

theorem mixerCtx_at (z : FVec Ideal Cert.NormRefIdeal.S16896x4096 .f32) (e : Fin 2) (n : Fin 256) (d : Fin 4096) :
    mixerCtx z (ix3 e n d) = z (ix2 ⟨0 + 256 * e.val + n.val, by omega⟩ d) := by
  have he := e.isLt
  have hn := n.isLt
  have hd := d.isLt
  unfold mixerCtx
  pointwise
  congr 2
  all_goals (apply Fin.ext; simp only []; omega)

/-- The reference's mean of every latent row. -/
def meanLat (y : FVec Ideal Cert.NormRefIdeal.S2x8192x4096 .f32) : FVec Ideal Cert.NormRefIdeal.S2x8192x1 .f32 :=
  Host.divf (broadcastInDim Cert.NormRefIdeal.S2x8192x1 ![0, 1] bcast_S2x8192_S2x8192x1_0_1
    (Host.reduceAdd y (constant Cert.NormRefIdeal.S_ .f32 0x00000000#32) reducesTo_S2x8192x4096_S2x8192_d2 Cert.NormRefIdeal.Gen.h_S_))
    (broadcastInDim Cert.NormRefIdeal.S2x8192x1 ![] bcast_S_S2x8192x1 (constant Cert.NormRefIdeal.S_ .f32 0x45800000#32))

/-- The reference's latent rows without their means. -/
def centreLat (y : FVec Ideal Cert.NormRefIdeal.S2x8192x4096 .f32) : FVec Ideal Cert.NormRefIdeal.S2x8192x4096 .f32 :=
  subf y (broadcastInDim Cert.NormRefIdeal.S2x8192x4096 ![0, 1, 2] bcast_S2x8192x1_S2x8192x4096_0_1_2 (meanLat y))

/-- The reference's reciprocal of every latent row's deviation. -/
def devLat (y : FVec Ideal Cert.NormRefIdeal.S2x8192x4096 .f32) : FVec Ideal Cert.NormRefIdeal.S2x8192x1 .f32 :=
  Host.rsqrt (addf (meanLat (mulf (centreLat y) (centreLat y)))
    (broadcastInDim Cert.NormRefIdeal.S2x8192x1 ![] bcast_S_S2x8192x1 (constant Cert.NormRefIdeal.S_ .f32 0x3727C5AC#32)))

/-- The reference's normalised latent rows. -/
def normedLat (y : FVec Ideal Cert.NormRefIdeal.S2x8192x4096 .f32) (g b : FVec Ideal Cert.NormRefIdeal.S4096 .f32) : FVec Ideal Cert.NormRefIdeal.S2x8192x4096 .f32 :=
  addf (mulf (mulf (centreLat y) (broadcastInDim Cert.NormRefIdeal.S2x8192x4096 ![0, 1, 2] bcast_S2x8192x1_S2x8192x4096_0_1_2 (devLat y)))
    (broadcastInDim Cert.NormRefIdeal.S2x8192x4096 ![0, 1, 2] bcast_S1x1x4096_S2x8192x4096_0_1_2
      (broadcastInDim Cert.NormRefIdeal.S1x1x4096 ![2] bcast_S4096_S1x1x4096_2 g)))
    (broadcastInDim Cert.NormRefIdeal.S2x8192x4096 ![0, 1, 2] bcast_S1x1x4096_S2x8192x4096_0_1_2
      (broadcastInDim Cert.NormRefIdeal.S1x1x4096 ![2] bcast_S4096_S1x1x4096_2 b))

theorem meanLat_at (y : FVec Ideal Cert.NormRefIdeal.S2x8192x4096 .f32) (e : Fin 2) (n : Fin 8192) : meanLat y (ix3 e n 0) = mean (fun d => y (ix3 e n d)) := by
  unfold meanLat mean
  pointwise

theorem centreLat_at (y : FVec Ideal Cert.NormRefIdeal.S2x8192x4096 .f32) (e : Fin 2) (n : Fin 8192) (d : Fin 4096) :
    centreLat y (ix3 e n d) = centre (fun d => y (ix3 e n d)) d := by
  have h := meanLat_at y e n
  unfold centreLat centre
  generalize meanLat y = M at h ⊢
  pointwise
  rw [h]

theorem devLat_at (y : FVec Ideal Cert.NormRefIdeal.S2x8192x4096 .f32) (e : Fin 2) (n : Fin 8192) :
    devLat y (ix3 e n 0) = Ideal.rsqrt (mean (fun d => centre (fun d => y (ix3 e n d)) d * centre (fun d => y (ix3 e n d)) d)
      + Ideal.ofBits .f32 0x3727C5AC#32) := by
  have h := meanLat_at (mulf (centreLat y) (centreLat y)) e n
  simp only [mulf_apply, centreLat_at] at h
  unfold devLat
  generalize meanLat (mulf (centreLat y) (centreLat y)) = M at h ⊢
  pointwise
  rw [h]
  rfl

theorem normedLat_at (y : FVec Ideal Cert.NormRefIdeal.S2x8192x4096 .f32) (g b : FVec Ideal Cert.NormRefIdeal.S4096 .f32) (e : Fin 2) (n : Fin 8192) (d : Fin 4096) :
    normedLat y g b (ix3 e n d) = normed (fun d => g (ix1 d)) (fun d => b (ix1 d)) (fun d => y (ix3 e n d)) d := by
  have h1 := centreLat_at y e n d
  have h2 := devLat_at y e n
  unfold normedLat normed
  generalize centreLat y = C at h1 ⊢
  generalize devLat y = D at h2 ⊢
  pointwise
  rw [h1, h2]

/-- The mixer's latent rows, by example. -/
def mixerLat (z : FVec Ideal Cert.NormRefIdeal.S16896x4096 .f32) : FVec Ideal Cert.NormRefIdeal.S2x8192x4096 .f32 :=
  shapeCast Cert.NormRefIdeal.S2x8192x4096 (extractStridedSlice Cert.NormRefIdeal.S16384x4096 ![512, 0] z slices_S16896x4096_S16384x4096_512_0)
    shapeCasts_S16384x4096_S2x8192x4096

theorem mixerLat_at (z : FVec Ideal Cert.NormRefIdeal.S16896x4096 .f32) (e : Fin 2) (n : Fin 8192) (d : Fin 4096) :
    mixerLat z (ix3 e n d) = z (ix2 ⟨512 + 8192 * e.val + n.val, by omega⟩ d) := by
  have he := e.isLt
  have hn := n.isLt
  have hd := d.isLt
  unfold mixerLat
  pointwise
  congr 2
  all_goals (apply Fin.ext; simp only []; omega)

variable (k : FVec Ideal Cert.NormRefIdeal.S2x256x4096 .f32) (x : FVec Ideal Cert.NormRefIdeal.S2x8192x4096 .f32)
  (z : FVec Ideal Cert.NormRefIdeal.S16896x4096 .f32) (T : FVec Ideal Cert.NormRefIdeal.S2x8x24576 .f32)
  (g b : FVec Ideal Cert.NormRefIdeal.S4096 .f32)

/-- The reference's residual of the context and of the latents. -/
def sumCtx : FVec Ideal Cert.NormRefIdeal.S2x256x4096 .f32 :=
  addf (mulf (broadcastInDim Cert.NormRefIdeal.S2x256x4096 ![] bcast_S_S2x256x4096 (constant Cert.NormRefIdeal.S_ .f32 0x3FB504F3#32)) k)
    (mulf (broadcastInDim Cert.NormRefIdeal.S2x256x4096 ![0, 1, 2] bcast_S1x1x4096_S2x256x4096_0_1_2
      (broadcastInDim Cert.NormRefIdeal.S1x1x4096 ![2] bcast_S4096_S1x1x4096_2
        (extractStridedSlice Cert.NormRefIdeal.S4096 ![8192] (refCtxRow T) slices_S24576_S4096_8192))) (mixerCtx z))
def sumLat : FVec Ideal Cert.NormRefIdeal.S2x8192x4096 .f32 :=
  addf (mulf (broadcastInDim Cert.NormRefIdeal.S2x8192x4096 ![] bcast_S_S2x8192x4096 (constant Cert.NormRefIdeal.S_ .f32 0x3FB504F3#32)) x)
    (mulf (broadcastInDim Cert.NormRefIdeal.S2x8192x4096 ![0, 1, 2] bcast_S2x1x4096_S2x8192x4096_0_1_2
      (extractStridedSlice Cert.NormRefIdeal.S2x1x4096 ![0, 0, 8192] (refLatRow T) slices_S2x1x24576_S2x1x4096_0_0_8192)) (mixerLat z))

theorem sumCtx_at (e : Fin 2) (n : Fin 256) (d : Fin 4096) : sumCtx k z T (ix3 e n d)
    = Ideal.ofBits .f32 0x3FB504F3#32 * k (ix3 e n d) + tab T 2 2 d * z (ix2 ⟨0 + 256 * e.val + n.val, by omega⟩ d) := by
  have h := refCtxRow_at T
  have hz := mixerCtx_at z e n d
  unfold sumCtx
  generalize refCtxRow T = R at h ⊢
  generalize mixerCtx z = Z at hz ⊢
  pointwise
  rw [h, hz]
  simp only [Nat.zero_add]
  rfl

theorem sumLat_at (e : Fin 2) (n : Fin 8192) (d : Fin 4096) : sumLat x z T (ix3 e n d)
    = Ideal.ofBits .f32 0x3FB504F3#32 * x (ix3 e n d)
      + tab T ⟨e.val, by omega⟩ 2 d * z (ix2 ⟨512 + 8192 * e.val + n.val, by omega⟩ d) := by
  have h := refLatRow_at T
  have hz := mixerLat_at z e n d
  unfold sumLat
  generalize refLatRow T = R at h ⊢
  generalize mixerLat z = Z at hz ⊢
  pointwise
  rw [h, hz]
  rfl

/-- The reference's rows for the experts, of the context and of the latents. -/
def turnCtx (y : FVec Ideal Cert.NormRefIdeal.S2x256x4096 .f32) : FVec Ideal Cert.NormRefIdeal.S2x256x4096 .f32 :=
  addf (mulf y (broadcastInDim Cert.NormRefIdeal.S2x256x4096 ![0, 1, 2] bcast_S1x1x4096_S2x256x4096_0_1_2
      (broadcastInDim Cert.NormRefIdeal.S1x1x4096 ![2] bcast_S4096_S1x1x4096_2
        (addf (broadcastInDim Cert.NormRefIdeal.S4096 ![] bcast_S_S4096 (constant Cert.NormRefIdeal.S_ .f32 0x3F800000#32))
          (extractStridedSlice Cert.NormRefIdeal.S4096 ![16384] (refCtxRow T) slices_S24576_S4096_16384)))))
    (broadcastInDim Cert.NormRefIdeal.S2x256x4096 ![0, 1, 2] bcast_S1x1x4096_S2x256x4096_0_1_2
      (broadcastInDim Cert.NormRefIdeal.S1x1x4096 ![2] bcast_S4096_S1x1x4096_2
        (extractStridedSlice Cert.NormRefIdeal.S4096 ![12288] (refCtxRow T) slices_S24576_S4096_12288)))
def turnLat (y : FVec Ideal Cert.NormRefIdeal.S2x8192x4096 .f32) : FVec Ideal Cert.NormRefIdeal.S2x8192x4096 .f32 :=
  addf (mulf y (broadcastInDim Cert.NormRefIdeal.S2x8192x4096 ![0, 1, 2] bcast_S2x1x4096_S2x8192x4096_0_1_2
      (addf (broadcastInDim Cert.NormRefIdeal.S2x1x4096 ![] bcast_S_S2x1x4096 (constant Cert.NormRefIdeal.S_ .f32 0x3F800000#32))
        (extractStridedSlice Cert.NormRefIdeal.S2x1x4096 ![0, 0, 16384] (refLatRow T) slices_S2x1x24576_S2x1x4096_0_0_16384))))
    (broadcastInDim Cert.NormRefIdeal.S2x8192x4096 ![0, 1, 2] bcast_S2x1x4096_S2x8192x4096_0_1_2
      (extractStridedSlice Cert.NormRefIdeal.S2x1x4096 ![0, 0, 12288] (refLatRow T) slices_S2x1x24576_S2x1x4096_0_0_12288))

theorem turnCtx_at (y : FVec Ideal Cert.NormRefIdeal.S2x256x4096 .f32) (e : Fin 2) (n : Fin 256) (d : Fin 4096) :
    turnCtx T y (ix3 e n d) = turn T 2 d (y (ix3 e n d)) := by
  have h := refCtxRow_at T
  unfold turnCtx
  generalize refCtxRow T = R at h ⊢
  pointwise
  rw [h, h]
  rfl

theorem turnLat_at (y : FVec Ideal Cert.NormRefIdeal.S2x8192x4096 .f32) (e : Fin 2) (n : Fin 8192) (d : Fin 4096) :
    turnLat T y (ix3 e n d) = turn T ⟨e.val, by omega⟩ d (y (ix3 e n d)) := by
  have h := refLatRow_at T
  unfold turnLat
  generalize refLatRow T = R at h ⊢
  pointwise
  rw [h, h]
  rfl

/-- The reference's rows: the context's, then the latents'. -/
def join : FVec Ideal Cert.NormRefIdeal.S16896x4096 .f32 :=
  concatenate Cert.NormRefIdeal.S16896x4096 0
    [⟨Cert.NormRefIdeal.S512x4096, shapeCast Cert.NormRefIdeal.S512x4096 k Cert.NormRefIdeal.Gen.shapeCasts_S2x256x4096_S512x4096⟩,
     ⟨Cert.NormRefIdeal.S16384x4096, shapeCast Cert.NormRefIdeal.S16384x4096 x Cert.NormRefIdeal.Gen.shapeCasts_S2x8192x4096_S16384x4096⟩]
    concatenates_S512x4096_S16384x4096_S16896x4096_d0

theorem join_at (r : Fin 16896) (d : Fin 4096) : join k x (ix2 r d) = laid k x r d := by
  have hr := r.isLt
  unfold laid join
  by_cases h : r.val < 512
  · rw [concatenate_pair_apply_left (t := Cert.NormRefIdeal.S16896x4096) (s₁ := Cert.NormRefIdeal.S512x4096)
      (s₂ := Cert.NormRefIdeal.S16384x4096) 0 _ _ _ _ rfl (ix2 (⟨r.val, h⟩ : Fin 512) d) (fun a => by fin_cases a <;> rfl), dif_pos h]
    exact context_row k _ d
  · rw [concatenate_pair_apply_right (t := Cert.NormRefIdeal.S16896x4096) (s₁ := Cert.NormRefIdeal.S512x4096)
      (s₂ := Cert.NormRefIdeal.S16384x4096) 0 _ _ _ _ rfl rfl (ix2 (⟨r.val - 512, by omega⟩ : Fin 16384) d) (fun a ha => by
        fin_cases a
        · exact absurd rfl ha
        · rfl) (by show r.val - 512 + 512 = r.val; omega), dif_neg h]
    exact latent_row x _ d

/-- The reference's normalised rows, laid one after the other. -/
theorem ref_laid (r : Fin 16896) (d : Fin 4096) :
    laid (normedCtx (sumCtx k z T) g b) (normedLat (sumLat x z T) g b) r d = outH k x z T g b (ix2 r d) := by
  have hr := r.isLt
  show _ = normed _ _ (mixed k x z T r) d
  unfold mixed seg laid
  by_cases h : r.val < 512
  · simp only [dif_pos h, if_pos h]
    rw [normedCtx_at]
    congr 1
    funext e
    rw [sumCtx_at]
    congr 4
    apply Fin.ext
    show 0 + 256 * (r.val / 256) + r.val % 256 = r.val
    omega
  · simp only [dif_neg h, if_neg h]
    rw [normedLat_at]
    congr 1
    funext e
    rw [sumLat_at]
    congr 4
    apply Fin.ext
    show 512 + 8192 * ((r.val - 512) / 8192) + (r.val - 512) % 8192 = r.val
    omega

/-- The reference's normalised rows. -/
theorem ref_h : join (normedCtx (sumCtx k z T) g b) (normedLat (sumLat x z T) g b) = outH k x z T g b := by
  funext i
  obtain ⟨r, d, rfl⟩ : ∃ (r : Fin 16896) (d : Fin 4096), i = (ix2 r d : Cert.NormRefIdeal.S16896x4096.Idx) :=
    ⟨i 0, i 1, by funext a; match a with | ⟨0, _⟩ => rfl | ⟨1, _⟩ => rfl⟩
  rw [join_at, ref_laid]

/-- The reference's rows for the experts, rounded: over the extended reals, the same rows. -/
theorem ref_v : truncf (F := Ideal) .bf16 (join (turnCtx T (normedCtx (sumCtx k z T) g b)) (turnLat T (normedLat (sumLat x z T) g b)))
    Cert.NormRefIdeal.Gen.bitsLt_bf16_f32 = outV k x z T g b := by
  funext i
  obtain ⟨r, d, rfl⟩ : ∃ (r : Fin 16896) (d : Fin 4096), i = (ix2 r d : Cert.NormRefIdeal.S16896x4096.Idx) :=
    ⟨i 0, i 1, by funext a; match a with | ⟨0, _⟩ => rfl | ⟨1, _⟩ => rfl⟩
  show join _ _ (ix2 r d) = turn T (seg r) d (outH k x z T g b (ix2 r d))
  rw [join_at, ← ref_laid]
  unfold laid seg
  by_cases h : r.val < 512
  · simp only [dif_pos h, if_pos h, turnCtx_at]
  · simp only [dif_neg h, if_neg h, turnLat_at]

end Reference

/-- The frames of the kernel, of the ideal kernel and of the reference. -/
theorem frame_kernel : Cert.quiescent_Norm := fun m ρ _ => Cert.Norm.Gen.frame (F := Bits) m ρ
theorem frame_ideal : Cert.quiescent_NormIdeal := fun m ρ _ => Cert.NormIdeal.Gen.frame (F := Ideal) m ρ
theorem frame_ref : Cert.quiescent_NormRefIdeal := fun m ρ _ =>
  (θ_run Cert.NormRefIdeal.defs _ _).mono (fun r h => ⟨fun c => (h c).2.2, sem_eq_zero_of_no_sems (by decide) r.2⟩)
    (Cert.NormRefIdeal.Value.run (F := Ideal) m ρ)

/-- The value claim: kernel and reference end with the same two results. -/
theorem algebraic : Cert.algebraic_NormIdeal_NormRefIdeal := by
  intro m ρ m' ρ' _ hagree
  refine ⟨fun c => finalH m c, fun c => finalV m c, ?_, ?_⟩
  · exact (θ_run _ _ _).mono (fun _ h c => ⟨(h c).1.trans (final_h m c), (h c).2.1.trans (final_v m c), (h c).2.2⟩)
      (run_blocks (F := Ideal) m ρ)
  · refine (θ_run _ _ _).mono (fun _ h c => ⟨(h c).1.trans ?_, (h c).2.1.trans ?_, (h c).2.2⟩)
      (Cert.NormRefIdeal.Value.run (F := Ideal) m' ρ')
    · obtain ⟨h0, h1, h2, h3, h4, h5⟩ := hagree c
      unfold Cert.NormRefIdeal.Value.res_main_v96
      rw [h0, h1, h2, h3, h4, h5]
      exact ref_h _ _ _ _ _ _
    · obtain ⟨h0, h1, h2, h3, h4, h5⟩ := hagree c
      unfold Cert.NormRefIdeal.Value.res_main_v100
      rw [h0, h1, h2, h3, h4, h5]
      exact ref_v _ _ _ _ _ _

end Cert.Proof.Norms

end
-- ==== Proof.NextClaim.lean ====
module

public import proofs.«01_k».proof.Defs
public import proofs.«01_k».proof.Proof.Gen.Next.Frame
public import proofs.«01_k».proof.Proof.Gen.NextIdeal.Value
public import proofs.«01_k».proof.Proof.Gen.NextRefIdeal.Run
public import proofs.«01_k».proof.Proof.NormClaim
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.ShapeOps
public import Idealize.ShloMosaic.Lib.IdealHost
public import Idealize.ShloMosaic.Lib.MatmulPlain
public import Idealize.ShloMosaic.Lib.Pipeline.Value
public import Idealize.ShloMosaic.Adequacy
public import Idealize.ShloMosaic.Init

/-!
The residual and the norm of the second layer's mixer.  The layer's rows come as one array, the context's before the
latents', and the condition rows are the second layer's; the rest is the first layer's, taken at those rows.
-/

@[expose] public section

set_option maxRecDepth 16384

noncomputable section

open Idealize.ShloMosaic Idealize.ShloMosaic.TcCoe Idealize.SL.Sem

namespace Cert.Proof.Nexts

open Cert.NextIdeal Cert.NextIdeal.Gen Cert.NextIdeal.Value
open Cert.Proof.Modulate (tab seg laid hz2 hz3)
open Cert.Proof.Norms (normed mixed outH turn outV tileSeg knormed knormed_at line mixerCtx mixerCtx_at mixerLat mixerLat_at)

instance : Cert.Next.Facts := Cert.Next.Gen.facts
instance : Cert.NextRefIdeal.Facts := Cert.NextRefIdeal.Gen.facts

/-- The table with the second layer's condition rows in the place of both layers'. -/
def later (T : Vec Ideal S2x8x24576 .f32) : Vec Ideal S2x8x24576 .f32 := fun i => T (ix3 1 (i 1) (i 2))

/-- The context's rows and the latents', laid one after the other, are the rows they were taken from. -/
theorem laid_split (h : Vec Ideal S16896x4096 .f32) (r : Fin 16896) (d : Fin 4096) :
    laid (mixerCtx h) (mixerLat h) r d = h (ix2 r d) := by
  have hr := r.isLt
  unfold laid
  by_cases hc : r.val < 512
  · rw [dif_pos hc, mixerCtx_at]
    refine congrArg (fun q => h (ix2 q d)) (Fin.ext ?_)
    show 0 + 256 * (r.val / 256) + r.val % 256 = r.val
    omega
  · rw [dif_neg hc, mixerLat_at]
    refine congrArg (fun q => h (ix2 q d)) (Fin.ext ?_)
    show 512 + 8192 * ((r.val - 512) / 8192) + (r.val - 512) % 8192 = r.val
    omega

/-- The table laid in rows of 4096: the second layer's from the forty-eighth on. -/
theorem later_row (T : Vec Ideal S2x8x24576 .f32) (s : Fin 8) (k : Fin 6) (d : Fin 4096) (j : Fin 96)
    (hj : j.val = 48 + (6 * s.val + k.val)) :
    shapeCast S96x1x4096 T shapeCasts_S2x8x24576_S96x1x4096 (ix3 j 0 d) = tab (later T) s k d := by
  have hs := s.isLt
  have hk := k.isLt
  have hd := d.isLt
  pointwise
  unfold tab later
  congr 1
  funext a
  apply Fin.ext
  match a with
  | ⟨0, _⟩ => show j.val / 48 = 1; omega
  | ⟨1, _⟩ => show j.val / 6 % 8 = s.val; omega
  | ⟨2, _⟩ => show j.val % 6 * 4096 + d.val = 4096 * k.val + d.val; omega

/-- The blocks a grid point reads and writes. -/
theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = 48 + (6 * tileSeg t.val + 2) ∧ win0_2.index t 2 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 48 + (6 * tileSeg t.val + 4) ∧ win0_5.index t 2 = 0 := by decide +kernel
theorem idx6 : ∀ t : Fin grid0.N, win0_6.index t 0 = 48 + (6 * tileSeg t.val + 3) ∧ win0_6.index t 2 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel

/-- A block of the residual normalised, at an index. -/
theorem pay2 (x z : Vec Ideal S256x4096 .f32) (gt : Vec Ideal S1x1x4096 .f32) (g b : Vec Ideal S1x4096 .f32)
    (r : Fin 256) (d : Fin 4096) (y : Fin 4096 → EReal)
    (hy : ∀ d, Ideal.ofBits .f32 0x3FB504F3#32 * (x (ix2 r d) : EReal) + (gt (ix3 0 0 d) : EReal) * (z (ix2 r d) : EReal) = y d) :
    k0_pay2 (F := Ideal) x gt z g b (ix2 r d) = normed (fun d => g (ix2 0 d)) (fun d => b (ix2 0 d)) y d := by
  have h : k0_pay2 (F := Ideal) x gt z g b = knormed (addf (mulf (broadcast S256x4096 (Scalar.ofBits .f32 0x3FB504F3#32)) x)
      (mulf (broadcastTo S256x4096 (shapeCast S1x4096 gt shapeCasts_S1x1x4096_S1x4096) broadcasts_S1x4096_S256x4096) z)) g b := by
    unfold k0_pay2
    rfl
  rw [h, knormed_at]
  congr 1
  funext e
  rw [← hy e]
  pointwise

/-- A block scaled and shifted, at an index. -/
theorem pay1 (h : FVec Ideal S256x4096 .f32) (sc sh : Vec Ideal S1x1x4096 .f32) (r : Fin 256) (d : Fin 4096) :
    k0_pay1 (F := Ideal) h (k0_pay3 sc) sh (ix2 r d)
      = (h (ix2 r d) : EReal) * (1 + (sc (ix3 0 0 d) : EReal)) + (sh (ix3 0 0 d) : EReal) := by
  unfold k0_pay1 k0_pay3
  pointwise

variable (m : (ℓ : Loc nD τ sig) → Buf (Elt Ideal) ℓ) (c : Dev nD)

/-- The arguments, as arrays. -/
abbrev layer : Vec Ideal S16896x4096 .f32 := m ((c : Thread nD τ).loc main_arg0)
abbrev mixer : Vec Ideal S16896x4096 .f32 := m ((c : Thread nD τ).loc main_arg1)
abbrev conds : Vec Ideal S2x8x24576 .f32 := m ((c : Thread nD τ).loc main_arg2)
abbrev gains : Vec Ideal S4096 .f32 := m ((c : Thread nD τ).loc main_arg3)
abbrev offsets : Vec Ideal S4096 .f32 := m ((c : Thread nD τ).loc main_arg4)

/-- A point as one of the first layer's, which has as many. -/
abbrev same (t : Fin cfg0.N) : Fin Cert.NormIdeal.cfg0.N := ⟨t.val, (t.isLt.trans_eq N_0).trans_eq Cert.NormIdeal.Gen.N_0.symm⟩

/-- A row of the result that a point writes, and its condition row. -/
abbrev row (t : Fin cfg0.N) (r : Fin 256) : Fin 16896 := Norms.row (same t) r
abbrev cond (t : Fin cfg0.N) : Fin 8 := ⟨tileSeg t.val, Norms.tileSeg_lt (same t)⟩

/-- The arguments as the host lays them. -/
theorem V_v0 : (V (F := Ideal) m c main_v0 : Vec Ideal S96x1x4096 .f32)
    = shapeCast S96x1x4096 (conds m c) shapeCasts_S2x8x24576_S96x1x4096 := by
  unfold V
  simp only [hostOps0]
  after_results
  rfl
theorem V_v1 : (V (F := Ideal) m c main_v1 : Vec Ideal S1x4096 .f32) = shapeCast S1x4096 (gains m c) shapeCasts_S4096_S1x4096 := by
  unfold V
  simp only [hostOps0]
  after_results
  rfl
theorem V_v2 : (V (F := Ideal) m c main_v2 : Vec Ideal S1x4096 .f32) = shapeCast S1x4096 (offsets m c) shapeCasts_S4096_S1x4096 := by
  unfold V
  simp only [hostOps0]
  after_results
  rfl

/-- The layer's and the mixer's rows a point is handed. -/
theorem blk0 (t : Fin cfg0.N) (r : Fin 256) (d : Fin 4096) :
    (iblk (F := Ideal) m c 0 t : Vec Ideal S256x4096 .f32) (ix2 r d) = layer m c (ix2 (row t r) d) := by
  unfold iblk
  rw [View.read_apply]
  show V (F := Ideal) m c main_arg0 _ = m (c.tc.loc main_arg0) _
  rw [V_main_arg0]
  congr 1
  funext a
  apply Fin.ext
  match a with
  | ⟨0, _⟩ => show win0_0.index t 0 * 256 + 1 * r.val = 256 * t.val + r.val; rw [(idx0 t).1]; omega
  | ⟨1, _⟩ => show win0_0.index t 1 * 4096 + 1 * d.val = d.val; rw [(idx0 t).2]; omega
theorem blk1 (t : Fin cfg0.N) (r : Fin 256) (d : Fin 4096) :
    (iblk (F := Ideal) m c 1 t : Vec Ideal S256x4096 .f32) (ix2 r d) = mixer m c (ix2 (row t r) d) := by
  unfold iblk
  rw [View.read_apply]
  show V (F := Ideal) m c main_arg1 _ = m (c.tc.loc main_arg1) _
  rw [V_main_arg1]
  congr 1
  funext a
  apply Fin.ext
  match a with
  | ⟨0, _⟩ => show win0_1.index t 0 * 256 + 1 * r.val = 256 * t.val + r.val; rw [(idx1 t).1]; omega
  | ⟨1, _⟩ => show win0_1.index t 1 * 4096 + 1 * d.val = d.val; rw [(idx1 t).2]; omega

/-- A row of the table at an index of the array the host lays. -/
theorem cond_row (s : Fin 8) (k : Fin 6) (d : Fin 4096) (i : S96x1x4096.Idx) (h0 : (i 0).val = 48 + (6 * s.val + k.val))
    (h2 : (i 2).val = d.val) : (V (F := Ideal) m c main_v0 : Vec Ideal S96x1x4096 .f32) i = tab (later (conds m c)) s k d := by
  have hi : i = (ix3 (i 0) (0 : Fin 1) d : S96x1x4096.Idx) := by
    funext a
    match a with
    | ⟨0, _⟩ => rfl
    | ⟨1, _⟩ => exact Fin.ext (by have : (i 1).val < 1 := (i 1).isLt; show (i 1).val = 0; omega)
    | ⟨2, _⟩ => exact Fin.ext h2
  rw [hi, V_v0]
  exact later_row _ s k d _ h0

/-- The gates, the scales and the shifts a point is handed. -/
theorem blk2 (t : Fin cfg0.N) (d : Fin 4096) :
    (iblk (F := Ideal) m c 2 t : Vec Ideal S1x1x4096 .f32) (ix3 0 0 d) = tab (later (conds m c)) (cond t) 2 d := by
  unfold iblk
  rw [View.read_apply]
  exact cond_row m c _ 2 d _ (by show win0_2.index t 0 * 1 + 1 * 0 = 48 + (6 * tileSeg t.val + 2); rw [(idx2 t).1]; omega)
    (by show win0_2.index t 2 * 4096 + 1 * d.val = d.val; rw [(idx2 t).2]; omega)
theorem blk5 (t : Fin cfg0.N) (d : Fin 4096) :
    (iblk (F := Ideal) m c 5 t : Vec Ideal S1x1x4096 .f32) (ix3 0 0 d) = tab (later (conds m c)) (cond t) 4 d := by
  unfold iblk
  rw [View.read_apply]
  exact cond_row m c _ 4 d _ (by show win0_5.index t 0 * 1 + 1 * 0 = 48 + (6 * tileSeg t.val + 4); rw [(idx5 t).1]; omega)
    (by show win0_5.index t 2 * 4096 + 1 * d.val = d.val; rw [(idx5 t).2]; omega)
theorem blk6 (t : Fin cfg0.N) (d : Fin 4096) :
    (iblk (F := Ideal) m c 6 t : Vec Ideal S1x1x4096 .f32) (ix3 0 0 d) = tab (later (conds m c)) (cond t) 3 d := by
  unfold iblk
  rw [View.read_apply]
  exact cond_row m c _ 3 d _ (by show win0_6.index t 0 * 1 + 1 * 0 = 48 + (6 * tileSeg t.val + 3); rw [(idx6 t).1]; omega)
    (by show win0_6.index t 2 * 4096 + 1 * d.val = d.val; rw [(idx6 t).2]; omega)

/-- The gains and the offsets every point is handed. -/
theorem blk3 (t : Fin cfg0.N) (d : Fin 4096) :
    (iblk (F := Ideal) m c 3 t : Vec Ideal S1x4096 .f32) (ix2 0 d) = gains m c (ix1 d) := by
  unfold iblk
  rw [View.read_apply]
  refine (congrFun (V_v1 m c) _).trans (line _ d _ ?_)
  show win0_3.index t 1 * 4096 + 1 * d.val = d.val
  rw [(idx3 t).2]
  omega
theorem blk4 (t : Fin cfg0.N) (d : Fin 4096) :
    (iblk (F := Ideal) m c 4 t : Vec Ideal S1x4096 .f32) (ix2 0 d) = offsets m c (ix1 d) := by
  unfold iblk
  rw [View.read_apply]
  refine (congrFun (V_v2 m c) _).trans (line _ d _ ?_)
  show win0_4.index t 1 * 4096 + 1 * d.val = d.val
  rw [(idx4 t).2]
  omega

/-- The results of the arguments. -/
abbrev finalH : Vec Ideal S16896x4096 .f32 :=
  outH (mixerCtx (layer m c)) (mixerLat (layer m c)) (mixer m c) (later (conds m c)) (gains m c) (offsets m c)
abbrev finalV : Vec Ideal S16896x4096 .bf16 :=
  outV (mixerCtx (layer m c)) (mixerLat (layer m c)) (mixer m c) (later (conds m c)) (gains m c) (offsets m c)

/-- A point's normalised rows. -/
theorem block_h (t : Fin cfg0.N) (r : Fin 256) (d : Fin 4096) :
    k0_pay2 (F := Ideal) (iblk m c 0 t) (iblk m c 2 t) (iblk m c 1 t) (iblk m c 3 t) (iblk m c 4 t) (ix2 r d)
      = finalH m c (ix2 (row t r) d) := by
  refine (pay2 _ _ _ _ _ r d (mixed (mixerCtx (layer m c)) (mixerLat (layer m c)) (mixer m c) (later (conds m c)) (row t r))
    fun e => ?_).trans ?_
  · unfold mixed
    rw [blk0, blk1, blk2, Norms.seg_row, laid_split]
  · simp only [blk3, blk4]
    rfl

/-- Where a point's blocks lie in the results. -/
theorem emb7 (t : Fin cfg0.N) (r : Fin 256) (d : Fin 4096) :
    ((cfg0.win 7).blk t).view.emb (ix2 r d : S256x4096.Idx) = (ix2 (row t r) d : S16896x4096.Idx) := by
  funext a
  apply Fin.ext
  match a with
  | ⟨0, _⟩ => show win0_7.index t 0 * 256 + 1 * r.val = 256 * t.val + r.val; rw [(idx7 t).1]; omega
  | ⟨1, _⟩ => show win0_7.index t 1 * 4096 + 1 * d.val = d.val; rw [(idx7 t).2]; omega
theorem emb8 (t : Fin cfg0.N) (r : Fin 256) (d : Fin 4096) :
    ((cfg0.win 8).blk t).view.emb (ix2 r d : S256x4096.Idx) = (ix2 (row t r) d : S16896x4096.Idx) := by
  funext a
  apply Fin.ext
  match a with
  | ⟨0, _⟩ => show win0_8.index t 0 * 256 + 1 * r.val = 256 * t.val + r.val; rw [(idx8 t).1]; omega
  | ⟨1, _⟩ => show win0_8.index t 1 * 4096 + 1 * d.val = d.val; rw [(idx8 t).2]; omega

/-- What a point writes back is its block of the two results. -/
theorem flushed_h (t : Fin cfg0.N) :
    (dats (F := Ideal) m 0 c).flushed 7 t = ((cfg0.win 7).blk t).view.read (Elt Ideal) (finalH m c) := by
  rw [flushed7]
  funext y
  rw [View.read_apply]
  obtain ⟨r, d, rfl⟩ : ∃ (r : Fin 256) (d : Fin 4096), y = (ix2 r d : S256x4096.Idx) :=
    ⟨y 0, y 1, by funext a; match a with | ⟨0, _⟩ => rfl | ⟨1, _⟩ => rfl⟩
  have h : out0_7 (F := Ideal) (iblk m c 0 t) (iblk m c 1 t) (iblk m c 2 t) (iblk m c 3 t) (iblk m c 4 t)
      (iblk m c 5 t) (iblk m c 6 t) (ix2 r d) = finalH m c (ix2 (row t r) d) := by
    unfold out0_7
    rw [View.canon_unit_zero (S := S256x4096) hz2, View.ld_unit_zero (S := S256x4096) hz2, View.ld_unit_zero (S := S1x1x4096) hz3,
      View.ld_unit_zero (S := S256x4096) hz2, View.ld_unit_zero (S := S1x4096) hz2, View.ld_unit_zero (S := S1x4096) hz2, block_h]
  exact h.trans (congrArg (finalH m c) (emb7 t r d)).symm
theorem flushed_v (t : Fin cfg0.N) :
    (dats (F := Ideal) m 0 c).flushed 8 t = ((cfg0.win 8).blk t).view.read (Elt Ideal) (finalV m c) := by
  rw [flushed8]
  funext y
  rw [View.read_apply]
  obtain ⟨r, d, rfl⟩ : ∃ (r : Fin 256) (d : Fin 4096), y = (ix2 r d : S256x4096.Idx) :=
    ⟨y 0, y 1, by funext a; match a with | ⟨0, _⟩ => rfl | ⟨1, _⟩ => rfl⟩
  have h : out0_8 (F := Ideal) (iblk m c 0 t) (iblk m c 1 t) (iblk m c 2 t) (iblk m c 3 t) (iblk m c 4 t)
      (iblk m c 5 t) (iblk m c 6 t) (ix2 r d) = finalV m c (ix2 (row t r) d) := by
    unfold out0_8
    rw [View.canon_unit_zero (S := S256x4096) hz2, View.ld_unit_zero (S := S256x4096) hz2, View.ld_unit_zero (S := S1x1x4096) hz3,
      View.ld_unit_zero (S := S256x4096) hz2, View.ld_unit_zero (S := S1x4096) hz2, View.ld_unit_zero (S := S1x4096) hz2,
      View.ld_unit_zero (S := S1x1x4096) hz3, View.ld_unit_zero (S := S1x1x4096) hz3, pay1, block_h, blk5, blk6]
    show _ = turn _ (seg (row t r)) d _
    rw [Norms.seg_row]
    rfl
  exact h.trans (congrArg (finalV m c) (emb8 t r d)).symm

/-- Every index of the results is in some point's rows. -/
theorem in_rows (i : S16896x4096.Idx) : ∃ (t : Fin cfg0.N) (r : Fin 256) (d : Fin 4096), i = (ix2 (row t r) d : S16896x4096.Idx) := by
  obtain ⟨t, r, d, h⟩ := Norms.in_rows i
  exact ⟨⟨t.val, (t.isLt.trans_eq Cert.NormIdeal.Gen.N_0).trans_eq N_0.symm⟩, r, d, h⟩

theorem cover_h (i : S16896x4096.Idx) : ∃ t : Fin cfg0.N, (cfg0.win 7).flush t = true ∧ i ∈ ((cfg0.win 7).blk t).view.set := by
  obtain ⟨t, r, d, rfl⟩ := in_rows i
  exact ⟨t, flush0_7 t, emb7 t r d ▸ View.emb_mem_set _ _⟩
theorem cover_v (i : S16896x4096.Idx) : ∃ t : Fin cfg0.N, (cfg0.win 8).flush t = true ∧ i ∈ ((cfg0.win 8).blk t).view.set := by
  obtain ⟨t, r, d, rfl⟩ := in_rows i
  exact ⟨t, flush0_8 t, emb8 t r d ▸ View.emb_mem_set _ _⟩

/-- The kernel ends with the normalised rows and with the rows for the experts. -/
theorem final_h : (dats (F := Ideal) m 0 c).arrAt 7 cfg0.N = finalH m c :=
  (dats (F := Ideal) m 0 c).arrAt_eq_of_cover 7 _ (fun t _ => flushed_h m c t) cover_h
theorem final_v : (dats (F := Ideal) m 0 c).arrAt 8 cfg0.N = finalV m c :=
  (dats (F := Ideal) m 0 c).arrAt_eq_of_cover 8 _ (fun t _ => flushed_v m c t) cover_v

/-- The second layer's condition rows, cut from the table. -/
theorem cut_ctx (T : Vec Ideal S2x8x24576 .f32) :
    extractStridedSlice Cert.NextRefIdeal.S1x1x24576 ![1, 2, 0] T Cert.NextRefIdeal.Gen.slices_S2x8x24576_S1x1x24576_1_2_0
      = extractStridedSlice Cert.NextRefIdeal.S1x1x24576 ![0, 2, 0] (later T) Cert.NormRefIdeal.Gen.slices_S2x8x24576_S1x1x24576_0_2_0 := by
  funext i
  obtain ⟨a, b, e, rfl⟩ : ∃ (a : Fin 1) (b : Fin 1) (e : Fin 24576), i = (ix3 a b e : Cert.NextRefIdeal.S1x1x24576.Idx) :=
    ⟨i 0, i 1, i 2, by funext a; match a with | ⟨0, _⟩ => rfl | ⟨1, _⟩ => rfl | ⟨2, _⟩ => rfl⟩
  pointwise
  unfold later
  congr 1
theorem cut_lat (T : Vec Ideal S2x8x24576 .f32) :
    extractStridedSlice Cert.NextRefIdeal.S1x2x24576 ![1, 0, 0] T Cert.NextRefIdeal.Gen.slices_S2x8x24576_S1x2x24576_1_0_0
      = extractStridedSlice Cert.NextRefIdeal.S1x2x24576 ![0, 0, 0] (later T) Cert.NormRefIdeal.Gen.slices_S2x8x24576_S1x2x24576_0_0_0 := by
  funext i
  obtain ⟨a, b, e, rfl⟩ : ∃ (a : Fin 1) (b : Fin 2) (e : Fin 24576), i = (ix3 a b e : Cert.NextRefIdeal.S1x2x24576.Idx) :=
    ⟨i 0, i 1, i 2, by funext a; match a with | ⟨0, _⟩ => rfl | ⟨1, _⟩ => rfl | ⟨2, _⟩ => rfl⟩
  pointwise
  unfold later
  congr 1

/-- The frames of the kernel, of the ideal kernel and of the reference. -/
theorem frame_kernel : Cert.quiescent_Next := fun m ρ _ => Cert.Next.Gen.frame (F := Bits) m ρ
theorem frame_ideal : Cert.quiescent_NextIdeal := fun m ρ _ => Cert.NextIdeal.Gen.frame (F := Ideal) m ρ
theorem frame_ref : Cert.quiescent_NextRefIdeal := fun m ρ _ =>
  (θ_run Cert.NextRefIdeal.defs _ _).mono (fun r h => ⟨fun c => (h c).2.2, sem_eq_zero_of_no_sems (by decide) r.2⟩)
    (Cert.NextRefIdeal.Value.run (F := Ideal) m ρ)

/-- The value claim: kernel and reference end with the same two results. -/
theorem algebraic : Cert.algebraic_NextIdeal_NextRefIdeal := by
  intro m ρ m' ρ' _ hagree
  refine ⟨fun c => finalH m c, fun c => finalV m c, ?_, ?_⟩
  · exact (θ_run _ _ _).mono (fun _ h c => ⟨(h c).1.trans (final_h m c), (h c).2.1.trans (final_v m c), (h c).2.2⟩)
      (run_blocks (F := Ideal) m ρ)
  · refine (θ_run _ _ _).mono (fun _ h c => ⟨(h c).1.trans ?_, (h c).2.1.trans ?_, (h c).2.2⟩)
      (Cert.NextRefIdeal.Value.run (F := Ideal) m' ρ')
    · obtain ⟨h0, h1, h2, h3, h4⟩ := hagree c
      unfold Cert.NextRefIdeal.Value.res_main_v100
      rw [h0, h1, h2, h3, h4]
      rw [cut_ctx (conds m c), cut_lat (conds m c)]
      exact Norms.ref_h (mixerCtx (layer m c)) (mixerLat (layer m c)) (mixer m c) (later (conds m c)) (gains m c) (offsets m c)
    · obtain ⟨h0, h1, h2, h3, h4⟩ := hagree c
      unfold Cert.NextRefIdeal.Value.res_main_v104
      rw [h0, h1, h2, h3, h4]
      rw [cut_ctx (conds m c), cut_lat (conds m c)]
      exact Norms.ref_v (mixerCtx (layer m c)) (mixerLat (layer m c)) (mixer m c) (later (conds m c)) (gains m c) (offsets m c)

end Cert.Proof.Nexts

end
-- ==== Proof.lean ====
module

public import proofs.«01_k».proof.Defs
public import proofs.«01_k».proof.Proof.FwdClaim
public import proofs.«01_k».proof.Proof.InClaim
public import proofs.«01_k».proof.Proof.OutClaim
public import proofs.«01_k».proof.Proof.MixClaim
public import proofs.«01_k».proof.Proof.MoeClaim
public import proofs.«01_k».proof.Proof.BwdClaim
public import proofs.«01_k».proof.Proof.AdaClaim
public import proofs.«01_k».proof.Proof.ModulateClaim
public import proofs.«01_k».proof.Proof.GateClaim
public import proofs.«01_k».proof.Proof.DnGateClaim
public import proofs.«01_k».proof.Proof.NormClaim
public import proofs.«01_k».proof.Proof.NextClaim

/-!
The claim: each program ends without fault, with its arguments as they were and every counter at zero; the ideal programs
are the kernels over the extended reals; and each kernel ends with its reference's array.
-/

@[expose] public section

noncomputable section

namespace Cert.Proof

/-- The claim, from the modules that prove its parts. -/
theorem claim : Cert.Claim :=
  ⟨Cert.Fwd.Gen.facts, Cert.FwdIdeal.Gen.facts, Cert.FwdRefIdeal.Gen.facts, Cert.In.Gen.facts, Cert.InIdeal.Gen.facts, Cert.InRefIdeal.Gen.facts, Cert.Out.Gen.facts, Cert.OutIdeal.Gen.facts, Cert.OutRefIdeal.Gen.facts, Cert.Mix.Gen.facts, Cert.MixIdeal.Gen.facts, Cert.MixRefIdeal.Gen.facts, Cert.Moe.Gen.facts, Cert.MoeIdeal.Gen.facts, Cert.MoeRefIdeal.Gen.facts, Cert.Bwd.Gen.facts, Cert.BwdIdeal.Gen.facts, Cert.BwdRefIdeal.Gen.facts, Cert.Ada.Gen.facts, Cert.AdaIdeal.Gen.facts, Cert.AdaRefIdeal.Gen.facts, Cert.Mod.Gen.facts, Cert.ModIdeal.Gen.facts, Cert.ModRefIdeal.Gen.facts, Cert.Gate.Gen.facts, Cert.GateIdeal.Gen.facts, Cert.GateRefIdeal.Gen.facts, Cert.DnGate.Gen.facts, Cert.DnGateIdeal.Gen.facts, Cert.DnGateRefIdeal.Gen.facts, Cert.Norm.Gen.facts, Cert.NormIdeal.Gen.facts, Cert.NormRefIdeal.Gen.facts, Cert.Next.Gen.facts, Cert.NextIdeal.Gen.facts, Cert.NextRefIdeal.Gen.facts, Cert.Pre_finite_forward.Gen.facts, Cert.Pre_moe_ranges.Gen.facts, Cert.Pre_finite_backward.Gen.facts,
    Forward.frame_kernel, Forward.frame_ideal, Forward.frame_ideal_pre, Forward.frame_ref, Forward.frame_ref_pre, Inproj.frame_kernel, Inproj.frame_ideal, Inproj.frame_ref, Outproj.frame_kernel, Outproj.frame_ideal, Outproj.frame_ref, Mixproj.frame_kernel, Mixproj.frame_ideal, Mixproj.frame_ref, Experts.frame_kernel, Experts.frame_ideal, Experts.frame_ref, Experts.frame_ref_pre, Backward.frame_kernel, Backward.frame_ideal, Backward.frame_ideal_pre, Backward.frame_ref, Backward.frame_ref_pre, Ada.frame_kernel, Ada.frame_ideal, Ada.frame_ref, Modulate.frame_kernel, Modulate.frame_ideal, Modulate.frame_ref, Gates.frame_kernel, Gates.frame_ideal, Gates.frame_ref, DnGates.frame_kernel, DnGates.frame_ideal, DnGates.frame_ref, Norms.frame_kernel, Norms.frame_ideal, Norms.frame_ref, Nexts.frame_kernel, Nexts.frame_ideal, Nexts.frame_ref,
    trivial, Forward.algebraic, trivial, Inproj.algebraic, trivial, Outproj.algebraic, trivial, Mixproj.algebraic, trivial, Experts.algebraic, trivial, Backward.algebraic, trivial, Ada.algebraic, trivial, Modulate.algebraic, trivial, Gates.algebraic, trivial, DnGates.algebraic, trivial, Norms.algebraic, trivial, Nexts.algebraic⟩

end Cert.Proof

end
